-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_range [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WholeIdeal [hPre_first_slots_kept : Cert.Pre_first_slots_kept.Facts] (m : (ℓ : Loc Cert.WholeIdeal.nD Cert.WholeIdeal.τ Cert.WholeIdeal.sig) → Buf (Elt Ideal) ℓ) : Prop :=
  ∀ c : Dev Cert.WholeIdeal.nD,
    (Cert.Pre_first_slots_kept.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_first_slots_kept [hPre_first_slots_kept : Cert.Pre_first_slots_kept.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_first_slots_kept.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (m ((c.tc : Thread Cert.WholeRefIdeal.nD Cert.WholeRefIdeal.τ).loc Cert.WholeRefIdeal.main_arg3)) (m ((c.tc : Thread Cert.WholeRefIdeal.nD Cert.WholeRefIdeal.τ).loc Cert.WholeRefIdeal.main_arg4)) (m ((c.tc : Thread Cert.WholeRefIdeal.nD Cert.WholeRefIdeal.τ).loc Cert.WholeRefIdeal.main_arg5)) (m ((c.tc : Thread Cert.WholeRefIdeal.nD Cert.WholeRefIdeal.τ).loc Cert.WholeRefIdeal.main_arg6))) = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_slots_in_range [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WholeIdeal [hWholeIdeal : Cert.WholeIdeal.Facts] [hPre_first_slots_kept : Cert.Pre_first_slots_kept.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6))
      ∧ r.2.sem = fun _ => 0)

def quiescent_WholeRefIdeal_pre_first_slots_kept [hWholeRefIdeal : Cert.WholeRefIdeal.Facts] [hPre_first_slots_kept : Cert.Pre_first_slots_kept.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_slots_kept m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_WholeIdeal_WholeRefIdeal [hWholeIdeal : Cert.WholeIdeal.Facts] [hWholeRefIdeal : Cert.WholeRefIdeal.Facts] [hPre_first_slots_kept : Cert.Pre_first_slots_kept.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)
      ∧ m' ((c.tc : Thread Cert.WholeRefIdeal.nD Cert.WholeRefIdeal.τ).loc Cert.WholeRefIdeal.main_arg5) = m ((c.tc : Thread Cert.WholeIdeal.nD Cert.WholeIdeal.τ).loc Cert.WholeIdeal.main_arg5)
      ∧ m' ((c.tc : Thread Cert.WholeRefIdeal.nD Cert.WholeRefIdeal.τ).loc Cert.WholeRefIdeal.main_arg6) = m ((c.tc : Thread Cert.WholeIdeal.nD Cert.WholeIdeal.τ).loc Cert.WholeIdeal.main_arg6)) →
    ∃ (v0 : (c : Dev Cert.WholeIdeal.nD) → Buf (Elt Ideal) ((c.tc : Thread Cert.WholeIdeal.nD Cert.WholeIdeal.τ).loc Cert.WholeIdeal.main_v17)) (v1 : (c : Dev Cert.WholeIdeal.nD) → Buf (Elt Ideal) ((c.tc : Thread Cert.WholeIdeal.nD Cert.WholeIdeal.τ).loc Cert.WholeIdeal.main_v19)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v17) = v0 c
          ∧ r.2.mem ((c.tc : Thread Cert.WholeIdeal.nD Cert.WholeIdeal.τ).loc Cert.WholeIdeal.main_v19) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v48) = v0 c
          ∧ r.2.mem ((c.tc : Thread Cert.WholeRefIdeal.nD Cert.WholeRefIdeal.τ).loc Cert.WholeRefIdeal.main_v63) = v1 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4)
          ∧ r.2.mem ((c.tc : Thread Cert.WholeRefIdeal.nD Cert.WholeRefIdeal.τ).loc Cert.WholeRefIdeal.main_arg5) = m' ((c.tc : Thread Cert.WholeRefIdeal.nD Cert.WholeRefIdeal.τ).loc Cert.WholeRefIdeal.main_arg5)
          ∧ r.2.mem ((c.tc : Thread Cert.WholeRefIdeal.nD Cert.WholeRefIdeal.τ).loc Cert.WholeRefIdeal.main_arg6) = m' ((c.tc : Thread Cert.WholeRefIdeal.nD Cert.WholeRefIdeal.τ).loc Cert.WholeRefIdeal.main_arg6))

def Claim : Prop :=
  ∃ (hKernel : Cert.Kernel.Facts) (hKernelIdeal : Cert.KernelIdeal.Facts) (hReferenceIdeal : Cert.ReferenceIdeal.Facts) (hWholeIdeal : Cert.WholeIdeal.Facts) (hWholeRefIdeal : Cert.WholeRefIdeal.Facts) (hPre_slots_in_range : Cert.Pre_slots_in_range.Facts) (hPre_first_slots_kept : Cert.Pre_first_slots_kept.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal)
    ∧ quiescent_ReferenceIdeal_pre_slots_in_range (hReferenceIdeal := hReferenceIdeal) (hPre_slots_in_range := hPre_slots_in_range)
    ∧ quiescent_WholeIdeal (hWholeIdeal := hWholeIdeal) (hPre_first_slots_kept := hPre_first_slots_kept)
    ∧ quiescent_WholeRefIdeal (hWholeRefIdeal := hWholeRefIdeal)
    ∧ quiescent_WholeRefIdeal_pre_first_slots_kept (hWholeRefIdeal := hWholeRefIdeal) (hPre_first_slots_kept := hPre_first_slots_kept)
    ∧ preserves_Kernel_KernelIdeal
    ∧ algebraic_KernelIdeal_ReferenceIdeal (hKernelIdeal := hKernelIdeal) (hReferenceIdeal := hReferenceIdeal) (hPre_slots_in_range := hPre_slots_in_range)
    ∧ algebraic_WholeIdeal_WholeRefIdeal (hWholeIdeal := hWholeIdeal) (hWholeRefIdeal := hWholeRefIdeal) (hPre_first_slots_kept := hPre_first_slots_kept)
-- ==== Pre_first_slots_kept.lean ====
abbrev S1024x5x128 : Shape := ⟨3, ![1024, 5, 128]⟩
abbrev S1024x50x128 : Shape := ⟨3, ![1024, 50, 128]⟩
abbrev S1024x50x32x32 : Shape := ⟨4, ![1024, 50, 32, 32]⟩
abbrev S1024x50x32 : Shape := ⟨3, ![1024, 50, 32]⟩
abbrev S1024x50x1 : Shape := ⟨3, ![1024, 50, 1]⟩
abbrev S128x128 : Shape := ⟨2, ![128, 128]⟩
abbrev S128 : Shape := ⟨1, ![128]⟩
abbrev S1024x5x1 : Shape := ⟨3, ![1024, 5, 1]⟩
abbrev S_ : Shape := ⟨0, ![]⟩

class Facts : Prop where
  slices_S1024x50x1_S1024x5x1_0_0_0 : S1024x50x1.Slices ![0, 0, 0] S1024x5x1
  bcast_S_S1024x5x1 : S_.BroadcastsInDim S1024x5x1 (![] : Fin 0 → Fin S1024x5x1.rank)
  reducesTo_S1024x5x1_S_d0_1_2 : S1024x5x1.ReducesTo [0, 1, 2] S_
  h_S_ : 0 < S_.numel

variable [Facts]

def fn {F : FTy → Type} [FloatOps F] (main_arg0 : FVec F S1024x5x128 .f32) (main_arg1 : FVec F S1024x50x128 .f32) (main_arg2 : FVec F S1024x50x32x32 .f32) (main_arg3 : FVec F S1024x50x32 .f32) (main_arg4 : FVec F S1024x50x1 .f32) (main_arg5 : FVec F S128x128 .f32) (main_arg6 : FVec F S128 .f32) : IVec S_ 1 :=
  let main_v0 : FVec F S1024x5x1 .f32 := (extractStridedSlice S1024x5x1 ![0, 0, 0] · slices_S1024x50x1_S1024x5x1_0_0_0) main_arg4
  let main_cst : FVec F S_ .f32 := constant S_ .f32 0xBF800000#32
  let main_v1 : FVec F S1024x5x1 .f32 := broadcastInDim S1024x5x1 ![] bcast_S_S1024x5x1 main_cst
  let main_v2 : IVec S1024x5x1 1 := cmpf .une main_v0 main_v1
  let main_c : IVec S_ 1 := constantI S_ 1 1#1
  let main_v3 : IVec S_ 1 := (fun x v => Host.reduce IntOp.andi x v reducesTo_S1024x5x1_S_d0_1_2 h_S_) main_v2 main_c
  main_v3
-- ==== Pre_slots_in_range.lean ====
abbrev S1024x50x32x32 : Shape := ⟨4, ![1024, 50, 32, 32]⟩
abbrev S1024x50x32 : Shape := ⟨3, ![1024, 50, 32]⟩
abbrev S5120x5 : Shape := ⟨2, ![5120, 5]⟩
abbrev S_ : Shape := ⟨0, ![]⟩

class Facts : Prop where
  bcast_S_S5120x5 : S_.BroadcastsInDim S5120x5 (![] : Fin 0 → Fin S5120x5.rank)
  reducesTo_S5120x5_S_d0_1 : S5120x5.ReducesTo [0, 1] S_
  h_S_ : 0 < S_.numel

variable [Facts]

def fn {F : FTy → Type} [FloatOps F] (main_arg0 : FVec F S1024x50x32x32 .f32) (main_arg1 : FVec F S1024x50x32 .f32) (main_arg2 : IVec S5120x5 32) : IVec S_ 1 :=
  let main_c : IVec S_ 32 := constantI S_ 32 0#32
  let main_v0 : IVec S5120x5 32 := broadcastInDim S5120x5 ![] bcast_S_S5120x5 main_c
  let main_v1 : IVec S5120x5 1 := cmpi .sge main_arg2 main_v0
  let main_c_0 : IVec S_ 32 := constantI S_ 32 50#32
  let main_v2 : IVec S5120x5 32 := broadcastInDim S5120x5 ![] bcast_S_S5120x5 main_c_0
  let main_v3 : IVec S5120x5 1 := cmpi .slt main_arg2 main_v2
  let main_v4 : IVec S5120x5 1 := andi main_v1 main_v3
  let main_c_1 : IVec S_ 1 := constantI S_ 1 1#1
  let main_v5 : IVec S_ 1 := (fun x v => Host.reduce IntOp.andi x v reducesTo_S5120x5_S_d0_1 h_S_) main_v4 main_c_1
  main_v5
-- ==== Kernel.lean ====
abbrev S1024x50x32x32 : Shape := ⟨4, ![1024, 50, 32, 32]⟩
abbrev S1024x50x32 : Shape := ⟨3, ![1024, 50, 32]⟩
abbrev S5120x5 : Shape := ⟨2, ![5120, 5]⟩
abbrev S1024x25 : Shape := ⟨2, ![1024, 25]⟩
abbrev S25x1024 : Shape := ⟨2, ![25, 1024]⟩
abbrev S50x32x32x1024 : Shape := ⟨4, ![50, 32, 32, 1024]⟩
abbrev S50x1024x1024 : Shape := ⟨3, ![50, 1024, 1024]⟩
abbrev S50x32x1024 : Shape := ⟨3, ![50, 32, 1024]⟩
abbrev S25x1024x1024 : Shape := ⟨3, ![25, 1024, 1024]⟩
abbrev S25x32x1024 : Shape := ⟨3, ![25, 32, 1024]⟩
abbrev S50x1x512 : Shape := ⟨3, ![50, 1, 512]⟩
abbrev S25x1x512 : Shape := ⟨3, ![25, 1, 512]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S5x5x32x32x1024 : Shape := ⟨5, ![5, 5, 32, 32, 1024]⟩
abbrev S1024x5x5x32x32 : Shape := ⟨5, ![1024, 5, 5, 32, 32]⟩
abbrev S5x5x32x1024 : Shape := ⟨4, ![5, 5, 32, 1024]⟩
abbrev S1024x5x5x32 : Shape := ⟨4, ![1024, 5, 5, 32]⟩

abbrev nBuf : Table → Nat
  | .hbm => 14
  | .local .scVector .vmem => 3
  | _ => 0

abbrev bufTy : (tb : Table) → Fin (nBuf tb) → BufTy
  | .hbm, ⟨0, _⟩ => ⟨S1024x50x32x32, .f32⟩
  | .hbm, ⟨1, _⟩ => ⟨S1024x50x32, .f32⟩
  | .hbm, ⟨2, _⟩ => ⟨S5120x5, .i32⟩
  | .hbm, ⟨3, _⟩ => ⟨S1024x25, .i32⟩
  | .hbm, ⟨4, _⟩ => ⟨S25x1024, .i32⟩
  | .hbm, ⟨5, _⟩ => ⟨S50x32x32x1024, .f32⟩
  | .hbm, ⟨6, _⟩ => ⟨S50x1024x1024, .f32⟩
  | .hbm, ⟨7, _⟩ => ⟨S50x32x1024, .f32⟩
  | .hbm, ⟨8, _⟩ => ⟨S25x1024x1024, .f32⟩
  | .hbm, ⟨9, _⟩ => ⟨S25x32x1024, .f32⟩
  | .hbm, ⟨10, _⟩ => ⟨S5x5x32x32x1024, .f32⟩
  | .hbm, ⟨11, _⟩ => ⟨S1024x5x5x32x32, .f32⟩
  | .hbm, ⟨12, _⟩ => ⟨S5x5x32x1024, .f32⟩
  | .hbm, ⟨13, _⟩ => ⟨S1024x5x5x32, .f32⟩
  | .local .scVector .vmem, ⟨0, _⟩ => ⟨S25x1024, .i32⟩
  | .local .scVector .vmem, ⟨1, _⟩ => ⟨S50x1x512, .f32⟩
  | .local .scVector .vmem, ⟨2, _⟩ => ⟨S25x1x512, .f32⟩
  | _, _ => ⟨S1024x50x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v3_scv : Ref sig .scVector := ⟨.hbm, 6, rfl⟩
abbrev main_v4_scv : Ref sig .scVector := ⟨.hbm, 7, rfl⟩
abbrev main_v1_scv : Ref sig .scVector := ⟨.hbm, 4, rfl⟩
abbrev main_v5_0_scv : Ref sig .scVector := ⟨.hbm, 8, rfl⟩
abbrev main_v5_1_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32_2 : BitVec 32 := 32#32
  let v4 : BitVec 32 := Scalar.addi c0_i32_1 c32_i32_2
  let c1_i32 : BitVec 32 := 1#32
  ⟨c0_i32_1, v4, c1_i32⟩
def k0_off1 (i : grid0.Coords) (k0_t1 : Fin k0_t1_loop.trips) : Fin 3 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg11 : BitVec 32 := Scf.iv c0_i32_1 c1_i32 k0_t1
  let v23 : BitVec 32 := Scalar.addi v2 arg11
  let c0_i32_43 : BitVec 32 := 0#32
  ![0, v23.toNat, 0]
@[reducible] def k0_t2_loop : Scf.Loop 32 :=
  let c0_i32_51 : BitVec 32 := 0#32
  let c25_i32_52 : BitVec 32 := 25#32
  let v28 : BitVec 32 := Scalar.addi c0_i32_51 c25_i32_52
  let c1_i32_53 : BitVec 32 := 1#32
  ⟨c0_i32_51, v28, c1_i32_53⟩
def k0_off2 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v30 : Index := Scalar.indexCast arg13
  let c0 : Index := 0#32
  ![v30.toNat, 0]

def k0_chk1 (v3 : IVec S16 32) (v31 : IVec S16 32) (v34 : IVec S16 32) : Prop :=
  (∀ a x, ((![v31, v3, v34] : Fin 3 → IVec S16 32) a x).toNat < S50x1x512.size a)
theorem k0_idx1_inb : ∀ (v3 : IVec S16 32) (v31 : IVec S16 32) (v34 : IVec S16 32) (k0_hw1 : k0_chk1 v3 v31 v34), ∀ a x, ((![v31, v3, v34] : Fin 3 → IVec S16 32) a x).toNat < S50x1x512.size a := fun v3 v31 v34 k0_hw1 => k0_hw1
def k0_off3 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v36 : Index := Scalar.indexCast arg13
  let c0_i32_57 : BitVec 32 := 0#32
  let v37 : Index := Scalar.indexCast c0_i32_57
  let c0_58 : Index := 0#32
  ![v36.toNat, 0, 0]
def k0_off4 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v39 : Index := Scalar.indexCast arg13
  let c16 : Index := 16#32
  ![v39.toNat, 16]

def k0_chk2 (v3 : IVec S16 32) (v40 : IVec S16 32) (v43 : IVec S16 32) : Prop :=
  (∀ a x, ((![v40, v3, v43] : Fin 3 → IVec S16 32) a x).toNat < S50x1x512.size a)
theorem k0_idx2_inb : ∀ (v3 : IVec S16 32) (v40 : IVec S16 32) (v43 : IVec S16 32) (k0_hw2 : k0_chk2 v3 v40 v43), ∀ a x, ((![v40, v3, v43] : Fin 3 → IVec S16 32) a x).toNat < S50x1x512.size a := fun v3 v40 v43 k0_hw2 => k0_hw2
def k0_off5 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v45 : Index := Scalar.indexCast arg13
  let c0_i32_59 : BitVec 32 := 0#32
  let v46 : Index := Scalar.indexCast c0_i32_59
  let c16_60 : Index := 16#32
  ![v45.toNat, 0, 16]
def k0_off6 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v48 : Index := Scalar.indexCast arg13
  let c32 : Index := 32#32
  ![v48.toNat, 32]

def k0_chk3 (v3 : IVec S16 32) (v49 : IVec S16 32) (v52 : IVec S16 32) : Prop :=
  (∀ a x, ((![v49, v3, v52] : Fin 3 → IVec S16 32) a x).toNat < S50x1x512.size a)
theorem k0_idx3_inb : ∀ (v3 : IVec S16 32) (v49 : IVec S16 32) (v52 : IVec S16 32) (k0_hw3 : k0_chk3 v3 v49 v52), ∀ a x, ((![v49, v3, v52] : Fin 3 → IVec S16 32) a x).toNat < S50x1x512.size a := fun v3 v49 v52 k0_hw3 => k0_hw3
def k0_off7 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v54 : Index := Scalar.indexCast arg13
  let c0_i32_62 : BitVec 32 := 0#32
  let v55 : Index := Scalar.indexCast c0_i32_62
  let c32_63 : Index := 32#32
  ![v54.toNat, 0, 32]
def k0_off8 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v57 : Index := Scalar.indexCast arg13
  let c48 : Index := 48#32
  ![v57.toNat, 48]

def k0_chk4 (v3 : IVec S16 32) (v58 : IVec S16 32) (v61 : IVec S16 32) : Prop :=
  (∀ a x, ((![v58, v3, v61] : Fin 3 → IVec S16 32) a x).toNat < S50x1x512.size a)
theorem k0_idx4_inb : ∀ (v3 : IVec S16 32) (v58 : IVec S16 32) (v61 : IVec S16 32) (k0_hw4 : k0_chk4 v3 v58 v61), ∀ a x, ((![v58, v3, v61] : Fin 3 → IVec S16 32) a x).toNat < S50x1x512.size a := fun v3 v58 v61 k0_hw4 => k0_hw4
def k0_off9 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v63 : Index := Scalar.indexCast arg13
  let c0_i32_64 : BitVec 32 := 0#32
  let v64 : Index := Scalar.indexCast c0_i32_64
  let c48_65 : Index := 48#32
  ![v63.toNat, 0, 48]
def k0_off10 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v66 : Index := Scalar.indexCast arg13
  let c64 : Index := 64#32
  ![v66.toNat, 64]

def k0_chk5 (v3 : IVec S16 32) (v67 : IVec S16 32) (v70 : IVec S16 32) : Prop :=
  (∀ a x, ((![v67, v3, v70] : Fin 3 → IVec S16 32) a x).toNat < S50x1x512.size a)
theorem k0_idx5_inb : ∀ (v3 : IVec S16 32) (v67 : IVec S16 32) (v70 : IVec S16 32) (k0_hw5 : k0_chk5 v3 v67 v70), ∀ a x, ((![v67, v3, v70] : Fin 3 → IVec S16 32) a x).toNat < S50x1x512.size a := fun v3 v67 v70 k0_hw5 => k0_hw5
def k0_off11 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v72 : Index := Scalar.indexCast arg13
  let c0_i32_66 : BitVec 32 := 0#32
  let v73 : Index := Scalar.indexCast c0_i32_66
  let c64_67 : Index := 64#32
  ![v72.toNat, 0, 64]
def k0_off12 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v75 : Index := Scalar.indexCast arg13
  let c80 : Index := 80#32
  ![v75.toNat, 80]

def k0_chk6 (v3 : IVec S16 32) (v76 : IVec S16 32) (v79 : IVec S16 32) : Prop :=
  (∀ a x, ((![v76, v3, v79] : Fin 3 → IVec S16 32) a x).toNat < S50x1x512.size a)
theorem k0_idx6_inb : ∀ (v3 : IVec S16 32) (v76 : IVec S16 32) (v79 : IVec S16 32) (k0_hw6 : k0_chk6 v3 v76 v79), ∀ a x, ((![v76, v3, v79] : Fin 3 → IVec S16 32) a x).toNat < S50x1x512.size a := fun v3 v76 v79 k0_hw6 => k0_hw6
def k0_off13 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v81 : Index := Scalar.indexCast arg13
  let c0_i32_68 : BitVec 32 := 0#32
  let v82 : Index := Scalar.indexCast c0_i32_68
  let c80_69 : Index := 80#32
  ![v81.toNat, 0, 80]
def k0_off14 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v84 : Index := Scalar.indexCast arg13
  let c96 : Index := 96#32
  ![v84.toNat, 96]

def k0_chk7 (v3 : IVec S16 32) (v85 : IVec S16 32) (v88 : IVec S16 32) : Prop :=
  (∀ a x, ((![v85, v3, v88] : Fin 3 → IVec S16 32) a x).toNat < S50x1x512.size a)
theorem k0_idx7_inb : ∀ (v3 : IVec S16 32) (v85 : IVec S16 32) (v88 : IVec S16 32) (k0_hw7 : k0_chk7 v3 v85 v88), ∀ a x, ((![v85, v3, v88] : Fin 3 → IVec S16 32) a x).toNat < S50x1x512.size a := fun v3 v85 v88 k0_hw7 => k0_hw7
def k0_off15 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v90 : Index := Scalar.indexCast arg13
  let c0_i32_70 : BitVec 32 := 0#32
  let v91 : Index := Scalar.indexCast c0_i32_70
  let c96_71 : Index := 96#32
  ![v90.toNat, 0, 96]
def k0_off16 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v93 : Index := Scalar.indexCast arg13
  let c112 : Index := 112#32
  ![v93.toNat, 112]

def k0_chk8 (v3 : IVec S16 32) (v94 : IVec S16 32) (v97 : IVec S16 32) : Prop :=
  (∀ a x, ((![v94, v3, v97] : Fin 3 → IVec S16 32) a x).toNat < S50x1x512.size a)
theorem k0_idx8_inb : ∀ (v3 : IVec S16 32) (v94 : IVec S16 32) (v97 : IVec S16 32) (k0_hw8 : k0_chk8 v3 v94 v97), ∀ a x, ((![v94, v3, v97] : Fin 3 → IVec S16 32) a x).toNat < S50x1x512.size a := fun v3 v94 v97 k0_hw8 => k0_hw8
def k0_off17 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v99 : Index := Scalar.indexCast arg13
  let c0_i32_72 : BitVec 32 := 0#32
  let v100 : Index := Scalar.indexCast c0_i32_72
  let c112_73 : Index := 112#32
  ![v99.toNat, 0, 112]
def k0_off18 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v102 : Index := Scalar.indexCast arg13
  let c128 : Index := 128#32
  ![v102.toNat, 128]

def k0_chk9 (v3 : IVec S16 32) (v103 : IVec S16 32) (v106 : IVec S16 32) : Prop :=
  (∀ a x, ((![v103, v3, v106] : Fin 3 → IVec S16 32) a x).toNat < S50x1x512.size a)
theorem k0_idx9_inb : ∀ (v3 : IVec S16 32) (v103 : IVec S16 32) (v106 : IVec S16 32) (k0_hw9 : k0_chk9 v3 v103 v106), ∀ a x, ((![v103, v3, v106] : Fin 3 → IVec S16 32) a x).toNat < S50x1x512.size a := fun v3 v103 v106 k0_hw9 => k0_hw9
def k0_off19 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v108 : Index := Scalar.indexCast arg13
  let c0_i32_74 : BitVec 32 := 0#32
  let v109 : Index := Scalar.indexCast c0_i32_74
  let c128_75 : Index := 128#32
  ![v108.toNat, 0, 128]
def k0_off20 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v111 : Index := Scalar.indexCast arg13
  let c144 : Index := 144#32
  ![v111.toNat, 144]

def k0_chk10 (v3 : IVec S16 32) (v112 : IVec S16 32) (v115 : IVec S16 32) : Prop :=
  (∀ a x, ((![v112, v3, v115] : Fin 3 → IVec S16 32) a x).toNat < S50x1x512.size a)
theorem k0_idx10_inb : ∀ (v3 : IVec S16 32) (v112 : IVec S16 32) (v115 : IVec S16 32) (k0_hw10 : k0_chk10 v3 v112 v115), ∀ a x, ((![v112, v3, v115] : Fin 3 → IVec S16 32) a x).toNat < S50x1x512.size a := fun v3 v112 v115 k0_hw10 => k0_hw10
def k0_off21 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v117 : Index := Scalar.indexCast arg13
  let c0_i32_76 : BitVec 32 := 0#32
  let v118 : Index := Scalar.indexCast c0_i32_76
  let c144_77 : Index := 144#32
  ![v117.toNat, 0, 144]
def k0_off22 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v120 : Index := Scalar.indexCast arg13
  let c160 : Index := 160#32
  ![v120.toNat, 160]

def k0_chk11 (v3 : IVec S16 32) (v121 : IVec S16 32) (v124 : IVec S16 32) : Prop :=
  (∀ a x, ((![v121, v3, v124] : Fin 3 → IVec S16 32) a x).toNat < S50x1x512.size a)
theorem k0_idx11_inb : ∀ (v3 : IVec S16 32) (v121 : IVec S16 32) (v124 : IVec S16 32) (k0_hw11 : k0_chk11 v3 v121 v124), ∀ a x, ((![v121, v3, v124] : Fin 3 → IVec S16 32) a x).toNat < S50x1x512.size a := fun v3 v121 v124 k0_hw11 => k0_hw11
def k0_off23 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v126 : Index := Scalar.indexCast arg13
  let c0_i32_78 : BitVec 32 := 0#32
  let v127 : Index := Scalar.indexCast c0_i32_78
  let c160_79 : Index := 160#32
  ![v126.toNat, 0, 160]
def k0_off24 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v129 : Index := Scalar.indexCast arg13
  let c176 : Index := 176#32
  ![v129.toNat, 176]

def k0_chk12 (v3 : IVec S16 32) (v130 : IVec S16 32) (v133 : IVec S16 32) : Prop :=
  (∀ a x, ((![v130, v3, v133] : Fin 3 → IVec S16 32) a x).toNat < S50x1x512.size a)
theorem k0_idx12_inb : ∀ (v3 : IVec S16 32) (v130 : IVec S16 32) (v133 : IVec S16 32) (k0_hw12 : k0_chk12 v3 v130 v133), ∀ a x, ((![v130, v3, v133] : Fin 3 → IVec S16 32) a x).toNat < S50x1x512.size a := fun v3 v130 v133 k0_hw12 => k0_hw12
def k0_off25 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v135 : Index := Scalar.indexCast arg13
  let c0_i32_80 : BitVec 32 := 0#32
  let v136 : Index := Scalar.indexCast c0_i32_80
  let c176_81 : Index := 176#32
  ![v135.toNat, 0, 176]
def k0_off26 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v138 : Index := Scalar.indexCast arg13
  let c192 : Index := 192#32
  ![v138.toNat, 192]

def k0_chk13 (v3 : IVec S16 32) (v139 : IVec S16 32) (v142 : IVec S16 32) : Prop :=
  (∀ a x, ((![v139, v3, v142] : Fin 3 → IVec S16 32) a x).toNat < S50x1x512.size a)
theorem k0_idx13_inb : ∀ (v3 : IVec S16 32) (v139 : IVec S16 32) (v142 : IVec S16 32) (k0_hw13 : k0_chk13 v3 v139 v142), ∀ a x, ((![v139, v3, v142] : Fin 3 → IVec S16 32) a x).toNat < S50x1x512.size a := fun v3 v139 v142 k0_hw13 => k0_hw13
def k0_off27 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v144 : Index := Scalar.indexCast arg13
  let c0_i32_82 : BitVec 32 := 0#32
  let v145 : Index := Scalar.indexCast c0_i32_82
  let c192_83 : Index := 192#32
  ![v144.toNat, 0, 192]
def k0_off28 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v147 : Index := Scalar.indexCast arg13
  let c208 : Index := 208#32
  ![v147.toNat, 208]

def k0_chk14 (v3 : IVec S16 32) (v148 : IVec S16 32) (v151 : IVec S16 32) : Prop :=
  (∀ a x, ((![v148, v3, v151] : Fin 3 → IVec S16 32) a x).toNat < S50x1x512.size a)
theorem k0_idx14_inb : ∀ (v3 : IVec S16 32) (v148 : IVec S16 32) (v151 : IVec S16 32) (k0_hw14 : k0_chk14 v3 v148 v151), ∀ a x, ((![v148, v3, v151] : Fin 3 → IVec S16 32) a x).toNat < S50x1x512.size a := fun v3 v148 v151 k0_hw14 => k0_hw14
def k0_off29 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v153 : Index := Scalar.indexCast arg13
  let c0_i32_84 : BitVec 32 := 0#32
  let v154 : Index := Scalar.indexCast c0_i32_84
  let c208_85 : Index := 208#32
  ![v153.toNat, 0, 208]
def k0_off30 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v156 : Index := Scalar.indexCast arg13
  let c224 : Index := 224#32
  ![v156.toNat, 224]

def k0_chk15 (v3 : IVec S16 32) (v157 : IVec S16 32) (v160 : IVec S16 32) : Prop :=
  (∀ a x, ((![v157, v3, v160] : Fin 3 → IVec S16 32) a x).toNat < S50x1x512.size a)
theorem k0_idx15_inb : ∀ (v3 : IVec S16 32) (v157 : IVec S16 32) (v160 : IVec S16 32) (k0_hw15 : k0_chk15 v3 v157 v160), ∀ a x, ((![v157, v3, v160] : Fin 3 → IVec S16 32) a x).toNat < S50x1x512.size a := fun v3 v157 v160 k0_hw15 => k0_hw15
def k0_off31 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v162 : Index := Scalar.indexCast arg13
  let c0_i32_86 : BitVec 32 := 0#32
  let v163 : Index := Scalar.indexCast c0_i32_86
  let c224_87 : Index := 224#32
  ![v162.toNat, 0, 224]
def k0_off32 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v165 : Index := Scalar.indexCast arg13
  let c240 : Index := 240#32
  ![v165.toNat, 240]

def k0_chk16 (v3 : IVec S16 32) (v166 : IVec S16 32) (v169 : IVec S16 32) : Prop :=
  (∀ a x, ((![v166, v3, v169] : Fin 3 → IVec S16 32) a x).toNat < S50x1x512.size a)
theorem k0_idx16_inb : ∀ (v3 : IVec S16 32) (v166 : IVec S16 32) (v169 : IVec S16 32) (k0_hw16 : k0_chk16 v3 v166 v169), ∀ a x, ((![v166, v3, v169] : Fin 3 → IVec S16 32) a x).toNat < S50x1x512.size a := fun v3 v166 v169 k0_hw16 => k0_hw16
def k0_off33 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v171 : Index := Scalar.indexCast arg13
  let c0_i32_88 : BitVec 32 := 0#32
  let v172 : Index := Scalar.indexCast c0_i32_88
  let c240_89 : Index := 240#32
  ![v171.toNat, 0, 240]
def k0_off34 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v174 : Index := Scalar.indexCast arg13
  let c256 : Index := 256#32
  ![v174.toNat, 256]

def k0_chk17 (v3 : IVec S16 32) (v175 : IVec S16 32) (v178 : IVec S16 32) : Prop :=
  (∀ a x, ((![v175, v3, v178] : Fin 3 → IVec S16 32) a x).toNat < S50x1x512.size a)
theorem k0_idx17_inb : ∀ (v3 : IVec S16 32) (v175 : IVec S16 32) (v178 : IVec S16 32) (k0_hw17 : k0_chk17 v3 v175 v178), ∀ a x, ((![v175, v3, v178] : Fin 3 → IVec S16 32) a x).toNat < S50x1x512.size a := fun v3 v175 v178 k0_hw17 => k0_hw17
def k0_off35 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v180 : Index := Scalar.indexCast arg13
  let c0_i32_90 : BitVec 32 := 0#32
  let v181 : Index := Scalar.indexCast c0_i32_90
  let c256_91 : Index := 256#32
  ![v180.toNat, 0, 256]
def k0_off36 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v183 : Index := Scalar.indexCast arg13
  let c272 : Index := 272#32
  ![v183.toNat, 272]

def k0_chk18 (v3 : IVec S16 32) (v184 : IVec S16 32) (v187 : IVec S16 32) : Prop :=
  (∀ a x, ((![v184, v3, v187] : Fin 3 → IVec S16 32) a x).toNat < S50x1x512.size a)
theorem k0_idx18_inb : ∀ (v3 : IVec S16 32) (v184 : IVec S16 32) (v187 : IVec S16 32) (k0_hw18 : k0_chk18 v3 v184 v187), ∀ a x, ((![v184, v3, v187] : Fin 3 → IVec S16 32) a x).toNat < S50x1x512.size a := fun v3 v184 v187 k0_hw18 => k0_hw18
def k0_off37 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v189 : Index := Scalar.indexCast arg13
  let c0_i32_92 : BitVec 32 := 0#32
  let v190 : Index := Scalar.indexCast c0_i32_92
  let c272_93 : Index := 272#32
  ![v189.toNat, 0, 272]
def k0_off38 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v192 : Index := Scalar.indexCast arg13
  let c288 : Index := 288#32
  ![v192.toNat, 288]

def k0_chk19 (v3 : IVec S16 32) (v193 : IVec S16 32) (v196 : IVec S16 32) : Prop :=
  (∀ a x, ((![v193, v3, v196] : Fin 3 → IVec S16 32) a x).toNat < S50x1x512.size a)
theorem k0_idx19_inb : ∀ (v3 : IVec S16 32) (v193 : IVec S16 32) (v196 : IVec S16 32) (k0_hw19 : k0_chk19 v3 v193 v196), ∀ a x, ((![v193, v3, v196] : Fin 3 → IVec S16 32) a x).toNat < S50x1x512.size a := fun v3 v193 v196 k0_hw19 => k0_hw19
def k0_off39 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v198 : Index := Scalar.indexCast arg13
  let c0_i32_94 : BitVec 32 := 0#32
  let v199 : Index := Scalar.indexCast c0_i32_94
  let c288_95 : Index := 288#32
  ![v198.toNat, 0, 288]
def k0_off40 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v201 : Index := Scalar.indexCast arg13
  let c304 : Index := 304#32
  ![v201.toNat, 304]

def k0_chk20 (v3 : IVec S16 32) (v202 : IVec S16 32) (v205 : IVec S16 32) : Prop :=
  (∀ a x, ((![v202, v3, v205] : Fin 3 → IVec S16 32) a x).toNat < S50x1x512.size a)
theorem k0_idx20_inb : ∀ (v3 : IVec S16 32) (v202 : IVec S16 32) (v205 : IVec S16 32) (k0_hw20 : k0_chk20 v3 v202 v205), ∀ a x, ((![v202, v3, v205] : Fin 3 → IVec S16 32) a x).toNat < S50x1x512.size a := fun v3 v202 v205 k0_hw20 => k0_hw20
def k0_off41 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v207 : Index := Scalar.indexCast arg13
  let c0_i32_96 : BitVec 32 := 0#32
  let v208 : Index := Scalar.indexCast c0_i32_96
  let c304_97 : Index := 304#32
  ![v207.toNat, 0, 304]
def k0_off42 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v210 : Index := Scalar.indexCast arg13
  let c320 : Index := 320#32
  ![v210.toNat, 320]

def k0_chk21 (v3 : IVec S16 32) (v211 : IVec S16 32) (v214 : IVec S16 32) : Prop :=
  (∀ a x, ((![v211, v3, v214] : Fin 3 → IVec S16 32) a x).toNat < S50x1x512.size a)
theorem k0_idx21_inb : ∀ (v3 : IVec S16 32) (v211 : IVec S16 32) (v214 : IVec S16 32) (k0_hw21 : k0_chk21 v3 v211 v214), ∀ a x, ((![v211, v3, v214] : Fin 3 → IVec S16 32) a x).toNat < S50x1x512.size a := fun v3 v211 v214 k0_hw21 => k0_hw21
def k0_off43 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v216 : Index := Scalar.indexCast arg13
  let c0_i32_98 : BitVec 32 := 0#32
  let v217 : Index := Scalar.indexCast c0_i32_98
  let c320_99 : Index := 320#32
  ![v216.toNat, 0, 320]
def k0_off44 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v219 : Index := Scalar.indexCast arg13
  let c336 : Index := 336#32
  ![v219.toNat, 336]

def k0_chk22 (v3 : IVec S16 32) (v220 : IVec S16 32) (v223 : IVec S16 32) : Prop :=
  (∀ a x, ((![v220, v3, v223] : Fin 3 → IVec S16 32) a x).toNat < S50x1x512.size a)
theorem k0_idx22_inb : ∀ (v3 : IVec S16 32) (v220 : IVec S16 32) (v223 : IVec S16 32) (k0_hw22 : k0_chk22 v3 v220 v223), ∀ a x, ((![v220, v3, v223] : Fin 3 → IVec S16 32) a x).toNat < S50x1x512.size a := fun v3 v220 v223 k0_hw22 => k0_hw22
def k0_off45 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v225 : Index := Scalar.indexCast arg13
  let c0_i32_100 : BitVec 32 := 0#32
  let v226 : Index := Scalar.indexCast c0_i32_100
  let c336_101 : Index := 336#32
  ![v225.toNat, 0, 336]
def k0_off46 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v228 : Index := Scalar.indexCast arg13
  let c352 : Index := 352#32
  ![v228.toNat, 352]

def k0_chk23 (v3 : IVec S16 32) (v229 : IVec S16 32) (v232 : IVec S16 32) : Prop :=
  (∀ a x, ((![v229, v3, v232] : Fin 3 → IVec S16 32) a x).toNat < S50x1x512.size a)
theorem k0_idx23_inb : ∀ (v3 : IVec S16 32) (v229 : IVec S16 32) (v232 : IVec S16 32) (k0_hw23 : k0_chk23 v3 v229 v232), ∀ a x, ((![v229, v3, v232] : Fin 3 → IVec S16 32) a x).toNat < S50x1x512.size a := fun v3 v229 v232 k0_hw23 => k0_hw23
def k0_off47 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v234 : Index := Scalar.indexCast arg13
  let c0_i32_102 : BitVec 32 := 0#32
  let v235 : Index := Scalar.indexCast c0_i32_102
  let c352_103 : Index := 352#32
  ![v234.toNat, 0, 352]
def k0_off48 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v237 : Index := Scalar.indexCast arg13
  let c368 : Index := 368#32
  ![v237.toNat, 368]

def k0_chk24 (v3 : IVec S16 32) (v238 : IVec S16 32) (v241 : IVec S16 32) : Prop :=
  (∀ a x, ((![v238, v3, v241] : Fin 3 → IVec S16 32) a x).toNat < S50x1x512.size a)
theorem k0_idx24_inb : ∀ (v3 : IVec S16 32) (v238 : IVec S16 32) (v241 : IVec S16 32) (k0_hw24 : k0_chk24 v3 v238 v241), ∀ a x, ((![v238, v3, v241] : Fin 3 → IVec S16 32) a x).toNat < S50x1x512.size a := fun v3 v238 v241 k0_hw24 => k0_hw24
def k0_off49 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v243 : Index := Scalar.indexCast arg13
  let c0_i32_104 : BitVec 32 := 0#32
  let v244 : Index := Scalar.indexCast c0_i32_104
  let c368_105 : Index := 368#32
  ![v243.toNat, 0, 368]
def k0_off50 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v246 : Index := Scalar.indexCast arg13
  let c384 : Index := 384#32
  ![v246.toNat, 384]

def k0_chk25 (v3 : IVec S16 32) (v247 : IVec S16 32) (v250 : IVec S16 32) : Prop :=
  (∀ a x, ((![v247, v3, v250] : Fin 3 → IVec S16 32) a x).toNat < S50x1x512.size a)
theorem k0_idx25_inb : ∀ (v3 : IVec S16 32) (v247 : IVec S16 32) (v250 : IVec S16 32) (k0_hw25 : k0_chk25 v3 v247 v250), ∀ a x, ((![v247, v3, v250] : Fin 3 → IVec S16 32) a x).toNat < S50x1x512.size a := fun v3 v247 v250 k0_hw25 => k0_hw25
def k0_off51 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v252 : Index := Scalar.indexCast arg13
  let c0_i32_106 : BitVec 32 := 0#32
  let v253 : Index := Scalar.indexCast c0_i32_106
  let c384_107 : Index := 384#32
  ![v252.toNat, 0, 384]
def k0_off52 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v255 : Index := Scalar.indexCast arg13
  let c400 : Index := 400#32
  ![v255.toNat, 400]

def k0_chk26 (v3 : IVec S16 32) (v256 : IVec S16 32) (v259 : IVec S16 32) : Prop :=
  (∀ a x, ((![v256, v3, v259] : Fin 3 → IVec S16 32) a x).toNat < S50x1x512.size a)
theorem k0_idx26_inb : ∀ (v3 : IVec S16 32) (v256 : IVec S16 32) (v259 : IVec S16 32) (k0_hw26 : k0_chk26 v3 v256 v259), ∀ a x, ((![v256, v3, v259] : Fin 3 → IVec S16 32) a x).toNat < S50x1x512.size a := fun v3 v256 v259 k0_hw26 => k0_hw26
def k0_off53 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v261 : Index := Scalar.indexCast arg13
  let c0_i32_108 : BitVec 32 := 0#32
  let v262 : Index := Scalar.indexCast c0_i32_108
  let c400_109 : Index := 400#32
  ![v261.toNat, 0, 400]
def k0_off54 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v264 : Index := Scalar.indexCast arg13
  let c416 : Index := 416#32
  ![v264.toNat, 416]

def k0_chk27 (v3 : IVec S16 32) (v265 : IVec S16 32) (v268 : IVec S16 32) : Prop :=
  (∀ a x, ((![v265, v3, v268] : Fin 3 → IVec S16 32) a x).toNat < S50x1x512.size a)
theorem k0_idx27_inb : ∀ (v3 : IVec S16 32) (v265 : IVec S16 32) (v268 : IVec S16 32) (k0_hw27 : k0_chk27 v3 v265 v268), ∀ a x, ((![v265, v3, v268] : Fin 3 → IVec S16 32) a x).toNat < S50x1x512.size a := fun v3 v265 v268 k0_hw27 => k0_hw27
def k0_off55 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v270 : Index := Scalar.indexCast arg13
  let c0_i32_110 : BitVec 32 := 0#32
  let v271 : Index := Scalar.indexCast c0_i32_110
  let c416_111 : Index := 416#32
  ![v270.toNat, 0, 416]
def k0_off56 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v273 : Index := Scalar.indexCast arg13
  let c432 : Index := 432#32
  ![v273.toNat, 432]

def k0_chk28 (v3 : IVec S16 32) (v274 : IVec S16 32) (v277 : IVec S16 32) : Prop :=
  (∀ a x, ((![v274, v3, v277] : Fin 3 → IVec S16 32) a x).toNat < S50x1x512.size a)
theorem k0_idx28_inb : ∀ (v3 : IVec S16 32) (v274 : IVec S16 32) (v277 : IVec S16 32) (k0_hw28 : k0_chk28 v3 v274 v277), ∀ a x, ((![v274, v3, v277] : Fin 3 → IVec S16 32) a x).toNat < S50x1x512.size a := fun v3 v274 v277 k0_hw28 => k0_hw28
def k0_off57 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v279 : Index := Scalar.indexCast arg13
  let c0_i32_112 : BitVec 32 := 0#32
  let v280 : Index := Scalar.indexCast c0_i32_112
  let c432_113 : Index := 432#32
  ![v279.toNat, 0, 432]
def k0_off58 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v282 : Index := Scalar.indexCast arg13
  let c448 : Index := 448#32
  ![v282.toNat, 448]

def k0_chk29 (v3 : IVec S16 32) (v283 : IVec S16 32) (v286 : IVec S16 32) : Prop :=
  (∀ a x, ((![v283, v3, v286] : Fin 3 → IVec S16 32) a x).toNat < S50x1x512.size a)
theorem k0_idx29_inb : ∀ (v3 : IVec S16 32) (v283 : IVec S16 32) (v286 : IVec S16 32) (k0_hw29 : k0_chk29 v3 v283 v286), ∀ a x, ((![v283, v3, v286] : Fin 3 → IVec S16 32) a x).toNat < S50x1x512.size a := fun v3 v283 v286 k0_hw29 => k0_hw29
def k0_off59 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v288 : Index := Scalar.indexCast arg13
  let c0_i32_114 : BitVec 32 := 0#32
  let v289 : Index := Scalar.indexCast c0_i32_114
  let c448_115 : Index := 448#32
  ![v288.toNat, 0, 448]
def k0_off60 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v291 : Index := Scalar.indexCast arg13
  let c464 : Index := 464#32
  ![v291.toNat, 464]

def k0_chk30 (v3 : IVec S16 32) (v292 : IVec S16 32) (v295 : IVec S16 32) : Prop :=
  (∀ a x, ((![v292, v3, v295] : Fin 3 → IVec S16 32) a x).toNat < S50x1x512.size a)
theorem k0_idx30_inb : ∀ (v3 : IVec S16 32) (v292 : IVec S16 32) (v295 : IVec S16 32) (k0_hw30 : k0_chk30 v3 v292 v295), ∀ a x, ((![v292, v3, v295] : Fin 3 → IVec S16 32) a x).toNat < S50x1x512.size a := fun v3 v292 v295 k0_hw30 => k0_hw30
def k0_off61 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v297 : Index := Scalar.indexCast arg13
  let c0_i32_116 : BitVec 32 := 0#32
  let v298 : Index := Scalar.indexCast c0_i32_116
  let c464_117 : Index := 464#32
  ![v297.toNat, 0, 464]
def k0_off62 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v300 : Index := Scalar.indexCast arg13
  let c480 : Index := 480#32
  ![v300.toNat, 480]

def k0_chk31 (v3 : IVec S16 32) (v301 : IVec S16 32) (v304 : IVec S16 32) : Prop :=
  (∀ a x, ((![v301, v3, v304] : Fin 3 → IVec S16 32) a x).toNat < S50x1x512.size a)
theorem k0_idx31_inb : ∀ (v3 : IVec S16 32) (v301 : IVec S16 32) (v304 : IVec S16 32) (k0_hw31 : k0_chk31 v3 v301 v304), ∀ a x, ((![v301, v3, v304] : Fin 3 → IVec S16 32) a x).toNat < S50x1x512.size a := fun v3 v301 v304 k0_hw31 => k0_hw31
def k0_off63 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v306 : Index := Scalar.indexCast arg13
  let c0_i32_118 : BitVec 32 := 0#32
  let v307 : Index := Scalar.indexCast c0_i32_118
  let c480_119 : Index := 480#32
  ![v306.toNat, 0, 480]
def k0_off64 (k0_t2 : Fin k0_t2_loop.trips) : Fin 2 → Nat :=
  let c0_i32_51 : BitVec 32 := 0#32
  let c1_i32_53 : BitVec 32 := 1#32
  let arg13 : BitVec 32 := Scf.iv c0_i32_51 c1_i32_53 k0_t2
  let v309 : Index := Scalar.indexCast arg13
  let c496 : Index := 496#32
  ![v309.toNat, 496]

def k0_chk32 (v3 : IVec S16 32) (v310 : IVec S16 32) (v313 : IVec S16 32) : Prop :=
  (∀ a x, ((![v310, v3, v313] : Fin 3 → IVec S16 32) a x).toNat < S50x1x512.size a)
theorem k0_idx32_inb : ∀ (v3 : IVec S16 32) (v310 : IVec S16 32) (v313 : IVec S16 32) (k0_hw32 : k0_chk32 v3 v310 v313), ∀ a x, ((![v310, v3, v313] : Fin 3 → IVec S16 32) a x).toNat < S50x1x512.size a := fun v3 v310 v313 k0_hw32 => k0_hw32
def k0_off65 (k0_t2 : Fin k0_t2_loop.trips) : Fin 3 → Nat :=
  let c0_i32_51 : BitVec 32 := 0#32
  let c1_i32_53 : BitVec 32 := 1#32
  let arg13 : BitVec 32 := Scf.iv c0_i32_51 c1_i32_53 k0_t2
  let v315 : Index := Scalar.indexCast arg13
  let c0_i32_120 : BitVec 32 := 0#32
  let v316 : Index := Scalar.indexCast c0_i32_120
  let c496_121 : Index := 496#32
  ![v315.toNat, 0, 496]
def k0_off66 (i : grid0.Coords) (k0_t1 : Fin k0_t1_loop.trips) : Fin 3 → Nat :=
  let c0_i32_56_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg11 : BitVec 32 := Scf.iv c0_i32_1 c1_i32 k0_t1
  let v23 : BitVec 32 := Scalar.addi v2 arg11
  let c0_i32_57_r1 : BitVec 32 := 0#32
  ![0, v23.toNat, 0]
@[reducible] def k0_t3_loop : Scf.Loop 32 :=
  let c0_i32_5 : BitVec 32 := 0#32
  let c32_i32_6 : BitVec 32 := 32#32
  let v6 : BitVec 32 := Scalar.addi c0_i32_5 c32_i32_6
  let c1_i32_7 : BitVec 32 := 1#32
  ⟨c0_i32_5, v6, c1_i32_7⟩
def k0_off67 (i : grid0.Coords) (k0_t3 : Fin k0_t3_loop.trips) : Fin 3 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  let c1_i32_7 : BitVec 32 := 1#32
  let arg11 : BitVec 32 := Scf.iv c0_i32_5 c1_i32_7 k0_t3
  let v23 : BitVec 32 := Scalar.addi v2 arg11
  let c512_i32_43 : BitVec 32 := 512#32
  ![0, v23.toNat, 512]
@[reducible] def k0_t4_loop : Scf.Loop 32 :=
  let c0_i32_51 : BitVec 32 := 0#32
  let c25_i32_52 : BitVec 32 := 25#32
  let v28 : BitVec 32 := Scalar.addi c0_i32_51 c25_i32_52
  let c1_i32_53 : BitVec 32 := 1#32
  ⟨c0_i32_51, v28, c1_i32_53⟩
def k0_off68 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v30 : Index := Scalar.indexCast arg13
  let c512 : Index := 512#32
  ![v30.toNat, 512]

def k0_chk33 (v3 : IVec S16 32) (v31 : IVec S16 32) (v34 : IVec S16 32) : Prop :=
  (∀ a x, ((![v31, v3, v34] : Fin 3 → IVec S16 32) a x).toNat < S50x1x512.size a)
theorem k0_idx33_inb : ∀ (v3 : IVec S16 32) (v31 : IVec S16 32) (v34 : IVec S16 32) (k0_hw33 : k0_chk33 v3 v31 v34), ∀ a x, ((![v31, v3, v34] : Fin 3 → IVec S16 32) a x).toNat < S50x1x512.size a := fun v3 v31 v34 k0_hw33 => k0_hw33
def k0_off69 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v36 : Index := Scalar.indexCast arg13
  let c0_i32_57 : BitVec 32 := 0#32
  let v37 : Index := Scalar.indexCast c0_i32_57
  let c0 : Index := 0#32
  ![v36.toNat, 0, 0]
def k0_off70 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v39 : Index := Scalar.indexCast arg13
  let c528 : Index := 528#32
  ![v39.toNat, 528]

def k0_chk34 (v3 : IVec S16 32) (v40 : IVec S16 32) (v43 : IVec S16 32) : Prop :=
  (∀ a x, ((![v40, v3, v43] : Fin 3 → IVec S16 32) a x).toNat < S50x1x512.size a)
theorem k0_idx34_inb : ∀ (v3 : IVec S16 32) (v40 : IVec S16 32) (v43 : IVec S16 32) (k0_hw34 : k0_chk34 v3 v40 v43), ∀ a x, ((![v40, v3, v43] : Fin 3 → IVec S16 32) a x).toNat < S50x1x512.size a := fun v3 v40 v43 k0_hw34 => k0_hw34
def k0_off71 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v45 : Index := Scalar.indexCast arg13
  let c0_i32_58 : BitVec 32 := 0#32
  let v46 : Index := Scalar.indexCast c0_i32_58
  let c16 : Index := 16#32
  ![v45.toNat, 0, 16]
def k0_off72 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v48 : Index := Scalar.indexCast arg13
  let c544 : Index := 544#32
  ![v48.toNat, 544]

def k0_chk35 (v3 : IVec S16 32) (v49 : IVec S16 32) (v52 : IVec S16 32) : Prop :=
  (∀ a x, ((![v49, v3, v52] : Fin 3 → IVec S16 32) a x).toNat < S50x1x512.size a)
theorem k0_idx35_inb : ∀ (v3 : IVec S16 32) (v49 : IVec S16 32) (v52 : IVec S16 32) (k0_hw35 : k0_chk35 v3 v49 v52), ∀ a x, ((![v49, v3, v52] : Fin 3 → IVec S16 32) a x).toNat < S50x1x512.size a := fun v3 v49 v52 k0_hw35 => k0_hw35
def k0_off73 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v54 : Index := Scalar.indexCast arg13
  let c0_i32_60 : BitVec 32 := 0#32
  let v55 : Index := Scalar.indexCast c0_i32_60
  let c32 : Index := 32#32
  ![v54.toNat, 0, 32]
def k0_off74 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v57 : Index := Scalar.indexCast arg13
  let c560 : Index := 560#32
  ![v57.toNat, 560]

def k0_chk36 (v3 : IVec S16 32) (v58 : IVec S16 32) (v61 : IVec S16 32) : Prop :=
  (∀ a x, ((![v58, v3, v61] : Fin 3 → IVec S16 32) a x).toNat < S50x1x512.size a)
theorem k0_idx36_inb : ∀ (v3 : IVec S16 32) (v58 : IVec S16 32) (v61 : IVec S16 32) (k0_hw36 : k0_chk36 v3 v58 v61), ∀ a x, ((![v58, v3, v61] : Fin 3 → IVec S16 32) a x).toNat < S50x1x512.size a := fun v3 v58 v61 k0_hw36 => k0_hw36
def k0_off75 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v63 : Index := Scalar.indexCast arg13
  let c0_i32_61 : BitVec 32 := 0#32
  let v64 : Index := Scalar.indexCast c0_i32_61
  let c48 : Index := 48#32
  ![v63.toNat, 0, 48]
def k0_off76 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v66 : Index := Scalar.indexCast arg13
  let c576 : Index := 576#32
  ![v66.toNat, 576]

def k0_chk37 (v3 : IVec S16 32) (v67 : IVec S16 32) (v70 : IVec S16 32) : Prop :=
  (∀ a x, ((![v67, v3, v70] : Fin 3 → IVec S16 32) a x).toNat < S50x1x512.size a)
theorem k0_idx37_inb : ∀ (v3 : IVec S16 32) (v67 : IVec S16 32) (v70 : IVec S16 32) (k0_hw37 : k0_chk37 v3 v67 v70), ∀ a x, ((![v67, v3, v70] : Fin 3 → IVec S16 32) a x).toNat < S50x1x512.size a := fun v3 v67 v70 k0_hw37 => k0_hw37
def k0_off77 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v72 : Index := Scalar.indexCast arg13
  let c0_i32_62 : BitVec 32 := 0#32
  let v73 : Index := Scalar.indexCast c0_i32_62
  let c64 : Index := 64#32
  ![v72.toNat, 0, 64]
def k0_off78 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v75 : Index := Scalar.indexCast arg13
  let c592 : Index := 592#32
  ![v75.toNat, 592]

def k0_chk38 (v3 : IVec S16 32) (v76 : IVec S16 32) (v79 : IVec S16 32) : Prop :=
  (∀ a x, ((![v76, v3, v79] : Fin 3 → IVec S16 32) a x).toNat < S50x1x512.size a)
theorem k0_idx38_inb : ∀ (v3 : IVec S16 32) (v76 : IVec S16 32) (v79 : IVec S16 32) (k0_hw38 : k0_chk38 v3 v76 v79), ∀ a x, ((![v76, v3, v79] : Fin 3 → IVec S16 32) a x).toNat < S50x1x512.size a := fun v3 v76 v79 k0_hw38 => k0_hw38
def k0_off79 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v81 : Index := Scalar.indexCast arg13
  let c0_i32_63 : BitVec 32 := 0#32
  let v82 : Index := Scalar.indexCast c0_i32_63
  let c80 : Index := 80#32
  ![v81.toNat, 0, 80]
def k0_off80 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v84 : Index := Scalar.indexCast arg13
  let c608 : Index := 608#32
  ![v84.toNat, 608]

def k0_chk39 (v3 : IVec S16 32) (v85 : IVec S16 32) (v88 : IVec S16 32) : Prop :=
  (∀ a x, ((![v85, v3, v88] : Fin 3 → IVec S16 32) a x).toNat < S50x1x512.size a)
theorem k0_idx39_inb : ∀ (v3 : IVec S16 32) (v85 : IVec S16 32) (v88 : IVec S16 32) (k0_hw39 : k0_chk39 v3 v85 v88), ∀ a x, ((![v85, v3, v88] : Fin 3 → IVec S16 32) a x).toNat < S50x1x512.size a := fun v3 v85 v88 k0_hw39 => k0_hw39
def k0_off81 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v90 : Index := Scalar.indexCast arg13
  let c0_i32_64 : BitVec 32 := 0#32
  let v91 : Index := Scalar.indexCast c0_i32_64
  let c96 : Index := 96#32
  ![v90.toNat, 0, 96]
def k0_off82 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v93 : Index := Scalar.indexCast arg13
  let c624 : Index := 624#32
  ![v93.toNat, 624]

def k0_chk40 (v3 : IVec S16 32) (v94 : IVec S16 32) (v97 : IVec S16 32) : Prop :=
  (∀ a x, ((![v94, v3, v97] : Fin 3 → IVec S16 32) a x).toNat < S50x1x512.size a)
theorem k0_idx40_inb : ∀ (v3 : IVec S16 32) (v94 : IVec S16 32) (v97 : IVec S16 32) (k0_hw40 : k0_chk40 v3 v94 v97), ∀ a x, ((![v94, v3, v97] : Fin 3 → IVec S16 32) a x).toNat < S50x1x512.size a := fun v3 v94 v97 k0_hw40 => k0_hw40
def k0_off83 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v99 : Index := Scalar.indexCast arg13
  let c0_i32_65 : BitVec 32 := 0#32
  let v100 : Index := Scalar.indexCast c0_i32_65
  let c112 : Index := 112#32
  ![v99.toNat, 0, 112]
def k0_off84 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v102 : Index := Scalar.indexCast arg13
  let c640 : Index := 640#32
  ![v102.toNat, 640]

def k0_chk41 (v3 : IVec S16 32) (v103 : IVec S16 32) (v106 : IVec S16 32) : Prop :=
  (∀ a x, ((![v103, v3, v106] : Fin 3 → IVec S16 32) a x).toNat < S50x1x512.size a)
theorem k0_idx41_inb : ∀ (v3 : IVec S16 32) (v103 : IVec S16 32) (v106 : IVec S16 32) (k0_hw41 : k0_chk41 v3 v103 v106), ∀ a x, ((![v103, v3, v106] : Fin 3 → IVec S16 32) a x).toNat < S50x1x512.size a := fun v3 v103 v106 k0_hw41 => k0_hw41
def k0_off85 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v108 : Index := Scalar.indexCast arg13
  let c0_i32_66 : BitVec 32 := 0#32
  let v109 : Index := Scalar.indexCast c0_i32_66
  let c128 : Index := 128#32
  ![v108.toNat, 0, 128]
def k0_off86 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v111 : Index := Scalar.indexCast arg13
  let c656 : Index := 656#32
  ![v111.toNat, 656]

def k0_chk42 (v3 : IVec S16 32) (v112 : IVec S16 32) (v115 : IVec S16 32) : Prop :=
  (∀ a x, ((![v112, v3, v115] : Fin 3 → IVec S16 32) a x).toNat < S50x1x512.size a)
theorem k0_idx42_inb : ∀ (v3 : IVec S16 32) (v112 : IVec S16 32) (v115 : IVec S16 32) (k0_hw42 : k0_chk42 v3 v112 v115), ∀ a x, ((![v112, v3, v115] : Fin 3 → IVec S16 32) a x).toNat < S50x1x512.size a := fun v3 v112 v115 k0_hw42 => k0_hw42
def k0_off87 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v117 : Index := Scalar.indexCast arg13
  let c0_i32_67 : BitVec 32 := 0#32
  let v118 : Index := Scalar.indexCast c0_i32_67
  let c144 : Index := 144#32
  ![v117.toNat, 0, 144]
def k0_off88 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v120 : Index := Scalar.indexCast arg13
  let c672 : Index := 672#32
  ![v120.toNat, 672]

def k0_chk43 (v3 : IVec S16 32) (v121 : IVec S16 32) (v124 : IVec S16 32) : Prop :=
  (∀ a x, ((![v121, v3, v124] : Fin 3 → IVec S16 32) a x).toNat < S50x1x512.size a)
theorem k0_idx43_inb : ∀ (v3 : IVec S16 32) (v121 : IVec S16 32) (v124 : IVec S16 32) (k0_hw43 : k0_chk43 v3 v121 v124), ∀ a x, ((![v121, v3, v124] : Fin 3 → IVec S16 32) a x).toNat < S50x1x512.size a := fun v3 v121 v124 k0_hw43 => k0_hw43
def k0_off89 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v126 : Index := Scalar.indexCast arg13
  let c0_i32_68 : BitVec 32 := 0#32
  let v127 : Index := Scalar.indexCast c0_i32_68
  let c160 : Index := 160#32
  ![v126.toNat, 0, 160]
def k0_off90 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v129 : Index := Scalar.indexCast arg13
  let c688 : Index := 688#32
  ![v129.toNat, 688]

def k0_chk44 (v3 : IVec S16 32) (v130 : IVec S16 32) (v133 : IVec S16 32) : Prop :=
  (∀ a x, ((![v130, v3, v133] : Fin 3 → IVec S16 32) a x).toNat < S50x1x512.size a)
theorem k0_idx44_inb : ∀ (v3 : IVec S16 32) (v130 : IVec S16 32) (v133 : IVec S16 32) (k0_hw44 : k0_chk44 v3 v130 v133), ∀ a x, ((![v130, v3, v133] : Fin 3 → IVec S16 32) a x).toNat < S50x1x512.size a := fun v3 v130 v133 k0_hw44 => k0_hw44
def k0_off91 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v135 : Index := Scalar.indexCast arg13
  let c0_i32_69 : BitVec 32 := 0#32
  let v136 : Index := Scalar.indexCast c0_i32_69
  let c176 : Index := 176#32
  ![v135.toNat, 0, 176]
def k0_off92 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v138 : Index := Scalar.indexCast arg13
  let c704 : Index := 704#32
  ![v138.toNat, 704]

def k0_chk45 (v3 : IVec S16 32) (v139 : IVec S16 32) (v142 : IVec S16 32) : Prop :=
  (∀ a x, ((![v139, v3, v142] : Fin 3 → IVec S16 32) a x).toNat < S50x1x512.size a)
theorem k0_idx45_inb : ∀ (v3 : IVec S16 32) (v139 : IVec S16 32) (v142 : IVec S16 32) (k0_hw45 : k0_chk45 v3 v139 v142), ∀ a x, ((![v139, v3, v142] : Fin 3 → IVec S16 32) a x).toNat < S50x1x512.size a := fun v3 v139 v142 k0_hw45 => k0_hw45
def k0_off93 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v144 : Index := Scalar.indexCast arg13
  let c0_i32_70 : BitVec 32 := 0#32
  let v145 : Index := Scalar.indexCast c0_i32_70
  let c192 : Index := 192#32
  ![v144.toNat, 0, 192]
def k0_off94 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v147 : Index := Scalar.indexCast arg13
  let c720 : Index := 720#32
  ![v147.toNat, 720]

def k0_chk46 (v3 : IVec S16 32) (v148 : IVec S16 32) (v151 : IVec S16 32) : Prop :=
  (∀ a x, ((![v148, v3, v151] : Fin 3 → IVec S16 32) a x).toNat < S50x1x512.size a)
theorem k0_idx46_inb : ∀ (v3 : IVec S16 32) (v148 : IVec S16 32) (v151 : IVec S16 32) (k0_hw46 : k0_chk46 v3 v148 v151), ∀ a x, ((![v148, v3, v151] : Fin 3 → IVec S16 32) a x).toNat < S50x1x512.size a := fun v3 v148 v151 k0_hw46 => k0_hw46
def k0_off95 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v153 : Index := Scalar.indexCast arg13
  let c0_i32_71 : BitVec 32 := 0#32
  let v154 : Index := Scalar.indexCast c0_i32_71
  let c208 : Index := 208#32
  ![v153.toNat, 0, 208]
def k0_off96 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v156 : Index := Scalar.indexCast arg13
  let c736 : Index := 736#32
  ![v156.toNat, 736]

def k0_chk47 (v3 : IVec S16 32) (v157 : IVec S16 32) (v160 : IVec S16 32) : Prop :=
  (∀ a x, ((![v157, v3, v160] : Fin 3 → IVec S16 32) a x).toNat < S50x1x512.size a)
theorem k0_idx47_inb : ∀ (v3 : IVec S16 32) (v157 : IVec S16 32) (v160 : IVec S16 32) (k0_hw47 : k0_chk47 v3 v157 v160), ∀ a x, ((![v157, v3, v160] : Fin 3 → IVec S16 32) a x).toNat < S50x1x512.size a := fun v3 v157 v160 k0_hw47 => k0_hw47
def k0_off97 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v162 : Index := Scalar.indexCast arg13
  let c0_i32_72 : BitVec 32 := 0#32
  let v163 : Index := Scalar.indexCast c0_i32_72
  let c224 : Index := 224#32
  ![v162.toNat, 0, 224]
def k0_off98 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v165 : Index := Scalar.indexCast arg13
  let c752 : Index := 752#32
  ![v165.toNat, 752]

def k0_chk48 (v3 : IVec S16 32) (v166 : IVec S16 32) (v169 : IVec S16 32) : Prop :=
  (∀ a x, ((![v166, v3, v169] : Fin 3 → IVec S16 32) a x).toNat < S50x1x512.size a)
theorem k0_idx48_inb : ∀ (v3 : IVec S16 32) (v166 : IVec S16 32) (v169 : IVec S16 32) (k0_hw48 : k0_chk48 v3 v166 v169), ∀ a x, ((![v166, v3, v169] : Fin 3 → IVec S16 32) a x).toNat < S50x1x512.size a := fun v3 v166 v169 k0_hw48 => k0_hw48
def k0_off99 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v171 : Index := Scalar.indexCast arg13
  let c0_i32_73 : BitVec 32 := 0#32
  let v172 : Index := Scalar.indexCast c0_i32_73
  let c240 : Index := 240#32
  ![v171.toNat, 0, 240]
def k0_off100 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v174 : Index := Scalar.indexCast arg13
  let c768 : Index := 768#32
  ![v174.toNat, 768]

def k0_chk49 (v3 : IVec S16 32) (v175 : IVec S16 32) (v178 : IVec S16 32) : Prop :=
  (∀ a x, ((![v175, v3, v178] : Fin 3 → IVec S16 32) a x).toNat < S50x1x512.size a)
theorem k0_idx49_inb : ∀ (v3 : IVec S16 32) (v175 : IVec S16 32) (v178 : IVec S16 32) (k0_hw49 : k0_chk49 v3 v175 v178), ∀ a x, ((![v175, v3, v178] : Fin 3 → IVec S16 32) a x).toNat < S50x1x512.size a := fun v3 v175 v178 k0_hw49 => k0_hw49
def k0_off101 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v180 : Index := Scalar.indexCast arg13
  let c0_i32_74 : BitVec 32 := 0#32
  let v181 : Index := Scalar.indexCast c0_i32_74
  let c256 : Index := 256#32
  ![v180.toNat, 0, 256]
def k0_off102 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v183 : Index := Scalar.indexCast arg13
  let c784 : Index := 784#32
  ![v183.toNat, 784]

def k0_chk50 (v3 : IVec S16 32) (v184 : IVec S16 32) (v187 : IVec S16 32) : Prop :=
  (∀ a x, ((![v184, v3, v187] : Fin 3 → IVec S16 32) a x).toNat < S50x1x512.size a)
theorem k0_idx50_inb : ∀ (v3 : IVec S16 32) (v184 : IVec S16 32) (v187 : IVec S16 32) (k0_hw50 : k0_chk50 v3 v184 v187), ∀ a x, ((![v184, v3, v187] : Fin 3 → IVec S16 32) a x).toNat < S50x1x512.size a := fun v3 v184 v187 k0_hw50 => k0_hw50
def k0_off103 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v189 : Index := Scalar.indexCast arg13
  let c0_i32_75 : BitVec 32 := 0#32
  let v190 : Index := Scalar.indexCast c0_i32_75
  let c272 : Index := 272#32
  ![v189.toNat, 0, 272]
def k0_off104 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v192 : Index := Scalar.indexCast arg13
  let c800 : Index := 800#32
  ![v192.toNat, 800]

def k0_chk51 (v3 : IVec S16 32) (v193 : IVec S16 32) (v196 : IVec S16 32) : Prop :=
  (∀ a x, ((![v193, v3, v196] : Fin 3 → IVec S16 32) a x).toNat < S50x1x512.size a)
theorem k0_idx51_inb : ∀ (v3 : IVec S16 32) (v193 : IVec S16 32) (v196 : IVec S16 32) (k0_hw51 : k0_chk51 v3 v193 v196), ∀ a x, ((![v193, v3, v196] : Fin 3 → IVec S16 32) a x).toNat < S50x1x512.size a := fun v3 v193 v196 k0_hw51 => k0_hw51
def k0_off105 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v198 : Index := Scalar.indexCast arg13
  let c0_i32_76 : BitVec 32 := 0#32
  let v199 : Index := Scalar.indexCast c0_i32_76
  let c288 : Index := 288#32
  ![v198.toNat, 0, 288]
def k0_off106 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v201 : Index := Scalar.indexCast arg13
  let c816 : Index := 816#32
  ![v201.toNat, 816]

def k0_chk52 (v3 : IVec S16 32) (v202 : IVec S16 32) (v205 : IVec S16 32) : Prop :=
  (∀ a x, ((![v202, v3, v205] : Fin 3 → IVec S16 32) a x).toNat < S50x1x512.size a)
theorem k0_idx52_inb : ∀ (v3 : IVec S16 32) (v202 : IVec S16 32) (v205 : IVec S16 32) (k0_hw52 : k0_chk52 v3 v202 v205), ∀ a x, ((![v202, v3, v205] : Fin 3 → IVec S16 32) a x).toNat < S50x1x512.size a := fun v3 v202 v205 k0_hw52 => k0_hw52
def k0_off107 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v207 : Index := Scalar.indexCast arg13
  let c0_i32_77 : BitVec 32 := 0#32
  let v208 : Index := Scalar.indexCast c0_i32_77
  let c304 : Index := 304#32
  ![v207.toNat, 0, 304]
def k0_off108 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v210 : Index := Scalar.indexCast arg13
  let c832 : Index := 832#32
  ![v210.toNat, 832]

def k0_chk53 (v3 : IVec S16 32) (v211 : IVec S16 32) (v214 : IVec S16 32) : Prop :=
  (∀ a x, ((![v211, v3, v214] : Fin 3 → IVec S16 32) a x).toNat < S50x1x512.size a)
theorem k0_idx53_inb : ∀ (v3 : IVec S16 32) (v211 : IVec S16 32) (v214 : IVec S16 32) (k0_hw53 : k0_chk53 v3 v211 v214), ∀ a x, ((![v211, v3, v214] : Fin 3 → IVec S16 32) a x).toNat < S50x1x512.size a := fun v3 v211 v214 k0_hw53 => k0_hw53
def k0_off109 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v216 : Index := Scalar.indexCast arg13
  let c0_i32_78 : BitVec 32 := 0#32
  let v217 : Index := Scalar.indexCast c0_i32_78
  let c320 : Index := 320#32
  ![v216.toNat, 0, 320]
def k0_off110 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v219 : Index := Scalar.indexCast arg13
  let c848 : Index := 848#32
  ![v219.toNat, 848]

def k0_chk54 (v3 : IVec S16 32) (v220 : IVec S16 32) (v223 : IVec S16 32) : Prop :=
  (∀ a x, ((![v220, v3, v223] : Fin 3 → IVec S16 32) a x).toNat < S50x1x512.size a)
theorem k0_idx54_inb : ∀ (v3 : IVec S16 32) (v220 : IVec S16 32) (v223 : IVec S16 32) (k0_hw54 : k0_chk54 v3 v220 v223), ∀ a x, ((![v220, v3, v223] : Fin 3 → IVec S16 32) a x).toNat < S50x1x512.size a := fun v3 v220 v223 k0_hw54 => k0_hw54
def k0_off111 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v225 : Index := Scalar.indexCast arg13
  let c0_i32_79 : BitVec 32 := 0#32
  let v226 : Index := Scalar.indexCast c0_i32_79
  let c336 : Index := 336#32
  ![v225.toNat, 0, 336]
def k0_off112 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v228 : Index := Scalar.indexCast arg13
  let c864 : Index := 864#32
  ![v228.toNat, 864]

def k0_chk55 (v3 : IVec S16 32) (v229 : IVec S16 32) (v232 : IVec S16 32) : Prop :=
  (∀ a x, ((![v229, v3, v232] : Fin 3 → IVec S16 32) a x).toNat < S50x1x512.size a)
theorem k0_idx55_inb : ∀ (v3 : IVec S16 32) (v229 : IVec S16 32) (v232 : IVec S16 32) (k0_hw55 : k0_chk55 v3 v229 v232), ∀ a x, ((![v229, v3, v232] : Fin 3 → IVec S16 32) a x).toNat < S50x1x512.size a := fun v3 v229 v232 k0_hw55 => k0_hw55
def k0_off113 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v234 : Index := Scalar.indexCast arg13
  let c0_i32_80 : BitVec 32 := 0#32
  let v235 : Index := Scalar.indexCast c0_i32_80
  let c352 : Index := 352#32
  ![v234.toNat, 0, 352]
def k0_off114 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v237 : Index := Scalar.indexCast arg13
  let c880 : Index := 880#32
  ![v237.toNat, 880]

def k0_chk56 (v3 : IVec S16 32) (v238 : IVec S16 32) (v241 : IVec S16 32) : Prop :=
  (∀ a x, ((![v238, v3, v241] : Fin 3 → IVec S16 32) a x).toNat < S50x1x512.size a)
theorem k0_idx56_inb : ∀ (v3 : IVec S16 32) (v238 : IVec S16 32) (v241 : IVec S16 32) (k0_hw56 : k0_chk56 v3 v238 v241), ∀ a x, ((![v238, v3, v241] : Fin 3 → IVec S16 32) a x).toNat < S50x1x512.size a := fun v3 v238 v241 k0_hw56 => k0_hw56
def k0_off115 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v243 : Index := Scalar.indexCast arg13
  let c0_i32_81 : BitVec 32 := 0#32
  let v244 : Index := Scalar.indexCast c0_i32_81
  let c368 : Index := 368#32
  ![v243.toNat, 0, 368]
def k0_off116 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v246 : Index := Scalar.indexCast arg13
  let c896 : Index := 896#32
  ![v246.toNat, 896]

def k0_chk57 (v3 : IVec S16 32) (v247 : IVec S16 32) (v250 : IVec S16 32) : Prop :=
  (∀ a x, ((![v247, v3, v250] : Fin 3 → IVec S16 32) a x).toNat < S50x1x512.size a)
theorem k0_idx57_inb : ∀ (v3 : IVec S16 32) (v247 : IVec S16 32) (v250 : IVec S16 32) (k0_hw57 : k0_chk57 v3 v247 v250), ∀ a x, ((![v247, v3, v250] : Fin 3 → IVec S16 32) a x).toNat < S50x1x512.size a := fun v3 v247 v250 k0_hw57 => k0_hw57
def k0_off117 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v252 : Index := Scalar.indexCast arg13
  let c0_i32_82 : BitVec 32 := 0#32
  let v253 : Index := Scalar.indexCast c0_i32_82
  let c384 : Index := 384#32
  ![v252.toNat, 0, 384]
def k0_off118 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v255 : Index := Scalar.indexCast arg13
  let c912 : Index := 912#32
  ![v255.toNat, 912]

def k0_chk58 (v3 : IVec S16 32) (v256 : IVec S16 32) (v259 : IVec S16 32) : Prop :=
  (∀ a x, ((![v256, v3, v259] : Fin 3 → IVec S16 32) a x).toNat < S50x1x512.size a)
theorem k0_idx58_inb : ∀ (v3 : IVec S16 32) (v256 : IVec S16 32) (v259 : IVec S16 32) (k0_hw58 : k0_chk58 v3 v256 v259), ∀ a x, ((![v256, v3, v259] : Fin 3 → IVec S16 32) a x).toNat < S50x1x512.size a := fun v3 v256 v259 k0_hw58 => k0_hw58
def k0_off119 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v261 : Index := Scalar.indexCast arg13
  let c0_i32_83 : BitVec 32 := 0#32
  let v262 : Index := Scalar.indexCast c0_i32_83
  let c400 : Index := 400#32
  ![v261.toNat, 0, 400]
def k0_off120 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v264 : Index := Scalar.indexCast arg13
  let c928 : Index := 928#32
  ![v264.toNat, 928]

def k0_chk59 (v3 : IVec S16 32) (v265 : IVec S16 32) (v268 : IVec S16 32) : Prop :=
  (∀ a x, ((![v265, v3, v268] : Fin 3 → IVec S16 32) a x).toNat < S50x1x512.size a)
theorem k0_idx59_inb : ∀ (v3 : IVec S16 32) (v265 : IVec S16 32) (v268 : IVec S16 32) (k0_hw59 : k0_chk59 v3 v265 v268), ∀ a x, ((![v265, v3, v268] : Fin 3 → IVec S16 32) a x).toNat < S50x1x512.size a := fun v3 v265 v268 k0_hw59 => k0_hw59
def k0_off121 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v270 : Index := Scalar.indexCast arg13
  let c0_i32_84 : BitVec 32 := 0#32
  let v271 : Index := Scalar.indexCast c0_i32_84
  let c416 : Index := 416#32
  ![v270.toNat, 0, 416]
def k0_off122 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v273 : Index := Scalar.indexCast arg13
  let c944 : Index := 944#32
  ![v273.toNat, 944]

def k0_chk60 (v3 : IVec S16 32) (v274 : IVec S16 32) (v277 : IVec S16 32) : Prop :=
  (∀ a x, ((![v274, v3, v277] : Fin 3 → IVec S16 32) a x).toNat < S50x1x512.size a)
theorem k0_idx60_inb : ∀ (v3 : IVec S16 32) (v274 : IVec S16 32) (v277 : IVec S16 32) (k0_hw60 : k0_chk60 v3 v274 v277), ∀ a x, ((![v274, v3, v277] : Fin 3 → IVec S16 32) a x).toNat < S50x1x512.size a := fun v3 v274 v277 k0_hw60 => k0_hw60
def k0_off123 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v279 : Index := Scalar.indexCast arg13
  let c0_i32_85 : BitVec 32 := 0#32
  let v280 : Index := Scalar.indexCast c0_i32_85
  let c432 : Index := 432#32
  ![v279.toNat, 0, 432]
def k0_off124 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v282 : Index := Scalar.indexCast arg13
  let c960 : Index := 960#32
  ![v282.toNat, 960]

def k0_chk61 (v3 : IVec S16 32) (v283 : IVec S16 32) (v286 : IVec S16 32) : Prop :=
  (∀ a x, ((![v283, v3, v286] : Fin 3 → IVec S16 32) a x).toNat < S50x1x512.size a)
theorem k0_idx61_inb : ∀ (v3 : IVec S16 32) (v283 : IVec S16 32) (v286 : IVec S16 32) (k0_hw61 : k0_chk61 v3 v283 v286), ∀ a x, ((![v283, v3, v286] : Fin 3 → IVec S16 32) a x).toNat < S50x1x512.size a := fun v3 v283 v286 k0_hw61 => k0_hw61
def k0_off125 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v288 : Index := Scalar.indexCast arg13
  let c0_i32_86 : BitVec 32 := 0#32
  let v289 : Index := Scalar.indexCast c0_i32_86
  let c448 : Index := 448#32
  ![v288.toNat, 0, 448]
def k0_off126 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v291 : Index := Scalar.indexCast arg13
  let c976 : Index := 976#32
  ![v291.toNat, 976]

def k0_chk62 (v3 : IVec S16 32) (v292 : IVec S16 32) (v295 : IVec S16 32) : Prop :=
  (∀ a x, ((![v292, v3, v295] : Fin 3 → IVec S16 32) a x).toNat < S50x1x512.size a)
theorem k0_idx62_inb : ∀ (v3 : IVec S16 32) (v292 : IVec S16 32) (v295 : IVec S16 32) (k0_hw62 : k0_chk62 v3 v292 v295), ∀ a x, ((![v292, v3, v295] : Fin 3 → IVec S16 32) a x).toNat < S50x1x512.size a := fun v3 v292 v295 k0_hw62 => k0_hw62
def k0_off127 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v297 : Index := Scalar.indexCast arg13
  let c0_i32_87 : BitVec 32 := 0#32
  let v298 : Index := Scalar.indexCast c0_i32_87
  let c464 : Index := 464#32
  ![v297.toNat, 0, 464]
def k0_off128 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v300 : Index := Scalar.indexCast arg13
  let c992 : Index := 992#32
  ![v300.toNat, 992]

def k0_chk63 (v3 : IVec S16 32) (v301 : IVec S16 32) (v304 : IVec S16 32) : Prop :=
  (∀ a x, ((![v301, v3, v304] : Fin 3 → IVec S16 32) a x).toNat < S50x1x512.size a)
theorem k0_idx63_inb : ∀ (v3 : IVec S16 32) (v301 : IVec S16 32) (v304 : IVec S16 32) (k0_hw63 : k0_chk63 v3 v301 v304), ∀ a x, ((![v301, v3, v304] : Fin 3 → IVec S16 32) a x).toNat < S50x1x512.size a := fun v3 v301 v304 k0_hw63 => k0_hw63
def k0_off129 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v306 : Index := Scalar.indexCast arg13
  let c0_i32_88 : BitVec 32 := 0#32
  let v307 : Index := Scalar.indexCast c0_i32_88
  let c480 : Index := 480#32
  ![v306.toNat, 0, 480]
def k0_off130 (k0_t4 : Fin k0_t4_loop.trips) : Fin 2 → Nat :=
  let c0_i32_51 : BitVec 32 := 0#32
  let c1_i32_53 : BitVec 32 := 1#32
  let arg13 : BitVec 32 := Scf.iv c0_i32_51 c1_i32_53 k0_t4
  let v309 : Index := Scalar.indexCast arg13
  let c1008 : Index := 1008#32
  ![v309.toNat, 1008]

def k0_chk64 (v3 : IVec S16 32) (v310 : IVec S16 32) (v313 : IVec S16 32) : Prop :=
  (∀ a x, ((![v310, v3, v313] : Fin 3 → IVec S16 32) a x).toNat < S50x1x512.size a)
theorem k0_idx64_inb : ∀ (v3 : IVec S16 32) (v310 : IVec S16 32) (v313 : IVec S16 32) (k0_hw64 : k0_chk64 v3 v310 v313), ∀ a x, ((![v310, v3, v313] : Fin 3 → IVec S16 32) a x).toNat < S50x1x512.size a := fun v3 v310 v313 k0_hw64 => k0_hw64
def k0_off131 (k0_t4 : Fin k0_t4_loop.trips) : Fin 3 → Nat :=
  let c0_i32_51 : BitVec 32 := 0#32
  let c1_i32_53 : BitVec 32 := 1#32
  let arg13 : BitVec 32 := Scf.iv c0_i32_51 c1_i32_53 k0_t4
  let v315 : Index := Scalar.indexCast arg13
  let c0_i32_89 : BitVec 32 := 0#32
  let v316 : Index := Scalar.indexCast c0_i32_89
  let c496 : Index := 496#32
  ![v315.toNat, 0, 496]
def k0_off132 (i : grid0.Coords) (k0_t3 : Fin k0_t3_loop.trips) : Fin 3 → Nat :=
  let c0_i32_56_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  let c1_i32_7 : BitVec 32 := 1#32
  let arg11 : BitVec 32 := Scf.iv c0_i32_5 c1_i32_7 k0_t3
  let v23 : BitVec 32 := Scalar.addi v2 arg11
  let c512_i32_57_r2 : BitVec 32 := 512#32
  ![0, v23.toNat, 512]
def k0_off133 (i : grid0.Coords) : Fin 3 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let v9 : BitVec 32 := Scalar.addi v1 c0_i32_11
  let c0_i32_13 : BitVec 32 := 0#32
  ![0, v9.toNat, 0]
@[reducible] def k0_t5_loop : Scf.Loop 32 :=
  let c0_i32_21 : BitVec 32 := 0#32
  let c25_i32 : BitVec 32 := 25#32
  let v14 : BitVec 32 := Scalar.addi c0_i32_21 c25_i32
  let c1_i32_22 : BitVec 32 := 1#32
  ⟨c0_i32_21, v14, c1_i32_22⟩
def k0_off134 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v23 : Index := Scalar.indexCast arg11
  let c0 : Index := 0#32
  ![v23.toNat, 0]

def k0_chk65 (v8 : IVec S16 32) (v24 : IVec S16 32) (v27 : IVec S16 32) : Prop :=
  (∀ a x, ((![v24, v8, v27] : Fin 3 → IVec S16 32) a x).toNat < S50x1x512.size a)
theorem k0_idx65_inb : ∀ (v8 : IVec S16 32) (v24 : IVec S16 32) (v27 : IVec S16 32) (k0_hw65 : k0_chk65 v8 v24 v27), ∀ a x, ((![v24, v8, v27] : Fin 3 → IVec S16 32) a x).toNat < S50x1x512.size a := fun v8 v24 v27 k0_hw65 => k0_hw65
def k0_off135 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v29 : Index := Scalar.indexCast arg11
  let c0_i32_43 : BitVec 32 := 0#32
  let v30 : Index := Scalar.indexCast c0_i32_43
  let c0_44 : Index := 0#32
  ![v29.toNat, 0, 0]
def k0_off136 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v32 : Index := Scalar.indexCast arg11
  let c16 : Index := 16#32
  ![v32.toNat, 16]

def k0_chk66 (v8 : IVec S16 32) (v33 : IVec S16 32) (v36 : IVec S16 32) : Prop :=
  (∀ a x, ((![v33, v8, v36] : Fin 3 → IVec S16 32) a x).toNat < S50x1x512.size a)
theorem k0_idx66_inb : ∀ (v8 : IVec S16 32) (v33 : IVec S16 32) (v36 : IVec S16 32) (k0_hw66 : k0_chk66 v8 v33 v36), ∀ a x, ((![v33, v8, v36] : Fin 3 → IVec S16 32) a x).toNat < S50x1x512.size a := fun v8 v33 v36 k0_hw66 => k0_hw66
def k0_off137 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v38 : Index := Scalar.indexCast arg11
  let c0_i32_45 : BitVec 32 := 0#32
  let v39 : Index := Scalar.indexCast c0_i32_45
  let c16_46 : Index := 16#32
  ![v38.toNat, 0, 16]
def k0_off138 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v41 : Index := Scalar.indexCast arg11
  let c32 : Index := 32#32
  ![v41.toNat, 32]

def k0_chk67 (v8 : IVec S16 32) (v42 : IVec S16 32) (v45 : IVec S16 32) : Prop :=
  (∀ a x, ((![v42, v8, v45] : Fin 3 → IVec S16 32) a x).toNat < S50x1x512.size a)
theorem k0_idx67_inb : ∀ (v8 : IVec S16 32) (v42 : IVec S16 32) (v45 : IVec S16 32) (k0_hw67 : k0_chk67 v8 v42 v45), ∀ a x, ((![v42, v8, v45] : Fin 3 → IVec S16 32) a x).toNat < S50x1x512.size a := fun v8 v42 v45 k0_hw67 => k0_hw67
def k0_off139 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v47 : Index := Scalar.indexCast arg11
  let c0_i32_48 : BitVec 32 := 0#32
  let v48 : Index := Scalar.indexCast c0_i32_48
  let c32_49 : Index := 32#32
  ![v47.toNat, 0, 32]
def k0_off140 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v50 : Index := Scalar.indexCast arg11
  let c48 : Index := 48#32
  ![v50.toNat, 48]

def k0_chk68 (v8 : IVec S16 32) (v51 : IVec S16 32) (v54 : IVec S16 32) : Prop :=
  (∀ a x, ((![v51, v8, v54] : Fin 3 → IVec S16 32) a x).toNat < S50x1x512.size a)
theorem k0_idx68_inb : ∀ (v8 : IVec S16 32) (v51 : IVec S16 32) (v54 : IVec S16 32) (k0_hw68 : k0_chk68 v8 v51 v54), ∀ a x, ((![v51, v8, v54] : Fin 3 → IVec S16 32) a x).toNat < S50x1x512.size a := fun v8 v51 v54 k0_hw68 => k0_hw68
def k0_off141 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v56 : Index := Scalar.indexCast arg11
  let c0_i32_50 : BitVec 32 := 0#32
  let v57 : Index := Scalar.indexCast c0_i32_50
  let c48_51 : Index := 48#32
  ![v56.toNat, 0, 48]
def k0_off142 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v59 : Index := Scalar.indexCast arg11
  let c64 : Index := 64#32
  ![v59.toNat, 64]

def k0_chk69 (v8 : IVec S16 32) (v60 : IVec S16 32) (v63 : IVec S16 32) : Prop :=
  (∀ a x, ((![v60, v8, v63] : Fin 3 → IVec S16 32) a x).toNat < S50x1x512.size a)
theorem k0_idx69_inb : ∀ (v8 : IVec S16 32) (v60 : IVec S16 32) (v63 : IVec S16 32) (k0_hw69 : k0_chk69 v8 v60 v63), ∀ a x, ((![v60, v8, v63] : Fin 3 → IVec S16 32) a x).toNat < S50x1x512.size a := fun v8 v60 v63 k0_hw69 => k0_hw69
def k0_off143 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v65 : Index := Scalar.indexCast arg11
  let c0_i32_52 : BitVec 32 := 0#32
  let v66 : Index := Scalar.indexCast c0_i32_52
  let c64_53 : Index := 64#32
  ![v65.toNat, 0, 64]
def k0_off144 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v68 : Index := Scalar.indexCast arg11
  let c80 : Index := 80#32
  ![v68.toNat, 80]

def k0_chk70 (v8 : IVec S16 32) (v69 : IVec S16 32) (v72 : IVec S16 32) : Prop :=
  (∀ a x, ((![v69, v8, v72] : Fin 3 → IVec S16 32) a x).toNat < S50x1x512.size a)
theorem k0_idx70_inb : ∀ (v8 : IVec S16 32) (v69 : IVec S16 32) (v72 : IVec S16 32) (k0_hw70 : k0_chk70 v8 v69 v72), ∀ a x, ((![v69, v8, v72] : Fin 3 → IVec S16 32) a x).toNat < S50x1x512.size a := fun v8 v69 v72 k0_hw70 => k0_hw70
def k0_off145 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v74 : Index := Scalar.indexCast arg11
  let c0_i32_54 : BitVec 32 := 0#32
  let v75 : Index := Scalar.indexCast c0_i32_54
  let c80_55 : Index := 80#32
  ![v74.toNat, 0, 80]
def k0_off146 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v77 : Index := Scalar.indexCast arg11
  let c96 : Index := 96#32
  ![v77.toNat, 96]

def k0_chk71 (v8 : IVec S16 32) (v78 : IVec S16 32) (v81 : IVec S16 32) : Prop :=
  (∀ a x, ((![v78, v8, v81] : Fin 3 → IVec S16 32) a x).toNat < S50x1x512.size a)
theorem k0_idx71_inb : ∀ (v8 : IVec S16 32) (v78 : IVec S16 32) (v81 : IVec S16 32) (k0_hw71 : k0_chk71 v8 v78 v81), ∀ a x, ((![v78, v8, v81] : Fin 3 → IVec S16 32) a x).toNat < S50x1x512.size a := fun v8 v78 v81 k0_hw71 => k0_hw71
def k0_off147 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v83 : Index := Scalar.indexCast arg11
  let c0_i32_56 : BitVec 32 := 0#32
  let v84 : Index := Scalar.indexCast c0_i32_56
  let c96_57 : Index := 96#32
  ![v83.toNat, 0, 96]
def k0_off148 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v86 : Index := Scalar.indexCast arg11
  let c112 : Index := 112#32
  ![v86.toNat, 112]

def k0_chk72 (v8 : IVec S16 32) (v87 : IVec S16 32) (v90 : IVec S16 32) : Prop :=
  (∀ a x, ((![v87, v8, v90] : Fin 3 → IVec S16 32) a x).toNat < S50x1x512.size a)
theorem k0_idx72_inb : ∀ (v8 : IVec S16 32) (v87 : IVec S16 32) (v90 : IVec S16 32) (k0_hw72 : k0_chk72 v8 v87 v90), ∀ a x, ((![v87, v8, v90] : Fin 3 → IVec S16 32) a x).toNat < S50x1x512.size a := fun v8 v87 v90 k0_hw72 => k0_hw72
def k0_off149 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v92 : Index := Scalar.indexCast arg11
  let c0_i32_58 : BitVec 32 := 0#32
  let v93 : Index := Scalar.indexCast c0_i32_58
  let c112_59 : Index := 112#32
  ![v92.toNat, 0, 112]
def k0_off150 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v95 : Index := Scalar.indexCast arg11
  let c128 : Index := 128#32
  ![v95.toNat, 128]

def k0_chk73 (v8 : IVec S16 32) (v96 : IVec S16 32) (v99 : IVec S16 32) : Prop :=
  (∀ a x, ((![v96, v8, v99] : Fin 3 → IVec S16 32) a x).toNat < S50x1x512.size a)
theorem k0_idx73_inb : ∀ (v8 : IVec S16 32) (v96 : IVec S16 32) (v99 : IVec S16 32) (k0_hw73 : k0_chk73 v8 v96 v99), ∀ a x, ((![v96, v8, v99] : Fin 3 → IVec S16 32) a x).toNat < S50x1x512.size a := fun v8 v96 v99 k0_hw73 => k0_hw73
def k0_off151 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v101 : Index := Scalar.indexCast arg11
  let c0_i32_60 : BitVec 32 := 0#32
  let v102 : Index := Scalar.indexCast c0_i32_60
  let c128_61 : Index := 128#32
  ![v101.toNat, 0, 128]
def k0_off152 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v104 : Index := Scalar.indexCast arg11
  let c144 : Index := 144#32
  ![v104.toNat, 144]

def k0_chk74 (v8 : IVec S16 32) (v105 : IVec S16 32) (v108 : IVec S16 32) : Prop :=
  (∀ a x, ((![v105, v8, v108] : Fin 3 → IVec S16 32) a x).toNat < S50x1x512.size a)
theorem k0_idx74_inb : ∀ (v8 : IVec S16 32) (v105 : IVec S16 32) (v108 : IVec S16 32) (k0_hw74 : k0_chk74 v8 v105 v108), ∀ a x, ((![v105, v8, v108] : Fin 3 → IVec S16 32) a x).toNat < S50x1x512.size a := fun v8 v105 v108 k0_hw74 => k0_hw74
def k0_off153 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v110 : Index := Scalar.indexCast arg11
  let c0_i32_62 : BitVec 32 := 0#32
  let v111 : Index := Scalar.indexCast c0_i32_62
  let c144_63 : Index := 144#32
  ![v110.toNat, 0, 144]
def k0_off154 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v113 : Index := Scalar.indexCast arg11
  let c160 : Index := 160#32
  ![v113.toNat, 160]

def k0_chk75 (v8 : IVec S16 32) (v114 : IVec S16 32) (v117 : IVec S16 32) : Prop :=
  (∀ a x, ((![v114, v8, v117] : Fin 3 → IVec S16 32) a x).toNat < S50x1x512.size a)
theorem k0_idx75_inb : ∀ (v8 : IVec S16 32) (v114 : IVec S16 32) (v117 : IVec S16 32) (k0_hw75 : k0_chk75 v8 v114 v117), ∀ a x, ((![v114, v8, v117] : Fin 3 → IVec S16 32) a x).toNat < S50x1x512.size a := fun v8 v114 v117 k0_hw75 => k0_hw75
def k0_off155 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v119 : Index := Scalar.indexCast arg11
  let c0_i32_64 : BitVec 32 := 0#32
  let v120 : Index := Scalar.indexCast c0_i32_64
  let c160_65 : Index := 160#32
  ![v119.toNat, 0, 160]
def k0_off156 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v122 : Index := Scalar.indexCast arg11
  let c176 : Index := 176#32
  ![v122.toNat, 176]

def k0_chk76 (v8 : IVec S16 32) (v123 : IVec S16 32) (v126 : IVec S16 32) : Prop :=
  (∀ a x, ((![v123, v8, v126] : Fin 3 → IVec S16 32) a x).toNat < S50x1x512.size a)
theorem k0_idx76_inb : ∀ (v8 : IVec S16 32) (v123 : IVec S16 32) (v126 : IVec S16 32) (k0_hw76 : k0_chk76 v8 v123 v126), ∀ a x, ((![v123, v8, v126] : Fin 3 → IVec S16 32) a x).toNat < S50x1x512.size a := fun v8 v123 v126 k0_hw76 => k0_hw76
def k0_off157 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v128 : Index := Scalar.indexCast arg11
  let c0_i32_66 : BitVec 32 := 0#32
  let v129 : Index := Scalar.indexCast c0_i32_66
  let c176_67 : Index := 176#32
  ![v128.toNat, 0, 176]
def k0_off158 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v131 : Index := Scalar.indexCast arg11
  let c192 : Index := 192#32
  ![v131.toNat, 192]

def k0_chk77 (v8 : IVec S16 32) (v132 : IVec S16 32) (v135 : IVec S16 32) : Prop :=
  (∀ a x, ((![v132, v8, v135] : Fin 3 → IVec S16 32) a x).toNat < S50x1x512.size a)
theorem k0_idx77_inb : ∀ (v8 : IVec S16 32) (v132 : IVec S16 32) (v135 : IVec S16 32) (k0_hw77 : k0_chk77 v8 v132 v135), ∀ a x, ((![v132, v8, v135] : Fin 3 → IVec S16 32) a x).toNat < S50x1x512.size a := fun v8 v132 v135 k0_hw77 => k0_hw77
def k0_off159 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v137 : Index := Scalar.indexCast arg11
  let c0_i32_68 : BitVec 32 := 0#32
  let v138 : Index := Scalar.indexCast c0_i32_68
  let c192_69 : Index := 192#32
  ![v137.toNat, 0, 192]
def k0_off160 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v140 : Index := Scalar.indexCast arg11
  let c208 : Index := 208#32
  ![v140.toNat, 208]

def k0_chk78 (v8 : IVec S16 32) (v141 : IVec S16 32) (v144 : IVec S16 32) : Prop :=
  (∀ a x, ((![v141, v8, v144] : Fin 3 → IVec S16 32) a x).toNat < S50x1x512.size a)
theorem k0_idx78_inb : ∀ (v8 : IVec S16 32) (v141 : IVec S16 32) (v144 : IVec S16 32) (k0_hw78 : k0_chk78 v8 v141 v144), ∀ a x, ((![v141, v8, v144] : Fin 3 → IVec S16 32) a x).toNat < S50x1x512.size a := fun v8 v141 v144 k0_hw78 => k0_hw78
def k0_off161 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v146 : Index := Scalar.indexCast arg11
  let c0_i32_70 : BitVec 32 := 0#32
  let v147 : Index := Scalar.indexCast c0_i32_70
  let c208_71 : Index := 208#32
  ![v146.toNat, 0, 208]
def k0_off162 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v149 : Index := Scalar.indexCast arg11
  let c224 : Index := 224#32
  ![v149.toNat, 224]

def k0_chk79 (v8 : IVec S16 32) (v150 : IVec S16 32) (v153 : IVec S16 32) : Prop :=
  (∀ a x, ((![v150, v8, v153] : Fin 3 → IVec S16 32) a x).toNat < S50x1x512.size a)
theorem k0_idx79_inb : ∀ (v8 : IVec S16 32) (v150 : IVec S16 32) (v153 : IVec S16 32) (k0_hw79 : k0_chk79 v8 v150 v153), ∀ a x, ((![v150, v8, v153] : Fin 3 → IVec S16 32) a x).toNat < S50x1x512.size a := fun v8 v150 v153 k0_hw79 => k0_hw79
def k0_off163 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v155 : Index := Scalar.indexCast arg11
  let c0_i32_72 : BitVec 32 := 0#32
  let v156 : Index := Scalar.indexCast c0_i32_72
  let c224_73 : Index := 224#32
  ![v155.toNat, 0, 224]
def k0_off164 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v158 : Index := Scalar.indexCast arg11
  let c240 : Index := 240#32
  ![v158.toNat, 240]

def k0_chk80 (v8 : IVec S16 32) (v159 : IVec S16 32) (v162 : IVec S16 32) : Prop :=
  (∀ a x, ((![v159, v8, v162] : Fin 3 → IVec S16 32) a x).toNat < S50x1x512.size a)
theorem k0_idx80_inb : ∀ (v8 : IVec S16 32) (v159 : IVec S16 32) (v162 : IVec S16 32) (k0_hw80 : k0_chk80 v8 v159 v162), ∀ a x, ((![v159, v8, v162] : Fin 3 → IVec S16 32) a x).toNat < S50x1x512.size a := fun v8 v159 v162 k0_hw80 => k0_hw80
def k0_off165 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v164 : Index := Scalar.indexCast arg11
  let c0_i32_74 : BitVec 32 := 0#32
  let v165 : Index := Scalar.indexCast c0_i32_74
  let c240_75 : Index := 240#32
  ![v164.toNat, 0, 240]
def k0_off166 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v167 : Index := Scalar.indexCast arg11
  let c256 : Index := 256#32
  ![v167.toNat, 256]

def k0_chk81 (v8 : IVec S16 32) (v168 : IVec S16 32) (v171 : IVec S16 32) : Prop :=
  (∀ a x, ((![v168, v8, v171] : Fin 3 → IVec S16 32) a x).toNat < S50x1x512.size a)
theorem k0_idx81_inb : ∀ (v8 : IVec S16 32) (v168 : IVec S16 32) (v171 : IVec S16 32) (k0_hw81 : k0_chk81 v8 v168 v171), ∀ a x, ((![v168, v8, v171] : Fin 3 → IVec S16 32) a x).toNat < S50x1x512.size a := fun v8 v168 v171 k0_hw81 => k0_hw81
def k0_off167 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v173 : Index := Scalar.indexCast arg11
  let c0_i32_76 : BitVec 32 := 0#32
  let v174 : Index := Scalar.indexCast c0_i32_76
  let c256_77 : Index := 256#32
  ![v173.toNat, 0, 256]
def k0_off168 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v176 : Index := Scalar.indexCast arg11
  let c272 : Index := 272#32
  ![v176.toNat, 272]

def k0_chk82 (v8 : IVec S16 32) (v177 : IVec S16 32) (v180 : IVec S16 32) : Prop :=
  (∀ a x, ((![v177, v8, v180] : Fin 3 → IVec S16 32) a x).toNat < S50x1x512.size a)
theorem k0_idx82_inb : ∀ (v8 : IVec S16 32) (v177 : IVec S16 32) (v180 : IVec S16 32) (k0_hw82 : k0_chk82 v8 v177 v180), ∀ a x, ((![v177, v8, v180] : Fin 3 → IVec S16 32) a x).toNat < S50x1x512.size a := fun v8 v177 v180 k0_hw82 => k0_hw82
def k0_off169 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v182 : Index := Scalar.indexCast arg11
  let c0_i32_78 : BitVec 32 := 0#32
  let v183 : Index := Scalar.indexCast c0_i32_78
  let c272_79 : Index := 272#32
  ![v182.toNat, 0, 272]
def k0_off170 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v185 : Index := Scalar.indexCast arg11
  let c288 : Index := 288#32
  ![v185.toNat, 288]

def k0_chk83 (v8 : IVec S16 32) (v186 : IVec S16 32) (v189 : IVec S16 32) : Prop :=
  (∀ a x, ((![v186, v8, v189] : Fin 3 → IVec S16 32) a x).toNat < S50x1x512.size a)
theorem k0_idx83_inb : ∀ (v8 : IVec S16 32) (v186 : IVec S16 32) (v189 : IVec S16 32) (k0_hw83 : k0_chk83 v8 v186 v189), ∀ a x, ((![v186, v8, v189] : Fin 3 → IVec S16 32) a x).toNat < S50x1x512.size a := fun v8 v186 v189 k0_hw83 => k0_hw83
def k0_off171 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v191 : Index := Scalar.indexCast arg11
  let c0_i32_80 : BitVec 32 := 0#32
  let v192 : Index := Scalar.indexCast c0_i32_80
  let c288_81 : Index := 288#32
  ![v191.toNat, 0, 288]
def k0_off172 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v194 : Index := Scalar.indexCast arg11
  let c304 : Index := 304#32
  ![v194.toNat, 304]

def k0_chk84 (v8 : IVec S16 32) (v195 : IVec S16 32) (v198 : IVec S16 32) : Prop :=
  (∀ a x, ((![v195, v8, v198] : Fin 3 → IVec S16 32) a x).toNat < S50x1x512.size a)
theorem k0_idx84_inb : ∀ (v8 : IVec S16 32) (v195 : IVec S16 32) (v198 : IVec S16 32) (k0_hw84 : k0_chk84 v8 v195 v198), ∀ a x, ((![v195, v8, v198] : Fin 3 → IVec S16 32) a x).toNat < S50x1x512.size a := fun v8 v195 v198 k0_hw84 => k0_hw84
def k0_off173 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v200 : Index := Scalar.indexCast arg11
  let c0_i32_82 : BitVec 32 := 0#32
  let v201 : Index := Scalar.indexCast c0_i32_82
  let c304_83 : Index := 304#32
  ![v200.toNat, 0, 304]
def k0_off174 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v203 : Index := Scalar.indexCast arg11
  let c320 : Index := 320#32
  ![v203.toNat, 320]

def k0_chk85 (v8 : IVec S16 32) (v204 : IVec S16 32) (v207 : IVec S16 32) : Prop :=
  (∀ a x, ((![v204, v8, v207] : Fin 3 → IVec S16 32) a x).toNat < S50x1x512.size a)
theorem k0_idx85_inb : ∀ (v8 : IVec S16 32) (v204 : IVec S16 32) (v207 : IVec S16 32) (k0_hw85 : k0_chk85 v8 v204 v207), ∀ a x, ((![v204, v8, v207] : Fin 3 → IVec S16 32) a x).toNat < S50x1x512.size a := fun v8 v204 v207 k0_hw85 => k0_hw85
def k0_off175 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v209 : Index := Scalar.indexCast arg11
  let c0_i32_84 : BitVec 32 := 0#32
  let v210 : Index := Scalar.indexCast c0_i32_84
  let c320_85 : Index := 320#32
  ![v209.toNat, 0, 320]
def k0_off176 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v212 : Index := Scalar.indexCast arg11
  let c336 : Index := 336#32
  ![v212.toNat, 336]

def k0_chk86 (v8 : IVec S16 32) (v213 : IVec S16 32) (v216 : IVec S16 32) : Prop :=
  (∀ a x, ((![v213, v8, v216] : Fin 3 → IVec S16 32) a x).toNat < S50x1x512.size a)
theorem k0_idx86_inb : ∀ (v8 : IVec S16 32) (v213 : IVec S16 32) (v216 : IVec S16 32) (k0_hw86 : k0_chk86 v8 v213 v216), ∀ a x, ((![v213, v8, v216] : Fin 3 → IVec S16 32) a x).toNat < S50x1x512.size a := fun v8 v213 v216 k0_hw86 => k0_hw86
def k0_off177 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v218 : Index := Scalar.indexCast arg11
  let c0_i32_86 : BitVec 32 := 0#32
  let v219 : Index := Scalar.indexCast c0_i32_86
  let c336_87 : Index := 336#32
  ![v218.toNat, 0, 336]
def k0_off178 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v221 : Index := Scalar.indexCast arg11
  let c352 : Index := 352#32
  ![v221.toNat, 352]

def k0_chk87 (v8 : IVec S16 32) (v222 : IVec S16 32) (v225 : IVec S16 32) : Prop :=
  (∀ a x, ((![v222, v8, v225] : Fin 3 → IVec S16 32) a x).toNat < S50x1x512.size a)
theorem k0_idx87_inb : ∀ (v8 : IVec S16 32) (v222 : IVec S16 32) (v225 : IVec S16 32) (k0_hw87 : k0_chk87 v8 v222 v225), ∀ a x, ((![v222, v8, v225] : Fin 3 → IVec S16 32) a x).toNat < S50x1x512.size a := fun v8 v222 v225 k0_hw87 => k0_hw87
def k0_off179 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v227 : Index := Scalar.indexCast arg11
  let c0_i32_88 : BitVec 32 := 0#32
  let v228 : Index := Scalar.indexCast c0_i32_88
  let c352_89 : Index := 352#32
  ![v227.toNat, 0, 352]
def k0_off180 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v230 : Index := Scalar.indexCast arg11
  let c368 : Index := 368#32
  ![v230.toNat, 368]

def k0_chk88 (v8 : IVec S16 32) (v231 : IVec S16 32) (v234 : IVec S16 32) : Prop :=
  (∀ a x, ((![v231, v8, v234] : Fin 3 → IVec S16 32) a x).toNat < S50x1x512.size a)
theorem k0_idx88_inb : ∀ (v8 : IVec S16 32) (v231 : IVec S16 32) (v234 : IVec S16 32) (k0_hw88 : k0_chk88 v8 v231 v234), ∀ a x, ((![v231, v8, v234] : Fin 3 → IVec S16 32) a x).toNat < S50x1x512.size a := fun v8 v231 v234 k0_hw88 => k0_hw88
def k0_off181 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v236 : Index := Scalar.indexCast arg11
  let c0_i32_90 : BitVec 32 := 0#32
  let v237 : Index := Scalar.indexCast c0_i32_90
  let c368_91 : Index := 368#32
  ![v236.toNat, 0, 368]
def k0_off182 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v239 : Index := Scalar.indexCast arg11
  let c384 : Index := 384#32
  ![v239.toNat, 384]

def k0_chk89 (v8 : IVec S16 32) (v240 : IVec S16 32) (v243 : IVec S16 32) : Prop :=
  (∀ a x, ((![v240, v8, v243] : Fin 3 → IVec S16 32) a x).toNat < S50x1x512.size a)
theorem k0_idx89_inb : ∀ (v8 : IVec S16 32) (v240 : IVec S16 32) (v243 : IVec S16 32) (k0_hw89 : k0_chk89 v8 v240 v243), ∀ a x, ((![v240, v8, v243] : Fin 3 → IVec S16 32) a x).toNat < S50x1x512.size a := fun v8 v240 v243 k0_hw89 => k0_hw89
def k0_off183 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v245 : Index := Scalar.indexCast arg11
  let c0_i32_92 : BitVec 32 := 0#32
  let v246 : Index := Scalar.indexCast c0_i32_92
  let c384_93 : Index := 384#32
  ![v245.toNat, 0, 384]
def k0_off184 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v248 : Index := Scalar.indexCast arg11
  let c400 : Index := 400#32
  ![v248.toNat, 400]

def k0_chk90 (v8 : IVec S16 32) (v249 : IVec S16 32) (v252 : IVec S16 32) : Prop :=
  (∀ a x, ((![v249, v8, v252] : Fin 3 → IVec S16 32) a x).toNat < S50x1x512.size a)
theorem k0_idx90_inb : ∀ (v8 : IVec S16 32) (v249 : IVec S16 32) (v252 : IVec S16 32) (k0_hw90 : k0_chk90 v8 v249 v252), ∀ a x, ((![v249, v8, v252] : Fin 3 → IVec S16 32) a x).toNat < S50x1x512.size a := fun v8 v249 v252 k0_hw90 => k0_hw90
def k0_off185 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v254 : Index := Scalar.indexCast arg11
  let c0_i32_94 : BitVec 32 := 0#32
  let v255 : Index := Scalar.indexCast c0_i32_94
  let c400_95 : Index := 400#32
  ![v254.toNat, 0, 400]
def k0_off186 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v257 : Index := Scalar.indexCast arg11
  let c416 : Index := 416#32
  ![v257.toNat, 416]

def k0_chk91 (v8 : IVec S16 32) (v258 : IVec S16 32) (v261 : IVec S16 32) : Prop :=
  (∀ a x, ((![v258, v8, v261] : Fin 3 → IVec S16 32) a x).toNat < S50x1x512.size a)
theorem k0_idx91_inb : ∀ (v8 : IVec S16 32) (v258 : IVec S16 32) (v261 : IVec S16 32) (k0_hw91 : k0_chk91 v8 v258 v261), ∀ a x, ((![v258, v8, v261] : Fin 3 → IVec S16 32) a x).toNat < S50x1x512.size a := fun v8 v258 v261 k0_hw91 => k0_hw91
def k0_off187 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v263 : Index := Scalar.indexCast arg11
  let c0_i32_96 : BitVec 32 := 0#32
  let v264 : Index := Scalar.indexCast c0_i32_96
  let c416_97 : Index := 416#32
  ![v263.toNat, 0, 416]
def k0_off188 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v266 : Index := Scalar.indexCast arg11
  let c432 : Index := 432#32
  ![v266.toNat, 432]

def k0_chk92 (v8 : IVec S16 32) (v267 : IVec S16 32) (v270 : IVec S16 32) : Prop :=
  (∀ a x, ((![v267, v8, v270] : Fin 3 → IVec S16 32) a x).toNat < S50x1x512.size a)
theorem k0_idx92_inb : ∀ (v8 : IVec S16 32) (v267 : IVec S16 32) (v270 : IVec S16 32) (k0_hw92 : k0_chk92 v8 v267 v270), ∀ a x, ((![v267, v8, v270] : Fin 3 → IVec S16 32) a x).toNat < S50x1x512.size a := fun v8 v267 v270 k0_hw92 => k0_hw92
def k0_off189 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v272 : Index := Scalar.indexCast arg11
  let c0_i32_98 : BitVec 32 := 0#32
  let v273 : Index := Scalar.indexCast c0_i32_98
  let c432_99 : Index := 432#32
  ![v272.toNat, 0, 432]
def k0_off190 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v275 : Index := Scalar.indexCast arg11
  let c448 : Index := 448#32
  ![v275.toNat, 448]

def k0_chk93 (v8 : IVec S16 32) (v276 : IVec S16 32) (v279 : IVec S16 32) : Prop :=
  (∀ a x, ((![v276, v8, v279] : Fin 3 → IVec S16 32) a x).toNat < S50x1x512.size a)
theorem k0_idx93_inb : ∀ (v8 : IVec S16 32) (v276 : IVec S16 32) (v279 : IVec S16 32) (k0_hw93 : k0_chk93 v8 v276 v279), ∀ a x, ((![v276, v8, v279] : Fin 3 → IVec S16 32) a x).toNat < S50x1x512.size a := fun v8 v276 v279 k0_hw93 => k0_hw93
def k0_off191 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v281 : Index := Scalar.indexCast arg11
  let c0_i32_100 : BitVec 32 := 0#32
  let v282 : Index := Scalar.indexCast c0_i32_100
  let c448_101 : Index := 448#32
  ![v281.toNat, 0, 448]
def k0_off192 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v284 : Index := Scalar.indexCast arg11
  let c464 : Index := 464#32
  ![v284.toNat, 464]

def k0_chk94 (v8 : IVec S16 32) (v285 : IVec S16 32) (v288 : IVec S16 32) : Prop :=
  (∀ a x, ((![v285, v8, v288] : Fin 3 → IVec S16 32) a x).toNat < S50x1x512.size a)
theorem k0_idx94_inb : ∀ (v8 : IVec S16 32) (v285 : IVec S16 32) (v288 : IVec S16 32) (k0_hw94 : k0_chk94 v8 v285 v288), ∀ a x, ((![v285, v8, v288] : Fin 3 → IVec S16 32) a x).toNat < S50x1x512.size a := fun v8 v285 v288 k0_hw94 => k0_hw94
def k0_off193 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v290 : Index := Scalar.indexCast arg11
  let c0_i32_102 : BitVec 32 := 0#32
  let v291 : Index := Scalar.indexCast c0_i32_102
  let c464_103 : Index := 464#32
  ![v290.toNat, 0, 464]
def k0_off194 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v293 : Index := Scalar.indexCast arg11
  let c480 : Index := 480#32
  ![v293.toNat, 480]

def k0_chk95 (v8 : IVec S16 32) (v294 : IVec S16 32) (v297 : IVec S16 32) : Prop :=
  (∀ a x, ((![v294, v8, v297] : Fin 3 → IVec S16 32) a x).toNat < S50x1x512.size a)
theorem k0_idx95_inb : ∀ (v8 : IVec S16 32) (v294 : IVec S16 32) (v297 : IVec S16 32) (k0_hw95 : k0_chk95 v8 v294 v297), ∀ a x, ((![v294, v8, v297] : Fin 3 → IVec S16 32) a x).toNat < S50x1x512.size a := fun v8 v294 v297 k0_hw95 => k0_hw95
def k0_off195 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v299 : Index := Scalar.indexCast arg11
  let c0_i32_104 : BitVec 32 := 0#32
  let v300 : Index := Scalar.indexCast c0_i32_104
  let c480_105 : Index := 480#32
  ![v299.toNat, 0, 480]
def k0_off196 (k0_t5 : Fin k0_t5_loop.trips) : Fin 2 → Nat :=
  let c0_i32_21 : BitVec 32 := 0#32
  let c1_i32_22 : BitVec 32 := 1#32
  let arg11 : BitVec 32 := Scf.iv c0_i32_21 c1_i32_22 k0_t5
  let v302 : Index := Scalar.indexCast arg11
  let c496 : Index := 496#32
  ![v302.toNat, 496]

def k0_chk96 (v8 : IVec S16 32) (v303 : IVec S16 32) (v306 : IVec S16 32) : Prop :=
  (∀ a x, ((![v303, v8, v306] : Fin 3 → IVec S16 32) a x).toNat < S50x1x512.size a)
theorem k0_idx96_inb : ∀ (v8 : IVec S16 32) (v303 : IVec S16 32) (v306 : IVec S16 32) (k0_hw96 : k0_chk96 v8 v303 v306), ∀ a x, ((![v303, v8, v306] : Fin 3 → IVec S16 32) a x).toNat < S50x1x512.size a := fun v8 v303 v306 k0_hw96 => k0_hw96
def k0_off197 (k0_t5 : Fin k0_t5_loop.trips) : Fin 3 → Nat :=
  let c0_i32_21 : BitVec 32 := 0#32
  let c1_i32_22 : BitVec 32 := 1#32
  let arg11 : BitVec 32 := Scf.iv c0_i32_21 c1_i32_22 k0_t5
  let v308 : Index := Scalar.indexCast arg11
  let c0_i32_106 : BitVec 32 := 0#32
  let v309 : Index := Scalar.indexCast c0_i32_106
  let c496_107 : Index := 496#32
  ![v308.toNat, 0, 496]
def k0_off198 (i : grid0.Coords) : Fin 3 → Nat :=
  let c0_i32_42_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let v9 : BitVec 32 := Scalar.addi v1 c0_i32_11
  let c0_i32_43_r3 : BitVec 32 := 0#32
  ![0, v9.toNat, 0]
def k0_off199 (i : grid0.Coords) : Fin 3 → Nat :=
  let c0_i32_28 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let v16 : BitVec 32 := Scalar.addi v1 c0_i32_27
  let c512_i32 : BitVec 32 := 512#32
  ![0, v16.toNat, 512]
@[reducible] def k0_t6_loop : Scf.Loop 32 :=
  let c0_i32_36 : BitVec 32 := 0#32
  let c25_i32_37 : BitVec 32 := 25#32
  let v21 : BitVec 32 := Scalar.addi c0_i32_36 c25_i32_37
  let c1_i32_38 : BitVec 32 := 1#32
  ⟨c0_i32_36, v21, c1_i32_38⟩
def k0_off200 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v23 : Index := Scalar.indexCast arg11
  let c512 : Index := 512#32
  ![v23.toNat, 512]

def k0_chk97 (v8 : IVec S16 32) (v24 : IVec S16 32) (v27 : IVec S16 32) : Prop :=
  (∀ a x, ((![v24, v8, v27] : Fin 3 → IVec S16 32) a x).toNat < S50x1x512.size a)
theorem k0_idx97_inb : ∀ (v8 : IVec S16 32) (v24 : IVec S16 32) (v27 : IVec S16 32) (k0_hw97 : k0_chk97 v8 v24 v27), ∀ a x, ((![v24, v8, v27] : Fin 3 → IVec S16 32) a x).toNat < S50x1x512.size a := fun v8 v24 v27 k0_hw97 => k0_hw97
def k0_off201 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v29 : Index := Scalar.indexCast arg11
  let c0_i32_43 : BitVec 32 := 0#32
  let v30 : Index := Scalar.indexCast c0_i32_43
  let c0 : Index := 0#32
  ![v29.toNat, 0, 0]
def k0_off202 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v32 : Index := Scalar.indexCast arg11
  let c528 : Index := 528#32
  ![v32.toNat, 528]

def k0_chk98 (v8 : IVec S16 32) (v33 : IVec S16 32) (v36 : IVec S16 32) : Prop :=
  (∀ a x, ((![v33, v8, v36] : Fin 3 → IVec S16 32) a x).toNat < S50x1x512.size a)
theorem k0_idx98_inb : ∀ (v8 : IVec S16 32) (v33 : IVec S16 32) (v36 : IVec S16 32) (k0_hw98 : k0_chk98 v8 v33 v36), ∀ a x, ((![v33, v8, v36] : Fin 3 → IVec S16 32) a x).toNat < S50x1x512.size a := fun v8 v33 v36 k0_hw98 => k0_hw98
def k0_off203 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v38 : Index := Scalar.indexCast arg11
  let c0_i32_44 : BitVec 32 := 0#32
  let v39 : Index := Scalar.indexCast c0_i32_44
  let c16 : Index := 16#32
  ![v38.toNat, 0, 16]
def k0_off204 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v41 : Index := Scalar.indexCast arg11
  let c544 : Index := 544#32
  ![v41.toNat, 544]

def k0_chk99 (v8 : IVec S16 32) (v42 : IVec S16 32) (v45 : IVec S16 32) : Prop :=
  (∀ a x, ((![v42, v8, v45] : Fin 3 → IVec S16 32) a x).toNat < S50x1x512.size a)
theorem k0_idx99_inb : ∀ (v8 : IVec S16 32) (v42 : IVec S16 32) (v45 : IVec S16 32) (k0_hw99 : k0_chk99 v8 v42 v45), ∀ a x, ((![v42, v8, v45] : Fin 3 → IVec S16 32) a x).toNat < S50x1x512.size a := fun v8 v42 v45 k0_hw99 => k0_hw99
def k0_off205 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v47 : Index := Scalar.indexCast arg11
  let c0_i32_46 : BitVec 32 := 0#32
  let v48 : Index := Scalar.indexCast c0_i32_46
  let c32 : Index := 32#32
  ![v47.toNat, 0, 32]
def k0_off206 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v50 : Index := Scalar.indexCast arg11
  let c560 : Index := 560#32
  ![v50.toNat, 560]

def k0_chk100 (v8 : IVec S16 32) (v51 : IVec S16 32) (v54 : IVec S16 32) : Prop :=
  (∀ a x, ((![v51, v8, v54] : Fin 3 → IVec S16 32) a x).toNat < S50x1x512.size a)
theorem k0_idx100_inb : ∀ (v8 : IVec S16 32) (v51 : IVec S16 32) (v54 : IVec S16 32) (k0_hw100 : k0_chk100 v8 v51 v54), ∀ a x, ((![v51, v8, v54] : Fin 3 → IVec S16 32) a x).toNat < S50x1x512.size a := fun v8 v51 v54 k0_hw100 => k0_hw100
def k0_off207 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v56 : Index := Scalar.indexCast arg11
  let c0_i32_47 : BitVec 32 := 0#32
  let v57 : Index := Scalar.indexCast c0_i32_47
  let c48 : Index := 48#32
  ![v56.toNat, 0, 48]
def k0_off208 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v59 : Index := Scalar.indexCast arg11
  let c576 : Index := 576#32
  ![v59.toNat, 576]

def k0_chk101 (v8 : IVec S16 32) (v60 : IVec S16 32) (v63 : IVec S16 32) : Prop :=
  (∀ a x, ((![v60, v8, v63] : Fin 3 → IVec S16 32) a x).toNat < S50x1x512.size a)
theorem k0_idx101_inb : ∀ (v8 : IVec S16 32) (v60 : IVec S16 32) (v63 : IVec S16 32) (k0_hw101 : k0_chk101 v8 v60 v63), ∀ a x, ((![v60, v8, v63] : Fin 3 → IVec S16 32) a x).toNat < S50x1x512.size a := fun v8 v60 v63 k0_hw101 => k0_hw101
def k0_off209 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v65 : Index := Scalar.indexCast arg11
  let c0_i32_48 : BitVec 32 := 0#32
  let v66 : Index := Scalar.indexCast c0_i32_48
  let c64 : Index := 64#32
  ![v65.toNat, 0, 64]
def k0_off210 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v68 : Index := Scalar.indexCast arg11
  let c592 : Index := 592#32
  ![v68.toNat, 592]

def k0_chk102 (v8 : IVec S16 32) (v69 : IVec S16 32) (v72 : IVec S16 32) : Prop :=
  (∀ a x, ((![v69, v8, v72] : Fin 3 → IVec S16 32) a x).toNat < S50x1x512.size a)
theorem k0_idx102_inb : ∀ (v8 : IVec S16 32) (v69 : IVec S16 32) (v72 : IVec S16 32) (k0_hw102 : k0_chk102 v8 v69 v72), ∀ a x, ((![v69, v8, v72] : Fin 3 → IVec S16 32) a x).toNat < S50x1x512.size a := fun v8 v69 v72 k0_hw102 => k0_hw102
def k0_off211 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v74 : Index := Scalar.indexCast arg11
  let c0_i32_49 : BitVec 32 := 0#32
  let v75 : Index := Scalar.indexCast c0_i32_49
  let c80 : Index := 80#32
  ![v74.toNat, 0, 80]
def k0_off212 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v77 : Index := Scalar.indexCast arg11
  let c608 : Index := 608#32
  ![v77.toNat, 608]

def k0_chk103 (v8 : IVec S16 32) (v78 : IVec S16 32) (v81 : IVec S16 32) : Prop :=
  (∀ a x, ((![v78, v8, v81] : Fin 3 → IVec S16 32) a x).toNat < S50x1x512.size a)
theorem k0_idx103_inb : ∀ (v8 : IVec S16 32) (v78 : IVec S16 32) (v81 : IVec S16 32) (k0_hw103 : k0_chk103 v8 v78 v81), ∀ a x, ((![v78, v8, v81] : Fin 3 → IVec S16 32) a x).toNat < S50x1x512.size a := fun v8 v78 v81 k0_hw103 => k0_hw103
def k0_off213 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v83 : Index := Scalar.indexCast arg11
  let c0_i32_50 : BitVec 32 := 0#32
  let v84 : Index := Scalar.indexCast c0_i32_50
  let c96 : Index := 96#32
  ![v83.toNat, 0, 96]
def k0_off214 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v86 : Index := Scalar.indexCast arg11
  let c624 : Index := 624#32
  ![v86.toNat, 624]

def k0_chk104 (v8 : IVec S16 32) (v87 : IVec S16 32) (v90 : IVec S16 32) : Prop :=
  (∀ a x, ((![v87, v8, v90] : Fin 3 → IVec S16 32) a x).toNat < S50x1x512.size a)
theorem k0_idx104_inb : ∀ (v8 : IVec S16 32) (v87 : IVec S16 32) (v90 : IVec S16 32) (k0_hw104 : k0_chk104 v8 v87 v90), ∀ a x, ((![v87, v8, v90] : Fin 3 → IVec S16 32) a x).toNat < S50x1x512.size a := fun v8 v87 v90 k0_hw104 => k0_hw104
def k0_off215 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v92 : Index := Scalar.indexCast arg11
  let c0_i32_51 : BitVec 32 := 0#32
  let v93 : Index := Scalar.indexCast c0_i32_51
  let c112 : Index := 112#32
  ![v92.toNat, 0, 112]
def k0_off216 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v95 : Index := Scalar.indexCast arg11
  let c640 : Index := 640#32
  ![v95.toNat, 640]

def k0_chk105 (v8 : IVec S16 32) (v96 : IVec S16 32) (v99 : IVec S16 32) : Prop :=
  (∀ a x, ((![v96, v8, v99] : Fin 3 → IVec S16 32) a x).toNat < S50x1x512.size a)
theorem k0_idx105_inb : ∀ (v8 : IVec S16 32) (v96 : IVec S16 32) (v99 : IVec S16 32) (k0_hw105 : k0_chk105 v8 v96 v99), ∀ a x, ((![v96, v8, v99] : Fin 3 → IVec S16 32) a x).toNat < S50x1x512.size a := fun v8 v96 v99 k0_hw105 => k0_hw105
def k0_off217 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v101 : Index := Scalar.indexCast arg11
  let c0_i32_52 : BitVec 32 := 0#32
  let v102 : Index := Scalar.indexCast c0_i32_52
  let c128 : Index := 128#32
  ![v101.toNat, 0, 128]
def k0_off218 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v104 : Index := Scalar.indexCast arg11
  let c656 : Index := 656#32
  ![v104.toNat, 656]

def k0_chk106 (v8 : IVec S16 32) (v105 : IVec S16 32) (v108 : IVec S16 32) : Prop :=
  (∀ a x, ((![v105, v8, v108] : Fin 3 → IVec S16 32) a x).toNat < S50x1x512.size a)
theorem k0_idx106_inb : ∀ (v8 : IVec S16 32) (v105 : IVec S16 32) (v108 : IVec S16 32) (k0_hw106 : k0_chk106 v8 v105 v108), ∀ a x, ((![v105, v8, v108] : Fin 3 → IVec S16 32) a x).toNat < S50x1x512.size a := fun v8 v105 v108 k0_hw106 => k0_hw106
def k0_off219 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v110 : Index := Scalar.indexCast arg11
  let c0_i32_53 : BitVec 32 := 0#32
  let v111 : Index := Scalar.indexCast c0_i32_53
  let c144 : Index := 144#32
  ![v110.toNat, 0, 144]
def k0_off220 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v113 : Index := Scalar.indexCast arg11
  let c672 : Index := 672#32
  ![v113.toNat, 672]

def k0_chk107 (v8 : IVec S16 32) (v114 : IVec S16 32) (v117 : IVec S16 32) : Prop :=
  (∀ a x, ((![v114, v8, v117] : Fin 3 → IVec S16 32) a x).toNat < S50x1x512.size a)
theorem k0_idx107_inb : ∀ (v8 : IVec S16 32) (v114 : IVec S16 32) (v117 : IVec S16 32) (k0_hw107 : k0_chk107 v8 v114 v117), ∀ a x, ((![v114, v8, v117] : Fin 3 → IVec S16 32) a x).toNat < S50x1x512.size a := fun v8 v114 v117 k0_hw107 => k0_hw107
def k0_off221 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v119 : Index := Scalar.indexCast arg11
  let c0_i32_54 : BitVec 32 := 0#32
  let v120 : Index := Scalar.indexCast c0_i32_54
  let c160 : Index := 160#32
  ![v119.toNat, 0, 160]
def k0_off222 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v122 : Index := Scalar.indexCast arg11
  let c688 : Index := 688#32
  ![v122.toNat, 688]

def k0_chk108 (v8 : IVec S16 32) (v123 : IVec S16 32) (v126 : IVec S16 32) : Prop :=
  (∀ a x, ((![v123, v8, v126] : Fin 3 → IVec S16 32) a x).toNat < S50x1x512.size a)
theorem k0_idx108_inb : ∀ (v8 : IVec S16 32) (v123 : IVec S16 32) (v126 : IVec S16 32) (k0_hw108 : k0_chk108 v8 v123 v126), ∀ a x, ((![v123, v8, v126] : Fin 3 → IVec S16 32) a x).toNat < S50x1x512.size a := fun v8 v123 v126 k0_hw108 => k0_hw108
def k0_off223 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v128 : Index := Scalar.indexCast arg11
  let c0_i32_55 : BitVec 32 := 0#32
  let v129 : Index := Scalar.indexCast c0_i32_55
  let c176 : Index := 176#32
  ![v128.toNat, 0, 176]
def k0_off224 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v131 : Index := Scalar.indexCast arg11
  let c704 : Index := 704#32
  ![v131.toNat, 704]

def k0_chk109 (v8 : IVec S16 32) (v132 : IVec S16 32) (v135 : IVec S16 32) : Prop :=
  (∀ a x, ((![v132, v8, v135] : Fin 3 → IVec S16 32) a x).toNat < S50x1x512.size a)
theorem k0_idx109_inb : ∀ (v8 : IVec S16 32) (v132 : IVec S16 32) (v135 : IVec S16 32) (k0_hw109 : k0_chk109 v8 v132 v135), ∀ a x, ((![v132, v8, v135] : Fin 3 → IVec S16 32) a x).toNat < S50x1x512.size a := fun v8 v132 v135 k0_hw109 => k0_hw109
def k0_off225 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v137 : Index := Scalar.indexCast arg11
  let c0_i32_56 : BitVec 32 := 0#32
  let v138 : Index := Scalar.indexCast c0_i32_56
  let c192 : Index := 192#32
  ![v137.toNat, 0, 192]
def k0_off226 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v140 : Index := Scalar.indexCast arg11
  let c720 : Index := 720#32
  ![v140.toNat, 720]

def k0_chk110 (v8 : IVec S16 32) (v141 : IVec S16 32) (v144 : IVec S16 32) : Prop :=
  (∀ a x, ((![v141, v8, v144] : Fin 3 → IVec S16 32) a x).toNat < S50x1x512.size a)
theorem k0_idx110_inb : ∀ (v8 : IVec S16 32) (v141 : IVec S16 32) (v144 : IVec S16 32) (k0_hw110 : k0_chk110 v8 v141 v144), ∀ a x, ((![v141, v8, v144] : Fin 3 → IVec S16 32) a x).toNat < S50x1x512.size a := fun v8 v141 v144 k0_hw110 => k0_hw110
def k0_off227 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v146 : Index := Scalar.indexCast arg11
  let c0_i32_57 : BitVec 32 := 0#32
  let v147 : Index := Scalar.indexCast c0_i32_57
  let c208 : Index := 208#32
  ![v146.toNat, 0, 208]
def k0_off228 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v149 : Index := Scalar.indexCast arg11
  let c736 : Index := 736#32
  ![v149.toNat, 736]

def k0_chk111 (v8 : IVec S16 32) (v150 : IVec S16 32) (v153 : IVec S16 32) : Prop :=
  (∀ a x, ((![v150, v8, v153] : Fin 3 → IVec S16 32) a x).toNat < S50x1x512.size a)
theorem k0_idx111_inb : ∀ (v8 : IVec S16 32) (v150 : IVec S16 32) (v153 : IVec S16 32) (k0_hw111 : k0_chk111 v8 v150 v153), ∀ a x, ((![v150, v8, v153] : Fin 3 → IVec S16 32) a x).toNat < S50x1x512.size a := fun v8 v150 v153 k0_hw111 => k0_hw111
def k0_off229 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v155 : Index := Scalar.indexCast arg11
  let c0_i32_58 : BitVec 32 := 0#32
  let v156 : Index := Scalar.indexCast c0_i32_58
  let c224 : Index := 224#32
  ![v155.toNat, 0, 224]
def k0_off230 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v158 : Index := Scalar.indexCast arg11
  let c752 : Index := 752#32
  ![v158.toNat, 752]

def k0_chk112 (v8 : IVec S16 32) (v159 : IVec S16 32) (v162 : IVec S16 32) : Prop :=
  (∀ a x, ((![v159, v8, v162] : Fin 3 → IVec S16 32) a x).toNat < S50x1x512.size a)
theorem k0_idx112_inb : ∀ (v8 : IVec S16 32) (v159 : IVec S16 32) (v162 : IVec S16 32) (k0_hw112 : k0_chk112 v8 v159 v162), ∀ a x, ((![v159, v8, v162] : Fin 3 → IVec S16 32) a x).toNat < S50x1x512.size a := fun v8 v159 v162 k0_hw112 => k0_hw112
def k0_off231 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v164 : Index := Scalar.indexCast arg11
  let c0_i32_59 : BitVec 32 := 0#32
  let v165 : Index := Scalar.indexCast c0_i32_59
  let c240 : Index := 240#32
  ![v164.toNat, 0, 240]
def k0_off232 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v167 : Index := Scalar.indexCast arg11
  let c768 : Index := 768#32
  ![v167.toNat, 768]

def k0_chk113 (v8 : IVec S16 32) (v168 : IVec S16 32) (v171 : IVec S16 32) : Prop :=
  (∀ a x, ((![v168, v8, v171] : Fin 3 → IVec S16 32) a x).toNat < S50x1x512.size a)
theorem k0_idx113_inb : ∀ (v8 : IVec S16 32) (v168 : IVec S16 32) (v171 : IVec S16 32) (k0_hw113 : k0_chk113 v8 v168 v171), ∀ a x, ((![v168, v8, v171] : Fin 3 → IVec S16 32) a x).toNat < S50x1x512.size a := fun v8 v168 v171 k0_hw113 => k0_hw113
def k0_off233 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v173 : Index := Scalar.indexCast arg11
  let c0_i32_60 : BitVec 32 := 0#32
  let v174 : Index := Scalar.indexCast c0_i32_60
  let c256 : Index := 256#32
  ![v173.toNat, 0, 256]
def k0_off234 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v176 : Index := Scalar.indexCast arg11
  let c784 : Index := 784#32
  ![v176.toNat, 784]

def k0_chk114 (v8 : IVec S16 32) (v177 : IVec S16 32) (v180 : IVec S16 32) : Prop :=
  (∀ a x, ((![v177, v8, v180] : Fin 3 → IVec S16 32) a x).toNat < S50x1x512.size a)
theorem k0_idx114_inb : ∀ (v8 : IVec S16 32) (v177 : IVec S16 32) (v180 : IVec S16 32) (k0_hw114 : k0_chk114 v8 v177 v180), ∀ a x, ((![v177, v8, v180] : Fin 3 → IVec S16 32) a x).toNat < S50x1x512.size a := fun v8 v177 v180 k0_hw114 => k0_hw114
def k0_off235 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v182 : Index := Scalar.indexCast arg11
  let c0_i32_61 : BitVec 32 := 0#32
  let v183 : Index := Scalar.indexCast c0_i32_61
  let c272 : Index := 272#32
  ![v182.toNat, 0, 272]
def k0_off236 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v185 : Index := Scalar.indexCast arg11
  let c800 : Index := 800#32
  ![v185.toNat, 800]

def k0_chk115 (v8 : IVec S16 32) (v186 : IVec S16 32) (v189 : IVec S16 32) : Prop :=
  (∀ a x, ((![v186, v8, v189] : Fin 3 → IVec S16 32) a x).toNat < S50x1x512.size a)
theorem k0_idx115_inb : ∀ (v8 : IVec S16 32) (v186 : IVec S16 32) (v189 : IVec S16 32) (k0_hw115 : k0_chk115 v8 v186 v189), ∀ a x, ((![v186, v8, v189] : Fin 3 → IVec S16 32) a x).toNat < S50x1x512.size a := fun v8 v186 v189 k0_hw115 => k0_hw115
def k0_off237 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v191 : Index := Scalar.indexCast arg11
  let c0_i32_62 : BitVec 32 := 0#32
  let v192 : Index := Scalar.indexCast c0_i32_62
  let c288 : Index := 288#32
  ![v191.toNat, 0, 288]
def k0_off238 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v194 : Index := Scalar.indexCast arg11
  let c816 : Index := 816#32
  ![v194.toNat, 816]

def k0_chk116 (v8 : IVec S16 32) (v195 : IVec S16 32) (v198 : IVec S16 32) : Prop :=
  (∀ a x, ((![v195, v8, v198] : Fin 3 → IVec S16 32) a x).toNat < S50x1x512.size a)
theorem k0_idx116_inb : ∀ (v8 : IVec S16 32) (v195 : IVec S16 32) (v198 : IVec S16 32) (k0_hw116 : k0_chk116 v8 v195 v198), ∀ a x, ((![v195, v8, v198] : Fin 3 → IVec S16 32) a x).toNat < S50x1x512.size a := fun v8 v195 v198 k0_hw116 => k0_hw116
def k0_off239 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v200 : Index := Scalar.indexCast arg11
  let c0_i32_63 : BitVec 32 := 0#32
  let v201 : Index := Scalar.indexCast c0_i32_63
  let c304 : Index := 304#32
  ![v200.toNat, 0, 304]
def k0_off240 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v203 : Index := Scalar.indexCast arg11
  let c832 : Index := 832#32
  ![v203.toNat, 832]

def k0_chk117 (v8 : IVec S16 32) (v204 : IVec S16 32) (v207 : IVec S16 32) : Prop :=
  (∀ a x, ((![v204, v8, v207] : Fin 3 → IVec S16 32) a x).toNat < S50x1x512.size a)
theorem k0_idx117_inb : ∀ (v8 : IVec S16 32) (v204 : IVec S16 32) (v207 : IVec S16 32) (k0_hw117 : k0_chk117 v8 v204 v207), ∀ a x, ((![v204, v8, v207] : Fin 3 → IVec S16 32) a x).toNat < S50x1x512.size a := fun v8 v204 v207 k0_hw117 => k0_hw117
def k0_off241 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v209 : Index := Scalar.indexCast arg11
  let c0_i32_64 : BitVec 32 := 0#32
  let v210 : Index := Scalar.indexCast c0_i32_64
  let c320 : Index := 320#32
  ![v209.toNat, 0, 320]
def k0_off242 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v212 : Index := Scalar.indexCast arg11
  let c848 : Index := 848#32
  ![v212.toNat, 848]

def k0_chk118 (v8 : IVec S16 32) (v213 : IVec S16 32) (v216 : IVec S16 32) : Prop :=
  (∀ a x, ((![v213, v8, v216] : Fin 3 → IVec S16 32) a x).toNat < S50x1x512.size a)
theorem k0_idx118_inb : ∀ (v8 : IVec S16 32) (v213 : IVec S16 32) (v216 : IVec S16 32) (k0_hw118 : k0_chk118 v8 v213 v216), ∀ a x, ((![v213, v8, v216] : Fin 3 → IVec S16 32) a x).toNat < S50x1x512.size a := fun v8 v213 v216 k0_hw118 => k0_hw118
def k0_off243 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v218 : Index := Scalar.indexCast arg11
  let c0_i32_65 : BitVec 32 := 0#32
  let v219 : Index := Scalar.indexCast c0_i32_65
  let c336 : Index := 336#32
  ![v218.toNat, 0, 336]
def k0_off244 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v221 : Index := Scalar.indexCast arg11
  let c864 : Index := 864#32
  ![v221.toNat, 864]

def k0_chk119 (v8 : IVec S16 32) (v222 : IVec S16 32) (v225 : IVec S16 32) : Prop :=
  (∀ a x, ((![v222, v8, v225] : Fin 3 → IVec S16 32) a x).toNat < S50x1x512.size a)
theorem k0_idx119_inb : ∀ (v8 : IVec S16 32) (v222 : IVec S16 32) (v225 : IVec S16 32) (k0_hw119 : k0_chk119 v8 v222 v225), ∀ a x, ((![v222, v8, v225] : Fin 3 → IVec S16 32) a x).toNat < S50x1x512.size a := fun v8 v222 v225 k0_hw119 => k0_hw119
def k0_off245 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v227 : Index := Scalar.indexCast arg11
  let c0_i32_66 : BitVec 32 := 0#32
  let v228 : Index := Scalar.indexCast c0_i32_66
  let c352 : Index := 352#32
  ![v227.toNat, 0, 352]
def k0_off246 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v230 : Index := Scalar.indexCast arg11
  let c880 : Index := 880#32
  ![v230.toNat, 880]

def k0_chk120 (v8 : IVec S16 32) (v231 : IVec S16 32) (v234 : IVec S16 32) : Prop :=
  (∀ a x, ((![v231, v8, v234] : Fin 3 → IVec S16 32) a x).toNat < S50x1x512.size a)
theorem k0_idx120_inb : ∀ (v8 : IVec S16 32) (v231 : IVec S16 32) (v234 : IVec S16 32) (k0_hw120 : k0_chk120 v8 v231 v234), ∀ a x, ((![v231, v8, v234] : Fin 3 → IVec S16 32) a x).toNat < S50x1x512.size a := fun v8 v231 v234 k0_hw120 => k0_hw120
def k0_off247 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v236 : Index := Scalar.indexCast arg11
  let c0_i32_67 : BitVec 32 := 0#32
  let v237 : Index := Scalar.indexCast c0_i32_67
  let c368 : Index := 368#32
  ![v236.toNat, 0, 368]
def k0_off248 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v239 : Index := Scalar.indexCast arg11
  let c896 : Index := 896#32
  ![v239.toNat, 896]

def k0_chk121 (v8 : IVec S16 32) (v240 : IVec S16 32) (v243 : IVec S16 32) : Prop :=
  (∀ a x, ((![v240, v8, v243] : Fin 3 → IVec S16 32) a x).toNat < S50x1x512.size a)
theorem k0_idx121_inb : ∀ (v8 : IVec S16 32) (v240 : IVec S16 32) (v243 : IVec S16 32) (k0_hw121 : k0_chk121 v8 v240 v243), ∀ a x, ((![v240, v8, v243] : Fin 3 → IVec S16 32) a x).toNat < S50x1x512.size a := fun v8 v240 v243 k0_hw121 => k0_hw121
def k0_off249 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v245 : Index := Scalar.indexCast arg11
  let c0_i32_68 : BitVec 32 := 0#32
  let v246 : Index := Scalar.indexCast c0_i32_68
  let c384 : Index := 384#32
  ![v245.toNat, 0, 384]
def k0_off250 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v248 : Index := Scalar.indexCast arg11
  let c912 : Index := 912#32
  ![v248.toNat, 912]

def k0_chk122 (v8 : IVec S16 32) (v249 : IVec S16 32) (v252 : IVec S16 32) : Prop :=
  (∀ a x, ((![v249, v8, v252] : Fin 3 → IVec S16 32) a x).toNat < S50x1x512.size a)
theorem k0_idx122_inb : ∀ (v8 : IVec S16 32) (v249 : IVec S16 32) (v252 : IVec S16 32) (k0_hw122 : k0_chk122 v8 v249 v252), ∀ a x, ((![v249, v8, v252] : Fin 3 → IVec S16 32) a x).toNat < S50x1x512.size a := fun v8 v249 v252 k0_hw122 => k0_hw122
def k0_off251 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v254 : Index := Scalar.indexCast arg11
  let c0_i32_69 : BitVec 32 := 0#32
  let v255 : Index := Scalar.indexCast c0_i32_69
  let c400 : Index := 400#32
  ![v254.toNat, 0, 400]
def k0_off252 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v257 : Index := Scalar.indexCast arg11
  let c928 : Index := 928#32
  ![v257.toNat, 928]

def k0_chk123 (v8 : IVec S16 32) (v258 : IVec S16 32) (v261 : IVec S16 32) : Prop :=
  (∀ a x, ((![v258, v8, v261] : Fin 3 → IVec S16 32) a x).toNat < S50x1x512.size a)
theorem k0_idx123_inb : ∀ (v8 : IVec S16 32) (v258 : IVec S16 32) (v261 : IVec S16 32) (k0_hw123 : k0_chk123 v8 v258 v261), ∀ a x, ((![v258, v8, v261] : Fin 3 → IVec S16 32) a x).toNat < S50x1x512.size a := fun v8 v258 v261 k0_hw123 => k0_hw123
def k0_off253 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v263 : Index := Scalar.indexCast arg11
  let c0_i32_70 : BitVec 32 := 0#32
  let v264 : Index := Scalar.indexCast c0_i32_70
  let c416 : Index := 416#32
  ![v263.toNat, 0, 416]
def k0_off254 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v266 : Index := Scalar.indexCast arg11
  let c944 : Index := 944#32
  ![v266.toNat, 944]

def k0_chk124 (v8 : IVec S16 32) (v267 : IVec S16 32) (v270 : IVec S16 32) : Prop :=
  (∀ a x, ((![v267, v8, v270] : Fin 3 → IVec S16 32) a x).toNat < S50x1x512.size a)
theorem k0_idx124_inb : ∀ (v8 : IVec S16 32) (v267 : IVec S16 32) (v270 : IVec S16 32) (k0_hw124 : k0_chk124 v8 v267 v270), ∀ a x, ((![v267, v8, v270] : Fin 3 → IVec S16 32) a x).toNat < S50x1x512.size a := fun v8 v267 v270 k0_hw124 => k0_hw124
def k0_off255 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v272 : Index := Scalar.indexCast arg11
  let c0_i32_71 : BitVec 32 := 0#32
  let v273 : Index := Scalar.indexCast c0_i32_71
  let c432 : Index := 432#32
  ![v272.toNat, 0, 432]
def k0_off256 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v275 : Index := Scalar.indexCast arg11
  let c960 : Index := 960#32
  ![v275.toNat, 960]

def k0_chk125 (v8 : IVec S16 32) (v276 : IVec S16 32) (v279 : IVec S16 32) : Prop :=
  (∀ a x, ((![v276, v8, v279] : Fin 3 → IVec S16 32) a x).toNat < S50x1x512.size a)
theorem k0_idx125_inb : ∀ (v8 : IVec S16 32) (v276 : IVec S16 32) (v279 : IVec S16 32) (k0_hw125 : k0_chk125 v8 v276 v279), ∀ a x, ((![v276, v8, v279] : Fin 3 → IVec S16 32) a x).toNat < S50x1x512.size a := fun v8 v276 v279 k0_hw125 => k0_hw125
def k0_off257 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v281 : Index := Scalar.indexCast arg11
  let c0_i32_72 : BitVec 32 := 0#32
  let v282 : Index := Scalar.indexCast c0_i32_72
  let c448 : Index := 448#32
  ![v281.toNat, 0, 448]
def k0_off258 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v284 : Index := Scalar.indexCast arg11
  let c976 : Index := 976#32
  ![v284.toNat, 976]

def k0_chk126 (v8 : IVec S16 32) (v285 : IVec S16 32) (v288 : IVec S16 32) : Prop :=
  (∀ a x, ((![v285, v8, v288] : Fin 3 → IVec S16 32) a x).toNat < S50x1x512.size a)
theorem k0_idx126_inb : ∀ (v8 : IVec S16 32) (v285 : IVec S16 32) (v288 : IVec S16 32) (k0_hw126 : k0_chk126 v8 v285 v288), ∀ a x, ((![v285, v8, v288] : Fin 3 → IVec S16 32) a x).toNat < S50x1x512.size a := fun v8 v285 v288 k0_hw126 => k0_hw126
def k0_off259 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v290 : Index := Scalar.indexCast arg11
  let c0_i32_73 : BitVec 32 := 0#32
  let v291 : Index := Scalar.indexCast c0_i32_73
  let c464 : Index := 464#32
  ![v290.toNat, 0, 464]
def k0_off260 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v293 : Index := Scalar.indexCast arg11
  let c992 : Index := 992#32
  ![v293.toNat, 992]

def k0_chk127 (v8 : IVec S16 32) (v294 : IVec S16 32) (v297 : IVec S16 32) : Prop :=
  (∀ a x, ((![v294, v8, v297] : Fin 3 → IVec S16 32) a x).toNat < S50x1x512.size a)
theorem k0_idx127_inb : ∀ (v8 : IVec S16 32) (v294 : IVec S16 32) (v297 : IVec S16 32) (k0_hw127 : k0_chk127 v8 v294 v297), ∀ a x, ((![v294, v8, v297] : Fin 3 → IVec S16 32) a x).toNat < S50x1x512.size a := fun v8 v294 v297 k0_hw127 => k0_hw127
def k0_off261 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v299 : Index := Scalar.indexCast arg11
  let c0_i32_74 : BitVec 32 := 0#32
  let v300 : Index := Scalar.indexCast c0_i32_74
  let c480 : Index := 480#32
  ![v299.toNat, 0, 480]
def k0_off262 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let v302 : Index := Scalar.indexCast arg11
  let c1008 : Index := 1008#32
  ![v302.toNat, 1008]

def k0_chk128 (v8 : IVec S16 32) (v303 : IVec S16 32) (v306 : IVec S16 32) : Prop :=
  (∀ a x, ((![v303, v8, v306] : Fin 3 → IVec S16 32) a x).toNat < S50x1x512.size a)
theorem k0_idx128_inb : ∀ (v8 : IVec S16 32) (v303 : IVec S16 32) (v306 : IVec S16 32) (k0_hw128 : k0_chk128 v8 v303 v306), ∀ a x, ((![v303, v8, v306] : Fin 3 → IVec S16 32) a x).toNat < S50x1x512.size a := fun v8 v303 v306 k0_hw128 => k0_hw128
def k0_off263 (k0_t6 : Fin k0_t6_loop.trips) : Fin 3 → Nat :=
  let c0_i32_36 : BitVec 32 := 0#32
  let c1_i32_38 : BitVec 32 := 1#32
  let arg11 : BitVec 32 := Scf.iv c0_i32_36 c1_i32_38 k0_t6
  let v308 : Index := Scalar.indexCast arg11
  let c0_i32_75 : BitVec 32 := 0#32
  let v309 : Index := Scalar.indexCast c0_i32_75
  let c496 : Index := 496#32
  ![v308.toNat, 0, 496]
def k0_off264 (i : grid0.Coords) : Fin 3 → Nat :=
  let c0_i32_42_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let v16 : BitVec 32 := Scalar.addi v1 c0_i32_27
  let c512_i32_43_r4 : BitVec 32 := 512#32
  ![0, v16.toNat, 512]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50x32x32 : Shape := ⟨4, ![1024, 50, 32, 32]⟩
abbrev S1024x50x32 : Shape := ⟨3, ![1024, 50, 32]⟩
abbrev S5120x5 : Shape := ⟨2, ![5120, 5]⟩
abbrev S1024x5x5 : Shape := ⟨3, ![1024, 5, 5]⟩
abbrev S1024 : Shape := ⟨1, ![1024]⟩
abbrev S1024x1x1 : Shape := ⟨3, ![1024, 1, 1]⟩
abbrev S_ : Shape := ⟨0, ![]⟩
abbrev S1024x5x5x1 : Shape := ⟨4, ![1024, 5, 5, 1]⟩
abbrev S1024x5x5x2 : Shape := ⟨4, ![1024, 5, 5, 2]⟩
abbrev S1024x5x5x32x32 : Shape := ⟨5, ![1024, 5, 5, 32, 32]⟩
abbrev S1024x5x5x32 : Shape := ⟨4, ![1024, 5, 5, 32]⟩

abbrev nBuf : Space → Nat
  | .hbm => 44
  | .vmem => 0
  | .smem => 0
  | _ => 0

abbrev bufTy : (tb : Table) → Fin (tcTables nBuf tb) → BufTy
  | .hbm, ⟨0, _⟩ => ⟨S1024x50x32x32, .f32⟩
  | .hbm, ⟨1, _⟩ => ⟨S1024x50x32, .f32⟩
  | .hbm, ⟨2, _⟩ => ⟨S5120x5, .i32⟩
  | .hbm, ⟨3, _⟩ => ⟨S1024x5x5, .i32⟩
  | .hbm, ⟨4, _⟩ => ⟨S1024, .i32⟩
  | .hbm, ⟨5, _⟩ => ⟨S1024x1x1, .i32⟩
  | .hbm, ⟨6, _⟩ => ⟨S_, .i32⟩
  | .hbm, ⟨7, _⟩ => ⟨S1024x1x1, .i32⟩
  | .hbm, ⟨8, _⟩ => ⟨S1024x1x1, .i1⟩
  | .hbm, ⟨9, _⟩ => ⟨S_, .i32⟩
  | .hbm, ⟨10, _⟩ => ⟨S1024x1x1, .i32⟩
  | .hbm, ⟨11, _⟩ => ⟨S1024x1x1, .i32⟩
  | .hbm, ⟨12, _⟩ => ⟨S1024x1x1, .i32⟩
  | .hbm, ⟨13, _⟩ => ⟨S_, .i32⟩
  | .hbm, ⟨14, _⟩ => ⟨S1024x5x5, .i32⟩
  | .hbm, ⟨15, _⟩ => ⟨S1024x5x5, .i1⟩
  | .hbm, ⟨16, _⟩ => ⟨S_, .i32⟩
  | .hbm, ⟨17, _⟩ => ⟨S1024x5x5, .i32⟩
  | .hbm, ⟨18, _⟩ => ⟨S1024x5x5, .i32⟩
  | .hbm, ⟨19, _⟩ => ⟨S1024x5x5, .i32⟩
  | .hbm, ⟨20, _⟩ => ⟨S1024x5x5, .i32⟩
  | .hbm, ⟨21, _⟩ => ⟨S1024x5x5x1, .i32⟩
  | .hbm, ⟨22, _⟩ => ⟨S1024x5x5x1, .i32⟩
  | .hbm, ⟨23, _⟩ => ⟨S1024x5x5x2, .i32⟩
  | .hbm, ⟨24, _⟩ => ⟨S1024x5x5x32x32, .f32⟩
  | .hbm, ⟨25, _⟩ => ⟨S_, .i32⟩
  | .hbm, ⟨26, _⟩ => ⟨S1024x1x1, .i32⟩
  | .hbm, ⟨27, _⟩ => ⟨S1024x1x1, .i1⟩
  | .hbm, ⟨28, _⟩ => ⟨S_, .i32⟩
  | .hbm, ⟨29, _⟩ => ⟨S1024x1x1, .i32⟩
  | .hbm, ⟨30, _⟩ => ⟨S1024x1x1, .i32⟩
  | .hbm, ⟨31, _⟩ => ⟨S1024x1x1, .i32⟩
  | .hbm, ⟨32, _⟩ => ⟨S_, .i32⟩
  | .hbm, ⟨33, _⟩ => ⟨S1024x5x5, .i32⟩
  | .hbm, ⟨34, _⟩ => ⟨S1024x5x5, .i1⟩
  | .hbm, ⟨35, _⟩ => ⟨S_, .i32⟩
  | .hbm, ⟨36, _⟩ => ⟨S1024x5x5, .i32⟩
  | .hbm, ⟨37, _⟩ => ⟨S1024x5x5, .i32⟩
  | .hbm, ⟨38, _⟩ => ⟨S1024x5x5, .i32⟩
  | .hbm, ⟨39, _⟩ => ⟨S1024x5x5, .i32⟩
  | .hbm, ⟨40, _⟩ => ⟨S1024x5x5x1, .i32⟩
  | .hbm, ⟨41, _⟩ => ⟨S1024x5x5x1, .i32⟩
  | .hbm, ⟨42, _⟩ => ⟨S1024x5x5x2, .i32⟩
  | .hbm, ⟨43, _⟩ => ⟨S1024x5x5x32, .f32⟩
  | _, _ => ⟨S1024x50x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== WholeIdeal.lean ====
abbrev S1024x5x128 : Shape := ⟨3, ![1024, 5, 128]⟩
abbrev S1024x50x128 : Shape := ⟨3, ![1024, 50, 128]⟩
abbrev S1024x50x32x32 : Shape := ⟨4, ![1024, 50, 32, 32]⟩
abbrev S1024x50x32 : Shape := ⟨3, ![1024, 50, 32]⟩
abbrev S1024x50x1 : Shape := ⟨3, ![1024, 50, 1]⟩
abbrev S128x128 : Shape := ⟨2, ![128, 128]⟩
abbrev S128 : Shape := ⟨1, ![128]⟩
abbrev S51200x128 : Shape := ⟨2, ![51200, 128]⟩
abbrev S5120x128 : Shape := ⟨2, ![5120, 128]⟩
abbrev S1x128 : Shape := ⟨2, ![1, 128]⟩
abbrev S8x128 : Shape := ⟨2, ![8, 128]⟩
abbrev S128x51200 : Shape := ⟨2, ![128, 51200]⟩
abbrev S6400x128 : Shape := ⟨2, ![6400, 128]⟩
abbrev S640x128 : Shape := ⟨2, ![640, 128]⟩
abbrev S128x6400 : Shape := ⟨2, ![128, 6400]⟩
abbrev S6400 : Shape := ⟨1, ![6400]⟩
abbrev S1x6400 : Shape := ⟨2, ![1, 6400]⟩
abbrev S128x640 : Shape := ⟨2, ![128, 640]⟩
abbrev S640 : Shape := ⟨1, ![640]⟩
abbrev S1x640 : Shape := ⟨2, ![1, 640]⟩
abbrev S1024x50 : Shape := ⟨2, ![1024, 50]⟩
abbrev S1024x5x50 : Shape := ⟨3, ![1024, 5, 50]⟩
abbrev S5120x50 : Shape := ⟨2, ![5120, 50]⟩
abbrev S5120x5 : Shape := ⟨2, ![5120, 5]⟩
abbrev S640x50 : Shape := ⟨2, ![640, 50]⟩
abbrev S640x5 : Shape := ⟨2, ![640, 5]⟩
abbrev S40x128 : Shape := ⟨2, ![40, 128]⟩
abbrev S128x400 : Shape := ⟨2, ![128, 400]⟩
abbrev S40x400 : Shape := ⟨2, ![40, 400]⟩
abbrev S40x1 : Shape := ⟨2, ![40, 1]⟩
abbrev S40x50 : Shape := ⟨2, ![40, 50]⟩
abbrev S640x1 : Shape := ⟨2, ![640, 1]⟩
abbrev S1024x25 : Shape := ⟨2, ![1024, 25]⟩
abbrev S25x1024 : Shape := ⟨2, ![25, 1024]⟩
abbrev S50x32x32x1024 : Shape := ⟨4, ![50, 32, 32, 1024]⟩
abbrev S50x1024x1024 : Shape := ⟨3, ![50, 1024, 1024]⟩
abbrev S50x32x1024 : Shape := ⟨3, ![50, 32, 1024]⟩
abbrev S25x1024x1024 : Shape := ⟨3, ![25, 1024, 1024]⟩
abbrev S25x32x1024 : Shape := ⟨3, ![25, 32, 1024]⟩
abbrev S50x1x512 : Shape := ⟨3, ![50, 1, 512]⟩
abbrev S25x1x512 : Shape := ⟨3, ![25, 1, 512]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S5x5x32x32x1024 : Shape := ⟨5, ![5, 5, 32, 32, 1024]⟩
abbrev S1024x5x5x32x32 : Shape := ⟨5, ![1024, 5, 5, 32, 32]⟩
abbrev S5x5x32x1024 : Shape := ⟨4, ![5, 5, 32, 1024]⟩
abbrev S1024x5x5x32 : Shape := ⟨4, ![1024, 5, 5, 32]⟩

abbrev nBuf : Table → Nat
  | .hbm => 29
  | .local .tc .vmem => 18
  | .local .scVector .vmem => 3
  | _ => 0

abbrev bufTy : (tb : Table) → Fin (nBuf tb) → BufTy
  | .hbm, ⟨0, _⟩ => ⟨S1024x5x128, .f32⟩
  | .hbm, ⟨1, _⟩ => ⟨S1024x50x128, .f32⟩
  | .hbm, ⟨2, _⟩ => ⟨S1024x50x32x32, .f32⟩
  | .hbm, ⟨3, _⟩ => ⟨S1024x50x32, .f32⟩
  | .hbm, ⟨4, _⟩ => ⟨S1024x50x1, .f32⟩
  | .hbm, ⟨5, _⟩ => ⟨S128x128, .f32⟩
  | .hbm, ⟨6, _⟩ => ⟨S128, .f32⟩
  | .hbm, ⟨7, _⟩ => ⟨S51200x128, .f32⟩
  | .hbm, ⟨8, _⟩ => ⟨S5120x128, .f32⟩
  | .hbm, ⟨9, _⟩ => ⟨S128x128, .f32⟩
  | .hbm, ⟨10, _⟩ => ⟨S1x128, .f32⟩
  | .hbm, ⟨11, _⟩ => ⟨S8x128, .f32⟩
  | .hbm, ⟨12, _⟩ => ⟨S128x51200, .f32⟩
  | .hbm, ⟨13, _⟩ => ⟨S5120x128, .f32⟩
  | .hbm, ⟨14, _⟩ => ⟨S1024x50, .f32⟩
  | .hbm, ⟨15, _⟩ => ⟨S1024x5x50, .f32⟩
  | .hbm, ⟨16, _⟩ => ⟨S5120x50, .f32⟩
  | .hbm, ⟨17, _⟩ => ⟨S5120x5, .i32⟩
  | .hbm, ⟨18, _⟩ => ⟨S1024x25, .i32⟩
  | .hbm, ⟨19, _⟩ => ⟨S25x1024, .i32⟩
  | .hbm, ⟨20, _⟩ => ⟨S50x32x32x1024, .f32⟩
  | .hbm, ⟨21, _⟩ => ⟨S50x1024x1024, .f32⟩
  | .hbm, ⟨22, _⟩ => ⟨S50x32x1024, .f32⟩
  | .hbm, ⟨23, _⟩ => ⟨S25x1024x1024, .f32⟩
  | .hbm, ⟨24, _⟩ => ⟨S25x32x1024, .f32⟩
  | .hbm, ⟨25, _⟩ => ⟨S5x5x32x32x1024, .f32⟩
  | .hbm, ⟨26, _⟩ => ⟨S1024x5x5x32x32, .f32⟩
  | .hbm, ⟨27, _⟩ => ⟨S5x5x32x1024, .f32⟩
  | .hbm, ⟨28, _⟩ => ⟨S1024x5x5x32, .f32⟩
  | .local .tc .vmem, ⟨0, _⟩ => ⟨S6400x128, .f32⟩
  | .local .tc .vmem, ⟨1, _⟩ => ⟨S6400x128, .f32⟩
  | .local .tc .vmem, ⟨2, _⟩ => ⟨S640x128, .f32⟩
  | .local .tc .vmem, ⟨3, _⟩ => ⟨S640x128, .f32⟩
  | .local .tc .vmem, ⟨4, _⟩ => ⟨S128x128, .f32⟩
  | .local .tc .vmem, ⟨5, _⟩ => ⟨S8x128, .f32⟩
  | .local .tc .vmem, ⟨6, _⟩ => ⟨S128x6400, .f32⟩
  | .local .tc .vmem, ⟨7, _⟩ => ⟨S128x6400, .f32⟩
  | .local .tc .vmem, ⟨8, _⟩ => ⟨S640x128, .f32⟩
  | .local .tc .vmem, ⟨9, _⟩ => ⟨S640x128, .f32⟩
  | .local .tc .vmem, ⟨10, _⟩ => ⟨S640x128, .f32⟩
  | .local .tc .vmem, ⟨11, _⟩ => ⟨S640x128, .f32⟩
  | .local .tc .vmem, ⟨12, _⟩ => ⟨S128x6400, .f32⟩
  | .local .tc .vmem, ⟨13, _⟩ => ⟨S128x6400, .f32⟩
  | .local .tc .vmem, ⟨14, _⟩ => ⟨S640x50, .f32⟩
  | .local .tc .vmem, ⟨15, _⟩ => ⟨S640x50, .f32⟩
  | .local .tc .vmem, ⟨16, _⟩ => ⟨S640x5, .i32⟩
  | .local .tc .vmem, ⟨17, _⟩ => ⟨S640x5, .i32⟩
  | .local .scVector .vmem, ⟨0, _⟩ => ⟨S25x1024, .i32⟩
  | .local .scVector .vmem, ⟨1, _⟩ => ⟨S50x1x512, .f32⟩
  | .local .scVector .vmem, ⟨2, _⟩ => ⟨S25x1x512, .f32⟩
  | _, _ => ⟨S1024x5x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v13_scv : Ref sig .scVector := ⟨.hbm, 21, rfl⟩
abbrev main_v14_scv : Ref sig .scVector := ⟨.hbm, 22, rfl⟩
abbrev main_v11_scv : Ref sig .scVector := ⟨.hbm, 19, rfl⟩
abbrev main_v15_0_scv : Ref sig .scVector := ⟨.hbm, 23, rfl⟩
abbrev main_v15_1_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x6400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x6400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S640x5 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

@[reducible] def k2_t1_loop : Scf.Loop 32 :=
  let c0_i32_1 : BitVec 32 := 0#32
  let c32_i32_2 : BitVec 32 := 32#32
  let v4 : BitVec 32 := Scalar.addi c0_i32_1 c32_i32_2
  let c1_i32 : BitVec 32 := 1#32
  ⟨c0_i32_1, v4, c1_i32⟩
def k2_off1 (i : grid2.Coords) (k2_t1 : Fin k2_t1_loop.trips) : Fin 3 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg11 : BitVec 32 := Scf.iv c0_i32_1 c1_i32 k2_t1
  let v23 : BitVec 32 := Scalar.addi v2 arg11
  let c0_i32_43 : BitVec 32 := 0#32
  ![0, v23.toNat, 0]
@[reducible] def k2_t2_loop : Scf.Loop 32 :=
  let c0_i32_51 : BitVec 32 := 0#32
  let c25_i32_52 : BitVec 32 := 25#32
  let v28 : BitVec 32 := Scalar.addi c0_i32_51 c25_i32_52
  let c1_i32_53 : BitVec 32 := 1#32
  ⟨c0_i32_51, v28, c1_i32_53⟩
def k2_off2 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v30 : Index := Scalar.indexCast arg13
  let c0 : Index := 0#32
  ![v30.toNat, 0]

def k2_chk1 (v3 : IVec S16 32) (v31 : IVec S16 32) (v34 : IVec S16 32) : Prop :=
  (∀ a x, ((![v31, v3, v34] : Fin 3 → IVec S16 32) a x).toNat < S50x1x512.size a)
theorem k2_idx1_inb : ∀ (v3 : IVec S16 32) (v31 : IVec S16 32) (v34 : IVec S16 32) (k2_hw1 : k2_chk1 v3 v31 v34), ∀ a x, ((![v31, v3, v34] : Fin 3 → IVec S16 32) a x).toNat < S50x1x512.size a := fun v3 v31 v34 k2_hw1 => k2_hw1
def k2_off3 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v36 : Index := Scalar.indexCast arg13
  let c0_i32_57 : BitVec 32 := 0#32
  let v37 : Index := Scalar.indexCast c0_i32_57
  let c0_58 : Index := 0#32
  ![v36.toNat, 0, 0]
def k2_off4 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v39 : Index := Scalar.indexCast arg13
  let c16 : Index := 16#32
  ![v39.toNat, 16]

def k2_chk2 (v3 : IVec S16 32) (v40 : IVec S16 32) (v43 : IVec S16 32) : Prop :=
  (∀ a x, ((![v40, v3, v43] : Fin 3 → IVec S16 32) a x).toNat < S50x1x512.size a)
theorem k2_idx2_inb : ∀ (v3 : IVec S16 32) (v40 : IVec S16 32) (v43 : IVec S16 32) (k2_hw2 : k2_chk2 v3 v40 v43), ∀ a x, ((![v40, v3, v43] : Fin 3 → IVec S16 32) a x).toNat < S50x1x512.size a := fun v3 v40 v43 k2_hw2 => k2_hw2
def k2_off5 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v45 : Index := Scalar.indexCast arg13
  let c0_i32_59 : BitVec 32 := 0#32
  let v46 : Index := Scalar.indexCast c0_i32_59
  let c16_60 : Index := 16#32
  ![v45.toNat, 0, 16]
def k2_off6 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v48 : Index := Scalar.indexCast arg13
  let c32 : Index := 32#32
  ![v48.toNat, 32]

def k2_chk3 (v3 : IVec S16 32) (v49 : IVec S16 32) (v52 : IVec S16 32) : Prop :=
  (∀ a x, ((![v49, v3, v52] : Fin 3 → IVec S16 32) a x).toNat < S50x1x512.size a)
theorem k2_idx3_inb : ∀ (v3 : IVec S16 32) (v49 : IVec S16 32) (v52 : IVec S16 32) (k2_hw3 : k2_chk3 v3 v49 v52), ∀ a x, ((![v49, v3, v52] : Fin 3 → IVec S16 32) a x).toNat < S50x1x512.size a := fun v3 v49 v52 k2_hw3 => k2_hw3
def k2_off7 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v54 : Index := Scalar.indexCast arg13
  let c0_i32_62 : BitVec 32 := 0#32
  let v55 : Index := Scalar.indexCast c0_i32_62
  let c32_63 : Index := 32#32
  ![v54.toNat, 0, 32]
def k2_off8 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v57 : Index := Scalar.indexCast arg13
  let c48 : Index := 48#32
  ![v57.toNat, 48]

def k2_chk4 (v3 : IVec S16 32) (v58 : IVec S16 32) (v61 : IVec S16 32) : Prop :=
  (∀ a x, ((![v58, v3, v61] : Fin 3 → IVec S16 32) a x).toNat < S50x1x512.size a)
theorem k2_idx4_inb : ∀ (v3 : IVec S16 32) (v58 : IVec S16 32) (v61 : IVec S16 32) (k2_hw4 : k2_chk4 v3 v58 v61), ∀ a x, ((![v58, v3, v61] : Fin 3 → IVec S16 32) a x).toNat < S50x1x512.size a := fun v3 v58 v61 k2_hw4 => k2_hw4
def k2_off9 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v63 : Index := Scalar.indexCast arg13
  let c0_i32_64 : BitVec 32 := 0#32
  let v64 : Index := Scalar.indexCast c0_i32_64
  let c48_65 : Index := 48#32
  ![v63.toNat, 0, 48]
def k2_off10 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v66 : Index := Scalar.indexCast arg13
  let c64 : Index := 64#32
  ![v66.toNat, 64]

def k2_chk5 (v3 : IVec S16 32) (v67 : IVec S16 32) (v70 : IVec S16 32) : Prop :=
  (∀ a x, ((![v67, v3, v70] : Fin 3 → IVec S16 32) a x).toNat < S50x1x512.size a)
theorem k2_idx5_inb : ∀ (v3 : IVec S16 32) (v67 : IVec S16 32) (v70 : IVec S16 32) (k2_hw5 : k2_chk5 v3 v67 v70), ∀ a x, ((![v67, v3, v70] : Fin 3 → IVec S16 32) a x).toNat < S50x1x512.size a := fun v3 v67 v70 k2_hw5 => k2_hw5
def k2_off11 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v72 : Index := Scalar.indexCast arg13
  let c0_i32_66 : BitVec 32 := 0#32
  let v73 : Index := Scalar.indexCast c0_i32_66
  let c64_67 : Index := 64#32
  ![v72.toNat, 0, 64]
def k2_off12 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v75 : Index := Scalar.indexCast arg13
  let c80 : Index := 80#32
  ![v75.toNat, 80]

def k2_chk6 (v3 : IVec S16 32) (v76 : IVec S16 32) (v79 : IVec S16 32) : Prop :=
  (∀ a x, ((![v76, v3, v79] : Fin 3 → IVec S16 32) a x).toNat < S50x1x512.size a)
theorem k2_idx6_inb : ∀ (v3 : IVec S16 32) (v76 : IVec S16 32) (v79 : IVec S16 32) (k2_hw6 : k2_chk6 v3 v76 v79), ∀ a x, ((![v76, v3, v79] : Fin 3 → IVec S16 32) a x).toNat < S50x1x512.size a := fun v3 v76 v79 k2_hw6 => k2_hw6
def k2_off13 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v81 : Index := Scalar.indexCast arg13
  let c0_i32_68 : BitVec 32 := 0#32
  let v82 : Index := Scalar.indexCast c0_i32_68
  let c80_69 : Index := 80#32
  ![v81.toNat, 0, 80]
def k2_off14 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v84 : Index := Scalar.indexCast arg13
  let c96 : Index := 96#32
  ![v84.toNat, 96]

def k2_chk7 (v3 : IVec S16 32) (v85 : IVec S16 32) (v88 : IVec S16 32) : Prop :=
  (∀ a x, ((![v85, v3, v88] : Fin 3 → IVec S16 32) a x).toNat < S50x1x512.size a)
theorem k2_idx7_inb : ∀ (v3 : IVec S16 32) (v85 : IVec S16 32) (v88 : IVec S16 32) (k2_hw7 : k2_chk7 v3 v85 v88), ∀ a x, ((![v85, v3, v88] : Fin 3 → IVec S16 32) a x).toNat < S50x1x512.size a := fun v3 v85 v88 k2_hw7 => k2_hw7
def k2_off15 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v90 : Index := Scalar.indexCast arg13
  let c0_i32_70 : BitVec 32 := 0#32
  let v91 : Index := Scalar.indexCast c0_i32_70
  let c96_71 : Index := 96#32
  ![v90.toNat, 0, 96]
def k2_off16 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v93 : Index := Scalar.indexCast arg13
  let c112 : Index := 112#32
  ![v93.toNat, 112]

def k2_chk8 (v3 : IVec S16 32) (v94 : IVec S16 32) (v97 : IVec S16 32) : Prop :=
  (∀ a x, ((![v94, v3, v97] : Fin 3 → IVec S16 32) a x).toNat < S50x1x512.size a)
theorem k2_idx8_inb : ∀ (v3 : IVec S16 32) (v94 : IVec S16 32) (v97 : IVec S16 32) (k2_hw8 : k2_chk8 v3 v94 v97), ∀ a x, ((![v94, v3, v97] : Fin 3 → IVec S16 32) a x).toNat < S50x1x512.size a := fun v3 v94 v97 k2_hw8 => k2_hw8
def k2_off17 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v99 : Index := Scalar.indexCast arg13
  let c0_i32_72 : BitVec 32 := 0#32
  let v100 : Index := Scalar.indexCast c0_i32_72
  let c112_73 : Index := 112#32
  ![v99.toNat, 0, 112]
def k2_off18 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v102 : Index := Scalar.indexCast arg13
  let c128 : Index := 128#32
  ![v102.toNat, 128]

def k2_chk9 (v3 : IVec S16 32) (v103 : IVec S16 32) (v106 : IVec S16 32) : Prop :=
  (∀ a x, ((![v103, v3, v106] : Fin 3 → IVec S16 32) a x).toNat < S50x1x512.size a)
theorem k2_idx9_inb : ∀ (v3 : IVec S16 32) (v103 : IVec S16 32) (v106 : IVec S16 32) (k2_hw9 : k2_chk9 v3 v103 v106), ∀ a x, ((![v103, v3, v106] : Fin 3 → IVec S16 32) a x).toNat < S50x1x512.size a := fun v3 v103 v106 k2_hw9 => k2_hw9
def k2_off19 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v108 : Index := Scalar.indexCast arg13
  let c0_i32_74 : BitVec 32 := 0#32
  let v109 : Index := Scalar.indexCast c0_i32_74
  let c128_75 : Index := 128#32
  ![v108.toNat, 0, 128]
def k2_off20 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v111 : Index := Scalar.indexCast arg13
  let c144 : Index := 144#32
  ![v111.toNat, 144]

def k2_chk10 (v3 : IVec S16 32) (v112 : IVec S16 32) (v115 : IVec S16 32) : Prop :=
  (∀ a x, ((![v112, v3, v115] : Fin 3 → IVec S16 32) a x).toNat < S50x1x512.size a)
theorem k2_idx10_inb : ∀ (v3 : IVec S16 32) (v112 : IVec S16 32) (v115 : IVec S16 32) (k2_hw10 : k2_chk10 v3 v112 v115), ∀ a x, ((![v112, v3, v115] : Fin 3 → IVec S16 32) a x).toNat < S50x1x512.size a := fun v3 v112 v115 k2_hw10 => k2_hw10
def k2_off21 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v117 : Index := Scalar.indexCast arg13
  let c0_i32_76 : BitVec 32 := 0#32
  let v118 : Index := Scalar.indexCast c0_i32_76
  let c144_77 : Index := 144#32
  ![v117.toNat, 0, 144]
def k2_off22 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v120 : Index := Scalar.indexCast arg13
  let c160 : Index := 160#32
  ![v120.toNat, 160]

def k2_chk11 (v3 : IVec S16 32) (v121 : IVec S16 32) (v124 : IVec S16 32) : Prop :=
  (∀ a x, ((![v121, v3, v124] : Fin 3 → IVec S16 32) a x).toNat < S50x1x512.size a)
theorem k2_idx11_inb : ∀ (v3 : IVec S16 32) (v121 : IVec S16 32) (v124 : IVec S16 32) (k2_hw11 : k2_chk11 v3 v121 v124), ∀ a x, ((![v121, v3, v124] : Fin 3 → IVec S16 32) a x).toNat < S50x1x512.size a := fun v3 v121 v124 k2_hw11 => k2_hw11
def k2_off23 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v126 : Index := Scalar.indexCast arg13
  let c0_i32_78 : BitVec 32 := 0#32
  let v127 : Index := Scalar.indexCast c0_i32_78
  let c160_79 : Index := 160#32
  ![v126.toNat, 0, 160]
def k2_off24 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v129 : Index := Scalar.indexCast arg13
  let c176 : Index := 176#32
  ![v129.toNat, 176]

def k2_chk12 (v3 : IVec S16 32) (v130 : IVec S16 32) (v133 : IVec S16 32) : Prop :=
  (∀ a x, ((![v130, v3, v133] : Fin 3 → IVec S16 32) a x).toNat < S50x1x512.size a)
theorem k2_idx12_inb : ∀ (v3 : IVec S16 32) (v130 : IVec S16 32) (v133 : IVec S16 32) (k2_hw12 : k2_chk12 v3 v130 v133), ∀ a x, ((![v130, v3, v133] : Fin 3 → IVec S16 32) a x).toNat < S50x1x512.size a := fun v3 v130 v133 k2_hw12 => k2_hw12
def k2_off25 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v135 : Index := Scalar.indexCast arg13
  let c0_i32_80 : BitVec 32 := 0#32
  let v136 : Index := Scalar.indexCast c0_i32_80
  let c176_81 : Index := 176#32
  ![v135.toNat, 0, 176]
def k2_off26 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v138 : Index := Scalar.indexCast arg13
  let c192 : Index := 192#32
  ![v138.toNat, 192]

def k2_chk13 (v3 : IVec S16 32) (v139 : IVec S16 32) (v142 : IVec S16 32) : Prop :=
  (∀ a x, ((![v139, v3, v142] : Fin 3 → IVec S16 32) a x).toNat < S50x1x512.size a)
theorem k2_idx13_inb : ∀ (v3 : IVec S16 32) (v139 : IVec S16 32) (v142 : IVec S16 32) (k2_hw13 : k2_chk13 v3 v139 v142), ∀ a x, ((![v139, v3, v142] : Fin 3 → IVec S16 32) a x).toNat < S50x1x512.size a := fun v3 v139 v142 k2_hw13 => k2_hw13
def k2_off27 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v144 : Index := Scalar.indexCast arg13
  let c0_i32_82 : BitVec 32 := 0#32
  let v145 : Index := Scalar.indexCast c0_i32_82
  let c192_83 : Index := 192#32
  ![v144.toNat, 0, 192]
def k2_off28 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v147 : Index := Scalar.indexCast arg13
  let c208 : Index := 208#32
  ![v147.toNat, 208]

def k2_chk14 (v3 : IVec S16 32) (v148 : IVec S16 32) (v151 : IVec S16 32) : Prop :=
  (∀ a x, ((![v148, v3, v151] : Fin 3 → IVec S16 32) a x).toNat < S50x1x512.size a)
theorem k2_idx14_inb : ∀ (v3 : IVec S16 32) (v148 : IVec S16 32) (v151 : IVec S16 32) (k2_hw14 : k2_chk14 v3 v148 v151), ∀ a x, ((![v148, v3, v151] : Fin 3 → IVec S16 32) a x).toNat < S50x1x512.size a := fun v3 v148 v151 k2_hw14 => k2_hw14
def k2_off29 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v153 : Index := Scalar.indexCast arg13
  let c0_i32_84 : BitVec 32 := 0#32
  let v154 : Index := Scalar.indexCast c0_i32_84
  let c208_85 : Index := 208#32
  ![v153.toNat, 0, 208]
def k2_off30 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v156 : Index := Scalar.indexCast arg13
  let c224 : Index := 224#32
  ![v156.toNat, 224]

def k2_chk15 (v3 : IVec S16 32) (v157 : IVec S16 32) (v160 : IVec S16 32) : Prop :=
  (∀ a x, ((![v157, v3, v160] : Fin 3 → IVec S16 32) a x).toNat < S50x1x512.size a)
theorem k2_idx15_inb : ∀ (v3 : IVec S16 32) (v157 : IVec S16 32) (v160 : IVec S16 32) (k2_hw15 : k2_chk15 v3 v157 v160), ∀ a x, ((![v157, v3, v160] : Fin 3 → IVec S16 32) a x).toNat < S50x1x512.size a := fun v3 v157 v160 k2_hw15 => k2_hw15
def k2_off31 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v162 : Index := Scalar.indexCast arg13
  let c0_i32_86 : BitVec 32 := 0#32
  let v163 : Index := Scalar.indexCast c0_i32_86
  let c224_87 : Index := 224#32
  ![v162.toNat, 0, 224]
def k2_off32 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v165 : Index := Scalar.indexCast arg13
  let c240 : Index := 240#32
  ![v165.toNat, 240]

def k2_chk16 (v3 : IVec S16 32) (v166 : IVec S16 32) (v169 : IVec S16 32) : Prop :=
  (∀ a x, ((![v166, v3, v169] : Fin 3 → IVec S16 32) a x).toNat < S50x1x512.size a)
theorem k2_idx16_inb : ∀ (v3 : IVec S16 32) (v166 : IVec S16 32) (v169 : IVec S16 32) (k2_hw16 : k2_chk16 v3 v166 v169), ∀ a x, ((![v166, v3, v169] : Fin 3 → IVec S16 32) a x).toNat < S50x1x512.size a := fun v3 v166 v169 k2_hw16 => k2_hw16
def k2_off33 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v171 : Index := Scalar.indexCast arg13
  let c0_i32_88 : BitVec 32 := 0#32
  let v172 : Index := Scalar.indexCast c0_i32_88
  let c240_89 : Index := 240#32
  ![v171.toNat, 0, 240]
def k2_off34 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v174 : Index := Scalar.indexCast arg13
  let c256 : Index := 256#32
  ![v174.toNat, 256]

def k2_chk17 (v3 : IVec S16 32) (v175 : IVec S16 32) (v178 : IVec S16 32) : Prop :=
  (∀ a x, ((![v175, v3, v178] : Fin 3 → IVec S16 32) a x).toNat < S50x1x512.size a)
theorem k2_idx17_inb : ∀ (v3 : IVec S16 32) (v175 : IVec S16 32) (v178 : IVec S16 32) (k2_hw17 : k2_chk17 v3 v175 v178), ∀ a x, ((![v175, v3, v178] : Fin 3 → IVec S16 32) a x).toNat < S50x1x512.size a := fun v3 v175 v178 k2_hw17 => k2_hw17
def k2_off35 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v180 : Index := Scalar.indexCast arg13
  let c0_i32_90 : BitVec 32 := 0#32
  let v181 : Index := Scalar.indexCast c0_i32_90
  let c256_91 : Index := 256#32
  ![v180.toNat, 0, 256]
def k2_off36 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v183 : Index := Scalar.indexCast arg13
  let c272 : Index := 272#32
  ![v183.toNat, 272]

def k2_chk18 (v3 : IVec S16 32) (v184 : IVec S16 32) (v187 : IVec S16 32) : Prop :=
  (∀ a x, ((![v184, v3, v187] : Fin 3 → IVec S16 32) a x).toNat < S50x1x512.size a)
theorem k2_idx18_inb : ∀ (v3 : IVec S16 32) (v184 : IVec S16 32) (v187 : IVec S16 32) (k2_hw18 : k2_chk18 v3 v184 v187), ∀ a x, ((![v184, v3, v187] : Fin 3 → IVec S16 32) a x).toNat < S50x1x512.size a := fun v3 v184 v187 k2_hw18 => k2_hw18
def k2_off37 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v189 : Index := Scalar.indexCast arg13
  let c0_i32_92 : BitVec 32 := 0#32
  let v190 : Index := Scalar.indexCast c0_i32_92
  let c272_93 : Index := 272#32
  ![v189.toNat, 0, 272]
def k2_off38 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v192 : Index := Scalar.indexCast arg13
  let c288 : Index := 288#32
  ![v192.toNat, 288]

def k2_chk19 (v3 : IVec S16 32) (v193 : IVec S16 32) (v196 : IVec S16 32) : Prop :=
  (∀ a x, ((![v193, v3, v196] : Fin 3 → IVec S16 32) a x).toNat < S50x1x512.size a)
theorem k2_idx19_inb : ∀ (v3 : IVec S16 32) (v193 : IVec S16 32) (v196 : IVec S16 32) (k2_hw19 : k2_chk19 v3 v193 v196), ∀ a x, ((![v193, v3, v196] : Fin 3 → IVec S16 32) a x).toNat < S50x1x512.size a := fun v3 v193 v196 k2_hw19 => k2_hw19
def k2_off39 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v198 : Index := Scalar.indexCast arg13
  let c0_i32_94 : BitVec 32 := 0#32
  let v199 : Index := Scalar.indexCast c0_i32_94
  let c288_95 : Index := 288#32
  ![v198.toNat, 0, 288]
def k2_off40 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v201 : Index := Scalar.indexCast arg13
  let c304 : Index := 304#32
  ![v201.toNat, 304]

def k2_chk20 (v3 : IVec S16 32) (v202 : IVec S16 32) (v205 : IVec S16 32) : Prop :=
  (∀ a x, ((![v202, v3, v205] : Fin 3 → IVec S16 32) a x).toNat < S50x1x512.size a)
theorem k2_idx20_inb : ∀ (v3 : IVec S16 32) (v202 : IVec S16 32) (v205 : IVec S16 32) (k2_hw20 : k2_chk20 v3 v202 v205), ∀ a x, ((![v202, v3, v205] : Fin 3 → IVec S16 32) a x).toNat < S50x1x512.size a := fun v3 v202 v205 k2_hw20 => k2_hw20
def k2_off41 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v207 : Index := Scalar.indexCast arg13
  let c0_i32_96 : BitVec 32 := 0#32
  let v208 : Index := Scalar.indexCast c0_i32_96
  let c304_97 : Index := 304#32
  ![v207.toNat, 0, 304]
def k2_off42 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v210 : Index := Scalar.indexCast arg13
  let c320 : Index := 320#32
  ![v210.toNat, 320]

def k2_chk21 (v3 : IVec S16 32) (v211 : IVec S16 32) (v214 : IVec S16 32) : Prop :=
  (∀ a x, ((![v211, v3, v214] : Fin 3 → IVec S16 32) a x).toNat < S50x1x512.size a)
theorem k2_idx21_inb : ∀ (v3 : IVec S16 32) (v211 : IVec S16 32) (v214 : IVec S16 32) (k2_hw21 : k2_chk21 v3 v211 v214), ∀ a x, ((![v211, v3, v214] : Fin 3 → IVec S16 32) a x).toNat < S50x1x512.size a := fun v3 v211 v214 k2_hw21 => k2_hw21
def k2_off43 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v216 : Index := Scalar.indexCast arg13
  let c0_i32_98 : BitVec 32 := 0#32
  let v217 : Index := Scalar.indexCast c0_i32_98
  let c320_99 : Index := 320#32
  ![v216.toNat, 0, 320]
def k2_off44 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v219 : Index := Scalar.indexCast arg13
  let c336 : Index := 336#32
  ![v219.toNat, 336]

def k2_chk22 (v3 : IVec S16 32) (v220 : IVec S16 32) (v223 : IVec S16 32) : Prop :=
  (∀ a x, ((![v220, v3, v223] : Fin 3 → IVec S16 32) a x).toNat < S50x1x512.size a)
theorem k2_idx22_inb : ∀ (v3 : IVec S16 32) (v220 : IVec S16 32) (v223 : IVec S16 32) (k2_hw22 : k2_chk22 v3 v220 v223), ∀ a x, ((![v220, v3, v223] : Fin 3 → IVec S16 32) a x).toNat < S50x1x512.size a := fun v3 v220 v223 k2_hw22 => k2_hw22
def k2_off45 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v225 : Index := Scalar.indexCast arg13
  let c0_i32_100 : BitVec 32 := 0#32
  let v226 : Index := Scalar.indexCast c0_i32_100
  let c336_101 : Index := 336#32
  ![v225.toNat, 0, 336]
def k2_off46 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v228 : Index := Scalar.indexCast arg13
  let c352 : Index := 352#32
  ![v228.toNat, 352]

def k2_chk23 (v3 : IVec S16 32) (v229 : IVec S16 32) (v232 : IVec S16 32) : Prop :=
  (∀ a x, ((![v229, v3, v232] : Fin 3 → IVec S16 32) a x).toNat < S50x1x512.size a)
theorem k2_idx23_inb : ∀ (v3 : IVec S16 32) (v229 : IVec S16 32) (v232 : IVec S16 32) (k2_hw23 : k2_chk23 v3 v229 v232), ∀ a x, ((![v229, v3, v232] : Fin 3 → IVec S16 32) a x).toNat < S50x1x512.size a := fun v3 v229 v232 k2_hw23 => k2_hw23
def k2_off47 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v234 : Index := Scalar.indexCast arg13
  let c0_i32_102 : BitVec 32 := 0#32
  let v235 : Index := Scalar.indexCast c0_i32_102
  let c352_103 : Index := 352#32
  ![v234.toNat, 0, 352]
def k2_off48 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v237 : Index := Scalar.indexCast arg13
  let c368 : Index := 368#32
  ![v237.toNat, 368]

def k2_chk24 (v3 : IVec S16 32) (v238 : IVec S16 32) (v241 : IVec S16 32) : Prop :=
  (∀ a x, ((![v238, v3, v241] : Fin 3 → IVec S16 32) a x).toNat < S50x1x512.size a)
theorem k2_idx24_inb : ∀ (v3 : IVec S16 32) (v238 : IVec S16 32) (v241 : IVec S16 32) (k2_hw24 : k2_chk24 v3 v238 v241), ∀ a x, ((![v238, v3, v241] : Fin 3 → IVec S16 32) a x).toNat < S50x1x512.size a := fun v3 v238 v241 k2_hw24 => k2_hw24
def k2_off49 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v243 : Index := Scalar.indexCast arg13
  let c0_i32_104 : BitVec 32 := 0#32
  let v244 : Index := Scalar.indexCast c0_i32_104
  let c368_105 : Index := 368#32
  ![v243.toNat, 0, 368]
def k2_off50 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v246 : Index := Scalar.indexCast arg13
  let c384 : Index := 384#32
  ![v246.toNat, 384]

def k2_chk25 (v3 : IVec S16 32) (v247 : IVec S16 32) (v250 : IVec S16 32) : Prop :=
  (∀ a x, ((![v247, v3, v250] : Fin 3 → IVec S16 32) a x).toNat < S50x1x512.size a)
theorem k2_idx25_inb : ∀ (v3 : IVec S16 32) (v247 : IVec S16 32) (v250 : IVec S16 32) (k2_hw25 : k2_chk25 v3 v247 v250), ∀ a x, ((![v247, v3, v250] : Fin 3 → IVec S16 32) a x).toNat < S50x1x512.size a := fun v3 v247 v250 k2_hw25 => k2_hw25
def k2_off51 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v252 : Index := Scalar.indexCast arg13
  let c0_i32_106 : BitVec 32 := 0#32
  let v253 : Index := Scalar.indexCast c0_i32_106
  let c384_107 : Index := 384#32
  ![v252.toNat, 0, 384]
def k2_off52 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v255 : Index := Scalar.indexCast arg13
  let c400 : Index := 400#32
  ![v255.toNat, 400]

def k2_chk26 (v3 : IVec S16 32) (v256 : IVec S16 32) (v259 : IVec S16 32) : Prop :=
  (∀ a x, ((![v256, v3, v259] : Fin 3 → IVec S16 32) a x).toNat < S50x1x512.size a)
theorem k2_idx26_inb : ∀ (v3 : IVec S16 32) (v256 : IVec S16 32) (v259 : IVec S16 32) (k2_hw26 : k2_chk26 v3 v256 v259), ∀ a x, ((![v256, v3, v259] : Fin 3 → IVec S16 32) a x).toNat < S50x1x512.size a := fun v3 v256 v259 k2_hw26 => k2_hw26
def k2_off53 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v261 : Index := Scalar.indexCast arg13
  let c0_i32_108 : BitVec 32 := 0#32
  let v262 : Index := Scalar.indexCast c0_i32_108
  let c400_109 : Index := 400#32
  ![v261.toNat, 0, 400]
def k2_off54 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v264 : Index := Scalar.indexCast arg13
  let c416 : Index := 416#32
  ![v264.toNat, 416]

def k2_chk27 (v3 : IVec S16 32) (v265 : IVec S16 32) (v268 : IVec S16 32) : Prop :=
  (∀ a x, ((![v265, v3, v268] : Fin 3 → IVec S16 32) a x).toNat < S50x1x512.size a)
theorem k2_idx27_inb : ∀ (v3 : IVec S16 32) (v265 : IVec S16 32) (v268 : IVec S16 32) (k2_hw27 : k2_chk27 v3 v265 v268), ∀ a x, ((![v265, v3, v268] : Fin 3 → IVec S16 32) a x).toNat < S50x1x512.size a := fun v3 v265 v268 k2_hw27 => k2_hw27
def k2_off55 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v270 : Index := Scalar.indexCast arg13
  let c0_i32_110 : BitVec 32 := 0#32
  let v271 : Index := Scalar.indexCast c0_i32_110
  let c416_111 : Index := 416#32
  ![v270.toNat, 0, 416]
def k2_off56 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v273 : Index := Scalar.indexCast arg13
  let c432 : Index := 432#32
  ![v273.toNat, 432]

def k2_chk28 (v3 : IVec S16 32) (v274 : IVec S16 32) (v277 : IVec S16 32) : Prop :=
  (∀ a x, ((![v274, v3, v277] : Fin 3 → IVec S16 32) a x).toNat < S50x1x512.size a)
theorem k2_idx28_inb : ∀ (v3 : IVec S16 32) (v274 : IVec S16 32) (v277 : IVec S16 32) (k2_hw28 : k2_chk28 v3 v274 v277), ∀ a x, ((![v274, v3, v277] : Fin 3 → IVec S16 32) a x).toNat < S50x1x512.size a := fun v3 v274 v277 k2_hw28 => k2_hw28
def k2_off57 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v279 : Index := Scalar.indexCast arg13
  let c0_i32_112 : BitVec 32 := 0#32
  let v280 : Index := Scalar.indexCast c0_i32_112
  let c432_113 : Index := 432#32
  ![v279.toNat, 0, 432]
def k2_off58 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v282 : Index := Scalar.indexCast arg13
  let c448 : Index := 448#32
  ![v282.toNat, 448]

def k2_chk29 (v3 : IVec S16 32) (v283 : IVec S16 32) (v286 : IVec S16 32) : Prop :=
  (∀ a x, ((![v283, v3, v286] : Fin 3 → IVec S16 32) a x).toNat < S50x1x512.size a)
theorem k2_idx29_inb : ∀ (v3 : IVec S16 32) (v283 : IVec S16 32) (v286 : IVec S16 32) (k2_hw29 : k2_chk29 v3 v283 v286), ∀ a x, ((![v283, v3, v286] : Fin 3 → IVec S16 32) a x).toNat < S50x1x512.size a := fun v3 v283 v286 k2_hw29 => k2_hw29
def k2_off59 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v288 : Index := Scalar.indexCast arg13
  let c0_i32_114 : BitVec 32 := 0#32
  let v289 : Index := Scalar.indexCast c0_i32_114
  let c448_115 : Index := 448#32
  ![v288.toNat, 0, 448]
def k2_off60 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v291 : Index := Scalar.indexCast arg13
  let c464 : Index := 464#32
  ![v291.toNat, 464]

def k2_chk30 (v3 : IVec S16 32) (v292 : IVec S16 32) (v295 : IVec S16 32) : Prop :=
  (∀ a x, ((![v292, v3, v295] : Fin 3 → IVec S16 32) a x).toNat < S50x1x512.size a)
theorem k2_idx30_inb : ∀ (v3 : IVec S16 32) (v292 : IVec S16 32) (v295 : IVec S16 32) (k2_hw30 : k2_chk30 v3 v292 v295), ∀ a x, ((![v292, v3, v295] : Fin 3 → IVec S16 32) a x).toNat < S50x1x512.size a := fun v3 v292 v295 k2_hw30 => k2_hw30
def k2_off61 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v297 : Index := Scalar.indexCast arg13
  let c0_i32_116 : BitVec 32 := 0#32
  let v298 : Index := Scalar.indexCast c0_i32_116
  let c464_117 : Index := 464#32
  ![v297.toNat, 0, 464]
def k2_off62 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v300 : Index := Scalar.indexCast arg13
  let c480 : Index := 480#32
  ![v300.toNat, 480]

def k2_chk31 (v3 : IVec S16 32) (v301 : IVec S16 32) (v304 : IVec S16 32) : Prop :=
  (∀ a x, ((![v301, v3, v304] : Fin 3 → IVec S16 32) a x).toNat < S50x1x512.size a)
theorem k2_idx31_inb : ∀ (v3 : IVec S16 32) (v301 : IVec S16 32) (v304 : IVec S16 32) (k2_hw31 : k2_chk31 v3 v301 v304), ∀ a x, ((![v301, v3, v304] : Fin 3 → IVec S16 32) a x).toNat < S50x1x512.size a := fun v3 v301 v304 k2_hw31 => k2_hw31
def k2_off63 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v306 : Index := Scalar.indexCast arg13
  let c0_i32_118 : BitVec 32 := 0#32
  let v307 : Index := Scalar.indexCast c0_i32_118
  let c480_119 : Index := 480#32
  ![v306.toNat, 0, 480]
def k2_off64 (k2_t2 : Fin k2_t2_loop.trips) : Fin 2 → Nat :=
  let c0_i32_51 : BitVec 32 := 0#32
  let c1_i32_53 : BitVec 32 := 1#32
  let arg13 : BitVec 32 := Scf.iv c0_i32_51 c1_i32_53 k2_t2
  let v309 : Index := Scalar.indexCast arg13
  let c496 : Index := 496#32
  ![v309.toNat, 496]

def k2_chk32 (v3 : IVec S16 32) (v310 : IVec S16 32) (v313 : IVec S16 32) : Prop :=
  (∀ a x, ((![v310, v3, v313] : Fin 3 → IVec S16 32) a x).toNat < S50x1x512.size a)
theorem k2_idx32_inb : ∀ (v3 : IVec S16 32) (v310 : IVec S16 32) (v313 : IVec S16 32) (k2_hw32 : k2_chk32 v3 v310 v313), ∀ a x, ((![v310, v3, v313] : Fin 3 → IVec S16 32) a x).toNat < S50x1x512.size a := fun v3 v310 v313 k2_hw32 => k2_hw32
def k2_off65 (k2_t2 : Fin k2_t2_loop.trips) : Fin 3 → Nat :=
  let c0_i32_51 : BitVec 32 := 0#32
  let c1_i32_53 : BitVec 32 := 1#32
  let arg13 : BitVec 32 := Scf.iv c0_i32_51 c1_i32_53 k2_t2
  let v315 : Index := Scalar.indexCast arg13
  let c0_i32_120 : BitVec 32 := 0#32
  let v316 : Index := Scalar.indexCast c0_i32_120
  let c496_121 : Index := 496#32
  ![v315.toNat, 0, 496]
def k2_off66 (i : grid2.Coords) (k2_t1 : Fin k2_t1_loop.trips) : Fin 3 → Nat :=
  let c0_i32_56_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg11 : BitVec 32 := Scf.iv c0_i32_1 c1_i32 k2_t1
  let v23 : BitVec 32 := Scalar.addi v2 arg11
  let c0_i32_57_r1 : BitVec 32 := 0#32
  ![0, v23.toNat, 0]
@[reducible] def k2_t3_loop : Scf.Loop 32 :=
  let c0_i32_5 : BitVec 32 := 0#32
  let c32_i32_6 : BitVec 32 := 32#32
  let v6 : BitVec 32 := Scalar.addi c0_i32_5 c32_i32_6
  let c1_i32_7 : BitVec 32 := 1#32
  ⟨c0_i32_5, v6, c1_i32_7⟩
def k2_off67 (i : grid2.Coords) (k2_t3 : Fin k2_t3_loop.trips) : Fin 3 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  let c1_i32_7 : BitVec 32 := 1#32
  let arg11 : BitVec 32 := Scf.iv c0_i32_5 c1_i32_7 k2_t3
  let v23 : BitVec 32 := Scalar.addi v2 arg11
  let c512_i32_43 : BitVec 32 := 512#32
  ![0, v23.toNat, 512]
@[reducible] def k2_t4_loop : Scf.Loop 32 :=
  let c0_i32_51 : BitVec 32 := 0#32
  let c25_i32_52 : BitVec 32 := 25#32
  let v28 : BitVec 32 := Scalar.addi c0_i32_51 c25_i32_52
  let c1_i32_53 : BitVec 32 := 1#32
  ⟨c0_i32_51, v28, c1_i32_53⟩
def k2_off68 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v30 : Index := Scalar.indexCast arg13
  let c512 : Index := 512#32
  ![v30.toNat, 512]

def k2_chk33 (v3 : IVec S16 32) (v31 : IVec S16 32) (v34 : IVec S16 32) : Prop :=
  (∀ a x, ((![v31, v3, v34] : Fin 3 → IVec S16 32) a x).toNat < S50x1x512.size a)
theorem k2_idx33_inb : ∀ (v3 : IVec S16 32) (v31 : IVec S16 32) (v34 : IVec S16 32) (k2_hw33 : k2_chk33 v3 v31 v34), ∀ a x, ((![v31, v3, v34] : Fin 3 → IVec S16 32) a x).toNat < S50x1x512.size a := fun v3 v31 v34 k2_hw33 => k2_hw33
def k2_off69 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v36 : Index := Scalar.indexCast arg13
  let c0_i32_57 : BitVec 32 := 0#32
  let v37 : Index := Scalar.indexCast c0_i32_57
  let c0 : Index := 0#32
  ![v36.toNat, 0, 0]
def k2_off70 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v39 : Index := Scalar.indexCast arg13
  let c528 : Index := 528#32
  ![v39.toNat, 528]

def k2_chk34 (v3 : IVec S16 32) (v40 : IVec S16 32) (v43 : IVec S16 32) : Prop :=
  (∀ a x, ((![v40, v3, v43] : Fin 3 → IVec S16 32) a x).toNat < S50x1x512.size a)
theorem k2_idx34_inb : ∀ (v3 : IVec S16 32) (v40 : IVec S16 32) (v43 : IVec S16 32) (k2_hw34 : k2_chk34 v3 v40 v43), ∀ a x, ((![v40, v3, v43] : Fin 3 → IVec S16 32) a x).toNat < S50x1x512.size a := fun v3 v40 v43 k2_hw34 => k2_hw34
def k2_off71 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v45 : Index := Scalar.indexCast arg13
  let c0_i32_58 : BitVec 32 := 0#32
  let v46 : Index := Scalar.indexCast c0_i32_58
  let c16 : Index := 16#32
  ![v45.toNat, 0, 16]
def k2_off72 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v48 : Index := Scalar.indexCast arg13
  let c544 : Index := 544#32
  ![v48.toNat, 544]

def k2_chk35 (v3 : IVec S16 32) (v49 : IVec S16 32) (v52 : IVec S16 32) : Prop :=
  (∀ a x, ((![v49, v3, v52] : Fin 3 → IVec S16 32) a x).toNat < S50x1x512.size a)
theorem k2_idx35_inb : ∀ (v3 : IVec S16 32) (v49 : IVec S16 32) (v52 : IVec S16 32) (k2_hw35 : k2_chk35 v3 v49 v52), ∀ a x, ((![v49, v3, v52] : Fin 3 → IVec S16 32) a x).toNat < S50x1x512.size a := fun v3 v49 v52 k2_hw35 => k2_hw35
def k2_off73 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v54 : Index := Scalar.indexCast arg13
  let c0_i32_60 : BitVec 32 := 0#32
  let v55 : Index := Scalar.indexCast c0_i32_60
  let c32 : Index := 32#32
  ![v54.toNat, 0, 32]
def k2_off74 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v57 : Index := Scalar.indexCast arg13
  let c560 : Index := 560#32
  ![v57.toNat, 560]

def k2_chk36 (v3 : IVec S16 32) (v58 : IVec S16 32) (v61 : IVec S16 32) : Prop :=
  (∀ a x, ((![v58, v3, v61] : Fin 3 → IVec S16 32) a x).toNat < S50x1x512.size a)
theorem k2_idx36_inb : ∀ (v3 : IVec S16 32) (v58 : IVec S16 32) (v61 : IVec S16 32) (k2_hw36 : k2_chk36 v3 v58 v61), ∀ a x, ((![v58, v3, v61] : Fin 3 → IVec S16 32) a x).toNat < S50x1x512.size a := fun v3 v58 v61 k2_hw36 => k2_hw36
def k2_off75 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v63 : Index := Scalar.indexCast arg13
  let c0_i32_61 : BitVec 32 := 0#32
  let v64 : Index := Scalar.indexCast c0_i32_61
  let c48 : Index := 48#32
  ![v63.toNat, 0, 48]
def k2_off76 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v66 : Index := Scalar.indexCast arg13
  let c576 : Index := 576#32
  ![v66.toNat, 576]

def k2_chk37 (v3 : IVec S16 32) (v67 : IVec S16 32) (v70 : IVec S16 32) : Prop :=
  (∀ a x, ((![v67, v3, v70] : Fin 3 → IVec S16 32) a x).toNat < S50x1x512.size a)
theorem k2_idx37_inb : ∀ (v3 : IVec S16 32) (v67 : IVec S16 32) (v70 : IVec S16 32) (k2_hw37 : k2_chk37 v3 v67 v70), ∀ a x, ((![v67, v3, v70] : Fin 3 → IVec S16 32) a x).toNat < S50x1x512.size a := fun v3 v67 v70 k2_hw37 => k2_hw37
def k2_off77 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v72 : Index := Scalar.indexCast arg13
  let c0_i32_62 : BitVec 32 := 0#32
  let v73 : Index := Scalar.indexCast c0_i32_62
  let c64 : Index := 64#32
  ![v72.toNat, 0, 64]
def k2_off78 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v75 : Index := Scalar.indexCast arg13
  let c592 : Index := 592#32
  ![v75.toNat, 592]

def k2_chk38 (v3 : IVec S16 32) (v76 : IVec S16 32) (v79 : IVec S16 32) : Prop :=
  (∀ a x, ((![v76, v3, v79] : Fin 3 → IVec S16 32) a x).toNat < S50x1x512.size a)
theorem k2_idx38_inb : ∀ (v3 : IVec S16 32) (v76 : IVec S16 32) (v79 : IVec S16 32) (k2_hw38 : k2_chk38 v3 v76 v79), ∀ a x, ((![v76, v3, v79] : Fin 3 → IVec S16 32) a x).toNat < S50x1x512.size a := fun v3 v76 v79 k2_hw38 => k2_hw38
def k2_off79 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v81 : Index := Scalar.indexCast arg13
  let c0_i32_63 : BitVec 32 := 0#32
  let v82 : Index := Scalar.indexCast c0_i32_63
  let c80 : Index := 80#32
  ![v81.toNat, 0, 80]
def k2_off80 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v84 : Index := Scalar.indexCast arg13
  let c608 : Index := 608#32
  ![v84.toNat, 608]

def k2_chk39 (v3 : IVec S16 32) (v85 : IVec S16 32) (v88 : IVec S16 32) : Prop :=
  (∀ a x, ((![v85, v3, v88] : Fin 3 → IVec S16 32) a x).toNat < S50x1x512.size a)
theorem k2_idx39_inb : ∀ (v3 : IVec S16 32) (v85 : IVec S16 32) (v88 : IVec S16 32) (k2_hw39 : k2_chk39 v3 v85 v88), ∀ a x, ((![v85, v3, v88] : Fin 3 → IVec S16 32) a x).toNat < S50x1x512.size a := fun v3 v85 v88 k2_hw39 => k2_hw39
def k2_off81 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v90 : Index := Scalar.indexCast arg13
  let c0_i32_64 : BitVec 32 := 0#32
  let v91 : Index := Scalar.indexCast c0_i32_64
  let c96 : Index := 96#32
  ![v90.toNat, 0, 96]
def k2_off82 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v93 : Index := Scalar.indexCast arg13
  let c624 : Index := 624#32
  ![v93.toNat, 624]

def k2_chk40 (v3 : IVec S16 32) (v94 : IVec S16 32) (v97 : IVec S16 32) : Prop :=
  (∀ a x, ((![v94, v3, v97] : Fin 3 → IVec S16 32) a x).toNat < S50x1x512.size a)
theorem k2_idx40_inb : ∀ (v3 : IVec S16 32) (v94 : IVec S16 32) (v97 : IVec S16 32) (k2_hw40 : k2_chk40 v3 v94 v97), ∀ a x, ((![v94, v3, v97] : Fin 3 → IVec S16 32) a x).toNat < S50x1x512.size a := fun v3 v94 v97 k2_hw40 => k2_hw40
def k2_off83 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v99 : Index := Scalar.indexCast arg13
  let c0_i32_65 : BitVec 32 := 0#32
  let v100 : Index := Scalar.indexCast c0_i32_65
  let c112 : Index := 112#32
  ![v99.toNat, 0, 112]
def k2_off84 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v102 : Index := Scalar.indexCast arg13
  let c640 : Index := 640#32
  ![v102.toNat, 640]

def k2_chk41 (v3 : IVec S16 32) (v103 : IVec S16 32) (v106 : IVec S16 32) : Prop :=
  (∀ a x, ((![v103, v3, v106] : Fin 3 → IVec S16 32) a x).toNat < S50x1x512.size a)
theorem k2_idx41_inb : ∀ (v3 : IVec S16 32) (v103 : IVec S16 32) (v106 : IVec S16 32) (k2_hw41 : k2_chk41 v3 v103 v106), ∀ a x, ((![v103, v3, v106] : Fin 3 → IVec S16 32) a x).toNat < S50x1x512.size a := fun v3 v103 v106 k2_hw41 => k2_hw41
def k2_off85 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v108 : Index := Scalar.indexCast arg13
  let c0_i32_66 : BitVec 32 := 0#32
  let v109 : Index := Scalar.indexCast c0_i32_66
  let c128 : Index := 128#32
  ![v108.toNat, 0, 128]
def k2_off86 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v111 : Index := Scalar.indexCast arg13
  let c656 : Index := 656#32
  ![v111.toNat, 656]

def k2_chk42 (v3 : IVec S16 32) (v112 : IVec S16 32) (v115 : IVec S16 32) : Prop :=
  (∀ a x, ((![v112, v3, v115] : Fin 3 → IVec S16 32) a x).toNat < S50x1x512.size a)
theorem k2_idx42_inb : ∀ (v3 : IVec S16 32) (v112 : IVec S16 32) (v115 : IVec S16 32) (k2_hw42 : k2_chk42 v3 v112 v115), ∀ a x, ((![v112, v3, v115] : Fin 3 → IVec S16 32) a x).toNat < S50x1x512.size a := fun v3 v112 v115 k2_hw42 => k2_hw42
def k2_off87 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v117 : Index := Scalar.indexCast arg13
  let c0_i32_67 : BitVec 32 := 0#32
  let v118 : Index := Scalar.indexCast c0_i32_67
  let c144 : Index := 144#32
  ![v117.toNat, 0, 144]
def k2_off88 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v120 : Index := Scalar.indexCast arg13
  let c672 : Index := 672#32
  ![v120.toNat, 672]

def k2_chk43 (v3 : IVec S16 32) (v121 : IVec S16 32) (v124 : IVec S16 32) : Prop :=
  (∀ a x, ((![v121, v3, v124] : Fin 3 → IVec S16 32) a x).toNat < S50x1x512.size a)
theorem k2_idx43_inb : ∀ (v3 : IVec S16 32) (v121 : IVec S16 32) (v124 : IVec S16 32) (k2_hw43 : k2_chk43 v3 v121 v124), ∀ a x, ((![v121, v3, v124] : Fin 3 → IVec S16 32) a x).toNat < S50x1x512.size a := fun v3 v121 v124 k2_hw43 => k2_hw43
def k2_off89 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v126 : Index := Scalar.indexCast arg13
  let c0_i32_68 : BitVec 32 := 0#32
  let v127 : Index := Scalar.indexCast c0_i32_68
  let c160 : Index := 160#32
  ![v126.toNat, 0, 160]
def k2_off90 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v129 : Index := Scalar.indexCast arg13
  let c688 : Index := 688#32
  ![v129.toNat, 688]

def k2_chk44 (v3 : IVec S16 32) (v130 : IVec S16 32) (v133 : IVec S16 32) : Prop :=
  (∀ a x, ((![v130, v3, v133] : Fin 3 → IVec S16 32) a x).toNat < S50x1x512.size a)
theorem k2_idx44_inb : ∀ (v3 : IVec S16 32) (v130 : IVec S16 32) (v133 : IVec S16 32) (k2_hw44 : k2_chk44 v3 v130 v133), ∀ a x, ((![v130, v3, v133] : Fin 3 → IVec S16 32) a x).toNat < S50x1x512.size a := fun v3 v130 v133 k2_hw44 => k2_hw44
def k2_off91 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v135 : Index := Scalar.indexCast arg13
  let c0_i32_69 : BitVec 32 := 0#32
  let v136 : Index := Scalar.indexCast c0_i32_69
  let c176 : Index := 176#32
  ![v135.toNat, 0, 176]
def k2_off92 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v138 : Index := Scalar.indexCast arg13
  let c704 : Index := 704#32
  ![v138.toNat, 704]

def k2_chk45 (v3 : IVec S16 32) (v139 : IVec S16 32) (v142 : IVec S16 32) : Prop :=
  (∀ a x, ((![v139, v3, v142] : Fin 3 → IVec S16 32) a x).toNat < S50x1x512.size a)
theorem k2_idx45_inb : ∀ (v3 : IVec S16 32) (v139 : IVec S16 32) (v142 : IVec S16 32) (k2_hw45 : k2_chk45 v3 v139 v142), ∀ a x, ((![v139, v3, v142] : Fin 3 → IVec S16 32) a x).toNat < S50x1x512.size a := fun v3 v139 v142 k2_hw45 => k2_hw45
def k2_off93 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v144 : Index := Scalar.indexCast arg13
  let c0_i32_70 : BitVec 32 := 0#32
  let v145 : Index := Scalar.indexCast c0_i32_70
  let c192 : Index := 192#32
  ![v144.toNat, 0, 192]
def k2_off94 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v147 : Index := Scalar.indexCast arg13
  let c720 : Index := 720#32
  ![v147.toNat, 720]

def k2_chk46 (v3 : IVec S16 32) (v148 : IVec S16 32) (v151 : IVec S16 32) : Prop :=
  (∀ a x, ((![v148, v3, v151] : Fin 3 → IVec S16 32) a x).toNat < S50x1x512.size a)
theorem k2_idx46_inb : ∀ (v3 : IVec S16 32) (v148 : IVec S16 32) (v151 : IVec S16 32) (k2_hw46 : k2_chk46 v3 v148 v151), ∀ a x, ((![v148, v3, v151] : Fin 3 → IVec S16 32) a x).toNat < S50x1x512.size a := fun v3 v148 v151 k2_hw46 => k2_hw46
def k2_off95 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v153 : Index := Scalar.indexCast arg13
  let c0_i32_71 : BitVec 32 := 0#32
  let v154 : Index := Scalar.indexCast c0_i32_71
  let c208 : Index := 208#32
  ![v153.toNat, 0, 208]
def k2_off96 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v156 : Index := Scalar.indexCast arg13
  let c736 : Index := 736#32
  ![v156.toNat, 736]

def k2_chk47 (v3 : IVec S16 32) (v157 : IVec S16 32) (v160 : IVec S16 32) : Prop :=
  (∀ a x, ((![v157, v3, v160] : Fin 3 → IVec S16 32) a x).toNat < S50x1x512.size a)
theorem k2_idx47_inb : ∀ (v3 : IVec S16 32) (v157 : IVec S16 32) (v160 : IVec S16 32) (k2_hw47 : k2_chk47 v3 v157 v160), ∀ a x, ((![v157, v3, v160] : Fin 3 → IVec S16 32) a x).toNat < S50x1x512.size a := fun v3 v157 v160 k2_hw47 => k2_hw47
def k2_off97 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v162 : Index := Scalar.indexCast arg13
  let c0_i32_72 : BitVec 32 := 0#32
  let v163 : Index := Scalar.indexCast c0_i32_72
  let c224 : Index := 224#32
  ![v162.toNat, 0, 224]
def k2_off98 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v165 : Index := Scalar.indexCast arg13
  let c752 : Index := 752#32
  ![v165.toNat, 752]

def k2_chk48 (v3 : IVec S16 32) (v166 : IVec S16 32) (v169 : IVec S16 32) : Prop :=
  (∀ a x, ((![v166, v3, v169] : Fin 3 → IVec S16 32) a x).toNat < S50x1x512.size a)
theorem k2_idx48_inb : ∀ (v3 : IVec S16 32) (v166 : IVec S16 32) (v169 : IVec S16 32) (k2_hw48 : k2_chk48 v3 v166 v169), ∀ a x, ((![v166, v3, v169] : Fin 3 → IVec S16 32) a x).toNat < S50x1x512.size a := fun v3 v166 v169 k2_hw48 => k2_hw48
def k2_off99 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v171 : Index := Scalar.indexCast arg13
  let c0_i32_73 : BitVec 32 := 0#32
  let v172 : Index := Scalar.indexCast c0_i32_73
  let c240 : Index := 240#32
  ![v171.toNat, 0, 240]
def k2_off100 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v174 : Index := Scalar.indexCast arg13
  let c768 : Index := 768#32
  ![v174.toNat, 768]

def k2_chk49 (v3 : IVec S16 32) (v175 : IVec S16 32) (v178 : IVec S16 32) : Prop :=
  (∀ a x, ((![v175, v3, v178] : Fin 3 → IVec S16 32) a x).toNat < S50x1x512.size a)
theorem k2_idx49_inb : ∀ (v3 : IVec S16 32) (v175 : IVec S16 32) (v178 : IVec S16 32) (k2_hw49 : k2_chk49 v3 v175 v178), ∀ a x, ((![v175, v3, v178] : Fin 3 → IVec S16 32) a x).toNat < S50x1x512.size a := fun v3 v175 v178 k2_hw49 => k2_hw49
def k2_off101 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v180 : Index := Scalar.indexCast arg13
  let c0_i32_74 : BitVec 32 := 0#32
  let v181 : Index := Scalar.indexCast c0_i32_74
  let c256 : Index := 256#32
  ![v180.toNat, 0, 256]
def k2_off102 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v183 : Index := Scalar.indexCast arg13
  let c784 : Index := 784#32
  ![v183.toNat, 784]

def k2_chk50 (v3 : IVec S16 32) (v184 : IVec S16 32) (v187 : IVec S16 32) : Prop :=
  (∀ a x, ((![v184, v3, v187] : Fin 3 → IVec S16 32) a x).toNat < S50x1x512.size a)
theorem k2_idx50_inb : ∀ (v3 : IVec S16 32) (v184 : IVec S16 32) (v187 : IVec S16 32) (k2_hw50 : k2_chk50 v3 v184 v187), ∀ a x, ((![v184, v3, v187] : Fin 3 → IVec S16 32) a x).toNat < S50x1x512.size a := fun v3 v184 v187 k2_hw50 => k2_hw50
def k2_off103 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v189 : Index := Scalar.indexCast arg13
  let c0_i32_75 : BitVec 32 := 0#32
  let v190 : Index := Scalar.indexCast c0_i32_75
  let c272 : Index := 272#32
  ![v189.toNat, 0, 272]
def k2_off104 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v192 : Index := Scalar.indexCast arg13
  let c800 : Index := 800#32
  ![v192.toNat, 800]

def k2_chk51 (v3 : IVec S16 32) (v193 : IVec S16 32) (v196 : IVec S16 32) : Prop :=
  (∀ a x, ((![v193, v3, v196] : Fin 3 → IVec S16 32) a x).toNat < S50x1x512.size a)
theorem k2_idx51_inb : ∀ (v3 : IVec S16 32) (v193 : IVec S16 32) (v196 : IVec S16 32) (k2_hw51 : k2_chk51 v3 v193 v196), ∀ a x, ((![v193, v3, v196] : Fin 3 → IVec S16 32) a x).toNat < S50x1x512.size a := fun v3 v193 v196 k2_hw51 => k2_hw51
def k2_off105 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v198 : Index := Scalar.indexCast arg13
  let c0_i32_76 : BitVec 32 := 0#32
  let v199 : Index := Scalar.indexCast c0_i32_76
  let c288 : Index := 288#32
  ![v198.toNat, 0, 288]
def k2_off106 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v201 : Index := Scalar.indexCast arg13
  let c816 : Index := 816#32
  ![v201.toNat, 816]

def k2_chk52 (v3 : IVec S16 32) (v202 : IVec S16 32) (v205 : IVec S16 32) : Prop :=
  (∀ a x, ((![v202, v3, v205] : Fin 3 → IVec S16 32) a x).toNat < S50x1x512.size a)
theorem k2_idx52_inb : ∀ (v3 : IVec S16 32) (v202 : IVec S16 32) (v205 : IVec S16 32) (k2_hw52 : k2_chk52 v3 v202 v205), ∀ a x, ((![v202, v3, v205] : Fin 3 → IVec S16 32) a x).toNat < S50x1x512.size a := fun v3 v202 v205 k2_hw52 => k2_hw52
def k2_off107 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v207 : Index := Scalar.indexCast arg13
  let c0_i32_77 : BitVec 32 := 0#32
  let v208 : Index := Scalar.indexCast c0_i32_77
  let c304 : Index := 304#32
  ![v207.toNat, 0, 304]
def k2_off108 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v210 : Index := Scalar.indexCast arg13
  let c832 : Index := 832#32
  ![v210.toNat, 832]

def k2_chk53 (v3 : IVec S16 32) (v211 : IVec S16 32) (v214 : IVec S16 32) : Prop :=
  (∀ a x, ((![v211, v3, v214] : Fin 3 → IVec S16 32) a x).toNat < S50x1x512.size a)
theorem k2_idx53_inb : ∀ (v3 : IVec S16 32) (v211 : IVec S16 32) (v214 : IVec S16 32) (k2_hw53 : k2_chk53 v3 v211 v214), ∀ a x, ((![v211, v3, v214] : Fin 3 → IVec S16 32) a x).toNat < S50x1x512.size a := fun v3 v211 v214 k2_hw53 => k2_hw53
def k2_off109 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v216 : Index := Scalar.indexCast arg13
  let c0_i32_78 : BitVec 32 := 0#32
  let v217 : Index := Scalar.indexCast c0_i32_78
  let c320 : Index := 320#32
  ![v216.toNat, 0, 320]
def k2_off110 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v219 : Index := Scalar.indexCast arg13
  let c848 : Index := 848#32
  ![v219.toNat, 848]

def k2_chk54 (v3 : IVec S16 32) (v220 : IVec S16 32) (v223 : IVec S16 32) : Prop :=
  (∀ a x, ((![v220, v3, v223] : Fin 3 → IVec S16 32) a x).toNat < S50x1x512.size a)
theorem k2_idx54_inb : ∀ (v3 : IVec S16 32) (v220 : IVec S16 32) (v223 : IVec S16 32) (k2_hw54 : k2_chk54 v3 v220 v223), ∀ a x, ((![v220, v3, v223] : Fin 3 → IVec S16 32) a x).toNat < S50x1x512.size a := fun v3 v220 v223 k2_hw54 => k2_hw54
def k2_off111 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v225 : Index := Scalar.indexCast arg13
  let c0_i32_79 : BitVec 32 := 0#32
  let v226 : Index := Scalar.indexCast c0_i32_79
  let c336 : Index := 336#32
  ![v225.toNat, 0, 336]
def k2_off112 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v228 : Index := Scalar.indexCast arg13
  let c864 : Index := 864#32
  ![v228.toNat, 864]

def k2_chk55 (v3 : IVec S16 32) (v229 : IVec S16 32) (v232 : IVec S16 32) : Prop :=
  (∀ a x, ((![v229, v3, v232] : Fin 3 → IVec S16 32) a x).toNat < S50x1x512.size a)
theorem k2_idx55_inb : ∀ (v3 : IVec S16 32) (v229 : IVec S16 32) (v232 : IVec S16 32) (k2_hw55 : k2_chk55 v3 v229 v232), ∀ a x, ((![v229, v3, v232] : Fin 3 → IVec S16 32) a x).toNat < S50x1x512.size a := fun v3 v229 v232 k2_hw55 => k2_hw55
def k2_off113 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v234 : Index := Scalar.indexCast arg13
  let c0_i32_80 : BitVec 32 := 0#32
  let v235 : Index := Scalar.indexCast c0_i32_80
  let c352 : Index := 352#32
  ![v234.toNat, 0, 352]
def k2_off114 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v237 : Index := Scalar.indexCast arg13
  let c880 : Index := 880#32
  ![v237.toNat, 880]

def k2_chk56 (v3 : IVec S16 32) (v238 : IVec S16 32) (v241 : IVec S16 32) : Prop :=
  (∀ a x, ((![v238, v3, v241] : Fin 3 → IVec S16 32) a x).toNat < S50x1x512.size a)
theorem k2_idx56_inb : ∀ (v3 : IVec S16 32) (v238 : IVec S16 32) (v241 : IVec S16 32) (k2_hw56 : k2_chk56 v3 v238 v241), ∀ a x, ((![v238, v3, v241] : Fin 3 → IVec S16 32) a x).toNat < S50x1x512.size a := fun v3 v238 v241 k2_hw56 => k2_hw56
def k2_off115 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v243 : Index := Scalar.indexCast arg13
  let c0_i32_81 : BitVec 32 := 0#32
  let v244 : Index := Scalar.indexCast c0_i32_81
  let c368 : Index := 368#32
  ![v243.toNat, 0, 368]
def k2_off116 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v246 : Index := Scalar.indexCast arg13
  let c896 : Index := 896#32
  ![v246.toNat, 896]

def k2_chk57 (v3 : IVec S16 32) (v247 : IVec S16 32) (v250 : IVec S16 32) : Prop :=
  (∀ a x, ((![v247, v3, v250] : Fin 3 → IVec S16 32) a x).toNat < S50x1x512.size a)
theorem k2_idx57_inb : ∀ (v3 : IVec S16 32) (v247 : IVec S16 32) (v250 : IVec S16 32) (k2_hw57 : k2_chk57 v3 v247 v250), ∀ a x, ((![v247, v3, v250] : Fin 3 → IVec S16 32) a x).toNat < S50x1x512.size a := fun v3 v247 v250 k2_hw57 => k2_hw57
def k2_off117 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v252 : Index := Scalar.indexCast arg13
  let c0_i32_82 : BitVec 32 := 0#32
  let v253 : Index := Scalar.indexCast c0_i32_82
  let c384 : Index := 384#32
  ![v252.toNat, 0, 384]
def k2_off118 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v255 : Index := Scalar.indexCast arg13
  let c912 : Index := 912#32
  ![v255.toNat, 912]

def k2_chk58 (v3 : IVec S16 32) (v256 : IVec S16 32) (v259 : IVec S16 32) : Prop :=
  (∀ a x, ((![v256, v3, v259] : Fin 3 → IVec S16 32) a x).toNat < S50x1x512.size a)
theorem k2_idx58_inb : ∀ (v3 : IVec S16 32) (v256 : IVec S16 32) (v259 : IVec S16 32) (k2_hw58 : k2_chk58 v3 v256 v259), ∀ a x, ((![v256, v3, v259] : Fin 3 → IVec S16 32) a x).toNat < S50x1x512.size a := fun v3 v256 v259 k2_hw58 => k2_hw58
def k2_off119 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v261 : Index := Scalar.indexCast arg13
  let c0_i32_83 : BitVec 32 := 0#32
  let v262 : Index := Scalar.indexCast c0_i32_83
  let c400 : Index := 400#32
  ![v261.toNat, 0, 400]
def k2_off120 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v264 : Index := Scalar.indexCast arg13
  let c928 : Index := 928#32
  ![v264.toNat, 928]

def k2_chk59 (v3 : IVec S16 32) (v265 : IVec S16 32) (v268 : IVec S16 32) : Prop :=
  (∀ a x, ((![v265, v3, v268] : Fin 3 → IVec S16 32) a x).toNat < S50x1x512.size a)
theorem k2_idx59_inb : ∀ (v3 : IVec S16 32) (v265 : IVec S16 32) (v268 : IVec S16 32) (k2_hw59 : k2_chk59 v3 v265 v268), ∀ a x, ((![v265, v3, v268] : Fin 3 → IVec S16 32) a x).toNat < S50x1x512.size a := fun v3 v265 v268 k2_hw59 => k2_hw59
def k2_off121 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v270 : Index := Scalar.indexCast arg13
  let c0_i32_84 : BitVec 32 := 0#32
  let v271 : Index := Scalar.indexCast c0_i32_84
  let c416 : Index := 416#32
  ![v270.toNat, 0, 416]
def k2_off122 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v273 : Index := Scalar.indexCast arg13
  let c944 : Index := 944#32
  ![v273.toNat, 944]

def k2_chk60 (v3 : IVec S16 32) (v274 : IVec S16 32) (v277 : IVec S16 32) : Prop :=
  (∀ a x, ((![v274, v3, v277] : Fin 3 → IVec S16 32) a x).toNat < S50x1x512.size a)
theorem k2_idx60_inb : ∀ (v3 : IVec S16 32) (v274 : IVec S16 32) (v277 : IVec S16 32) (k2_hw60 : k2_chk60 v3 v274 v277), ∀ a x, ((![v274, v3, v277] : Fin 3 → IVec S16 32) a x).toNat < S50x1x512.size a := fun v3 v274 v277 k2_hw60 => k2_hw60
def k2_off123 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v279 : Index := Scalar.indexCast arg13
  let c0_i32_85 : BitVec 32 := 0#32
  let v280 : Index := Scalar.indexCast c0_i32_85
  let c432 : Index := 432#32
  ![v279.toNat, 0, 432]
def k2_off124 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v282 : Index := Scalar.indexCast arg13
  let c960 : Index := 960#32
  ![v282.toNat, 960]

def k2_chk61 (v3 : IVec S16 32) (v283 : IVec S16 32) (v286 : IVec S16 32) : Prop :=
  (∀ a x, ((![v283, v3, v286] : Fin 3 → IVec S16 32) a x).toNat < S50x1x512.size a)
theorem k2_idx61_inb : ∀ (v3 : IVec S16 32) (v283 : IVec S16 32) (v286 : IVec S16 32) (k2_hw61 : k2_chk61 v3 v283 v286), ∀ a x, ((![v283, v3, v286] : Fin 3 → IVec S16 32) a x).toNat < S50x1x512.size a := fun v3 v283 v286 k2_hw61 => k2_hw61
def k2_off125 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v288 : Index := Scalar.indexCast arg13
  let c0_i32_86 : BitVec 32 := 0#32
  let v289 : Index := Scalar.indexCast c0_i32_86
  let c448 : Index := 448#32
  ![v288.toNat, 0, 448]
def k2_off126 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v291 : Index := Scalar.indexCast arg13
  let c976 : Index := 976#32
  ![v291.toNat, 976]

def k2_chk62 (v3 : IVec S16 32) (v292 : IVec S16 32) (v295 : IVec S16 32) : Prop :=
  (∀ a x, ((![v292, v3, v295] : Fin 3 → IVec S16 32) a x).toNat < S50x1x512.size a)
theorem k2_idx62_inb : ∀ (v3 : IVec S16 32) (v292 : IVec S16 32) (v295 : IVec S16 32) (k2_hw62 : k2_chk62 v3 v292 v295), ∀ a x, ((![v292, v3, v295] : Fin 3 → IVec S16 32) a x).toNat < S50x1x512.size a := fun v3 v292 v295 k2_hw62 => k2_hw62
def k2_off127 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v297 : Index := Scalar.indexCast arg13
  let c0_i32_87 : BitVec 32 := 0#32
  let v298 : Index := Scalar.indexCast c0_i32_87
  let c464 : Index := 464#32
  ![v297.toNat, 0, 464]
def k2_off128 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v300 : Index := Scalar.indexCast arg13
  let c992 : Index := 992#32
  ![v300.toNat, 992]

def k2_chk63 (v3 : IVec S16 32) (v301 : IVec S16 32) (v304 : IVec S16 32) : Prop :=
  (∀ a x, ((![v301, v3, v304] : Fin 3 → IVec S16 32) a x).toNat < S50x1x512.size a)
theorem k2_idx63_inb : ∀ (v3 : IVec S16 32) (v301 : IVec S16 32) (v304 : IVec S16 32) (k2_hw63 : k2_chk63 v3 v301 v304), ∀ a x, ((![v301, v3, v304] : Fin 3 → IVec S16 32) a x).toNat < S50x1x512.size a := fun v3 v301 v304 k2_hw63 => k2_hw63
def k2_off129 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v306 : Index := Scalar.indexCast arg13
  let c0_i32_88 : BitVec 32 := 0#32
  let v307 : Index := Scalar.indexCast c0_i32_88
  let c480 : Index := 480#32
  ![v306.toNat, 0, 480]
def k2_off130 (k2_t4 : Fin k2_t4_loop.trips) : Fin 2 → Nat :=
  let c0_i32_51 : BitVec 32 := 0#32
  let c1_i32_53 : BitVec 32 := 1#32
  let arg13 : BitVec 32 := Scf.iv c0_i32_51 c1_i32_53 k2_t4
  let v309 : Index := Scalar.indexCast arg13
  let c1008 : Index := 1008#32
  ![v309.toNat, 1008]

def k2_chk64 (v3 : IVec S16 32) (v310 : IVec S16 32) (v313 : IVec S16 32) : Prop :=
  (∀ a x, ((![v310, v3, v313] : Fin 3 → IVec S16 32) a x).toNat < S50x1x512.size a)
theorem k2_idx64_inb : ∀ (v3 : IVec S16 32) (v310 : IVec S16 32) (v313 : IVec S16 32) (k2_hw64 : k2_chk64 v3 v310 v313), ∀ a x, ((![v310, v3, v313] : Fin 3 → IVec S16 32) a x).toNat < S50x1x512.size a := fun v3 v310 v313 k2_hw64 => k2_hw64
def k2_off131 (k2_t4 : Fin k2_t4_loop.trips) : Fin 3 → Nat :=
  let c0_i32_51 : BitVec 32 := 0#32
  let c1_i32_53 : BitVec 32 := 1#32
  let arg13 : BitVec 32 := Scf.iv c0_i32_51 c1_i32_53 k2_t4
  let v315 : Index := Scalar.indexCast arg13
  let c0_i32_89 : BitVec 32 := 0#32
  let v316 : Index := Scalar.indexCast c0_i32_89
  let c496 : Index := 496#32
  ![v315.toNat, 0, 496]
def k2_off132 (i : grid2.Coords) (k2_t3 : Fin k2_t3_loop.trips) : Fin 3 → Nat :=
  let c0_i32_56_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  let c1_i32_7 : BitVec 32 := 1#32
  let arg11 : BitVec 32 := Scf.iv c0_i32_5 c1_i32_7 k2_t3
  let v23 : BitVec 32 := Scalar.addi v2 arg11
  let c512_i32_57_r2 : BitVec 32 := 512#32
  ![0, v23.toNat, 512]
def k2_off133 (i : grid2.Coords) : Fin 3 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let v9 : BitVec 32 := Scalar.addi v1 c0_i32_11
  let c0_i32_13 : BitVec 32 := 0#32
  ![0, v9.toNat, 0]
@[reducible] def k2_t5_loop : Scf.Loop 32 :=
  let c0_i32_21 : BitVec 32 := 0#32
  let c25_i32 : BitVec 32 := 25#32
  let v14 : BitVec 32 := Scalar.addi c0_i32_21 c25_i32
  let c1_i32_22 : BitVec 32 := 1#32
  ⟨c0_i32_21, v14, c1_i32_22⟩
def k2_off134 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v23 : Index := Scalar.indexCast arg11
  let c0 : Index := 0#32
  ![v23.toNat, 0]

def k2_chk65 (v8 : IVec S16 32) (v24 : IVec S16 32) (v27 : IVec S16 32) : Prop :=
  (∀ a x, ((![v24, v8, v27] : Fin 3 → IVec S16 32) a x).toNat < S50x1x512.size a)
theorem k2_idx65_inb : ∀ (v8 : IVec S16 32) (v24 : IVec S16 32) (v27 : IVec S16 32) (k2_hw65 : k2_chk65 v8 v24 v27), ∀ a x, ((![v24, v8, v27] : Fin 3 → IVec S16 32) a x).toNat < S50x1x512.size a := fun v8 v24 v27 k2_hw65 => k2_hw65
def k2_off135 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v29 : Index := Scalar.indexCast arg11
  let c0_i32_43 : BitVec 32 := 0#32
  let v30 : Index := Scalar.indexCast c0_i32_43
  let c0_44 : Index := 0#32
  ![v29.toNat, 0, 0]
def k2_off136 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v32 : Index := Scalar.indexCast arg11
  let c16 : Index := 16#32
  ![v32.toNat, 16]

def k2_chk66 (v8 : IVec S16 32) (v33 : IVec S16 32) (v36 : IVec S16 32) : Prop :=
  (∀ a x, ((![v33, v8, v36] : Fin 3 → IVec S16 32) a x).toNat < S50x1x512.size a)
theorem k2_idx66_inb : ∀ (v8 : IVec S16 32) (v33 : IVec S16 32) (v36 : IVec S16 32) (k2_hw66 : k2_chk66 v8 v33 v36), ∀ a x, ((![v33, v8, v36] : Fin 3 → IVec S16 32) a x).toNat < S50x1x512.size a := fun v8 v33 v36 k2_hw66 => k2_hw66
def k2_off137 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v38 : Index := Scalar.indexCast arg11
  let c0_i32_45 : BitVec 32 := 0#32
  let v39 : Index := Scalar.indexCast c0_i32_45
  let c16_46 : Index := 16#32
  ![v38.toNat, 0, 16]
def k2_off138 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v41 : Index := Scalar.indexCast arg11
  let c32 : Index := 32#32
  ![v41.toNat, 32]

def k2_chk67 (v8 : IVec S16 32) (v42 : IVec S16 32) (v45 : IVec S16 32) : Prop :=
  (∀ a x, ((![v42, v8, v45] : Fin 3 → IVec S16 32) a x).toNat < S50x1x512.size a)
theorem k2_idx67_inb : ∀ (v8 : IVec S16 32) (v42 : IVec S16 32) (v45 : IVec S16 32) (k2_hw67 : k2_chk67 v8 v42 v45), ∀ a x, ((![v42, v8, v45] : Fin 3 → IVec S16 32) a x).toNat < S50x1x512.size a := fun v8 v42 v45 k2_hw67 => k2_hw67
def k2_off139 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v47 : Index := Scalar.indexCast arg11
  let c0_i32_48 : BitVec 32 := 0#32
  let v48 : Index := Scalar.indexCast c0_i32_48
  let c32_49 : Index := 32#32
  ![v47.toNat, 0, 32]
def k2_off140 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v50 : Index := Scalar.indexCast arg11
  let c48 : Index := 48#32
  ![v50.toNat, 48]

def k2_chk68 (v8 : IVec S16 32) (v51 : IVec S16 32) (v54 : IVec S16 32) : Prop :=
  (∀ a x, ((![v51, v8, v54] : Fin 3 → IVec S16 32) a x).toNat < S50x1x512.size a)
theorem k2_idx68_inb : ∀ (v8 : IVec S16 32) (v51 : IVec S16 32) (v54 : IVec S16 32) (k2_hw68 : k2_chk68 v8 v51 v54), ∀ a x, ((![v51, v8, v54] : Fin 3 → IVec S16 32) a x).toNat < S50x1x512.size a := fun v8 v51 v54 k2_hw68 => k2_hw68
def k2_off141 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v56 : Index := Scalar.indexCast arg11
  let c0_i32_50 : BitVec 32 := 0#32
  let v57 : Index := Scalar.indexCast c0_i32_50
  let c48_51 : Index := 48#32
  ![v56.toNat, 0, 48]
def k2_off142 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v59 : Index := Scalar.indexCast arg11
  let c64 : Index := 64#32
  ![v59.toNat, 64]

def k2_chk69 (v8 : IVec S16 32) (v60 : IVec S16 32) (v63 : IVec S16 32) : Prop :=
  (∀ a x, ((![v60, v8, v63] : Fin 3 → IVec S16 32) a x).toNat < S50x1x512.size a)
theorem k2_idx69_inb : ∀ (v8 : IVec S16 32) (v60 : IVec S16 32) (v63 : IVec S16 32) (k2_hw69 : k2_chk69 v8 v60 v63), ∀ a x, ((![v60, v8, v63] : Fin 3 → IVec S16 32) a x).toNat < S50x1x512.size a := fun v8 v60 v63 k2_hw69 => k2_hw69
def k2_off143 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v65 : Index := Scalar.indexCast arg11
  let c0_i32_52 : BitVec 32 := 0#32
  let v66 : Index := Scalar.indexCast c0_i32_52
  let c64_53 : Index := 64#32
  ![v65.toNat, 0, 64]
def k2_off144 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v68 : Index := Scalar.indexCast arg11
  let c80 : Index := 80#32
  ![v68.toNat, 80]

def k2_chk70 (v8 : IVec S16 32) (v69 : IVec S16 32) (v72 : IVec S16 32) : Prop :=
  (∀ a x, ((![v69, v8, v72] : Fin 3 → IVec S16 32) a x).toNat < S50x1x512.size a)
theorem k2_idx70_inb : ∀ (v8 : IVec S16 32) (v69 : IVec S16 32) (v72 : IVec S16 32) (k2_hw70 : k2_chk70 v8 v69 v72), ∀ a x, ((![v69, v8, v72] : Fin 3 → IVec S16 32) a x).toNat < S50x1x512.size a := fun v8 v69 v72 k2_hw70 => k2_hw70
def k2_off145 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v74 : Index := Scalar.indexCast arg11
  let c0_i32_54 : BitVec 32 := 0#32
  let v75 : Index := Scalar.indexCast c0_i32_54
  let c80_55 : Index := 80#32
  ![v74.toNat, 0, 80]
def k2_off146 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v77 : Index := Scalar.indexCast arg11
  let c96 : Index := 96#32
  ![v77.toNat, 96]

def k2_chk71 (v8 : IVec S16 32) (v78 : IVec S16 32) (v81 : IVec S16 32) : Prop :=
  (∀ a x, ((![v78, v8, v81] : Fin 3 → IVec S16 32) a x).toNat < S50x1x512.size a)
theorem k2_idx71_inb : ∀ (v8 : IVec S16 32) (v78 : IVec S16 32) (v81 : IVec S16 32) (k2_hw71 : k2_chk71 v8 v78 v81), ∀ a x, ((![v78, v8, v81] : Fin 3 → IVec S16 32) a x).toNat < S50x1x512.size a := fun v8 v78 v81 k2_hw71 => k2_hw71
def k2_off147 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v83 : Index := Scalar.indexCast arg11
  let c0_i32_56 : BitVec 32 := 0#32
  let v84 : Index := Scalar.indexCast c0_i32_56
  let c96_57 : Index := 96#32
  ![v83.toNat, 0, 96]
def k2_off148 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v86 : Index := Scalar.indexCast arg11
  let c112 : Index := 112#32
  ![v86.toNat, 112]

def k2_chk72 (v8 : IVec S16 32) (v87 : IVec S16 32) (v90 : IVec S16 32) : Prop :=
  (∀ a x, ((![v87, v8, v90] : Fin 3 → IVec S16 32) a x).toNat < S50x1x512.size a)
theorem k2_idx72_inb : ∀ (v8 : IVec S16 32) (v87 : IVec S16 32) (v90 : IVec S16 32) (k2_hw72 : k2_chk72 v8 v87 v90), ∀ a x, ((![v87, v8, v90] : Fin 3 → IVec S16 32) a x).toNat < S50x1x512.size a := fun v8 v87 v90 k2_hw72 => k2_hw72
def k2_off149 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v92 : Index := Scalar.indexCast arg11
  let c0_i32_58 : BitVec 32 := 0#32
  let v93 : Index := Scalar.indexCast c0_i32_58
  let c112_59 : Index := 112#32
  ![v92.toNat, 0, 112]
def k2_off150 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v95 : Index := Scalar.indexCast arg11
  let c128 : Index := 128#32
  ![v95.toNat, 128]

def k2_chk73 (v8 : IVec S16 32) (v96 : IVec S16 32) (v99 : IVec S16 32) : Prop :=
  (∀ a x, ((![v96, v8, v99] : Fin 3 → IVec S16 32) a x).toNat < S50x1x512.size a)
theorem k2_idx73_inb : ∀ (v8 : IVec S16 32) (v96 : IVec S16 32) (v99 : IVec S16 32) (k2_hw73 : k2_chk73 v8 v96 v99), ∀ a x, ((![v96, v8, v99] : Fin 3 → IVec S16 32) a x).toNat < S50x1x512.size a := fun v8 v96 v99 k2_hw73 => k2_hw73
def k2_off151 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v101 : Index := Scalar.indexCast arg11
  let c0_i32_60 : BitVec 32 := 0#32
  let v102 : Index := Scalar.indexCast c0_i32_60
  let c128_61 : Index := 128#32
  ![v101.toNat, 0, 128]
def k2_off152 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v104 : Index := Scalar.indexCast arg11
  let c144 : Index := 144#32
  ![v104.toNat, 144]

def k2_chk74 (v8 : IVec S16 32) (v105 : IVec S16 32) (v108 : IVec S16 32) : Prop :=
  (∀ a x, ((![v105, v8, v108] : Fin 3 → IVec S16 32) a x).toNat < S50x1x512.size a)
theorem k2_idx74_inb : ∀ (v8 : IVec S16 32) (v105 : IVec S16 32) (v108 : IVec S16 32) (k2_hw74 : k2_chk74 v8 v105 v108), ∀ a x, ((![v105, v8, v108] : Fin 3 → IVec S16 32) a x).toNat < S50x1x512.size a := fun v8 v105 v108 k2_hw74 => k2_hw74
def k2_off153 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v110 : Index := Scalar.indexCast arg11
  let c0_i32_62 : BitVec 32 := 0#32
  let v111 : Index := Scalar.indexCast c0_i32_62
  let c144_63 : Index := 144#32
  ![v110.toNat, 0, 144]
def k2_off154 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v113 : Index := Scalar.indexCast arg11
  let c160 : Index := 160#32
  ![v113.toNat, 160]

def k2_chk75 (v8 : IVec S16 32) (v114 : IVec S16 32) (v117 : IVec S16 32) : Prop :=
  (∀ a x, ((![v114, v8, v117] : Fin 3 → IVec S16 32) a x).toNat < S50x1x512.size a)
theorem k2_idx75_inb : ∀ (v8 : IVec S16 32) (v114 : IVec S16 32) (v117 : IVec S16 32) (k2_hw75 : k2_chk75 v8 v114 v117), ∀ a x, ((![v114, v8, v117] : Fin 3 → IVec S16 32) a x).toNat < S50x1x512.size a := fun v8 v114 v117 k2_hw75 => k2_hw75
def k2_off155 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v119 : Index := Scalar.indexCast arg11
  let c0_i32_64 : BitVec 32 := 0#32
  let v120 : Index := Scalar.indexCast c0_i32_64
  let c160_65 : Index := 160#32
  ![v119.toNat, 0, 160]
def k2_off156 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v122 : Index := Scalar.indexCast arg11
  let c176 : Index := 176#32
  ![v122.toNat, 176]

def k2_chk76 (v8 : IVec S16 32) (v123 : IVec S16 32) (v126 : IVec S16 32) : Prop :=
  (∀ a x, ((![v123, v8, v126] : Fin 3 → IVec S16 32) a x).toNat < S50x1x512.size a)
theorem k2_idx76_inb : ∀ (v8 : IVec S16 32) (v123 : IVec S16 32) (v126 : IVec S16 32) (k2_hw76 : k2_chk76 v8 v123 v126), ∀ a x, ((![v123, v8, v126] : Fin 3 → IVec S16 32) a x).toNat < S50x1x512.size a := fun v8 v123 v126 k2_hw76 => k2_hw76
def k2_off157 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v128 : Index := Scalar.indexCast arg11
  let c0_i32_66 : BitVec 32 := 0#32
  let v129 : Index := Scalar.indexCast c0_i32_66
  let c176_67 : Index := 176#32
  ![v128.toNat, 0, 176]
def k2_off158 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v131 : Index := Scalar.indexCast arg11
  let c192 : Index := 192#32
  ![v131.toNat, 192]

def k2_chk77 (v8 : IVec S16 32) (v132 : IVec S16 32) (v135 : IVec S16 32) : Prop :=
  (∀ a x, ((![v132, v8, v135] : Fin 3 → IVec S16 32) a x).toNat < S50x1x512.size a)
theorem k2_idx77_inb : ∀ (v8 : IVec S16 32) (v132 : IVec S16 32) (v135 : IVec S16 32) (k2_hw77 : k2_chk77 v8 v132 v135), ∀ a x, ((![v132, v8, v135] : Fin 3 → IVec S16 32) a x).toNat < S50x1x512.size a := fun v8 v132 v135 k2_hw77 => k2_hw77
def k2_off159 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v137 : Index := Scalar.indexCast arg11
  let c0_i32_68 : BitVec 32 := 0#32
  let v138 : Index := Scalar.indexCast c0_i32_68
  let c192_69 : Index := 192#32
  ![v137.toNat, 0, 192]
def k2_off160 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v140 : Index := Scalar.indexCast arg11
  let c208 : Index := 208#32
  ![v140.toNat, 208]

def k2_chk78 (v8 : IVec S16 32) (v141 : IVec S16 32) (v144 : IVec S16 32) : Prop :=
  (∀ a x, ((![v141, v8, v144] : Fin 3 → IVec S16 32) a x).toNat < S50x1x512.size a)
theorem k2_idx78_inb : ∀ (v8 : IVec S16 32) (v141 : IVec S16 32) (v144 : IVec S16 32) (k2_hw78 : k2_chk78 v8 v141 v144), ∀ a x, ((![v141, v8, v144] : Fin 3 → IVec S16 32) a x).toNat < S50x1x512.size a := fun v8 v141 v144 k2_hw78 => k2_hw78
def k2_off161 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v146 : Index := Scalar.indexCast arg11
  let c0_i32_70 : BitVec 32 := 0#32
  let v147 : Index := Scalar.indexCast c0_i32_70
  let c208_71 : Index := 208#32
  ![v146.toNat, 0, 208]
def k2_off162 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v149 : Index := Scalar.indexCast arg11
  let c224 : Index := 224#32
  ![v149.toNat, 224]

def k2_chk79 (v8 : IVec S16 32) (v150 : IVec S16 32) (v153 : IVec S16 32) : Prop :=
  (∀ a x, ((![v150, v8, v153] : Fin 3 → IVec S16 32) a x).toNat < S50x1x512.size a)
theorem k2_idx79_inb : ∀ (v8 : IVec S16 32) (v150 : IVec S16 32) (v153 : IVec S16 32) (k2_hw79 : k2_chk79 v8 v150 v153), ∀ a x, ((![v150, v8, v153] : Fin 3 → IVec S16 32) a x).toNat < S50x1x512.size a := fun v8 v150 v153 k2_hw79 => k2_hw79
def k2_off163 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v155 : Index := Scalar.indexCast arg11
  let c0_i32_72 : BitVec 32 := 0#32
  let v156 : Index := Scalar.indexCast c0_i32_72
  let c224_73 : Index := 224#32
  ![v155.toNat, 0, 224]
def k2_off164 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v158 : Index := Scalar.indexCast arg11
  let c240 : Index := 240#32
  ![v158.toNat, 240]

def k2_chk80 (v8 : IVec S16 32) (v159 : IVec S16 32) (v162 : IVec S16 32) : Prop :=
  (∀ a x, ((![v159, v8, v162] : Fin 3 → IVec S16 32) a x).toNat < S50x1x512.size a)
theorem k2_idx80_inb : ∀ (v8 : IVec S16 32) (v159 : IVec S16 32) (v162 : IVec S16 32) (k2_hw80 : k2_chk80 v8 v159 v162), ∀ a x, ((![v159, v8, v162] : Fin 3 → IVec S16 32) a x).toNat < S50x1x512.size a := fun v8 v159 v162 k2_hw80 => k2_hw80
def k2_off165 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v164 : Index := Scalar.indexCast arg11
  let c0_i32_74 : BitVec 32 := 0#32
  let v165 : Index := Scalar.indexCast c0_i32_74
  let c240_75 : Index := 240#32
  ![v164.toNat, 0, 240]
def k2_off166 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v167 : Index := Scalar.indexCast arg11
  let c256 : Index := 256#32
  ![v167.toNat, 256]

def k2_chk81 (v8 : IVec S16 32) (v168 : IVec S16 32) (v171 : IVec S16 32) : Prop :=
  (∀ a x, ((![v168, v8, v171] : Fin 3 → IVec S16 32) a x).toNat < S50x1x512.size a)
theorem k2_idx81_inb : ∀ (v8 : IVec S16 32) (v168 : IVec S16 32) (v171 : IVec S16 32) (k2_hw81 : k2_chk81 v8 v168 v171), ∀ a x, ((![v168, v8, v171] : Fin 3 → IVec S16 32) a x).toNat < S50x1x512.size a := fun v8 v168 v171 k2_hw81 => k2_hw81
def k2_off167 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v173 : Index := Scalar.indexCast arg11
  let c0_i32_76 : BitVec 32 := 0#32
  let v174 : Index := Scalar.indexCast c0_i32_76
  let c256_77 : Index := 256#32
  ![v173.toNat, 0, 256]
def k2_off168 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v176 : Index := Scalar.indexCast arg11
  let c272 : Index := 272#32
  ![v176.toNat, 272]

def k2_chk82 (v8 : IVec S16 32) (v177 : IVec S16 32) (v180 : IVec S16 32) : Prop :=
  (∀ a x, ((![v177, v8, v180] : Fin 3 → IVec S16 32) a x).toNat < S50x1x512.size a)
theorem k2_idx82_inb : ∀ (v8 : IVec S16 32) (v177 : IVec S16 32) (v180 : IVec S16 32) (k2_hw82 : k2_chk82 v8 v177 v180), ∀ a x, ((![v177, v8, v180] : Fin 3 → IVec S16 32) a x).toNat < S50x1x512.size a := fun v8 v177 v180 k2_hw82 => k2_hw82
def k2_off169 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v182 : Index := Scalar.indexCast arg11
  let c0_i32_78 : BitVec 32 := 0#32
  let v183 : Index := Scalar.indexCast c0_i32_78
  let c272_79 : Index := 272#32
  ![v182.toNat, 0, 272]
def k2_off170 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v185 : Index := Scalar.indexCast arg11
  let c288 : Index := 288#32
  ![v185.toNat, 288]

def k2_chk83 (v8 : IVec S16 32) (v186 : IVec S16 32) (v189 : IVec S16 32) : Prop :=
  (∀ a x, ((![v186, v8, v189] : Fin 3 → IVec S16 32) a x).toNat < S50x1x512.size a)
theorem k2_idx83_inb : ∀ (v8 : IVec S16 32) (v186 : IVec S16 32) (v189 : IVec S16 32) (k2_hw83 : k2_chk83 v8 v186 v189), ∀ a x, ((![v186, v8, v189] : Fin 3 → IVec S16 32) a x).toNat < S50x1x512.size a := fun v8 v186 v189 k2_hw83 => k2_hw83
def k2_off171 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v191 : Index := Scalar.indexCast arg11
  let c0_i32_80 : BitVec 32 := 0#32
  let v192 : Index := Scalar.indexCast c0_i32_80
  let c288_81 : Index := 288#32
  ![v191.toNat, 0, 288]
def k2_off172 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v194 : Index := Scalar.indexCast arg11
  let c304 : Index := 304#32
  ![v194.toNat, 304]

def k2_chk84 (v8 : IVec S16 32) (v195 : IVec S16 32) (v198 : IVec S16 32) : Prop :=
  (∀ a x, ((![v195, v8, v198] : Fin 3 → IVec S16 32) a x).toNat < S50x1x512.size a)
theorem k2_idx84_inb : ∀ (v8 : IVec S16 32) (v195 : IVec S16 32) (v198 : IVec S16 32) (k2_hw84 : k2_chk84 v8 v195 v198), ∀ a x, ((![v195, v8, v198] : Fin 3 → IVec S16 32) a x).toNat < S50x1x512.size a := fun v8 v195 v198 k2_hw84 => k2_hw84
def k2_off173 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v200 : Index := Scalar.indexCast arg11
  let c0_i32_82 : BitVec 32 := 0#32
  let v201 : Index := Scalar.indexCast c0_i32_82
  let c304_83 : Index := 304#32
  ![v200.toNat, 0, 304]
def k2_off174 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v203 : Index := Scalar.indexCast arg11
  let c320 : Index := 320#32
  ![v203.toNat, 320]

def k2_chk85 (v8 : IVec S16 32) (v204 : IVec S16 32) (v207 : IVec S16 32) : Prop :=
  (∀ a x, ((![v204, v8, v207] : Fin 3 → IVec S16 32) a x).toNat < S50x1x512.size a)
theorem k2_idx85_inb : ∀ (v8 : IVec S16 32) (v204 : IVec S16 32) (v207 : IVec S16 32) (k2_hw85 : k2_chk85 v8 v204 v207), ∀ a x, ((![v204, v8, v207] : Fin 3 → IVec S16 32) a x).toNat < S50x1x512.size a := fun v8 v204 v207 k2_hw85 => k2_hw85
def k2_off175 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v209 : Index := Scalar.indexCast arg11
  let c0_i32_84 : BitVec 32 := 0#32
  let v210 : Index := Scalar.indexCast c0_i32_84
  let c320_85 : Index := 320#32
  ![v209.toNat, 0, 320]
def k2_off176 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v212 : Index := Scalar.indexCast arg11
  let c336 : Index := 336#32
  ![v212.toNat, 336]

def k2_chk86 (v8 : IVec S16 32) (v213 : IVec S16 32) (v216 : IVec S16 32) : Prop :=
  (∀ a x, ((![v213, v8, v216] : Fin 3 → IVec S16 32) a x).toNat < S50x1x512.size a)
theorem k2_idx86_inb : ∀ (v8 : IVec S16 32) (v213 : IVec S16 32) (v216 : IVec S16 32) (k2_hw86 : k2_chk86 v8 v213 v216), ∀ a x, ((![v213, v8, v216] : Fin 3 → IVec S16 32) a x).toNat < S50x1x512.size a := fun v8 v213 v216 k2_hw86 => k2_hw86
def k2_off177 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v218 : Index := Scalar.indexCast arg11
  let c0_i32_86 : BitVec 32 := 0#32
  let v219 : Index := Scalar.indexCast c0_i32_86
  let c336_87 : Index := 336#32
  ![v218.toNat, 0, 336]
def k2_off178 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v221 : Index := Scalar.indexCast arg11
  let c352 : Index := 352#32
  ![v221.toNat, 352]

def k2_chk87 (v8 : IVec S16 32) (v222 : IVec S16 32) (v225 : IVec S16 32) : Prop :=
  (∀ a x, ((![v222, v8, v225] : Fin 3 → IVec S16 32) a x).toNat < S50x1x512.size a)
theorem k2_idx87_inb : ∀ (v8 : IVec S16 32) (v222 : IVec S16 32) (v225 : IVec S16 32) (k2_hw87 : k2_chk87 v8 v222 v225), ∀ a x, ((![v222, v8, v225] : Fin 3 → IVec S16 32) a x).toNat < S50x1x512.size a := fun v8 v222 v225 k2_hw87 => k2_hw87
def k2_off179 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v227 : Index := Scalar.indexCast arg11
  let c0_i32_88 : BitVec 32 := 0#32
  let v228 : Index := Scalar.indexCast c0_i32_88
  let c352_89 : Index := 352#32
  ![v227.toNat, 0, 352]
def k2_off180 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v230 : Index := Scalar.indexCast arg11
  let c368 : Index := 368#32
  ![v230.toNat, 368]

def k2_chk88 (v8 : IVec S16 32) (v231 : IVec S16 32) (v234 : IVec S16 32) : Prop :=
  (∀ a x, ((![v231, v8, v234] : Fin 3 → IVec S16 32) a x).toNat < S50x1x512.size a)
theorem k2_idx88_inb : ∀ (v8 : IVec S16 32) (v231 : IVec S16 32) (v234 : IVec S16 32) (k2_hw88 : k2_chk88 v8 v231 v234), ∀ a x, ((![v231, v8, v234] : Fin 3 → IVec S16 32) a x).toNat < S50x1x512.size a := fun v8 v231 v234 k2_hw88 => k2_hw88
def k2_off181 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v236 : Index := Scalar.indexCast arg11
  let c0_i32_90 : BitVec 32 := 0#32
  let v237 : Index := Scalar.indexCast c0_i32_90
  let c368_91 : Index := 368#32
  ![v236.toNat, 0, 368]
def k2_off182 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v239 : Index := Scalar.indexCast arg11
  let c384 : Index := 384#32
  ![v239.toNat, 384]

def k2_chk89 (v8 : IVec S16 32) (v240 : IVec S16 32) (v243 : IVec S16 32) : Prop :=
  (∀ a x, ((![v240, v8, v243] : Fin 3 → IVec S16 32) a x).toNat < S50x1x512.size a)
theorem k2_idx89_inb : ∀ (v8 : IVec S16 32) (v240 : IVec S16 32) (v243 : IVec S16 32) (k2_hw89 : k2_chk89 v8 v240 v243), ∀ a x, ((![v240, v8, v243] : Fin 3 → IVec S16 32) a x).toNat < S50x1x512.size a := fun v8 v240 v243 k2_hw89 => k2_hw89
def k2_off183 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v245 : Index := Scalar.indexCast arg11
  let c0_i32_92 : BitVec 32 := 0#32
  let v246 : Index := Scalar.indexCast c0_i32_92
  let c384_93 : Index := 384#32
  ![v245.toNat, 0, 384]
def k2_off184 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v248 : Index := Scalar.indexCast arg11
  let c400 : Index := 400#32
  ![v248.toNat, 400]

def k2_chk90 (v8 : IVec S16 32) (v249 : IVec S16 32) (v252 : IVec S16 32) : Prop :=
  (∀ a x, ((![v249, v8, v252] : Fin 3 → IVec S16 32) a x).toNat < S50x1x512.size a)
theorem k2_idx90_inb : ∀ (v8 : IVec S16 32) (v249 : IVec S16 32) (v252 : IVec S16 32) (k2_hw90 : k2_chk90 v8 v249 v252), ∀ a x, ((![v249, v8, v252] : Fin 3 → IVec S16 32) a x).toNat < S50x1x512.size a := fun v8 v249 v252 k2_hw90 => k2_hw90
def k2_off185 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v254 : Index := Scalar.indexCast arg11
  let c0_i32_94 : BitVec 32 := 0#32
  let v255 : Index := Scalar.indexCast c0_i32_94
  let c400_95 : Index := 400#32
  ![v254.toNat, 0, 400]
def k2_off186 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v257 : Index := Scalar.indexCast arg11
  let c416 : Index := 416#32
  ![v257.toNat, 416]

def k2_chk91 (v8 : IVec S16 32) (v258 : IVec S16 32) (v261 : IVec S16 32) : Prop :=
  (∀ a x, ((![v258, v8, v261] : Fin 3 → IVec S16 32) a x).toNat < S50x1x512.size a)
theorem k2_idx91_inb : ∀ (v8 : IVec S16 32) (v258 : IVec S16 32) (v261 : IVec S16 32) (k2_hw91 : k2_chk91 v8 v258 v261), ∀ a x, ((![v258, v8, v261] : Fin 3 → IVec S16 32) a x).toNat < S50x1x512.size a := fun v8 v258 v261 k2_hw91 => k2_hw91
def k2_off187 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v263 : Index := Scalar.indexCast arg11
  let c0_i32_96 : BitVec 32 := 0#32
  let v264 : Index := Scalar.indexCast c0_i32_96
  let c416_97 : Index := 416#32
  ![v263.toNat, 0, 416]
def k2_off188 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v266 : Index := Scalar.indexCast arg11
  let c432 : Index := 432#32
  ![v266.toNat, 432]

def k2_chk92 (v8 : IVec S16 32) (v267 : IVec S16 32) (v270 : IVec S16 32) : Prop :=
  (∀ a x, ((![v267, v8, v270] : Fin 3 → IVec S16 32) a x).toNat < S50x1x512.size a)
theorem k2_idx92_inb : ∀ (v8 : IVec S16 32) (v267 : IVec S16 32) (v270 : IVec S16 32) (k2_hw92 : k2_chk92 v8 v267 v270), ∀ a x, ((![v267, v8, v270] : Fin 3 → IVec S16 32) a x).toNat < S50x1x512.size a := fun v8 v267 v270 k2_hw92 => k2_hw92
def k2_off189 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v272 : Index := Scalar.indexCast arg11
  let c0_i32_98 : BitVec 32 := 0#32
  let v273 : Index := Scalar.indexCast c0_i32_98
  let c432_99 : Index := 432#32
  ![v272.toNat, 0, 432]
def k2_off190 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v275 : Index := Scalar.indexCast arg11
  let c448 : Index := 448#32
  ![v275.toNat, 448]

def k2_chk93 (v8 : IVec S16 32) (v276 : IVec S16 32) (v279 : IVec S16 32) : Prop :=
  (∀ a x, ((![v276, v8, v279] : Fin 3 → IVec S16 32) a x).toNat < S50x1x512.size a)
theorem k2_idx93_inb : ∀ (v8 : IVec S16 32) (v276 : IVec S16 32) (v279 : IVec S16 32) (k2_hw93 : k2_chk93 v8 v276 v279), ∀ a x, ((![v276, v8, v279] : Fin 3 → IVec S16 32) a x).toNat < S50x1x512.size a := fun v8 v276 v279 k2_hw93 => k2_hw93
def k2_off191 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v281 : Index := Scalar.indexCast arg11
  let c0_i32_100 : BitVec 32 := 0#32
  let v282 : Index := Scalar.indexCast c0_i32_100
  let c448_101 : Index := 448#32
  ![v281.toNat, 0, 448]
def k2_off192 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v284 : Index := Scalar.indexCast arg11
  let c464 : Index := 464#32
  ![v284.toNat, 464]

def k2_chk94 (v8 : IVec S16 32) (v285 : IVec S16 32) (v288 : IVec S16 32) : Prop :=
  (∀ a x, ((![v285, v8, v288] : Fin 3 → IVec S16 32) a x).toNat < S50x1x512.size a)
theorem k2_idx94_inb : ∀ (v8 : IVec S16 32) (v285 : IVec S16 32) (v288 : IVec S16 32) (k2_hw94 : k2_chk94 v8 v285 v288), ∀ a x, ((![v285, v8, v288] : Fin 3 → IVec S16 32) a x).toNat < S50x1x512.size a := fun v8 v285 v288 k2_hw94 => k2_hw94
def k2_off193 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v290 : Index := Scalar.indexCast arg11
  let c0_i32_102 : BitVec 32 := 0#32
  let v291 : Index := Scalar.indexCast c0_i32_102
  let c464_103 : Index := 464#32
  ![v290.toNat, 0, 464]
def k2_off194 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v293 : Index := Scalar.indexCast arg11
  let c480 : Index := 480#32
  ![v293.toNat, 480]

def k2_chk95 (v8 : IVec S16 32) (v294 : IVec S16 32) (v297 : IVec S16 32) : Prop :=
  (∀ a x, ((![v294, v8, v297] : Fin 3 → IVec S16 32) a x).toNat < S50x1x512.size a)
theorem k2_idx95_inb : ∀ (v8 : IVec S16 32) (v294 : IVec S16 32) (v297 : IVec S16 32) (k2_hw95 : k2_chk95 v8 v294 v297), ∀ a x, ((![v294, v8, v297] : Fin 3 → IVec S16 32) a x).toNat < S50x1x512.size a := fun v8 v294 v297 k2_hw95 => k2_hw95
def k2_off195 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v299 : Index := Scalar.indexCast arg11
  let c0_i32_104 : BitVec 32 := 0#32
  let v300 : Index := Scalar.indexCast c0_i32_104
  let c480_105 : Index := 480#32
  ![v299.toNat, 0, 480]
def k2_off196 (k2_t5 : Fin k2_t5_loop.trips) : Fin 2 → Nat :=
  let c0_i32_21 : BitVec 32 := 0#32
  let c1_i32_22 : BitVec 32 := 1#32
  let arg11 : BitVec 32 := Scf.iv c0_i32_21 c1_i32_22 k2_t5
  let v302 : Index := Scalar.indexCast arg11
  let c496 : Index := 496#32
  ![v302.toNat, 496]

def k2_chk96 (v8 : IVec S16 32) (v303 : IVec S16 32) (v306 : IVec S16 32) : Prop :=
  (∀ a x, ((![v303, v8, v306] : Fin 3 → IVec S16 32) a x).toNat < S50x1x512.size a)
theorem k2_idx96_inb : ∀ (v8 : IVec S16 32) (v303 : IVec S16 32) (v306 : IVec S16 32) (k2_hw96 : k2_chk96 v8 v303 v306), ∀ a x, ((![v303, v8, v306] : Fin 3 → IVec S16 32) a x).toNat < S50x1x512.size a := fun v8 v303 v306 k2_hw96 => k2_hw96
def k2_off197 (k2_t5 : Fin k2_t5_loop.trips) : Fin 3 → Nat :=
  let c0_i32_21 : BitVec 32 := 0#32
  let c1_i32_22 : BitVec 32 := 1#32
  let arg11 : BitVec 32 := Scf.iv c0_i32_21 c1_i32_22 k2_t5
  let v308 : Index := Scalar.indexCast arg11
  let c0_i32_106 : BitVec 32 := 0#32
  let v309 : Index := Scalar.indexCast c0_i32_106
  let c496_107 : Index := 496#32
  ![v308.toNat, 0, 496]
def k2_off198 (i : grid2.Coords) : Fin 3 → Nat :=
  let c0_i32_42_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let v9 : BitVec 32 := Scalar.addi v1 c0_i32_11
  let c0_i32_43_r3 : BitVec 32 := 0#32
  ![0, v9.toNat, 0]
def k2_off199 (i : grid2.Coords) : Fin 3 → Nat :=
  let c0_i32_28 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let v16 : BitVec 32 := Scalar.addi v1 c0_i32_27
  let c512_i32 : BitVec 32 := 512#32
  ![0, v16.toNat, 512]
@[reducible] def k2_t6_loop : Scf.Loop 32 :=
  let c0_i32_36 : BitVec 32 := 0#32
  let c25_i32_37 : BitVec 32 := 25#32
  let v21 : BitVec 32 := Scalar.addi c0_i32_36 c25_i32_37
  let c1_i32_38 : BitVec 32 := 1#32
  ⟨c0_i32_36, v21, c1_i32_38⟩
def k2_off200 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v23 : Index := Scalar.indexCast arg11
  let c512 : Index := 512#32
  ![v23.toNat, 512]

def k2_chk97 (v8 : IVec S16 32) (v24 : IVec S16 32) (v27 : IVec S16 32) : Prop :=
  (∀ a x, ((![v24, v8, v27] : Fin 3 → IVec S16 32) a x).toNat < S50x1x512.size a)
theorem k2_idx97_inb : ∀ (v8 : IVec S16 32) (v24 : IVec S16 32) (v27 : IVec S16 32) (k2_hw97 : k2_chk97 v8 v24 v27), ∀ a x, ((![v24, v8, v27] : Fin 3 → IVec S16 32) a x).toNat < S50x1x512.size a := fun v8 v24 v27 k2_hw97 => k2_hw97
def k2_off201 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v29 : Index := Scalar.indexCast arg11
  let c0_i32_43 : BitVec 32 := 0#32
  let v30 : Index := Scalar.indexCast c0_i32_43
  let c0 : Index := 0#32
  ![v29.toNat, 0, 0]
def k2_off202 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v32 : Index := Scalar.indexCast arg11
  let c528 : Index := 528#32
  ![v32.toNat, 528]

def k2_chk98 (v8 : IVec S16 32) (v33 : IVec S16 32) (v36 : IVec S16 32) : Prop :=
  (∀ a x, ((![v33, v8, v36] : Fin 3 → IVec S16 32) a x).toNat < S50x1x512.size a)
theorem k2_idx98_inb : ∀ (v8 : IVec S16 32) (v33 : IVec S16 32) (v36 : IVec S16 32) (k2_hw98 : k2_chk98 v8 v33 v36), ∀ a x, ((![v33, v8, v36] : Fin 3 → IVec S16 32) a x).toNat < S50x1x512.size a := fun v8 v33 v36 k2_hw98 => k2_hw98
def k2_off203 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v38 : Index := Scalar.indexCast arg11
  let c0_i32_44 : BitVec 32 := 0#32
  let v39 : Index := Scalar.indexCast c0_i32_44
  let c16 : Index := 16#32
  ![v38.toNat, 0, 16]
def k2_off204 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v41 : Index := Scalar.indexCast arg11
  let c544 : Index := 544#32
  ![v41.toNat, 544]

def k2_chk99 (v8 : IVec S16 32) (v42 : IVec S16 32) (v45 : IVec S16 32) : Prop :=
  (∀ a x, ((![v42, v8, v45] : Fin 3 → IVec S16 32) a x).toNat < S50x1x512.size a)
theorem k2_idx99_inb : ∀ (v8 : IVec S16 32) (v42 : IVec S16 32) (v45 : IVec S16 32) (k2_hw99 : k2_chk99 v8 v42 v45), ∀ a x, ((![v42, v8, v45] : Fin 3 → IVec S16 32) a x).toNat < S50x1x512.size a := fun v8 v42 v45 k2_hw99 => k2_hw99
def k2_off205 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v47 : Index := Scalar.indexCast arg11
  let c0_i32_46 : BitVec 32 := 0#32
  let v48 : Index := Scalar.indexCast c0_i32_46
  let c32 : Index := 32#32
  ![v47.toNat, 0, 32]
def k2_off206 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v50 : Index := Scalar.indexCast arg11
  let c560 : Index := 560#32
  ![v50.toNat, 560]

def k2_chk100 (v8 : IVec S16 32) (v51 : IVec S16 32) (v54 : IVec S16 32) : Prop :=
  (∀ a x, ((![v51, v8, v54] : Fin 3 → IVec S16 32) a x).toNat < S50x1x512.size a)
theorem k2_idx100_inb : ∀ (v8 : IVec S16 32) (v51 : IVec S16 32) (v54 : IVec S16 32) (k2_hw100 : k2_chk100 v8 v51 v54), ∀ a x, ((![v51, v8, v54] : Fin 3 → IVec S16 32) a x).toNat < S50x1x512.size a := fun v8 v51 v54 k2_hw100 => k2_hw100
def k2_off207 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v56 : Index := Scalar.indexCast arg11
  let c0_i32_47 : BitVec 32 := 0#32
  let v57 : Index := Scalar.indexCast c0_i32_47
  let c48 : Index := 48#32
  ![v56.toNat, 0, 48]
def k2_off208 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v59 : Index := Scalar.indexCast arg11
  let c576 : Index := 576#32
  ![v59.toNat, 576]

def k2_chk101 (v8 : IVec S16 32) (v60 : IVec S16 32) (v63 : IVec S16 32) : Prop :=
  (∀ a x, ((![v60, v8, v63] : Fin 3 → IVec S16 32) a x).toNat < S50x1x512.size a)
theorem k2_idx101_inb : ∀ (v8 : IVec S16 32) (v60 : IVec S16 32) (v63 : IVec S16 32) (k2_hw101 : k2_chk101 v8 v60 v63), ∀ a x, ((![v60, v8, v63] : Fin 3 → IVec S16 32) a x).toNat < S50x1x512.size a := fun v8 v60 v63 k2_hw101 => k2_hw101
def k2_off209 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v65 : Index := Scalar.indexCast arg11
  let c0_i32_48 : BitVec 32 := 0#32
  let v66 : Index := Scalar.indexCast c0_i32_48
  let c64 : Index := 64#32
  ![v65.toNat, 0, 64]
def k2_off210 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v68 : Index := Scalar.indexCast arg11
  let c592 : Index := 592#32
  ![v68.toNat, 592]

def k2_chk102 (v8 : IVec S16 32) (v69 : IVec S16 32) (v72 : IVec S16 32) : Prop :=
  (∀ a x, ((![v69, v8, v72] : Fin 3 → IVec S16 32) a x).toNat < S50x1x512.size a)
theorem k2_idx102_inb : ∀ (v8 : IVec S16 32) (v69 : IVec S16 32) (v72 : IVec S16 32) (k2_hw102 : k2_chk102 v8 v69 v72), ∀ a x, ((![v69, v8, v72] : Fin 3 → IVec S16 32) a x).toNat < S50x1x512.size a := fun v8 v69 v72 k2_hw102 => k2_hw102
def k2_off211 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v74 : Index := Scalar.indexCast arg11
  let c0_i32_49 : BitVec 32 := 0#32
  let v75 : Index := Scalar.indexCast c0_i32_49
  let c80 : Index := 80#32
  ![v74.toNat, 0, 80]
def k2_off212 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v77 : Index := Scalar.indexCast arg11
  let c608 : Index := 608#32
  ![v77.toNat, 608]

def k2_chk103 (v8 : IVec S16 32) (v78 : IVec S16 32) (v81 : IVec S16 32) : Prop :=
  (∀ a x, ((![v78, v8, v81] : Fin 3 → IVec S16 32) a x).toNat < S50x1x512.size a)
theorem k2_idx103_inb : ∀ (v8 : IVec S16 32) (v78 : IVec S16 32) (v81 : IVec S16 32) (k2_hw103 : k2_chk103 v8 v78 v81), ∀ a x, ((![v78, v8, v81] : Fin 3 → IVec S16 32) a x).toNat < S50x1x512.size a := fun v8 v78 v81 k2_hw103 => k2_hw103
def k2_off213 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v83 : Index := Scalar.indexCast arg11
  let c0_i32_50 : BitVec 32 := 0#32
  let v84 : Index := Scalar.indexCast c0_i32_50
  let c96 : Index := 96#32
  ![v83.toNat, 0, 96]
def k2_off214 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v86 : Index := Scalar.indexCast arg11
  let c624 : Index := 624#32
  ![v86.toNat, 624]

def k2_chk104 (v8 : IVec S16 32) (v87 : IVec S16 32) (v90 : IVec S16 32) : Prop :=
  (∀ a x, ((![v87, v8, v90] : Fin 3 → IVec S16 32) a x).toNat < S50x1x512.size a)
theorem k2_idx104_inb : ∀ (v8 : IVec S16 32) (v87 : IVec S16 32) (v90 : IVec S16 32) (k2_hw104 : k2_chk104 v8 v87 v90), ∀ a x, ((![v87, v8, v90] : Fin 3 → IVec S16 32) a x).toNat < S50x1x512.size a := fun v8 v87 v90 k2_hw104 => k2_hw104
def k2_off215 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v92 : Index := Scalar.indexCast arg11
  let c0_i32_51 : BitVec 32 := 0#32
  let v93 : Index := Scalar.indexCast c0_i32_51
  let c112 : Index := 112#32
  ![v92.toNat, 0, 112]
def k2_off216 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v95 : Index := Scalar.indexCast arg11
  let c640 : Index := 640#32
  ![v95.toNat, 640]

def k2_chk105 (v8 : IVec S16 32) (v96 : IVec S16 32) (v99 : IVec S16 32) : Prop :=
  (∀ a x, ((![v96, v8, v99] : Fin 3 → IVec S16 32) a x).toNat < S50x1x512.size a)
theorem k2_idx105_inb : ∀ (v8 : IVec S16 32) (v96 : IVec S16 32) (v99 : IVec S16 32) (k2_hw105 : k2_chk105 v8 v96 v99), ∀ a x, ((![v96, v8, v99] : Fin 3 → IVec S16 32) a x).toNat < S50x1x512.size a := fun v8 v96 v99 k2_hw105 => k2_hw105
def k2_off217 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v101 : Index := Scalar.indexCast arg11
  let c0_i32_52 : BitVec 32 := 0#32
  let v102 : Index := Scalar.indexCast c0_i32_52
  let c128 : Index := 128#32
  ![v101.toNat, 0, 128]
def k2_off218 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v104 : Index := Scalar.indexCast arg11
  let c656 : Index := 656#32
  ![v104.toNat, 656]

def k2_chk106 (v8 : IVec S16 32) (v105 : IVec S16 32) (v108 : IVec S16 32) : Prop :=
  (∀ a x, ((![v105, v8, v108] : Fin 3 → IVec S16 32) a x).toNat < S50x1x512.size a)
theorem k2_idx106_inb : ∀ (v8 : IVec S16 32) (v105 : IVec S16 32) (v108 : IVec S16 32) (k2_hw106 : k2_chk106 v8 v105 v108), ∀ a x, ((![v105, v8, v108] : Fin 3 → IVec S16 32) a x).toNat < S50x1x512.size a := fun v8 v105 v108 k2_hw106 => k2_hw106
def k2_off219 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v110 : Index := Scalar.indexCast arg11
  let c0_i32_53 : BitVec 32 := 0#32
  let v111 : Index := Scalar.indexCast c0_i32_53
  let c144 : Index := 144#32
  ![v110.toNat, 0, 144]
def k2_off220 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v113 : Index := Scalar.indexCast arg11
  let c672 : Index := 672#32
  ![v113.toNat, 672]

def k2_chk107 (v8 : IVec S16 32) (v114 : IVec S16 32) (v117 : IVec S16 32) : Prop :=
  (∀ a x, ((![v114, v8, v117] : Fin 3 → IVec S16 32) a x).toNat < S50x1x512.size a)
theorem k2_idx107_inb : ∀ (v8 : IVec S16 32) (v114 : IVec S16 32) (v117 : IVec S16 32) (k2_hw107 : k2_chk107 v8 v114 v117), ∀ a x, ((![v114, v8, v117] : Fin 3 → IVec S16 32) a x).toNat < S50x1x512.size a := fun v8 v114 v117 k2_hw107 => k2_hw107
def k2_off221 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v119 : Index := Scalar.indexCast arg11
  let c0_i32_54 : BitVec 32 := 0#32
  let v120 : Index := Scalar.indexCast c0_i32_54
  let c160 : Index := 160#32
  ![v119.toNat, 0, 160]
def k2_off222 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v122 : Index := Scalar.indexCast arg11
  let c688 : Index := 688#32
  ![v122.toNat, 688]

def k2_chk108 (v8 : IVec S16 32) (v123 : IVec S16 32) (v126 : IVec S16 32) : Prop :=
  (∀ a x, ((![v123, v8, v126] : Fin 3 → IVec S16 32) a x).toNat < S50x1x512.size a)
theorem k2_idx108_inb : ∀ (v8 : IVec S16 32) (v123 : IVec S16 32) (v126 : IVec S16 32) (k2_hw108 : k2_chk108 v8 v123 v126), ∀ a x, ((![v123, v8, v126] : Fin 3 → IVec S16 32) a x).toNat < S50x1x512.size a := fun v8 v123 v126 k2_hw108 => k2_hw108
def k2_off223 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v128 : Index := Scalar.indexCast arg11
  let c0_i32_55 : BitVec 32 := 0#32
  let v129 : Index := Scalar.indexCast c0_i32_55
  let c176 : Index := 176#32
  ![v128.toNat, 0, 176]
def k2_off224 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v131 : Index := Scalar.indexCast arg11
  let c704 : Index := 704#32
  ![v131.toNat, 704]

def k2_chk109 (v8 : IVec S16 32) (v132 : IVec S16 32) (v135 : IVec S16 32) : Prop :=
  (∀ a x, ((![v132, v8, v135] : Fin 3 → IVec S16 32) a x).toNat < S50x1x512.size a)
theorem k2_idx109_inb : ∀ (v8 : IVec S16 32) (v132 : IVec S16 32) (v135 : IVec S16 32) (k2_hw109 : k2_chk109 v8 v132 v135), ∀ a x, ((![v132, v8, v135] : Fin 3 → IVec S16 32) a x).toNat < S50x1x512.size a := fun v8 v132 v135 k2_hw109 => k2_hw109
def k2_off225 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v137 : Index := Scalar.indexCast arg11
  let c0_i32_56 : BitVec 32 := 0#32
  let v138 : Index := Scalar.indexCast c0_i32_56
  let c192 : Index := 192#32
  ![v137.toNat, 0, 192]
def k2_off226 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v140 : Index := Scalar.indexCast arg11
  let c720 : Index := 720#32
  ![v140.toNat, 720]

def k2_chk110 (v8 : IVec S16 32) (v141 : IVec S16 32) (v144 : IVec S16 32) : Prop :=
  (∀ a x, ((![v141, v8, v144] : Fin 3 → IVec S16 32) a x).toNat < S50x1x512.size a)
theorem k2_idx110_inb : ∀ (v8 : IVec S16 32) (v141 : IVec S16 32) (v144 : IVec S16 32) (k2_hw110 : k2_chk110 v8 v141 v144), ∀ a x, ((![v141, v8, v144] : Fin 3 → IVec S16 32) a x).toNat < S50x1x512.size a := fun v8 v141 v144 k2_hw110 => k2_hw110
def k2_off227 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v146 : Index := Scalar.indexCast arg11
  let c0_i32_57 : BitVec 32 := 0#32
  let v147 : Index := Scalar.indexCast c0_i32_57
  let c208 : Index := 208#32
  ![v146.toNat, 0, 208]
def k2_off228 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v149 : Index := Scalar.indexCast arg11
  let c736 : Index := 736#32
  ![v149.toNat, 736]

def k2_chk111 (v8 : IVec S16 32) (v150 : IVec S16 32) (v153 : IVec S16 32) : Prop :=
  (∀ a x, ((![v150, v8, v153] : Fin 3 → IVec S16 32) a x).toNat < S50x1x512.size a)
theorem k2_idx111_inb : ∀ (v8 : IVec S16 32) (v150 : IVec S16 32) (v153 : IVec S16 32) (k2_hw111 : k2_chk111 v8 v150 v153), ∀ a x, ((![v150, v8, v153] : Fin 3 → IVec S16 32) a x).toNat < S50x1x512.size a := fun v8 v150 v153 k2_hw111 => k2_hw111
def k2_off229 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v155 : Index := Scalar.indexCast arg11
  let c0_i32_58 : BitVec 32 := 0#32
  let v156 : Index := Scalar.indexCast c0_i32_58
  let c224 : Index := 224#32
  ![v155.toNat, 0, 224]
def k2_off230 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v158 : Index := Scalar.indexCast arg11
  let c752 : Index := 752#32
  ![v158.toNat, 752]

def k2_chk112 (v8 : IVec S16 32) (v159 : IVec S16 32) (v162 : IVec S16 32) : Prop :=
  (∀ a x, ((![v159, v8, v162] : Fin 3 → IVec S16 32) a x).toNat < S50x1x512.size a)
theorem k2_idx112_inb : ∀ (v8 : IVec S16 32) (v159 : IVec S16 32) (v162 : IVec S16 32) (k2_hw112 : k2_chk112 v8 v159 v162), ∀ a x, ((![v159, v8, v162] : Fin 3 → IVec S16 32) a x).toNat < S50x1x512.size a := fun v8 v159 v162 k2_hw112 => k2_hw112
def k2_off231 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v164 : Index := Scalar.indexCast arg11
  let c0_i32_59 : BitVec 32 := 0#32
  let v165 : Index := Scalar.indexCast c0_i32_59
  let c240 : Index := 240#32
  ![v164.toNat, 0, 240]
def k2_off232 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v167 : Index := Scalar.indexCast arg11
  let c768 : Index := 768#32
  ![v167.toNat, 768]

def k2_chk113 (v8 : IVec S16 32) (v168 : IVec S16 32) (v171 : IVec S16 32) : Prop :=
  (∀ a x, ((![v168, v8, v171] : Fin 3 → IVec S16 32) a x).toNat < S50x1x512.size a)
theorem k2_idx113_inb : ∀ (v8 : IVec S16 32) (v168 : IVec S16 32) (v171 : IVec S16 32) (k2_hw113 : k2_chk113 v8 v168 v171), ∀ a x, ((![v168, v8, v171] : Fin 3 → IVec S16 32) a x).toNat < S50x1x512.size a := fun v8 v168 v171 k2_hw113 => k2_hw113
def k2_off233 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v173 : Index := Scalar.indexCast arg11
  let c0_i32_60 : BitVec 32 := 0#32
  let v174 : Index := Scalar.indexCast c0_i32_60
  let c256 : Index := 256#32
  ![v173.toNat, 0, 256]
def k2_off234 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v176 : Index := Scalar.indexCast arg11
  let c784 : Index := 784#32
  ![v176.toNat, 784]

def k2_chk114 (v8 : IVec S16 32) (v177 : IVec S16 32) (v180 : IVec S16 32) : Prop :=
  (∀ a x, ((![v177, v8, v180] : Fin 3 → IVec S16 32) a x).toNat < S50x1x512.size a)
theorem k2_idx114_inb : ∀ (v8 : IVec S16 32) (v177 : IVec S16 32) (v180 : IVec S16 32) (k2_hw114 : k2_chk114 v8 v177 v180), ∀ a x, ((![v177, v8, v180] : Fin 3 → IVec S16 32) a x).toNat < S50x1x512.size a := fun v8 v177 v180 k2_hw114 => k2_hw114
def k2_off235 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v182 : Index := Scalar.indexCast arg11
  let c0_i32_61 : BitVec 32 := 0#32
  let v183 : Index := Scalar.indexCast c0_i32_61
  let c272 : Index := 272#32
  ![v182.toNat, 0, 272]
def k2_off236 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v185 : Index := Scalar.indexCast arg11
  let c800 : Index := 800#32
  ![v185.toNat, 800]

def k2_chk115 (v8 : IVec S16 32) (v186 : IVec S16 32) (v189 : IVec S16 32) : Prop :=
  (∀ a x, ((![v186, v8, v189] : Fin 3 → IVec S16 32) a x).toNat < S50x1x512.size a)
theorem k2_idx115_inb : ∀ (v8 : IVec S16 32) (v186 : IVec S16 32) (v189 : IVec S16 32) (k2_hw115 : k2_chk115 v8 v186 v189), ∀ a x, ((![v186, v8, v189] : Fin 3 → IVec S16 32) a x).toNat < S50x1x512.size a := fun v8 v186 v189 k2_hw115 => k2_hw115
def k2_off237 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v191 : Index := Scalar.indexCast arg11
  let c0_i32_62 : BitVec 32 := 0#32
  let v192 : Index := Scalar.indexCast c0_i32_62
  let c288 : Index := 288#32
  ![v191.toNat, 0, 288]
def k2_off238 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v194 : Index := Scalar.indexCast arg11
  let c816 : Index := 816#32
  ![v194.toNat, 816]

def k2_chk116 (v8 : IVec S16 32) (v195 : IVec S16 32) (v198 : IVec S16 32) : Prop :=
  (∀ a x, ((![v195, v8, v198] : Fin 3 → IVec S16 32) a x).toNat < S50x1x512.size a)
theorem k2_idx116_inb : ∀ (v8 : IVec S16 32) (v195 : IVec S16 32) (v198 : IVec S16 32) (k2_hw116 : k2_chk116 v8 v195 v198), ∀ a x, ((![v195, v8, v198] : Fin 3 → IVec S16 32) a x).toNat < S50x1x512.size a := fun v8 v195 v198 k2_hw116 => k2_hw116
def k2_off239 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v200 : Index := Scalar.indexCast arg11
  let c0_i32_63 : BitVec 32 := 0#32
  let v201 : Index := Scalar.indexCast c0_i32_63
  let c304 : Index := 304#32
  ![v200.toNat, 0, 304]
def k2_off240 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v203 : Index := Scalar.indexCast arg11
  let c832 : Index := 832#32
  ![v203.toNat, 832]

def k2_chk117 (v8 : IVec S16 32) (v204 : IVec S16 32) (v207 : IVec S16 32) : Prop :=
  (∀ a x, ((![v204, v8, v207] : Fin 3 → IVec S16 32) a x).toNat < S50x1x512.size a)
theorem k2_idx117_inb : ∀ (v8 : IVec S16 32) (v204 : IVec S16 32) (v207 : IVec S16 32) (k2_hw117 : k2_chk117 v8 v204 v207), ∀ a x, ((![v204, v8, v207] : Fin 3 → IVec S16 32) a x).toNat < S50x1x512.size a := fun v8 v204 v207 k2_hw117 => k2_hw117
def k2_off241 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v209 : Index := Scalar.indexCast arg11
  let c0_i32_64 : BitVec 32 := 0#32
  let v210 : Index := Scalar.indexCast c0_i32_64
  let c320 : Index := 320#32
  ![v209.toNat, 0, 320]
def k2_off242 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v212 : Index := Scalar.indexCast arg11
  let c848 : Index := 848#32
  ![v212.toNat, 848]

def k2_chk118 (v8 : IVec S16 32) (v213 : IVec S16 32) (v216 : IVec S16 32) : Prop :=
  (∀ a x, ((![v213, v8, v216] : Fin 3 → IVec S16 32) a x).toNat < S50x1x512.size a)
theorem k2_idx118_inb : ∀ (v8 : IVec S16 32) (v213 : IVec S16 32) (v216 : IVec S16 32) (k2_hw118 : k2_chk118 v8 v213 v216), ∀ a x, ((![v213, v8, v216] : Fin 3 → IVec S16 32) a x).toNat < S50x1x512.size a := fun v8 v213 v216 k2_hw118 => k2_hw118
def k2_off243 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v218 : Index := Scalar.indexCast arg11
  let c0_i32_65 : BitVec 32 := 0#32
  let v219 : Index := Scalar.indexCast c0_i32_65
  let c336 : Index := 336#32
  ![v218.toNat, 0, 336]
def k2_off244 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v221 : Index := Scalar.indexCast arg11
  let c864 : Index := 864#32
  ![v221.toNat, 864]

def k2_chk119 (v8 : IVec S16 32) (v222 : IVec S16 32) (v225 : IVec S16 32) : Prop :=
  (∀ a x, ((![v222, v8, v225] : Fin 3 → IVec S16 32) a x).toNat < S50x1x512.size a)
theorem k2_idx119_inb : ∀ (v8 : IVec S16 32) (v222 : IVec S16 32) (v225 : IVec S16 32) (k2_hw119 : k2_chk119 v8 v222 v225), ∀ a x, ((![v222, v8, v225] : Fin 3 → IVec S16 32) a x).toNat < S50x1x512.size a := fun v8 v222 v225 k2_hw119 => k2_hw119
def k2_off245 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v227 : Index := Scalar.indexCast arg11
  let c0_i32_66 : BitVec 32 := 0#32
  let v228 : Index := Scalar.indexCast c0_i32_66
  let c352 : Index := 352#32
  ![v227.toNat, 0, 352]
def k2_off246 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v230 : Index := Scalar.indexCast arg11
  let c880 : Index := 880#32
  ![v230.toNat, 880]

def k2_chk120 (v8 : IVec S16 32) (v231 : IVec S16 32) (v234 : IVec S16 32) : Prop :=
  (∀ a x, ((![v231, v8, v234] : Fin 3 → IVec S16 32) a x).toNat < S50x1x512.size a)
theorem k2_idx120_inb : ∀ (v8 : IVec S16 32) (v231 : IVec S16 32) (v234 : IVec S16 32) (k2_hw120 : k2_chk120 v8 v231 v234), ∀ a x, ((![v231, v8, v234] : Fin 3 → IVec S16 32) a x).toNat < S50x1x512.size a := fun v8 v231 v234 k2_hw120 => k2_hw120
def k2_off247 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v236 : Index := Scalar.indexCast arg11
  let c0_i32_67 : BitVec 32 := 0#32
  let v237 : Index := Scalar.indexCast c0_i32_67
  let c368 : Index := 368#32
  ![v236.toNat, 0, 368]
def k2_off248 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v239 : Index := Scalar.indexCast arg11
  let c896 : Index := 896#32
  ![v239.toNat, 896]

def k2_chk121 (v8 : IVec S16 32) (v240 : IVec S16 32) (v243 : IVec S16 32) : Prop :=
  (∀ a x, ((![v240, v8, v243] : Fin 3 → IVec S16 32) a x).toNat < S50x1x512.size a)
theorem k2_idx121_inb : ∀ (v8 : IVec S16 32) (v240 : IVec S16 32) (v243 : IVec S16 32) (k2_hw121 : k2_chk121 v8 v240 v243), ∀ a x, ((![v240, v8, v243] : Fin 3 → IVec S16 32) a x).toNat < S50x1x512.size a := fun v8 v240 v243 k2_hw121 => k2_hw121
def k2_off249 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v245 : Index := Scalar.indexCast arg11
  let c0_i32_68 : BitVec 32 := 0#32
  let v246 : Index := Scalar.indexCast c0_i32_68
  let c384 : Index := 384#32
  ![v245.toNat, 0, 384]
def k2_off250 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v248 : Index := Scalar.indexCast arg11
  let c912 : Index := 912#32
  ![v248.toNat, 912]

def k2_chk122 (v8 : IVec S16 32) (v249 : IVec S16 32) (v252 : IVec S16 32) : Prop :=
  (∀ a x, ((![v249, v8, v252] : Fin 3 → IVec S16 32) a x).toNat < S50x1x512.size a)
theorem k2_idx122_inb : ∀ (v8 : IVec S16 32) (v249 : IVec S16 32) (v252 : IVec S16 32) (k2_hw122 : k2_chk122 v8 v249 v252), ∀ a x, ((![v249, v8, v252] : Fin 3 → IVec S16 32) a x).toNat < S50x1x512.size a := fun v8 v249 v252 k2_hw122 => k2_hw122
def k2_off251 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v254 : Index := Scalar.indexCast arg11
  let c0_i32_69 : BitVec 32 := 0#32
  let v255 : Index := Scalar.indexCast c0_i32_69
  let c400 : Index := 400#32
  ![v254.toNat, 0, 400]
def k2_off252 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v257 : Index := Scalar.indexCast arg11
  let c928 : Index := 928#32
  ![v257.toNat, 928]

def k2_chk123 (v8 : IVec S16 32) (v258 : IVec S16 32) (v261 : IVec S16 32) : Prop :=
  (∀ a x, ((![v258, v8, v261] : Fin 3 → IVec S16 32) a x).toNat < S50x1x512.size a)
theorem k2_idx123_inb : ∀ (v8 : IVec S16 32) (v258 : IVec S16 32) (v261 : IVec S16 32) (k2_hw123 : k2_chk123 v8 v258 v261), ∀ a x, ((![v258, v8, v261] : Fin 3 → IVec S16 32) a x).toNat < S50x1x512.size a := fun v8 v258 v261 k2_hw123 => k2_hw123
def k2_off253 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v263 : Index := Scalar.indexCast arg11
  let c0_i32_70 : BitVec 32 := 0#32
  let v264 : Index := Scalar.indexCast c0_i32_70
  let c416 : Index := 416#32
  ![v263.toNat, 0, 416]
def k2_off254 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v266 : Index := Scalar.indexCast arg11
  let c944 : Index := 944#32
  ![v266.toNat, 944]

def k2_chk124 (v8 : IVec S16 32) (v267 : IVec S16 32) (v270 : IVec S16 32) : Prop :=
  (∀ a x, ((![v267, v8, v270] : Fin 3 → IVec S16 32) a x).toNat < S50x1x512.size a)
theorem k2_idx124_inb : ∀ (v8 : IVec S16 32) (v267 : IVec S16 32) (v270 : IVec S16 32) (k2_hw124 : k2_chk124 v8 v267 v270), ∀ a x, ((![v267, v8, v270] : Fin 3 → IVec S16 32) a x).toNat < S50x1x512.size a := fun v8 v267 v270 k2_hw124 => k2_hw124
def k2_off255 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v272 : Index := Scalar.indexCast arg11
  let c0_i32_71 : BitVec 32 := 0#32
  let v273 : Index := Scalar.indexCast c0_i32_71
  let c432 : Index := 432#32
  ![v272.toNat, 0, 432]
def k2_off256 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v275 : Index := Scalar.indexCast arg11
  let c960 : Index := 960#32
  ![v275.toNat, 960]

def k2_chk125 (v8 : IVec S16 32) (v276 : IVec S16 32) (v279 : IVec S16 32) : Prop :=
  (∀ a x, ((![v276, v8, v279] : Fin 3 → IVec S16 32) a x).toNat < S50x1x512.size a)
theorem k2_idx125_inb : ∀ (v8 : IVec S16 32) (v276 : IVec S16 32) (v279 : IVec S16 32) (k2_hw125 : k2_chk125 v8 v276 v279), ∀ a x, ((![v276, v8, v279] : Fin 3 → IVec S16 32) a x).toNat < S50x1x512.size a := fun v8 v276 v279 k2_hw125 => k2_hw125
def k2_off257 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v281 : Index := Scalar.indexCast arg11
  let c0_i32_72 : BitVec 32 := 0#32
  let v282 : Index := Scalar.indexCast c0_i32_72
  let c448 : Index := 448#32
  ![v281.toNat, 0, 448]
def k2_off258 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v284 : Index := Scalar.indexCast arg11
  let c976 : Index := 976#32
  ![v284.toNat, 976]

def k2_chk126 (v8 : IVec S16 32) (v285 : IVec S16 32) (v288 : IVec S16 32) : Prop :=
  (∀ a x, ((![v285, v8, v288] : Fin 3 → IVec S16 32) a x).toNat < S50x1x512.size a)
theorem k2_idx126_inb : ∀ (v8 : IVec S16 32) (v285 : IVec S16 32) (v288 : IVec S16 32) (k2_hw126 : k2_chk126 v8 v285 v288), ∀ a x, ((![v285, v8, v288] : Fin 3 → IVec S16 32) a x).toNat < S50x1x512.size a := fun v8 v285 v288 k2_hw126 => k2_hw126
def k2_off259 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v290 : Index := Scalar.indexCast arg11
  let c0_i32_73 : BitVec 32 := 0#32
  let v291 : Index := Scalar.indexCast c0_i32_73
  let c464 : Index := 464#32
  ![v290.toNat, 0, 464]
def k2_off260 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v293 : Index := Scalar.indexCast arg11
  let c992 : Index := 992#32
  ![v293.toNat, 992]

def k2_chk127 (v8 : IVec S16 32) (v294 : IVec S16 32) (v297 : IVec S16 32) : Prop :=
  (∀ a x, ((![v294, v8, v297] : Fin 3 → IVec S16 32) a x).toNat < S50x1x512.size a)
theorem k2_idx127_inb : ∀ (v8 : IVec S16 32) (v294 : IVec S16 32) (v297 : IVec S16 32) (k2_hw127 : k2_chk127 v8 v294 v297), ∀ a x, ((![v294, v8, v297] : Fin 3 → IVec S16 32) a x).toNat < S50x1x512.size a := fun v8 v294 v297 k2_hw127 => k2_hw127
def k2_off261 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v299 : Index := Scalar.indexCast arg11
  let c0_i32_74 : BitVec 32 := 0#32
  let v300 : Index := Scalar.indexCast c0_i32_74
  let c480 : Index := 480#32
  ![v299.toNat, 0, 480]
def k2_off262 (k2_t6 : Fin k2_t6_loop.trips) : Fin 2 → Nat :=
  let c0_i32_36 : BitVec 32 := 0#32
  let c1_i32_38 : BitVec 32 := 1#32
  let arg11 : BitVec 32 := Scf.iv c0_i32_36 c1_i32_38 k2_t6
  let v302 : Index := Scalar.indexCast arg11
  let c1008 : Index := 1008#32
  ![v302.toNat, 1008]

def k2_chk128 (v8 : IVec S16 32) (v303 : IVec S16 32) (v306 : IVec S16 32) : Prop :=
  (∀ a x, ((![v303, v8, v306] : Fin 3 → IVec S16 32) a x).toNat < S50x1x512.size a)
theorem k2_idx128_inb : ∀ (v8 : IVec S16 32) (v303 : IVec S16 32) (v306 : IVec S16 32) (k2_hw128 : k2_chk128 v8 v303 v306), ∀ a x, ((![v303, v8, v306] : Fin 3 → IVec S16 32) a x).toNat < S50x1x512.size a := fun v8 v303 v306 k2_hw128 => k2_hw128
def k2_off263 (k2_t6 : Fin k2_t6_loop.trips) : Fin 3 → Nat :=
  let c0_i32_36 : BitVec 32 := 0#32
  let c1_i32_38 : BitVec 32 := 1#32
  let arg11 : BitVec 32 := Scf.iv c0_i32_36 c1_i32_38 k2_t6
  let v308 : Index := Scalar.indexCast arg11
  let c0_i32_75 : BitVec 32 := 0#32
  let v309 : Index := Scalar.indexCast c0_i32_75
  let c496 : Index := 496#32
  ![v308.toNat, 0, 496]
def k2_off264 (i : grid2.Coords) : Fin 3 → Nat :=
  let c0_i32_42_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let v16 : BitVec 32 := Scalar.addi v1 c0_i32_27
  let c512_i32_43_r4 : BitVec 32 := 512#32
  ![0, v16.toNat, 512]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeRefIdeal.lean ====
abbrev S1024x5x128 : Shape := ⟨3, ![1024, 5, 128]⟩
abbrev S1024x50x128 : Shape := ⟨3, ![1024, 50, 128]⟩
abbrev S1024x50x32x32 : Shape := ⟨4, ![1024, 50, 32, 32]⟩
abbrev S1024x50x32 : Shape := ⟨3, ![1024, 50, 32]⟩
abbrev S1024x50x1 : Shape := ⟨3, ![1024, 50, 1]⟩
abbrev S128x128 : Shape := ⟨2, ![128, 128]⟩
abbrev S128 : Shape := ⟨1, ![128]⟩
abbrev S_ : Shape := ⟨0, ![]⟩
abbrev S1x1x50 : Shape := ⟨3, ![1, 1, 50]⟩
abbrev S1 : Shape := ⟨1, ![1]⟩
abbrev S1x1x5 : Shape := ⟨3, ![1, 1, 5]⟩
abbrev S1x1x128 : Shape := ⟨3, ![1, 1, 128]⟩
abbrev S1024x5 : Shape := ⟨2, ![1024, 5]⟩
abbrev S1024x5x1 : Shape := ⟨3, ![1024, 5, 1]⟩
abbrev S1024x50 : Shape := ⟨2, ![1024, 50]⟩
abbrev S1024x5x50 : Shape := ⟨3, ![1024, 5, 50]⟩
abbrev S1024x1x50 : Shape := ⟨3, ![1024, 1, 50]⟩
abbrev S1024x5x5 : Shape := ⟨3, ![1024, 5, 5]⟩
abbrev S1024 : Shape := ⟨1, ![1024]⟩
abbrev S1024x1x1 : Shape := ⟨3, ![1024, 1, 1]⟩
abbrev S1024x5x5x1 : Shape := ⟨4, ![1024, 5, 5, 1]⟩
abbrev S1024x5x5x2 : Shape := ⟨4, ![1024, 5, 5, 2]⟩
abbrev S1024x5x5x32x32 : Shape := ⟨5, ![1024, 5, 5, 32, 32]⟩
abbrev S1024x5x5x32 : Shape := ⟨4, ![1024, 5, 5, 32]⟩

abbrev nBuf : Space → Nat
  | .hbm => 99
  | .vmem => 0
  | .smem => 0
  | _ => 0

abbrev bufTy : (tb : Table) → Fin (tcTables nBuf tb) → BufTy
  | .hbm, ⟨0, _⟩ => ⟨S1024x5x128, .f32⟩
  | .hbm, ⟨1, _⟩ => ⟨S1024x50x128, .f32⟩
  | .hbm, ⟨2, _⟩ => ⟨S1024x50x32x32, .f32⟩
  | .hbm, ⟨3, _⟩ => ⟨S1024x50x32, .f32⟩
  | .hbm, ⟨4, _⟩ => ⟨S1024x50x1, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1x1x50, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S1x1x5, .f32⟩
  | .hbm, ⟨13, _⟩ => ⟨S1x1x50, .f32⟩
  | .hbm, ⟨14, _⟩ => ⟨S128x128, .f32⟩
  | .hbm, ⟨15, _⟩ => ⟨S1024x5x128, .f32⟩
  | .hbm, ⟨16, _⟩ => ⟨S1x1x128, .f32⟩
  | .hbm, ⟨17, _⟩ => ⟨S1024x5x128, .f32⟩
  | .hbm, ⟨18, _⟩ => ⟨S1024x5x128, .f32⟩
  | .hbm, ⟨19, _⟩ => ⟨S1024x5x128, .f32⟩
  | .hbm, ⟨20, _⟩ => ⟨S_, .f32⟩
  | .hbm, ⟨21, _⟩ => ⟨S1024x5, .f32⟩
  | .hbm, ⟨22, _⟩ => ⟨S1024x5x1, .f32⟩
  | .hbm, ⟨23, _⟩ => ⟨S1024x5x1, .f32⟩
  | .hbm, ⟨24, _⟩ => ⟨S_, .f32⟩
  | .hbm, ⟨25, _⟩ => ⟨S1024x5x1, .f32⟩
  | .hbm, ⟨26, _⟩ => ⟨S1024x5x1, .f32⟩
  | .hbm, ⟨27, _⟩ => ⟨S1024x5x128, .f32⟩
  | .hbm, ⟨28, _⟩ => ⟨S1024x5x128, .f32⟩
  | .hbm, ⟨29, _⟩ => ⟨S128x128, .f32⟩
  | .hbm, ⟨30, _⟩ => ⟨S1024x50x128, .f32⟩
  | .hbm, ⟨31, _⟩ => ⟨S1x1x128, .f32⟩
  | .hbm, ⟨32, _⟩ => ⟨S1024x50x128, .f32⟩
  | .hbm, ⟨33, _⟩ => ⟨S1024x50x128, .f32⟩
  | .hbm, ⟨34, _⟩ => ⟨S1024x50x128, .f32⟩
  | .hbm, ⟨35, _⟩ => ⟨S_, .f32⟩
  | .hbm, ⟨36, _⟩ => ⟨S1024x50, .f32⟩
  | .hbm, ⟨37, _⟩ => ⟨S1024x50x1, .f32⟩
  | .hbm, ⟨38, _⟩ => ⟨S1024x50x1, .f32⟩
  | .hbm, ⟨39, _⟩ => ⟨S_, .f32⟩
  | .hbm, ⟨40, _⟩ => ⟨S1024x50x1, .f32⟩
  | .hbm, ⟨41, _⟩ => ⟨S1024x50x1, .f32⟩
  | .hbm, ⟨42, _⟩ => ⟨S1024x50x128, .f32⟩
  | .hbm, ⟨43, _⟩ => ⟨S1024x50x128, .f32⟩
  | .hbm, ⟨44, _⟩ => ⟨S1024x5x50, .f32⟩
  | .hbm, ⟨45, _⟩ => ⟨S1024x1x50, .f32⟩
  | .hbm, ⟨46, _⟩ => ⟨S1024x1x50, .f32⟩
  | .hbm, ⟨47, _⟩ => ⟨S1024x1x50, .f32⟩
  | .hbm, ⟨48, _⟩ => ⟨S_, .f32⟩
  | .hbm, ⟨49, _⟩ => ⟨S1024x1x50, .f32⟩
  | .hbm, ⟨50, _⟩ => ⟨S1024x1x50, .i1⟩
  | .hbm, ⟨51, _⟩ => ⟨S1024x1x50, .i1⟩
  | .hbm, ⟨52, _⟩ => ⟨S_, .f32⟩
  | .hbm, ⟨53, _⟩ => ⟨S_, .f32⟩
  | .hbm, ⟨54, _⟩ => ⟨S1024x5x50, .i1⟩
  | .hbm, ⟨55, _⟩ => ⟨S1024x5x50, .f32⟩
  | .hbm, ⟨56, _⟩ => ⟨S1024x5x50, .f32⟩
  | .hbm, ⟨57, _⟩ => ⟨S1024x5x5, .f32⟩
  | .hbm, ⟨58, _⟩ => ⟨S1024x5x5, .i32⟩
  | .hbm, ⟨59, _⟩ => ⟨S1024, .i32⟩
  | .hbm, ⟨60, _⟩ => ⟨S1024x1x1, .i32⟩
  | .hbm, ⟨61, _⟩ => ⟨S_, .i32⟩
  | .hbm, ⟨62, _⟩ => ⟨S1024x1x1, .i32⟩
  | .hbm, ⟨63, _⟩ => ⟨S1024x1x1, .i1⟩
  | .hbm, ⟨64, _⟩ => ⟨S_, .i32⟩
  | .hbm, ⟨65, _⟩ => ⟨S1024x1x1, .i32⟩
  | .hbm, ⟨66, _⟩ => ⟨S1024x1x1, .i32⟩
  | .hbm, ⟨67, _⟩ => ⟨S1024x1x1, .i32⟩
  | .hbm, ⟨68, _⟩ => ⟨S_, .i32⟩
  | .hbm, ⟨69, _⟩ => ⟨S1024x5x5, .i32⟩
  | .hbm, ⟨70, _⟩ => ⟨S1024x5x5, .i1⟩
  | .hbm, ⟨71, _⟩ => ⟨S_, .i32⟩
  | .hbm, ⟨72, _⟩ => ⟨S1024x5x5, .i32⟩
  | .hbm, ⟨73, _⟩ => ⟨S1024x5x5, .i32⟩
  | .hbm, ⟨74, _⟩ => ⟨S1024x5x5, .i32⟩
  | .hbm, ⟨75, _⟩ => ⟨S1024x5x5, .i32⟩
  | .hbm, ⟨76, _⟩ => ⟨S1024x5x5x1, .i32⟩
  | .hbm, ⟨77, _⟩ => ⟨S1024x5x5x1, .i32⟩
  | .hbm, ⟨78, _⟩ => ⟨S1024x5x5x2, .i32⟩
  | .hbm, ⟨79, _⟩ => ⟨S1024x5x5x32x32, .f32⟩
  | .hbm, ⟨80, _⟩ => ⟨S_, .i32⟩
  | .hbm, ⟨81, _⟩ => ⟨S1024x1x1, .i32⟩
  | .hbm, ⟨82, _⟩ => ⟨S1024x1x1, .i1⟩
  | .hbm, ⟨83, _⟩ => ⟨S_, .i32⟩
  | .hbm, ⟨84, _⟩ => ⟨S1024x1x1, .i32⟩
  | .hbm, ⟨85, _⟩ => ⟨S1024x1x1, .i32⟩
  | .hbm, ⟨86, _⟩ => ⟨S1024x1x1, .i32⟩
  | .hbm, ⟨87, _⟩ => ⟨S_, .i32⟩
  | .hbm, ⟨88, _⟩ => ⟨S1024x5x5, .i32⟩
  | .hbm, ⟨89, _⟩ => ⟨S1024x5x5, .i1⟩
  | .hbm, ⟨90, _⟩ => ⟨S_, .i32⟩
  | .hbm, ⟨91, _⟩ => ⟨S1024x5x5, .i32⟩
  | .hbm, ⟨92, _⟩ => ⟨S1024x5x5, .i32⟩
  | .hbm, ⟨93, _⟩ => ⟨S1024x5x5, .i32⟩
  | .hbm, ⟨94, _⟩ => ⟨S1024x5x5, .i32⟩
  | .hbm, ⟨95, _⟩ => ⟨S1024x5x5x1, .i32⟩
  | .hbm, ⟨96, _⟩ => ⟨S1024x5x5x1, .i32⟩
  | .hbm, ⟨97, _⟩ => ⟨S1024x5x5x2, .i32⟩
  | .hbm, ⟨98, _⟩ => ⟨S1024x5x5x32, .f32⟩
  | _, _ => ⟨S1024x5x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v31 : Ref sig .tc := ⟨.hbm, 56, rfl⟩
abbrev main_values : Ref sig .tc := ⟨.hbm, 57, rfl⟩
abbrev main_indices : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== Proof.Chunk.lean ====
/-
  One lane block of the gather, for any signature: sixteen slots are read from a row of the slot table, sixteen elements
  are gathered from the slab at these slots, and stored in the same row of the out buffer. A row of the out buffer is
  32 such blocks. The printed kernel writes the 32 blocks out; `rowFrom` is the same program as a recursion, and
  `wp_rowFrom` (in the module after this) says what it leaves.
-/
module

public import Idealize.ShloMosaic.Lib.SparseCore.Ops
public import Idealize.ShloMosaic.Lib.Writes
public import Idealize.ShloMosaic.Lib.Scf
public import Idealize.ShloMosaic.Lib.Pipeline.Value
public import Idealize.ShloMosaic.Lib.ValueLayout
public import Idealize.ShloMosaic.Lib.Tactic

@[expose] public section

noncomputable section

namespace Cert.Gather

open Idealize.ShloMosaic
open Idealize.SL
open Idealize.SL.BI (sProp)
open scoped Idealize.SL.BI
open Idealize.SL.BI.BIBase Idealize.SL.BI.Laws Idealize.SL.Sem Idealize.SL.ProofMode
open Idealize.SL.RA

/-- The slot table in a tile: 25 rows of 1024 lanes. -/
abbrev TIdx : Shape := ⟨2, ![25, 1024]⟩
/-- The slab: 50 slots of 512 lanes. -/
abbrev TSlab : Shape := ⟨3, ![50, 1, 512]⟩
/-- The out buffer: 25 rows of 512 lanes. -/
abbrev TOut : Shape := ⟨3, ![25, 1, 512]⟩
/-- Sixteen lanes. -/
abbrev L16 : Shape := ⟨1, ![16]⟩
abbrev L1x16 : Shape := ⟨2, ![1, 16]⟩
abbrev L1x1x16 : Shape := ⟨3, ![1, 1, 16]⟩

section Programs

variable {nD : Nat} {τ : Topo} {sig : RefSig} {Λ : Labels} {F : FTy → Type} [FloatOps F]

theorem pos1x16 : 0 < L1x16.numel := by decide
theorem pos1x1x16 : 0 < L1x1x16.numel := by decide

/-- The lane numbers `o, …, o + 15`. -/
def lanes (o : Nat) : IVec L16 32 :=
  addi (iota .scVector L16 32 [0] (by decide)) (broadcast L16 (BitVec.ofNat 32 o))

theorem idx_inb {n o : Nat} (hn : n < 25) (ho : o + 16 ≤ 1024) : ∀ a, (![n, o] : Fin 2 → Nat) a + L1x16.size a ≤ TIdx.size a := by
  intro a; match a with
  | 0 => exact hn
  | 1 => exact ho

theorem out_inb {n o : Nat} (hn : n < 25) (ho : o + 16 ≤ 512) : ∀ a, (![n, 0, o] : Fin 3 → Nat) a + L1x1x16.size a ≤ TOut.size a := by
  intro a; match a with
  | 0 => exact hn
  | 1 => exact Nat.le_refl 1
  | 2 => exact ho

/-- The sixteen lanes of row `n` from lane `o` of the slot table. -/
abbrev idxRect (n o : Nat) (hn : n < 25) (ho : o + 16 ≤ 1024) : Rect TIdx := Rect.unit (s := TIdx) ![n, o] L1x16.size (idx_inb hn ho)
/-- The sixteen lanes of row `n` from lane `o` of the out buffer. -/
abbrev outRect (n o : Nat) (hn : n < 25) (ho : o + 16 ≤ 512) : Rect TOut := Rect.unit (s := TOut) ![n, 0, o] L1x1x16.size (out_inb hn ho)

/-- What the body assumes of the three index vectors: each names a place of the slab. -/
abbrev InSlab (z h c : IVec L16 32) : Prop := ∀ a x, ((![h, z, c] : Fin 3 → IVec L16 32) a x).toNat < TSlab.size a

/-- One block: row `n`, slots from lane `o` of the slot table, results at lane `o'` of the out buffer. -/
def chunk (p : Proc τ) (a7 : Memref sig p.kind .vmem TIdx .i32) (a8 : Memref sig p.kind .vmem TSlab .f32) (a9 : Memref sig p.kind .vmem TOut .f32)
    (z : IVec L16 32) (n o o' : Nat) (hn : n < 25) (ho : o + 16 ≤ 1024) (ho' : o' + 16 ≤ 512) : Prog (TpuEff nD τ sig (Elt F) Λ p) PUnit := do
  let ld : Vec F L1x16 .i32 ← Prog.lift (.load a7 (idxRect n o hn ho).toLoadRect (View.loadsAt_vmem pos1x16))
  let w ← Prog.lift (TpuEff.assume (InSlab z (shapeCast L16 ld (by decide)) (lanes o'))
    (decidable_of_iff' (∀ a x, ((![shapeCast L16 ld (by decide), z, lanes o'] : Fin 3 → IVec L16 32) a x).toNat < TSlab.size a) Iff.rfl))
  let v : Vec F L16 .f32 ← SparseCore.vectorLoadIdx a8 ![shapeCast L16 ld (by decide), z, lanes o'] w.down (View.loads_vmem (by decide))
  let _ld : Vec F L1x1x16 .f32 ← Prog.lift (.load a9 (outRect n o' hn ho').toLoadRect (View.loadsAt_vmem pos1x1x16))
  Prog.lift (.store a9 (outRect n o' hn ho') (shapeCast L1x1x16 v (by decide)) Finset.univ (View.stores_vmem_bits_univ pos1x1x16 rfl) (.inl rfl))

/-- The last `k` of a row's 32 blocks, from block `v`; `b0` is the half's first lane in the slot table. -/
def rowFrom (p : Proc τ) (a7 : Memref sig p.kind .vmem TIdx .i32) (a8 : Memref sig p.kind .vmem TSlab .f32) (a9 : Memref sig p.kind .vmem TOut .f32)
    (z : IVec L16 32) (n b0 : Nat) (hn : n < 25) (hb : b0 + 512 ≤ 1024) : (k v : Nat) → v + k = 32 → Prog (TpuEff nD τ sig (Elt F) Λ p) (BitVec 32)
  | 0, _, _ => pure 0#32
  | k + 1, v, hv => do
    chunk p a7 a8 a9 z n (b0 + 16 * v) (16 * v) hn (by omega) (by omega)
    rowFrom p a7 a8 a9 z n b0 hn hb k (v + 1) (by omega)

end Programs

end Cert.Gather

end
-- ==== Proof.TileProg.lean ====
/-
  What one of the 32 tiles runs, for any signature: the slot table is fetched; then, for each of its 32 rows of the
  embedding table and each half of the lanes, the slab is fetched, the 25 rows of the out buffer are gathered from it,
  and the out buffer is written out; then the same for its one row of the mask table.
-/
module

public import proofs.«01_k».proof.Proof.Chunk

@[expose] public section

noncomputable section

namespace Cert.Gather

open Idealize.ShloMosaic Idealize.SL.Sem

/-- The embedding table, slots first and lanes (batch entries) last, and its gathered copy. -/
abbrev TEmb : Shape := ⟨3, ![50, 1024, 1024]⟩
abbrev TEmbOut : Shape := ⟨3, ![25, 1024, 1024]⟩
/-- The mask table and its gathered copy. -/
abbrev TMsk : Shape := ⟨3, ![50, 32, 1024]⟩
abbrev TMskOut : Shape := ⟨3, ![25, 32, 1024]⟩

/-- The 32 trips over a tile's rows, and the 25 over the rows of the out buffer. -/
@[reducible] def loop32 : Scf.Loop 32 := ⟨0#32, Scalar.addi 0#32 32#32, 1#32⟩
@[reducible] def loop25 : Scf.Loop 32 := ⟨0#32, Scalar.addi 0#32 25#32, 1#32⟩
theorem ok32 : loop32.OK := by decide
theorem ok25 : loop25.OK := by decide

/-- The trip's number, as the program computes it. -/
abbrev rowOf (k : Fin loop25.trips) : Nat := (Scalar.indexCast (Scf.iv (w := 32) 0#32 1#32 k)).toNat

theorem rowOf_eq (k : Fin loop25.trips) : rowOf k = k.val := by
  revert k; decide

theorem rowOf_lt (k : Fin loop25.trips) : rowOf k < 25 := by
  rw [rowOf_eq]; exact k.isLt

theorem slab_inb {a b n o : Nat} (hn : n < b) (ho : o + 512 ≤ 1024) :
    ∀ x, (![0, n, o] : Fin 3 → Nat) x + (![a, 1, 512] : Fin 3 → Nat) x ≤ (![a, b, 1024] : Fin 3 → Nat) x := by
  intro x; match x with
  | 0 => exact Nat.le_of_eq (Nat.zero_add _)
  | 1 => exact hn
  | 2 => exact ho

section Programs

variable {nD : Nat} {τ : Topo} {sig : RefSig} {Λ : Labels} {F : FTy → Type} [FloatOps F]
variable (c : Fin τ.nSC) (s : Fin τ.nSub)
variable (a2 : Memref sig .scVector .hbm TEmb .f32) (a3 : Memref sig .scVector .hbm TMsk .f32) (a4 : Memref sig .scVector .hbm TIdx .i32)
  (a5 : Memref sig .scVector .hbm TEmbOut .f32) (a6 : Memref sig .scVector .hbm TMskOut .f32)
  (a7 : Memref sig .scVector .vmem TIdx .i32) (a8 : Memref sig .scVector .vmem TSlab .f32) (a9 : Memref sig .scVector .vmem TOut .f32)
  (h4 : a4.IsWhole) (h7 : a7.IsWhole) (h8 : a8.IsWhole) (h9 : a9.IsWhole)

/-- The half of row `n` of a table (`b` rows) that starts at lane `o`: the slab's source. -/
abbrev slabOf {b : Nat} (t : Memref sig .scVector .hbm ⟨3, ![50, b, 1024]⟩ .f32) (n o : Nat) (hn : n < b) (ho : o + 512 ≤ 1024) : Memref sig .scVector .hbm TSlab .f32 :=
  t.slice (Rect.unit (s := ⟨3, ![50, b, 1024]⟩) ![0, n, o] TSlab.size (slab_inb (a := 50) hn ho)) (fun _ => rfl)

/-- The same half of a gathered copy: the out buffer's destination. -/
abbrev outOf {b : Nat} (t : Memref sig .scVector .hbm ⟨3, ![25, b, 1024]⟩ .f32) (n o : Nat) (hn : n < b) (ho : o + 512 ≤ 1024) : Memref sig .scVector .hbm TOut .f32 :=
  t.slice (Rect.unit (s := ⟨3, ![25, b, 1024]⟩) ![0, n, o] TOut.size (slab_inb (a := 25) hn ho)) (fun _ => rfl)

/-- The 25 rows of the out buffer. -/
def rows (o : Nat) (ho : o + 512 ≤ 1024) : Prog (TpuEff nD τ sig (Elt F) Λ (.scVector c s)) (BitVec 32) :=
  Scf.Loop.for loop25 ok25 0#32 fun k _ => rowFrom (.scVector c s) a7 a8 a9 (broadcast L16 0#32) (rowOf k) o (rowOf_lt k) ho 32 0 rfl

/-- Half a row of a table: fetched, gathered, written out. -/
def half {b : Nat} (d r : DmaSem sig) (t : Memref sig .scVector .hbm ⟨3, ![50, b, 1024]⟩ .f32) (u : Memref sig .scVector .hbm ⟨3, ![25, b, 1024]⟩ .f32)
    (n o : Nat) (hn : n < b) (ho : o + 512 ≤ 1024) : Prog (TpuEff nD τ sig (Elt F) Λ (.scVector c s)) PUnit := do
  Prog.lift (.enqueueDma (slabOf t n o hn ho) (.here a8) (.dma d) (View.wordExact_bits rfl) h8.wordExact ⟨Or.inl rfl, trivial⟩)
  Prog.lift (.waitDma2 d (slabOf t n o hn ho) a8 (View.wordExact_bits rfl) h8.wordExact)
  let _ ← rows c s a7 a8 a9 o ho
  Prog.lift (.enqueueDma a9 (.here (outOf u n o hn ho)) (.dma r) h9.wordExact (View.wordExact_bits rfl) ⟨Or.inl rfl, trivial⟩)
  Prog.lift (.waitDma2 r a9 (outOf u n o hn ho) h9.wordExact (View.wordExact_bits rfl))

/-- A tile's 32 half rows of the embedding table. -/
def halves (d r : DmaSem sig) (o : Nat) (ho : o + 512 ≤ 1024) (row : Fin loop32.trips → Nat) (hrow : ∀ k, row k < 1024) :
    Prog (TpuEff nD τ sig (Elt F) Λ (.scVector c s)) (BitVec 32) :=
  Scf.Loop.for loop32 ok32 0#32 fun k _ => do
    half c s a7 a8 a9 h8 h9 d r a2 a5 (row k) o (hrow k) ho
    pure 0#32

/-- The whole of a tile's task. -/
def task (d r0 r1 r2 r3 r4 : DmaSem sig) (row : Fin loop32.trips → Nat) (hrow : ∀ k, row k < 1024) (mrow : Nat) (hmrow : mrow < 32) :
    Prog (TpuEff nD τ sig (Elt F) Λ (.scVector c s)) PUnit := do
  Prog.lift (.enqueueDma a4 (.here a7) (.dma r0) h4.wordExact h7.wordExact ⟨Or.inl rfl, trivial⟩)
  Prog.lift (.waitDma2 r0 a4 a7 h4.wordExact h7.wordExact)
  let _ ← halves c s a2 a5 a7 a8 a9 h8 h9 d r1 0 (by decide) row hrow
  let _ ← halves c s a2 a5 a7 a8 a9 h8 h9 d r2 512 (by decide) row hrow
  half c s a7 a8 a9 h8 h9 d r3 a3 a6 mrow 0 hmrow (by decide)
  half c s a7 a8 a9 h8 h9 d r4 a3 a6 mrow 512 hmrow (by decide)

end Programs

end Cert.Gather

end
-- ==== Proof.BodyEq.lean ====
/-
  The printed body of the SparseCore kernel is the tile's task of TileProg.lean: both unfold to the same program.
-/
module

public import proofs.«01_k».proof.KernelIdeal
public import proofs.«01_k».proof.Proof.TileProg

@[expose] public section

noncomputable section

namespace Cert.KernelIdeal

open Idealize.ShloMosaic Idealize.SL.Sem
variable {F : FTy → Type} [FloatOps F] [Facts]
open Facts₀ Facts

/-- The rows of the embedding table that tile `i` takes, and its row of the mask table. -/
def embRow (i : grid0.Coords) (k : Fin Gather.loop32.trips) : Nat :=
  (Scalar.addi (Scalar.muli (Scalar.addi (Scalar.muli (BitVec.ofNat 32 (i 1).val) 2#32) (BitVec.ofNat 32 (i 0).val)) 32#32) (Scf.iv (w := 32) 0#32 1#32 k)).toNat
def mskRow (i : grid0.Coords) : Nat :=
  (Scalar.addi (Scalar.addi (Scalar.muli (BitVec.ofNat 32 (i 1).val) 2#32) (BitVec.ofNat 32 (i 0).val)) 0#32).toNat

theorem embRow_lt (i : grid0.Coords) (k : Fin Gather.loop32.trips) : embRow i k < 1024 := by
  have h := k0_off1_inb i k 1
  exact h
theorem mskRow_lt (i : grid0.Coords) : mskRow i < 32 := by
  have h := k0_off133_inb i 1
  exact h

variable (i : grid0.Coords) (arg2 : Memref sig .scVector .hbm S50x1024x1024 .f32) (harg2 : arg2.IsWhole) (arg3 : Memref sig .scVector .hbm S50x32x1024 .f32) (harg3 : arg3.IsWhole) (arg4 : Memref sig .scVector .hbm S25x1024 .i32) (harg4 : arg4.IsWhole) (arg5 : Memref sig .scVector .hbm S25x1024x1024 .f32) (harg5 : arg5.IsWhole) (arg6 : Memref sig .scVector .hbm S25x32x1024 .f32) (harg6 : arg6.IsWhole) (arg7 : Memref sig .scVector .vmem S25x1024 .i32) (harg7 : arg7.IsWhole) (arg8 : Memref sig .scVector .vmem S50x1x512 .f32) (harg8 : arg8.IsWhole) (arg9 : Memref sig .scVector .vmem S25x1x512 .f32) (harg9 : arg9.IsWhole) (arg10 : DmaSems sig S_) (v23_r0 : DmaSems sig S_) (v30_r1 : DmaSems sig S_) (v30_r2 : DmaSems sig S_) (v23_r3 : DmaSems sig S_) (v23_r4 : DmaSems sig S_)

set_option maxRecDepth 65536 in
theorem body_eq : cc0__sc_gather_body (F := F) i arg2 harg2 arg3 harg3 arg4 harg4 arg5 harg5 arg6 harg6 arg7 harg7 arg8 harg8 arg9 harg9 arg10 v23_r0 v30_r1 v30_r2 v23_r3 v23_r4
    = Gather.task (nD := nD) (Λ := Λ₀) ((i 0).castLE hcore0) ((i 1).castLE hsub0) arg2 arg3 arg4 arg5 arg6 arg7 arg8 arg9 harg4 harg7 harg8 harg9
        arg10.sem v23_r0.sem v30_r1.sem v30_r2.sem v23_r3.sem v23_r4.sem (embRow i) (embRow_lt i) (mskRow i) (mskRow_lt i) := by
  unfold cc0__sc_gather_body k0_part37 Gather.task Gather.halves Gather.half Gather.rows
  simp only [bind_assoc, pure_bind]
  rfl

end Cert.KernelIdeal

end
-- ==== Proof.Row.lean ====
/-
  What the lane blocks leave in the out buffer, for any signature and over any float values: `gat` is the gathered
  row, and each block makes sixteen further places of the buffer hold it (`wp_chunk`, `wp_rowFrom`).
-/
module

public import proofs.«01_k».proof.Proof.TileProg

@[expose] public section

noncomputable section

namespace Cert.Gather

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.ValueIdx

/-- Place `(k, 0, j)` of the gathered rows: the slab at the slot that the table names for row `k` and lane `b0 + j`. -/
def gat {α : Type} (b0 : Nat) (hb : b0 + 512 ≤ 1024) (T : TIdx.Idx → BitVec 32) (S : TSlab.Idx → α) (y : TOut.Idx) : α :=
  S (ix3 (⟨(T (ix2 (y 0) (⟨b0 + (y 2).val, by have := (y 2).isLt; have h : (y 2).val < 512 := this; omega⟩ : Fin 1024))).toNat % 50, Nat.mod_lt _ (by decide)⟩ : Fin 50)
    (0 : Fin 1) (y 2))

/-- The out buffer holds the gathered rows before row `n`, and row `n` up to lane `j`. -/
def Upto {α : Type} (n j : Nat) (X G : TOut.Idx → α) : Prop :=
  ∀ y : TOut.Idx, ((y 0).val < n ∨ ((y 0).val = n ∧ (y 2).val < j)) → X y = G y

theorem Upto.zero {α : Type} {X G : TOut.Idx → α} : Upto 0 0 X G := by
  intro y h; omega

theorem Upto.next {α : Type} {n : Nat} {X G : TOut.Idx → α} (h : Upto n 512 X G) : Upto (n + 1) 0 X G := by
  intro y hy
  refine h y ?_
  have h2 : (y 2).val < 512 := (y 2).isLt
  omega

theorem Upto.all {α : Type} {X G : TOut.Idx → α} (h : Upto 25 0 X G) : X = G :=
  funext fun y => h y (Or.inl (y 0).isLt)

/-- Lane `l` of the lane numbers from `o`. -/
theorem lanes_toNat (o : Nat) (ho : o + 16 ≤ 512) (l : L16.Idx) : (lanes o l).toNat = o + (l 0).val := by
  have hl : (l 0).val < 16 := (l 0).isLt
  show (BitVec.ofNat 32 (List.foldl _ _ _) + BitVec.ofNat 32 o).toNat = _
  rw [BitVec.toNat_add, BitVec.toNat_ofNat, BitVec.toNat_ofNat]
  simp only [List.foldl]
  have : (0 * L16.size 0 + (l 0).val) = (l 0).val := by omega
  omega

theorem cast16 : L1x16.ShapeCasts L16 := by decide
theorem cast1x16 : L16.ShapeCasts L1x1x16 := by decide

section Wp

variable {nD : Nat} {τ : Topo} {sig : RefSig} {Ix : Type} [DecidableEq Ix] {Name : Type} [DecidableEq Name] {U : Type} [URA U] {Lvl : Type} {Λ : Labels} {F : FTy → Type} [FloatOps F]
variable [Preorder Lvl] {defs : Defs nD τ sig (Elt F) Λ} (𝒱 : Variants) (thr : Thread nD τ) (bd : Option 𝒱.V) (E : Set Name)
variable (a7 : Memref sig thr.2.kind .vmem TIdx .i32) (a8 : Memref sig thr.2.kind .vmem TSlab .f32) (a9 : Memref sig thr.2.kind .vmem TOut .f32)

local notation "𝕄" => MT nD τ sig Ix (Elt F) Name U Lvl

/-- Every word of the slot table names a slot. -/
abbrev Slots (T : TIdx.Idx → BitVec 32) : Prop := ∀ i, (T i).toNat < 50

omit [FloatOps F] in
theorem inSlab_of {w : L16.Idx → BitVec 32} (hw : ∀ x, (w x).toNat < 50) {o : Nat} (ho : o + 16 ≤ 512) : InSlab (broadcast L16 0#32) w (lanes o) := by
  intro a x
  match a with
  | 0 => exact hw x
  | 1 => exact (by decide : (0#32).toNat < 1)
  | 2 =>
    show (lanes o x).toNat < 512
    rw [lanes_toNat o ho]
    have : (x 0).val < 16 := (x 0).isLt
    omega

/-- The same fact of the buffers: sixteen places written with what the block gathered. -/
theorem upto_write {κ : Kind} (a9 : Memref sig κ .vmem TOut .f32) (a7 : Memref sig κ .vmem TIdx .i32) (a8 : Memref sig κ .vmem TSlab .f32)
    {f7 : a7.view.ty.Contents (Elt F)} {f8 : a8.view.ty.Contents (Elt F)} {f9 : a9.view.ty.Contents (Elt F)}
    (hT : Slots (a7.view.read (Elt F) f7)) (n b0 v : Nat) (hn : n < 25) (hb : b0 + 512 ≤ 1024) (ho : b0 + 16 * v + 16 ≤ 1024) (ho' : 16 * v + 16 ≤ 512)
    (hin : InSlab (broadcast L16 0#32) (shapeCast L16 (a7.view.readAt (Elt F) (idxRect n (b0 + 16 * v) hn ho).toLoadRect f7) cast16) (lanes (16 * v)))
    (h9 : Upto n (16 * v) (a9.view.read (Elt F) f9) (gat b0 hb (a7.view.read (Elt F) f7) (a8.view.read (Elt F) f8))) :
    Upto n (16 * (v + 1))
      (a9.view.read (Elt F) (a9.view.writes (Elt F) f9 [⟨outRect n (16 * v) hn ho', shapeCast L1x1x16
        (loadIdx (a8.view.readAt (Elt F) (Rect.whole TSlab).toLoadRect f8)
          ![shapeCast L16 (a7.view.readAt (Elt F) (idxRect n (b0 + 16 * v) hn ho).toLoadRect f7) cast16, broadcast L16 0#32, lanes (16 * v)] hin) cast1x16⟩]))
      (gat b0 hb (a7.view.read (Elt F) f7) (a8.view.read (Elt F) f8)) := by
  intro y hy
  have h2 : (y 2).val < 512 := (y 2).isLt
  have h1 : (y 1).val < 1 := (y 1).isLt
  by_cases hlt : (y 0).val < n
  · refine (View.read_writes_cons_miss_of_axis _ _ _ _ _ 0 n 1 rfl rfl rfl (Or.inl hlt)).trans ?_
    exact h9 y (Or.inl hlt)
  by_cases hlt2 : (y 2).val < 16 * v
  · refine (View.read_writes_cons_miss_of_axis _ _ _ _ _ 2 (16 * v) 16 rfl rfl rfl (Or.inl hlt2)).trans ?_
    exact h9 y (Or.inr ⟨by omega, hlt2⟩)
  have hy0 : (y 0).val = n := by omega
  have hl : (y 2).val - 16 * v < 16 := by omega
  refine (View.read_writes_cons_hit_of_coords _ _ (outRect n (16 * v) hn ho') _ _ (ix3 (0 : Fin 1) (0 : Fin 1) (⟨(y 2).val - 16 * v, hl⟩ : Fin 16)) y ?_).trans ?_
  · intro a
    match a with
    | 0 => show (y 0).val = n + 1 * 0; omega
    | 1 => show (y 1).val = 0 + 1 * 0; omega
    | 2 => show (y 2).val = 16 * v + 1 * ((y 2).val - 16 * v); omega
  refine (shapeCast_apply _ cast1x16 _ (ix1 (⟨(y 2).val - 16 * v, hl⟩ : Fin 16)) (by
    rw [Shape.rowMajor_val_three, Shape.rowMajor_val_one]
    show (y 2).val - 16 * v = (0 * 1 + 0) * 16 + ((y 2).val - 16 * v)
    omega)).trans ?_
  have hw : shapeCast L16 (a7.view.readAt (Elt F) (idxRect n (b0 + 16 * v) hn ho).toLoadRect f7) cast16 (ix1 (⟨(y 2).val - 16 * v, hl⟩ : Fin 16))
      = a7.view.read (Elt F) f7 (ix2 (y 0) (⟨b0 + (y 2).val, by omega⟩ : Fin 1024)) := by
    refine (shapeCast_1a_a_apply _ cast16 _).trans ?_
    refine congrArg (a7.view.read (Elt F) f7) (Rect.emb_eq_of_coords (idxRect n (b0 + 16 * v) hn ho) _ _ ?_)
    intro a
    match a with
    | 0 => show (y 0).val = n + 1 * 0; omega
    | 1 => show b0 + (y 2).val = b0 + 16 * v + 1 * ((y 2).val - 16 * v); omega
  refine congrArg (a8.view.read (Elt F) f8) (Rect.emb_eq_of_coords (Rect.whole TSlab) _ _ ?_)
  intro a
  match a with
  | 0 =>
    show (a7.view.read (Elt F) f7 (ix2 (y 0) (⟨b0 + (y 2).val, by omega⟩ : Fin 1024))).toNat % 50
      = 0 + 1 * (shapeCast L16 (a7.view.readAt (Elt F) (idxRect n (b0 + 16 * v) hn ho).toLoadRect f7) cast16 (ix1 (⟨(y 2).val - 16 * v, hl⟩ : Fin 16))).toNat
    rw [hw, Nat.mod_eq_of_lt (hT _)]; omega
  | 1 => rfl
  | 2 =>
    show (y 2).val = 0 + 1 * (lanes (16 * v) (ix1 _)).toNat
    rw [lanes_toNat _ ho']
    show (y 2).val = 0 + 1 * (16 * v + ((y 2).val - 16 * v))
    omega

/-- One block makes sixteen further places hold the gathered row. -/
theorem wp_chunk {q7 q8 : PosShare TreeShare} {f7 : Buf (Elt F) (a7.view.loc thr)} {f8 : Buf (Elt F) (a8.view.loc thr)} {f9 : Buf (Elt F) (a9.view.loc thr)}
    (hT : Slots (a7.view.read (Elt F) f7)) (n b0 v : Nat) (hn : n < 25) (hb : b0 + 512 ≤ 1024) (ho : b0 + 16 * v + 16 ≤ 1024) (ho' : 16 * v + 16 ≤ 512)
    (h9 : Upto n (16 * v) (a9.view.read (Elt F) f9) (gat b0 hb (a7.view.read (Elt F) f7) (a8.view.read (Elt F) f8))) :
    (iprop((a7.view.loc thr ↦{q7} f7) ∗ (a8.view.loc thr ↦{q8} f8) ∗ (a9.view.loc thr ↦{fullShare} f9)) : sProp 𝕄)
      ⊢ wp frame (wpE defs 𝒱 thr bd) E (chunk (F := F) (nD := nD) (Λ := Λ) thr.2 a7 a8 a9 (broadcast L16 0#32) n (b0 + 16 * v) (16 * v) hn ho ho')
          (fun _ => iprop(∃ f, ⌜Upto n (16 * (v + 1)) (a9.view.read (Elt F) f) (gat b0 hb (a7.view.read (Elt F) f7) (a8.view.read (Elt F) f8))⌝
            ∗ (a7.view.loc thr ↦{q7} f7) ∗ (a8.view.loc thr ↦{q8} f8) ∗ (a9.view.loc thr ↦{fullShare} f))) := by
  iintro ⟨H7, H8, H9⟩
  unfold chunk
  iapply (wp_load 𝒱 thr bd E (m := a7) (r := (idxRect n (b0 + 16 * v) hn ho).toLoadRect) (S := Finset.univ) (Finset.subset_univ _)) $$ H7; iintro H7
  have hin : InSlab (broadcast L16 0#32) (shapeCast L16 (a7.view.readAt (Elt F) (idxRect n (b0 + 16 * v) hn ho).toLoadRect f7) cast16) (lanes (16 * v)) :=
    inSlab_of (fun x => hT _) ho'
  iapply (wp_assume 𝒱 thr bd E hin)
  iapply (wp_load 𝒱 thr bd E (m := a8) (r := (Rect.whole TSlab).toLoadRect) (S := Finset.univ) (Finset.subset_univ _)) $$ H8; iintro H8
  iapply (wp_load 𝒱 thr bd E (m := a9) (r := (outRect n (16 * v) hn ho').toLoadRect) (S := Finset.univ) (Finset.subset_univ _)) $$ H9; iintro H9
  iapply (wp_store_writes₀ 𝒱 thr bd E (m := a9) (r := outRect n (16 * v) hn ho') (S := Finset.univ) (Finset.subset_univ _)) $$ H9; iintro H9
  erw [wp_pure]
  imodintro
  iexists _
  isplitr
  rotate_left
  · isplitl [H7]; · iexact H7
    isplitl [H8]; · iexact H8
    iexact H9
  · ipureintro
    exact upto_write a9 a7 a8 hT n b0 v hn hb ho ho' hin h9

/-- The last `k` blocks of a row. -/
theorem wp_rowFrom {q7 q8 : PosShare TreeShare} {f7 : Buf (Elt F) (a7.view.loc thr)} {f8 : Buf (Elt F) (a8.view.loc thr)}
    (hT : Slots (a7.view.read (Elt F) f7)) (n b0 : Nat) (hn : n < 25) (hb : b0 + 512 ≤ 1024) (k : Nat) :
    ∀ (v : Nat) (hv : v + k = 32) (f9 : Buf (Elt F) (a9.view.loc thr)),
      Upto n (16 * v) (a9.view.read (Elt F) f9) (gat b0 hb (a7.view.read (Elt F) f7) (a8.view.read (Elt F) f8)) →
    (iprop((a7.view.loc thr ↦{q7} f7) ∗ (a8.view.loc thr ↦{q8} f8) ∗ (a9.view.loc thr ↦{fullShare} f9)) : sProp 𝕄)
      ⊢ wp frame (wpE defs 𝒱 thr bd) E (rowFrom (F := F) (nD := nD) (Λ := Λ) thr.2 a7 a8 a9 (broadcast L16 0#32) n b0 hn hb k v hv)
          (fun _ => iprop(∃ f, ⌜Upto (n + 1) 0 (a9.view.read (Elt F) f) (gat b0 hb (a7.view.read (Elt F) f7) (a8.view.read (Elt F) f8))⌝
            ∗ (a7.view.loc thr ↦{q7} f7) ∗ (a8.view.loc thr ↦{q8} f8) ∗ (a9.view.loc thr ↦{fullShare} f))) := by
  induction k with
  | zero =>
    intro v hv f9 h9
    have hv' : v = 32 := by omega
    subst hv'
    unfold rowFrom
    rw [wp_pure]
    iintro H
    imodintro
    iexists f9
    isplitr
    · ipureintro; exact Upto.next h9
    · iexact H
  | succ k ih =>
    intro v hv f9 h9
    unfold rowFrom
    rw [wp_bind]
    refine (wp_chunk 𝒱 thr bd E a7 a8 a9 hT n b0 v hn hb _ _ h9).trans (wp_mono _ _ _ ?_)
    intro _
    iintro ⟨%f, %hf, H⟩
    iapply (ih (v + 1) _ f hf)
    iexact H

end Wp

end Cert.Gather

end
-- ==== Proof.Tile.lean ====
/-
  What a tile's task leaves, for any signature and over any float values: every lane of its rows of the two results
  holds the table's element at the slot that the slot table names for this lane.
-/
module

public import proofs.«01_k».proof.Proof.Row
public import Idealize.ShloMosaic.Lib.Transfers
public import Idealize.ShloMosaic.Lib.SparseCore.Threads

@[expose] public section

noncomputable section

namespace Cert.Gather

open Idealize.ShloMosaic
open Idealize.ShloMosaic.SparseCore (V)
open Idealize.ShloMosaic.SparseCore.Cfg (HIx)
open Idealize.SL
open Idealize.SL.BI (sProp)
open scoped Idealize.SL.BI
open Idealize.SL.BI.BIBase Idealize.SL.BI.Laws Idealize.SL.Sem Idealize.SL.ProofMode
open Idealize.SL.RA
open Idealize.ShloMosaic.ValueIdx

/-- A table of `b` rows gathered along its first axis: lane `y 2` of row `y 1`, at the slot named for `y 0` and this lane. -/
def gatAll {α : Type} {b : Nat} (T : TIdx.Idx → BitVec 32) (X : (⟨3, ![50, b, 1024]⟩ : Shape).Idx → α) (y : (⟨3, ![25, b, 1024]⟩ : Shape).Idx) : α :=
  X (ix3 (⟨(T (ix2 (y 0) (y 2))).toNat % 50, Nat.mod_lt _ (by decide)⟩ : Fin 50) (y 1) (y 2))

/-- `X` is `G` at the rows and lanes of `P`. -/
def On {α : Type} {b : Nat} (P : Nat → Nat → Prop) (X G : (⟨3, ![25, b, 1024]⟩ : Shape).Idx → α) : Prop :=
  ∀ y, P (y 1).val (y 2).val → X y = G y

/-- The rows and lanes of one half row. -/
abbrev Half (n o : Nat) (i j : Nat) : Prop := i = n ∧ o ≤ j ∧ j < o + 512

section Views

variable {sig : RefSig} {F : FTy → Type} [FloatOps F]

/-- A half row written out is that half of the gathered table. -/
theorem on_write {b : Nat} (t : Memref sig .scVector .hbm ⟨3, ![50, b, 1024]⟩ .f32) (u : Memref sig .scVector .hbm ⟨3, ![25, b, 1024]⟩ .f32)
    (n o : Nat) (hn : n < b) (ho : o + 512 ≤ 1024) (T : TIdx.Idx → BitVec 32) (ft : t.view.ty.Contents (Elt F)) (fu : u.view.ty.Contents (Elt F)) {P : Nat → Nat → Prop}
    (h : On P (u.view.read (Elt F) fu) (gatAll T (t.view.read (Elt F) ft))) :
    On (fun i j => P i j ∨ Half n o i j)
      (u.view.read (Elt F) ((outOf u n o hn ho).view.write (Elt F) fu (gat o ho T ((slabOf t n o hn ho).view.read (Elt F) ft)) Finset.univ))
      (gatAll T (t.view.read (Elt F) ft)) := by
  intro y hy
  have h0 : (y 0).val < 25 := (y 0).isLt
  by_cases hin : Half n o (y 1).val (y 2).val
  · obtain ⟨h1, h2, h3⟩ := hin
    refine (View.read_writes_cons_hit_of_coords u.view fu (Rect.unit (s := ⟨3, ![25, b, 1024]⟩) ![0, n, o] TOut.size (slab_inb (a := 25) hn ho)) _ []
      (ix3 (y 0) (0 : Fin 1) (⟨(y 2).val - o, by omega⟩ : Fin 512)) y ?_).trans ?_
    · intro a
      match a with
      | 0 => show (y 0).val = 0 + 1 * (y 0).val; omega
      | 1 => show (y 1).val = n + 1 * 0; omega
      | 2 => show (y 2).val = o + 1 * ((y 2).val - o); omega
    have hl : (⟨o + ((y 2).val - o), by omega⟩ : Fin 1024) = y 2 := Fin.ext (by show o + ((y 2).val - o) = (y 2).val; omega)
    refine congrArg (t.view.read (Elt F) ft) (Rect.emb_eq_of_coords (Rect.unit (s := ⟨3, ![50, b, 1024]⟩) ![0, n, o] TSlab.size (slab_inb (a := 50) hn ho)) _ _ ?_)
    intro a
    match a with
    | 0 =>
      show (T (ix2 (y 0) (y 2))).toNat % 50 = 0 + 1 * ((T (ix2 (y 0) (⟨o + ((y 2).val - o), _⟩ : Fin 1024))).toNat % 50)
      rw [hl]; omega
    | 1 => show (y 1).val = n + 1 * 0; omega
    | 2 => show (y 2).val = o + 1 * ((y 2).val - o); omega
  · have hP : P (y 1).val (y 2).val := hy.resolve_right hin
    refine Eq.trans ?_ (h y hP)
    by_cases h1 : (y 1).val = n
    · exact View.read_writes_cons_miss_of_axis u.view fu ⟨Rect.unit (s := ⟨3, ![25, b, 1024]⟩) ![0, n, o] TOut.size (slab_inb (a := 25) hn ho), _⟩ [] y 2 o 512 rfl rfl rfl
        (by by_contra hc; exact hin ⟨h1, by omega, by omega⟩)
    · exact View.read_writes_cons_miss_of_axis u.view fu ⟨Rect.unit (s := ⟨3, ![25, b, 1024]⟩) ![0, n, o] TOut.size (slab_inb (a := 25) hn ho), _⟩ [] y 1 n 1 rfl rfl rfl
        (by omega)

end Views

section Wp

variable {nD : Nat} {τ : Topo} {sig : RefSig} {U : Type} [URA U] [CountersIn U] {Λ : Labels} {F : FTy → Type} [FloatOps F]
variable {defs : Defs nD τ sig (Elt F) Λ} (𝒱 : Variants) (g : Dev nD) (c : Fin τ.nSC) (s : Fin τ.nSub) (bd : Option 𝒱.V)

local notation "𝕄" => MT nD τ sig (HIx 1) (Elt F) ℕ U ℕ

/-- What the tile owes, with waits at the index `none` recorded beyond `W`. -/
def Owe (O : CellTallies nD τ sig (HIx 1)) (W : Waits sig (HIx 1)) : sProp 𝕄 :=
  iprop(∃ W', ⌜∀ p ∈ W', p ∈ W ∨ p.2 = none⌝ ∗ owes (V g c s) O W')

/-- The counter of one of the tile's cells at zero. -/
abbrev Zero (d : DmaSem sig) : sProp 𝕄 := semVal (V g c s, SemLoc.dma d) 0

/-- A copy and the wait for it, at the head of a program. -/
theorem wp_copyWait {sp sp' : Space} {t : Shape} {e : EltTy} {α : Type} {Q : α → sProp 𝕄} (src : Memref sig (V g c s).2.kind sp t e) (dst : Memref sig (V g c s).2.kind sp' t e) (d : DmaSem sig)
    {hs : src.view.WordExact} {hd : dst.view.WordExact} {ht : DmaTarget.Typed (nD := nD) sp (.dma d) (.here dst)} {hs' : src.view.WordExact} {hd' : dst.view.WordExact}
    {k : PUnit → Prog (TpuEff nD τ sig (Elt F) Λ (V g c s).2) α} {q : PosShare TreeShare} {Ss : Finset (Idx (src.view.loc (V g c s)))} {fs : Buf (Elt F) (src.view.loc (V g c s))}
    {Sd : Finset (Idx (dst.view.loc (V g c s)))} {fd : Buf (Elt F) (dst.view.loc (V g c s))} {O : CellTallies nD τ sig (HIx 1)} {W : Waits sig (HIx 1)}
    (hpos : 0 < t.numel) (hSs : src.view.set ⊆ Ss) (hSd : dst.view.set ⊆ Sd) :
    (iprop(Transfers.MayWaits (V g c s) none O ∗ (src.view.loc (V g c s) ↦[Ss]{q} fs) ∗ (dst.view.loc (V g c s) ↦[Sd]{fullShare} fd) ∗ Zero g c s d ∗ Owe g c s O W) : sProp 𝕄)
      ⊢ iprop((iprop((src.view.loc (V g c s) ↦[Ss]{q} fs) ∗ (dst.view.loc (V g c s) ↦[Sd]{fullShare} dst.view.write (Elt F) fd (src.view.read (Elt F) fs) Finset.univ) ∗ Zero g c s d ∗ Owe g c s O W)
            -∗ wp frame (wpE defs 𝒱 (V g c s) bd) Set.univ (k ⟨⟩) Q)
          -∗ wp frame (wpE defs 𝒱 (V g c s) bd) Set.univ (.op (.enqueueDma src (.here dst) (.dma d) hs hd ht) fun _ => .op (.waitDma2 d src dst hs' hd') k) Q) := by
  unfold Owe
  iintro ⟨Hmw, Hs, Hd, Hv, %W', %hW', HO⟩ Hk
  ihave Hs' := (pointsTo_split_subset hSs).1 $$ Hs
  icases Hs' with ⟨Hs, Hrest⟩
  iapply (Transfers.wp_dmaLocal countersEmb 𝒱 (V g c s) bd none dst.view.dmaCredit rfl (View.dmaCredit_pos _ hpos) hSd) $$ [Hs Hd Hv]
  · isplitl [Hs]; · iexact Hs
    isplitl [Hd] <;> iassumption
  iintro Hf
  iapply (Transfers.wp_waitLocalO countersEmb 𝒱 (V g c s) bd none rfl (O := O) (W := W')) $$ [Hf HO Hmw]
  · isplitl [Hf]; · iexact Hf
    isplitl [HO]; · iexact HO
    iapply (Transfers.MayWaits.elim (SemLoc.dma d)); iexact Hmw
  iintro ⟨⟨Hd, Hs⟩, Hv, HO⟩
  iapply Hk
  isplitl [Hs Hrest]
  · iapply (pointsTo_split_subset hSs).2
    isplitl [Hs] <;> iassumption
  isplitl [Hd]; · iexact Hd
  isplitl [Hv]; · iexact Hv
  iexists (insert (SemLoc.dma d, none) W')
  isplitr
  · ipureintro
    intro p hp
    rcases Finset.mem_insert.mp hp with hp | hp
    · exact .inr (hp ▸ rfl)
    · exact hW' p hp
  · iexact HO

variable (a2 : Memref sig .scVector .hbm TEmb .f32) (a3 : Memref sig .scVector .hbm TMsk .f32) (a4 : Memref sig .scVector .hbm TIdx .i32)
  (a5 : Memref sig .scVector .hbm TEmbOut .f32) (a6 : Memref sig .scVector .hbm TMskOut .f32)
  (a7 : Memref sig .scVector .vmem TIdx .i32) (a8 : Memref sig .scVector .vmem TSlab .f32) (a9 : Memref sig .scVector .vmem TOut .f32)
  (h4 : a4.IsWhole) (h7 : a7.IsWhole) (h8 : a8.IsWhole) (h9 : a9.IsWhole)

/-- The 25 rows of the out buffer, gathered. -/
theorem wp_rows {f7 : Buf (Elt F) (a7.view.loc (V g c s))} {f8 : Buf (Elt F) (a8.view.loc (V g c s))} {f9 : Buf (Elt F) (a9.view.loc (V g c s))}
    (hT : Slots (a7.view.read (Elt F) f7)) (o : Nat) (ho : o + 512 ≤ 1024) :
    (iprop((a7.view.loc (V g c s) ↦{fullShare} f7) ∗ (a8.view.loc (V g c s) ↦{fullShare} f8) ∗ (a9.view.loc (V g c s) ↦{fullShare} f9)) : sProp 𝕄)
      ⊢ wp frame (wpE defs 𝒱 (V g c s) bd) Set.univ (rows (F := F) (nD := nD) (Λ := Λ) c s a7 a8 a9 o ho)
          (fun _ => iprop(∃ f, ⌜a9.view.read (Elt F) f = gat o ho (a7.view.read (Elt F) f7) (a8.view.read (Elt F) f8)⌝
            ∗ (a7.view.loc (V g c s) ↦{fullShare} f7) ∗ (a8.view.loc (V g c s) ↦{fullShare} f8) ∗ (a9.view.loc (V g c s) ↦{fullShare} f))) := by
  unfold rows
  refine Entails.trans ?_ (Scf.wp_for frame _ _ loop25.lb loop25.ub loop25.st ok25 0#32 _
    (fun k _ => iprop(∃ f, ⌜Upto k 0 (a9.view.read (Elt F) f) (gat o ho (a7.view.read (Elt F) f7) (a8.view.read (Elt F) f8))⌝
            ∗ (a7.view.loc (V g c s) ↦{fullShare} f7) ∗ (a8.view.loc (V g c s) ↦{fullShare} f8) ∗ (a9.view.loc (V g c s) ↦{fullShare} f))) ?_)
  · iintro H
    isplitl [H]
    · iexists f9
      isplitr
      · ipureintro; exact Upto.zero
      · iexact H
    · iintro %_ ⟨%f, %hf, H⟩
      iexists f
      isplitr
      · ipureintro; exact Upto.all hf
      · iexact H
  · intro k _
    iintro ⟨%f, %hf, H⟩
    have hk : rowOf k = k.val := rowOf_eq k
    rw [← hk] at hf
    rw [← hk]
    iapply (wp_rowFrom 𝒱 (V g c s) bd Set.univ a7 a8 a9 hT (rowOf k) o (rowOf_lt k) ho 32 0 rfl f hf)
    iexact H

/-- The tile's buffers and what it owes, between two copies. -/
def Bufs (f7 : Buf (Elt F) (a7.view.loc (V g c s))) (d : DmaSem sig) (O : CellTallies nD τ sig (HIx 1)) (W : Waits sig (HIx 1)) : sProp 𝕄 :=
  iprop(Transfers.MayWaits (V g c s) none O ∗ (a7.view.loc (V g c s) ↦{fullShare} f7) ∗ (∃ f, a8.view.loc (V g c s) ↦{fullShare} f) ∗ (∃ f, a9.view.loc (V g c s) ↦{fullShare} f)
    ∗ Zero g c s d ∗ Owe g c s O W)

/-- Half a row of a table: fetched, gathered, written out. -/
theorem wp_half {f7 : Buf (Elt F) (a7.view.loc (V g c s))} (hT : Slots (a7.view.read (Elt F) f7)) {b : Nat} (d r : DmaSem sig)
    (t : Memref sig .scVector .hbm ⟨3, ![50, b, 1024]⟩ .f32) (u : Memref sig .scVector .hbm ⟨3, ![25, b, 1024]⟩ .f32)
    (n o : Nat) (hn : n < b) (ho : o + 512 ≤ 1024) {q : PosShare TreeShare} {ft : Buf (Elt F) (t.view.loc (V g c s))} {Su : Finset (Idx (u.view.loc (V g c s)))}
    {fu : Buf (Elt F) (u.view.loc (V g c s))} {O : CellTallies nD τ sig (HIx 1)} {W : Waits sig (HIx 1)} (hSu : (outOf u n o hn ho).view.set ⊆ Su) {P : Nat → Nat → Prop}
    (hP : On P (u.view.read (Elt F) fu) (gatAll (a7.view.read (Elt F) f7) (t.view.read (Elt F) ft))) :
    (iprop((t.view.loc (V g c s) ↦{q} ft) ∗ (u.view.loc (V g c s) ↦[Su]{fullShare} fu) ∗ Zero g c s r ∗ Bufs g c s a7 a8 a9 f7 d O W) : sProp 𝕄)
      ⊢ wp frame (wpE defs 𝒱 (V g c s) bd) Set.univ (half (F := F) (nD := nD) (Λ := Λ) c s a7 a8 a9 h8 h9 d r t u n o hn ho)
          (fun _ => iprop((t.view.loc (V g c s) ↦{q} ft)
            ∗ (∃ fu', ⌜On (fun i j => P i j ∨ Half n o i j) (u.view.read (Elt F) fu') (gatAll (a7.view.read (Elt F) f7) (t.view.read (Elt F) ft))⌝ ∗ (u.view.loc (V g c s) ↦[Su]{fullShare} fu'))
            ∗ Zero g c s r ∗ Bufs g c s a7 a8 a9 f7 d O W)) := by
  unfold half Bufs
  iintro ⟨Ht, Hu, Hr, #Hmw, H7, ⟨%f8, H8⟩, ⟨%f9, H9⟩, Hd, HO⟩
  iapply (wp_copyWait 𝒱 g c s bd (slabOf t n o hn ho) a8 d (by decide) (Finset.subset_univ _) (Finset.subset_univ _)) $$ [Ht H8 Hd HO]
  · isplitr; · iexact Hmw
    isplitl [Ht]; · iexact Ht
    isplitl [H8]; · iexact H8
    isplitl [Hd] <;> iassumption
  iintro ⟨Ht, H8, Hd, HO⟩
  erw [wp_bind]
  rw [wp_ret]
  imodintro
  rw [wp_bind]
  ihave Hw := (wp_rows 𝒱 g c s bd a7 a8 a9 hT o ho) $$ [H7 H8 H9]
  · isplitl [H7]; · iexact H7
    isplitl [H8] <;> iassumption
  iapply (wp_wand frame _ _) $$ Hw
  iintro %_ ⟨%f9', %hf9, H7, H8, H9⟩
  iapply (wp_copyWait 𝒱 g c s bd a9 (outOf u n o hn ho) r (by decide) (Finset.subset_univ _) hSu) $$ [Hu H9 Hr HO]
  · isplitr; · iexact Hmw
    isplitl [H9]; · iexact H9
    isplitl [Hu]; · iexact Hu
    isplitl [Hr] <;> iassumption
  iintro ⟨H9, Hu, Hr, HO⟩
  erw [wp_pure]
  imodintro
  isplitl [Ht]; · iexact Ht
  isplitl [Hu]
  · iexists _
    isplitr
    rotate_left
    · iexact Hu
    · ipureintro
      rw [hf9, View.read_write_univ]
      exact on_write t u n o hn ho (a7.view.read (Elt F) f7) ft fu hP
  isplitl [Hr]; · iexact Hr
  isplitr; · iexact Hmw
  isplitl [H7]; · iexact H7
  isplitl [H8]; · iexists _; iexact H8
  isplitl [H9]; · iexists _; iexact H9
  isplitl [Hd] <;> iassumption

/-- A tile's 32 half rows of the embedding table. -/
theorem wp_halves {f7 : Buf (Elt F) (a7.view.loc (V g c s))} (hT : Slots (a7.view.read (Elt F) f7)) (d r : DmaSem sig) (o : Nat) (ho : o + 512 ≤ 1024)
    (row : Fin loop32.trips → Nat) (hrow : ∀ k, row k < 1024) {q : PosShare TreeShare} {ft : Buf (Elt F) (a2.view.loc (V g c s))} {Su : Finset (Idx (a5.view.loc (V g c s)))}
    {fu : Buf (Elt F) (a5.view.loc (V g c s))} {O : CellTallies nD τ sig (HIx 1)} {W : Waits sig (HIx 1)} (hSu : ∀ k, (outOf a5 (row k) o (hrow k) ho).view.set ⊆ Su) {P : Nat → Nat → Prop}
    (hP : On P (a5.view.read (Elt F) fu) (gatAll (a7.view.read (Elt F) f7) (a2.view.read (Elt F) ft))) :
    (iprop((a2.view.loc (V g c s) ↦{q} ft) ∗ (a5.view.loc (V g c s) ↦[Su]{fullShare} fu) ∗ Zero g c s r ∗ Bufs g c s a7 a8 a9 f7 d O W) : sProp 𝕄)
      ⊢ wp frame (wpE defs 𝒱 (V g c s) bd) Set.univ (halves (F := F) (nD := nD) (Λ := Λ) c s a2 a5 a7 a8 a9 h8 h9 d r o ho row hrow)
          (fun _ => iprop((a2.view.loc (V g c s) ↦{q} ft)
            ∗ (∃ fu', ⌜On (fun i j => P i j ∨ ∃ k, Half (row k) o i j) (a5.view.read (Elt F) fu') (gatAll (a7.view.read (Elt F) f7) (a2.view.read (Elt F) ft))⌝ ∗ (a5.view.loc (V g c s) ↦[Su]{fullShare} fu'))
            ∗ Zero g c s r ∗ Bufs g c s a7 a8 a9 f7 d O W)) := by
  unfold halves
  refine Entails.trans ?_ (Scf.wp_for frame _ _ loop32.lb loop32.ub loop32.st ok32 0#32 _
    (fun k _ => iprop((a2.view.loc (V g c s) ↦{q} ft)
            ∗ (∃ fu', ⌜On (fun i j => P i j ∨ ∃ k' : Fin loop32.trips, k'.val < k ∧ Half (row k') o i j) (a5.view.read (Elt F) fu') (gatAll (a7.view.read (Elt F) f7) (a2.view.read (Elt F) ft))⌝
              ∗ (a5.view.loc (V g c s) ↦[Su]{fullShare} fu'))
            ∗ Zero g c s r ∗ Bufs g c s a7 a8 a9 f7 d O W)) ?_)
  · iintro ⟨Ht, Hu, H⟩
    isplitl [Ht Hu H]
    · isplitl [Ht]; · iexact Ht
      isplitl [Hu]
      · iexists fu
        isplitr
        · ipureintro
          rintro y (hy | ⟨k', hk, -⟩)
          · exact hP y hy
          · exact absurd hk (Nat.not_lt_zero _)
        · iexact Hu
      · iexact H
    · iintro %_ ⟨Ht, ⟨%f, %hf, Hu⟩, H⟩
      isplitl [Ht]; · iexact Ht
      isplitl [Hu]
      · iexists f
        isplitr
        · ipureintro
          rintro y (hy | ⟨k', hk⟩)
          · exact hf y (.inl hy)
          · exact hf y (.inr ⟨k', k'.isLt, hk⟩)
        · iexact Hu
      · iexact H
  · intro k _
    iintro ⟨Ht, ⟨%f, %hf, Hu⟩, H⟩
    rw [wp_bind]
    ihave Hw := (wp_half 𝒱 g c s bd a7 a8 a9 h8 h9 hT d r a2 a5 (row k) o (hrow k) ho (hSu k) hf) $$ [Ht Hu H]
    · isplitl [Ht]; · iexact Ht
      isplitl [Hu] <;> iassumption
    iapply (wp_wand frame _ _) $$ Hw
    iintro %_ ⟨Ht, ⟨%f', %hf', Hu⟩, H⟩
    rw [wp_pure]
    imodintro
    isplitl [Ht]; · iexact Ht
    isplitl [Hu]
    · iexists f'
      isplitr
      · ipureintro
        rintro y (hy | ⟨k', hk, hh⟩)
        · exact hf' y (.inl (.inl hy))
        · rcases Nat.lt_succ_iff_lt_or_eq.mp hk with hlt | heq
          · exact hf' y (.inl (.inr ⟨k', hlt, hh⟩))
          · exact hf' y (.inr (Fin.ext heq ▸ hh))
      · iexact Hu
    · iexact H

/-- The whole of a tile's task: its rows of the two results are the gathered rows. -/
theorem wp_task (d r0 r1 r2 r3 r4 : DmaSem sig) (row : Fin loop32.trips → Nat) (hrow : ∀ k, row k < 1024) (mrow : Nat) (hmrow : mrow < 32)
    {q2 q3 q4 : PosShare TreeShare} {f2 : Buf (Elt F) (a2.view.loc (V g c s))} {f3 : Buf (Elt F) (a3.view.loc (V g c s))} {f4 : Buf (Elt F) (a4.view.loc (V g c s))}
    {S5 : Finset (Idx (a5.view.loc (V g c s)))} {S6 : Finset (Idx (a6.view.loc (V g c s)))} {f5 : Buf (Elt F) (a5.view.loc (V g c s))} {f6 : Buf (Elt F) (a6.view.loc (V g c s))}
    {O : CellTallies nD τ sig (HIx 1)} {W : Waits sig (HIx 1)}
    (hT : Slots (a4.view.read (Elt F) f4))
    (hS5 : ∀ k o ho, (outOf a5 (row k) o (hrow k) ho).view.set ⊆ S5) (hS6 : ∀ o ho, (outOf a6 mrow o hmrow ho).view.set ⊆ S6) :
    (iprop((a2.view.loc (V g c s) ↦{q2} f2) ∗ (a3.view.loc (V g c s) ↦{q3} f3) ∗ (a4.view.loc (V g c s) ↦{q4} f4)
        ∗ (a5.view.loc (V g c s) ↦[S5]{fullShare} f5) ∗ (a6.view.loc (V g c s) ↦[S6]{fullShare} f6)
        ∗ (∃ f, a7.view.loc (V g c s) ↦{fullShare} f) ∗ (∃ f, a8.view.loc (V g c s) ↦{fullShare} f) ∗ (∃ f, a9.view.loc (V g c s) ↦{fullShare} f)
        ∗ Zero g c s d ∗ Zero g c s r0 ∗ Zero g c s r1 ∗ Zero g c s r2 ∗ Zero g c s r3 ∗ Zero g c s r4 ∗ Transfers.MayWaits (V g c s) none O ∗ Owe g c s O W) : sProp 𝕄)
      ⊢ wp frame (wpE defs 𝒱 (V g c s) bd) Set.univ (task (F := F) (nD := nD) (Λ := Λ) c s a2 a3 a4 a5 a6 a7 a8 a9 h4 h7 h8 h9 d r0 r1 r2 r3 r4 row hrow mrow hmrow)
          (fun _ => iprop((a2.view.loc (V g c s) ↦{q2} f2) ∗ (a3.view.loc (V g c s) ↦{q3} f3) ∗ (a4.view.loc (V g c s) ↦{q4} f4)
        ∗ (∃ f, ⌜On (fun i _ => ∃ k, row k = i) (a5.view.read (Elt F) f) (gatAll (a4.view.read (Elt F) f4) (a2.view.read (Elt F) f2))⌝ ∗ (a5.view.loc (V g c s) ↦[S5]{fullShare} f))
        ∗ (∃ f, ⌜On (fun i _ => i = mrow) (a6.view.read (Elt F) f) (gatAll (a4.view.read (Elt F) f4) (a3.view.read (Elt F) f3))⌝ ∗ (a6.view.loc (V g c s) ↦[S6]{fullShare} f))
        ∗ (∃ f, a7.view.loc (V g c s) ↦{fullShare} f) ∗ (∃ f, a8.view.loc (V g c s) ↦{fullShare} f) ∗ (∃ f, a9.view.loc (V g c s) ↦{fullShare} f)
        ∗ Zero g c s d ∗ Zero g c s r0 ∗ Zero g c s r1 ∗ Zero g c s r2 ∗ Zero g c s r3 ∗ Zero g c s r4 ∗ Owe g c s O W)) := by
  unfold task
  iintro ⟨H2, H3, H4, H5, H6, ⟨%f7, H7⟩, H8, H9, Hd, Hr0, Hr1, Hr2, Hr3, Hr4, #Hmw, HO⟩
  iapply (wp_copyWait 𝒱 g c s bd a4 a7 r0 (by decide) (Finset.subset_univ _) (Finset.subset_univ _)) $$ [H4 H7 Hr0 HO]
  · isplitr; · iexact Hmw
    isplitl [H4]; · iexact H4
    isplitl [H7]; · iexact H7
    isplitl [Hr0] <;> iassumption
  iintro ⟨H4, H7, Hr0, HO⟩
  have hread : a7.view.read (Elt F) (a7.view.write (Elt F) f7 (a4.view.read (Elt F) f4) Finset.univ) = a4.view.read (Elt F) f4 := View.read_write_univ _ _
  generalize a7.view.write (Elt F) f7 (a4.view.read (Elt F) f4) Finset.univ = f7' at hread
  have hT' : Slots (a7.view.read (Elt F) f7') := by rw [hread]; exact hT
  -- the first halves
  erw [wp_bind]
  rw [wp_ret]
  imodintro
  rw [wp_bind]
  ihave Hw := (wp_halves 𝒱 g c s bd a2 a5 a7 a8 a9 h8 h9 hT' d r1 0 (by decide) row hrow (Su := S5) (W := W) (fun k => hS5 k 0 _) (P := fun _ _ => False) (fun _ h => h.elim)) $$ [H2 H5 Hr1 H7 H8 H9 Hd HO]
  · isplitl [H2]; · iexact H2
    isplitl [H5]; · iexact H5
    isplitl [Hr1]; · iexact Hr1
    unfold Bufs
    isplitr; · iexact Hmw
    isplitl [H7]; · iexact H7
    isplitl [H8]; · iexact H8
    isplitl [H9]; · iexact H9
    isplitl [Hd] <;> iassumption
  iapply (wp_wand frame _ _) $$ Hw
  iintro %_ ⟨H2, ⟨%f5', %hf5, H5⟩, Hr1, Hb⟩
  -- the second halves
  rw [wp_bind]
  ihave Hw := (wp_halves 𝒱 g c s bd a2 a5 a7 a8 a9 h8 h9 hT' d r2 512 (by decide) row hrow (fun k => hS5 k 512 _) hf5) $$ [H2 H5 Hr2 Hb]
  · isplitl [H2]; · iexact H2
    isplitl [H5]; · iexact H5
    isplitl [Hr2] <;> iassumption
  iapply (wp_wand frame _ _) $$ Hw
  iintro %_ ⟨H2, ⟨%f5'', %hf5', H5⟩, Hr2, Hb⟩
  -- the row of the mask table
  rw [wp_bind]
  ihave Hw := (wp_half 𝒱 g c s bd a7 a8 a9 h8 h9 hT' d r3 a3 a6 mrow 0 hmrow (by decide) (hS6 0 _) (P := fun _ _ => False) (fun _ h => h.elim)) $$ [H3 H6 Hr3 Hb]
  · isplitl [H3]; · iexact H3
    isplitl [H6]; · iexact H6
    isplitl [Hr3] <;> iassumption
  iapply (wp_wand frame _ _) $$ Hw
  iintro %_ ⟨H3, ⟨%f6', %hf6, H6⟩, Hr3, Hb⟩
  ihave Hw := (wp_half 𝒱 g c s bd a7 a8 a9 h8 h9 hT' d r4 a3 a6 mrow 512 hmrow (by decide) (hS6 512 _) hf6) $$ [H3 H6 Hr4 Hb]
  · isplitl [H3]; · iexact H3
    isplitl [H6]; · iexact H6
    isplitl [Hr4] <;> iassumption
  iapply (wp_wand frame _ _) $$ Hw
  iintro %_ ⟨H3, ⟨%f6'', %hf6', H6⟩, Hr4, Hb⟩
  unfold Bufs
  icases Hb with ⟨-, H7, H8, H9, Hd, HO⟩
  rw [hread] at hf5' hf6'
  isplitl [H2]; · iexact H2
  isplitl [H3]; · iexact H3
  isplitl [H4]; · iexact H4
  isplitl [H5]
  · iexists f5''
    isplitr
    · ipureintro
      rintro y ⟨k, hk⟩
      have h2 : (y 2).val < 1024 := (y 2).isLt
      refine hf5' y ?_
      by_cases hlt : (y 2).val < 512
      · exact .inl (.inr ⟨k, hk.symm, Nat.zero_le _, by omega⟩)
      · exact .inr ⟨k, hk.symm, by omega, by omega⟩
    · iexact H5
  isplitl [H6]
  · iexists f6''
    isplitr
    · ipureintro
      intro y hk
      have h2 : (y 2).val < 1024 := (y 2).isLt
      refine hf6' y ?_
      by_cases hlt : (y 2).val < 512
      · exact .inl (.inr ⟨hk, Nat.zero_le _, by omega⟩)
      · exact .inr ⟨hk, by omega, by omega⟩
    · iexact H6
  isplitl [H7]; · iexists _; iexact H7
  isplitl [H8]; · iexact H8
  isplitl [H9]; · iexact H9
  isplitl [Hd]; · iexact Hd
  isplitl [Hr0]; · iexact Hr0
  isplitl [Hr1]; · iexact Hr1
  isplitl [Hr2]; · iexact Hr2
  isplitl [Hr3]; · iexact Hr3
  isplitl [Hr4] <;> iassumption

end Wp

end Cert.Gather

end
-- ==== Proof.Call.lean ====
/-
  The SparseCore call as its launch sees it: what each tile is handed and hands back, that a tile's task takes the one
  to the other, and that what the call takes is what its thirty-two tiles take together.
-/
module

public import proofs.«01_k».proof.Proof.BodyEq
public import proofs.«01_k».proof.Proof.Tile
public import Idealize.ShloMosaic.Lib.SparseCore.Quiescent
public import Idealize.ShloMosaic.Lib.StableHlo.Run
public import Idealize.ShloMosaic.Lib.Pipeline.Kit
public import proofs.«01_k».proof.Proof.Gen.KernelIdeal

@[expose] public section

noncomputable section

namespace Cert.Proof.Call

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The launch handshakes' part of the ghost state. -/
abbrev EH : Emb UH (MT nD τ sig (HIx 1) (Elt F) ℕ UU ℕ) := embL

/-! ## The arrays of the call -/

/-- The two tables, the slot table, and the two results. -/
abbrev eLoc (d : Dev nD) : Loc nD τ sig := (SparseCore.T d).loc main_v3
abbrev kLoc (d : Dev nD) : Loc nD τ sig := (SparseCore.T d).loc main_v4
abbrev iLoc (d : Dev nD) : Loc nD τ sig := (SparseCore.T d).loc main_v1
abbrev oLoc (d : Dev nD) : Loc nD τ sig := (SparseCore.T d).loc main_v5_0
abbrev pLoc (d : Dev nD) : Loc nD τ sig := (SparseCore.T d).loc main_v5_1

/-- What the arrays hold when the call starts. -/
structure Tabs (F : FTy → Type) where
  X : (d : Dev nD) → Buf (Elt F) (eLoc d)
  Y : (d : Dev nD) → Buf (Elt F) (kLoc d)
  I : (d : Dev nD) → Buf (Elt F) (iLoc d)
  Z : (d : Dev nD) → Buf (Elt F) (oLoc d)
  R : (d : Dev nD) → Buf (Elt F) (pLoc d)

variable (t : Tabs F)

/-- The two gathered tables. -/
def gE (d : Dev nD) : Buf (Elt F) (oLoc d) := Gather.gatAll (b := 1024) (t.I d) (t.X d)
def gM (d : Dev nD) : Buf (Elt F) (pLoc d) := Gather.gatAll (b := 32) (t.I d) (t.Y d)

/-- The rows of the first result that tile `w` writes, and its row of the second. -/
def rowsE (w : ℕ) : Finset (S25x1024x1024.Idx) := Finset.univ.filter fun y => (y 1).val / 32 = w
def rowsM (w : ℕ) : Finset (S25x32x1024.Idx) := Finset.univ.filter fun y => (y 1).val = w

/-- The part of a read-only array's share that subcore `i` of SparseCore `c` holds. -/
def sh (c i : ℕ) : PosShare TreeShare := Transfers.dealOf (Transfers.dealOf fullShare (Finset.range 2) c) (Finset.range 16) i

/-- The read-only arrays' parts for subcore `i` of SparseCore `c`, and its rows of the results at given contents. -/
def tile (d : Dev nD) (c i : ℕ) (fo : Buf (Elt F) (oLoc d)) (fp : Buf (Elt F) (pLoc d)) : sProp 𝕄 :=
  iprop((eLoc d ↦{sh c i} t.X d) ∗ (kLoc d ↦{sh c i} t.Y d) ∗ (iLoc d ↦{sh c i} t.I d)
    ∗ (oLoc d ↦[rowsE (i * 2 + c)]{fullShare} fo) ∗ (pLoc d ↦[rowsM (i * 2 + c)]{fullShare} fp))

/-- The five arrays whole. -/
def whole (d : Dev nD) (fo : Buf (Elt F) (oLoc d)) (fp : Buf (Elt F) (pLoc d)) : sProp 𝕄 :=
  iprop((eLoc d ↦{fullShare} t.X d) ∗ (kLoc d ↦{fullShare} t.Y d) ∗ (iLoc d ↦{fullShare} t.I d)
    ∗ (oLoc d ↦{fullShare} fo) ∗ (pLoc d ↦{fullShare} fp))

instance tile_storable (d : Dev nD) (c i : ℕ) (fo : Buf (Elt F) (oLoc d)) (fp : Buf (Elt F) (pLoc d)) :
    BI.Storable (upEmb : UEmb _ 𝕄) (tile t d c i fo fp) := by
  unfold tile; infer_instance

/-- A SparseCore is handed what its sixteen tiles are, and hands back what they do. -/
def P : (K (F := F)).Pay (nD := nD) (Val := Elt F) (Name := ℕ) (U := UU) where
  st := fun _ d c => bigSep (Finset.range 16) fun i => tile t d c.val i (t.Z d) (t.R d)
  dn := fun _ d c => bigSep (Finset.range 16) fun i => tile t d c.val i (gE t d) (gM t d)
  go := fun _ d c i => tile t d c.val i.val (t.Z d) (t.R d)
  td := fun _ d c i => tile t d c.val i.val (gE t d) (gM t d)
  x := fun _ _ => iprop(emp)

instance P_storable : (P t).IsStorable where
  st _ d c := by unfold P; infer_instance
  dn _ d c := by unfold P; infer_instance
  go _ _ _ _ := by unfold P; infer_instance
  td _ _ _ _ := by unfold P; infer_instance

/-! ## The split -/

theorem bigSep_fin (n : ℕ) (Φ : ℕ → sProp 𝕄) : (bigSep Finset.univ fun i : Fin n => Φ i.val) = bigSep (Finset.range n) Φ := by
  have h : Finset.range n = (Finset.univ : Finset (Fin n)).map Fin.valEmbedding := by
    ext a; simp only [Finset.mem_range, Finset.mem_map, Finset.mem_univ, true_and]
    exact ⟨fun h => ⟨⟨a, h⟩, rfl⟩, fun ⟨x, hx⟩ => hx ▸ x.isLt⟩
  rw [h, bigSep_map]; rfl

theorem deal {ℓ : Loc nD τ sig} (f : Buf (Elt F) ℓ) :
    (ℓ ↦{fullShare} f : sProp 𝕄) = bigSep (Finset.range 2) fun c => bigSep (Finset.range 16) fun i => ℓ ↦{sh c i} f := by
  rw [Transfers.pointsTo_deal (Finset.range 2) ⟨0, by decide⟩]
  exact bigSep_congr fun c _ => Transfers.pointsTo_deal (Finset.range 16) ⟨0, by decide⟩ _

theorem wid_cover (w : ℕ) (h : w < 32) : ∃ c < 2, ∃ i < 16, w = i * 2 + c := ⟨w % 2, by omega, w / 2, by omega, by omega⟩

theorem rows_split {ℓ : Loc nD τ sig} (R : ℕ → Finset (Idx ℓ)) (wid : Idx ℓ → ℕ) (hR : ∀ w y, y ∈ R w ↔ wid y = w) (hw : ∀ y, wid y < 32) (f : Buf (Elt F) ℓ) :
    (ℓ ↦{fullShare} f : sProp 𝕄) = bigSep (Finset.range 2) fun c => bigSep (Finset.range 16) fun i => ℓ ↦[R (i * 2 + c)]{fullShare} f := by
  have hcov : (Finset.range 2).biUnion (fun c => (Finset.range 16).biUnion fun i => R (i * 2 + c)) = Finset.univ := by
    ext y
    simp only [Finset.mem_biUnion, Finset.mem_range, Finset.mem_univ, iff_true, hR]
    exact wid_cover _ (hw y)
  rw [← hcov, pointsTo_biUnion]
  · refine bigSep_congr fun c _ => ?_
    rw [pointsTo_biUnion]
    intro i _ j _ hij
    refine Finset.disjoint_left.mpr fun y h1 h2 => ?_
    rw [hR] at h1 h2
    omega
  · intro c hc c' hc' hne
    refine Finset.disjoint_left.mpr fun y h1 h2 => ?_
    simp only [Finset.mem_biUnion, Finset.mem_range, hR] at h1 h2 hc hc'
    obtain ⟨i, _, h1⟩ := h1
    obtain ⟨j, _, h2⟩ := h2
    omega

theorem mem_rowsE (w : ℕ) (y : S25x1024x1024.Idx) : y ∈ rowsE w ↔ (y 1).val / 32 = w := by simp [rowsE]
theorem mem_rowsM (w : ℕ) (y : S25x32x1024.Idx) : y ∈ rowsM w ↔ (y 1).val = w := by simp [rowsM]

theorem tiles_eq (d : Dev nD) (fo : Buf (Elt F) (oLoc d)) (fp : Buf (Elt F) (pLoc d)) :
    (bigSep (Finset.range 2) fun c => bigSep (Finset.range 16) fun i => tile t d c i fo fp) = whole t d fo fp := by
  unfold tile whole
  simp only [bigSep_sep']
  rw [← deal, ← deal, ← deal, ← rows_split (ℓ := oLoc d) rowsE (fun y => (y 1).val / 32) mem_rowsE (fun y => by
      have h : (y 1).val < 1024 := (y 1).isLt
      omega),
    ← rows_split (ℓ := pLoc d) rowsM (fun y => (y 1).val) mem_rowsM (fun y => (y 1).isLt)]

theorem st_eq (d : Dev nD) : (bigSep Finset.univ fun c : Fin ((K (F := F)).nCore 0) => (P t).st 0 d c) = whole t d (t.Z d) (t.R d) := by
  rw [← tiles_eq]
  exact bigSep_fin 2 fun c => bigSep (Finset.range 16) fun i => tile t d c i (t.Z d) (t.R d)
theorem dn_eq (d : Dev nD) : (bigSep Finset.univ fun c : Fin ((K (F := F)).nCore 0) => (P t).dn 0 d c) = whole t d (gE t d) (gM t d) := by
  rw [← tiles_eq]
  exact bigSep_fin 2 fun c => bigSep (Finset.range 16) fun i => tile t d c i (gE t d) (gM t d)

theorem vecSplit : (K (F := F)).VecSplit' (P t) 0 := by
  intro d c
  show (bigSep (Finset.range 16) fun i => tile t d c.val i (t.Z d) (t.R d))
    ⊢ |={Set.univ}=> iprop((bigSep Finset.univ fun i : Fin 16 => tile t d c.val i.val (t.Z d) (t.R d))
      ∗ ((bigSep Finset.univ fun i : Fin 16 => tile t d c.val i.val (gE t d) (gM t d)) -∗ bigSep (Finset.range 16) fun i => tile t d c.val i (gE t d) (gM t d)))
  rw [bigSep_fin 16 fun i => tile t d c.val i (t.Z d) (t.R d), bigSep_fin 16 fun i => tile t d c.val i (gE t d) (gM t d)]
  iintro H; imodintro
  isplitl [H]; · iexact H
  iintro H; iexact H

/-! ## A tile's own semaphores and scratch -/

section Own

variable (d : Dev nD) (c : Fin τ.nSC) (s : Fin τ.nSub)

abbrev sems : Finset (DmaSem sig) := {cc0_scratch3.sem, cc0_scoped0.sem, cc0_scoped1.sem, cc0_scoped2.sem, cc0_scoped3.sem, cc0_scoped4.sem}

theorem ownSems0_V :
    (ownSems0 (V d c s) : sProp 𝕄)
      = iprop((Gather.Zero d c s cc0_scratch3.sem ∗ Gather.Zero d c s cc0_scoped0.sem ∗ Gather.Zero d c s cc0_scoped1.sem
          ∗ Gather.Zero d c s cc0_scoped2.sem ∗ Gather.Zero d c s cc0_scoped3.sem ∗ Gather.Zero d c s cc0_scoped4.sem)
          ∗ bigSep (ownCells (V d c s) \ sems.image fun x => ((V d c s, .dma x) : GSem nD τ sig)) fun g => semVal g 0) := by
  unfold SparseCore.Cfg.ownSems0
  have hsub : (sems.image fun x => ((V d c s, .dma x) : GSem nD τ sig)) ⊆ ownCells (V d c s) := by
    intro g hg
    obtain ⟨x, hx, rfl⟩ := Finset.mem_image.mp hg
    refine mem_ownCells.mpr ⟨rfl, ?_⟩
    show (SemLoc.dma x : SemLoc sig).isScoped .scVector = true
    clear hg; revert x; decide
  conv_lhs => rw [← Finset.union_sdiff_of_subset hsub]
  rw [bigSep_union Finset.disjoint_sdiff, SparseCore.bigSep_image_of_injOn (fun a _ b _ e => by
      have := (Prod.mk.inj e).2; exact SemLoc.dma.inj this)]
  congr 1
  unfold sems
  rw [SparseCore.bigSep_insert' (by decide), SparseCore.bigSep_insert' (by decide), SparseCore.bigSep_insert' (by decide),
    SparseCore.bigSep_insert' (by decide), SparseCore.bigSep_insert' (by decide), bigSep_singleton]

abbrev scratch : Finset (Ref sig .scVector) := {cc0_scratch0, cc0_scratch1, cc0_scratch2}

theorem ownBufs_V :
    (ownBufs (V d c s) : sProp 𝕄)
      = iprop(((∃ f, (V d c s).loc cc0_scratch0 ↦{fullShare} f) ∗ (∃ f, (V d c s).loc cc0_scratch1 ↦{fullShare} f) ∗ (∃ f, (V d c s).loc cc0_scratch2 ↦{fullShare} f))
          ∗ bigSep (ownRefs (τ := τ) (.scVector c s) \ scratch.image fun x => (Proc.scVector c s).devRef x)
              fun b => iprop(∃ f, ((d, b) : Loc nD τ sig) ↦{fullShare} f)) := by
  unfold SparseCore.Cfg.ownBufs
  have hsub : (scratch.image fun x => (Proc.scVector c s).devRef x) ⊆ ownRefs (τ := τ) (sig := sig) (.scVector c s) := by
    intro g hg
    obtain ⟨x, hx, rfl⟩ := Finset.mem_image.mp hg
    refine SparseCore.Cfg.mem_ownRefs_of_owner (p := Proc.scVector c s) ?_
    simp only [scratch, Finset.mem_insert, Finset.mem_singleton] at hx
    rcases hx with rfl | rfl | rfl <;> rfl
  show bigSep (ownRefs (τ := τ) (.scVector c s)) _ = _
  conv_lhs => rw [← Finset.union_sdiff_of_subset hsub]
  rw [bigSep_union Finset.disjoint_sdiff, SparseCore.bigSep_image_of_injOn (fun a _ b _ e => Proc.devRef_injective _ e)]
  congr 1
  unfold scratch
  rw [SparseCore.bigSep_insert' (show (cc0_scratch0 : Ref sig .scVector) ∉ ({cc0_scratch1, cc0_scratch2} : Finset (Ref sig .scVector)) by decide),
    SparseCore.bigSep_insert' (show (cc0_scratch1 : Ref sig .scVector) ∉ ({cc0_scratch2} : Finset (Ref sig .scVector)) by decide), bigSep_singleton]

end Own

/-! ## The obligation of a tile -/

section Task

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v3_scv) (Memref.isWhole_whole _) (Memref.whole main_v4_scv) (Memref.isWhole_whole _) (Memref.whole main_v1_scv) (Memref.isWhole_whole _)
          (Memref.whole main_v5_0_scv) (Memref.isWhole_whole _) (Memref.whole main_v5_1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1 cc0_scoped2 cc0_scoped3 cc0_scoped4) ⟨⟩ c s := rfl

theorem embRow_eq (c : Fin (grid0.bound 0)) (s : Fin (grid0.bound 1)) (k : Fin Gather.loop32.trips) : embRow (coordsV c s) k = (s.val * 2 + c.val) * 32 + k.val := by
  revert k s c; decide +kernel
theorem mskRow_eq (c : Fin (grid0.bound 0)) (s : Fin (grid0.bound 1)) : mskRow (coordsV c s) = s.val * 2 + c.val := by
  revert s c; decide +kernel

theorem out_rowsE (n o : ℕ) (hn : n < 1024) (ho : o + 512 ≤ 1024) (w : ℕ) (hw : n / 32 = w) :
    (Gather.outOf (b := 1024) (Memref.whole main_v5_0_scv) n o hn ho).view.set ⊆ rowsE w := by
  intro y hy
  have hy' : y ∈ ((View.whole (main_v5_0_scv : Ref sig .scVector)).slice (Rect.unit (s := S25x1024x1024) ![0, n, o] Gather.TOut.size (Gather.slab_inb (a := 25) hn ho))).set := hy
  rw [View.set_slice_whole] at hy'
  obtain ⟨h1, h2⟩ := Rect.mem_set_unit.mp hy' 1
  have h1' : n ≤ (y 1).val := h1
  have h2' : (y 1).val < n + 1 := h2
  rw [mem_rowsE]; omega

theorem out_rowsM (n o : ℕ) (hn : n < 32) (ho : o + 512 ≤ 1024) :
    (Gather.outOf (b := 32) (Memref.whole main_v5_1_scv) n o hn ho).view.set ⊆ rowsM n := by
  intro y hy
  have hy' : y ∈ ((View.whole (main_v5_1_scv : Ref sig .scVector)).slice (Rect.unit (s := S25x32x1024) ![0, n, o] Gather.TOut.size (Gather.slab_inb (a := 25) hn ho))).set := hy
  rw [View.set_slice_whole] at hy'
  obtain ⟨h1, h2⟩ := Rect.mem_set_unit.mp hy' 1
  have h1' : n ≤ (y 1).val := h1
  have h2' : (y 1).val < n + 1 := h2
  rw [mem_rowsM]; omega

/-- A tile's task takes what it is handed to the gathered rows. -/
theorem tile_body (hF : (K (F := F)).Facts) (hI : ∀ d, Gather.Slots (t.I d)) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ tile t d c.val s.val (t.Z d) (t.R d)
        ∗ scopedBufs (V d (c.castLE hcore0) (s.castLE hsub0)) ∗ scopedSems0 (V d (c.castLE hcore0) (s.castLE hsub0)) ∗ owes (V d (c.castLE hcore0) (s.castLE hsub0)) O W)
      ⊢ wp frame (wpE (defs₀ (F := F)) 𝒱₀ (V d (c.castLE hcore0) (s.castLE hsub0)) none) Set.univ
          (cc0__sc_gather_body (coordsV c s)
          (Memref.whole main_v3_scv) (Memref.isWhole_whole _) (Memref.whole main_v4_scv) (Memref.isWhole_whole _) (Memref.whole main_v1_scv) (Memref.isWhole_whole _)
          (Memref.whole main_v5_0_scv) (Memref.isWhole_whole _) (Memref.whole main_v5_1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1 cc0_scoped2 cc0_scoped3 cc0_scoped4)
          fun _ => iprop(tile t d c.val s.val (gE t d) (gM t d)
            ∗ scopedBufs (V d (c.castLE hcore0) (s.castLE hsub0)) ∗ scopedSems0 (V d (c.castLE hcore0) (s.castLE hsub0))
            ∗ ∃ W', ⌜∀ p ∈ W', p ∈ W ∨ p.2 = none⌝ ∗ owes (V d (c.castLE hcore0) (s.castLE hsub0)) O W') := by
  rw [body_eq, (K (F := F)).scopedBufs_V hF d (c.castLE hcore0) (s.castLE hsub0), SparseCore.Cfg.scopedSems0_V (Val := Elt F) d (c.castLE hcore0) (s.castLE hsub0), ownSems0_V, ownBufs_V]
  unfold tile
  iintro ⟨#Hlv, -, ⟨H2, H3, H4, H5, H6⟩, ⟨⟨H7, H8, H9⟩, Hbufs⟩, ⟨⟨Hd, Hr0, Hr1, Hr2, Hr3, Hr4⟩, Hsems⟩, HO⟩
  ihave Hmw := ((K (F := F)).mayWaits_none (thr := V d (c.castLE hcore0) (s.castLE hsub0)) hO) $$ Hlv
  ihave Hw := (Gather.wp_task (defs := defs₀ (F := F)) 𝒱₀ d (c.castLE hcore0) (s.castLE hsub0) none
      (Memref.whole main_v3_scv) (Memref.whole main_v4_scv) (Memref.whole main_v1_scv) (Memref.whole main_v5_0_scv) (Memref.whole main_v5_1_scv)
      (Memref.whole cc0_scratch0) (Memref.whole cc0_scratch1) (Memref.whole cc0_scratch2)
      (Memref.isWhole_whole _) (Memref.isWhole_whole _) (Memref.isWhole_whole _) (Memref.isWhole_whole _)
      cc0_scratch3.sem cc0_scoped0.sem cc0_scoped1.sem cc0_scoped2.sem cc0_scoped3.sem cc0_scoped4.sem
      (embRow (coordsV c s)) (embRow_lt (coordsV c s)) (mskRow (coordsV c s)) (mskRow_lt (coordsV c s))
      (q2 := sh c.val s.val) (q3 := sh c.val s.val) (q4 := sh c.val s.val) (f2 := t.X d) (f3 := t.Y d) (f4 := t.I d)
      (S5 := rowsE (s.val * 2 + c.val)) (S6 := rowsM (s.val * 2 + c.val)) (f5 := t.Z d) (f6 := t.R d) (O := O) (W := W)
      (hI d)
      (fun k o ho => out_rowsE _ o _ ho _ (by rw [embRow_eq]; have : k.val < 32 := k.isLt; omega))
      (fun o ho => mskRow_eq c s ▸ out_rowsM _ o (mskRow_lt _) ho)) $$ [H2 H3 H4 H5 H6 H7 H8 H9 Hd Hr0 Hr1 Hr2 Hr3 Hr4 Hmw HO]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hd]; · iexact Hd
    isplitl [Hr0]; · iexact Hr0
    isplitl [Hr1]; · iexact Hr1
    isplitl [Hr2]; · iexact Hr2
    isplitl [Hr3]; · iexact Hr3
    isplitl [Hr4]; · iexact Hr4
    isplitl [Hmw]; · iexact Hmw
    unfold Gather.Owe
    iexists W
    isplitr
    · ipureintro; exact fun p hp => .inl hp
    · iexact HO
  iapply (wp_wand frame _ _) $$ Hw
  iintro %_ ⟨H2, H3, H4, ⟨%fo, %ho, H5⟩, ⟨%fp, %hp, H6⟩, H7, H8, H9, Hd, Hr0, Hr1, Hr2, Hr3, Hr4, HO⟩
  isplitl [H2 H3 H4 H5 H6]
  · isplitl [H2]; · iexact H2
    isplitl [H3]; · iexact H3
    isplitl [H4]; · iexact H4
    isplitl [H5]
    · iapply (Entails.of_eq (pointsTo_congr (ℓ := oLoc d) (f := fo) (g := gE t d) (I := rowsE (s.val * 2 + c.val)) fun y hy => ho y (by
        have h1 := (mem_rowsE _ y).mp hy
        have h2 : (y 1).val < 1024 := (y 1).isLt
        refine ⟨⟨(y 1).val % 32, Nat.mod_lt _ (by decide)⟩, ?_⟩
        rw [embRow_eq]
        show (s.val * 2 + c.val) * 32 + (y 1).val % 32 = (y 1).val
        omega)))
      iexact H5
    · iapply (Entails.of_eq (pointsTo_congr (ℓ := pLoc d) (f := fp) (g := gM t d) (I := rowsM (s.val * 2 + c.val)) fun y hy => hp y (by
        rw [mskRow_eq]; exact (mem_rowsM _ y).mp hy)))
      iexact H6
  isplitl [H7 H8 H9 Hbufs]
  · isplitl [H7 H8 H9]
    · isplitl [H7]; · iexact H7
      isplitl [H8]; · iexact H8
      iexact H9
    · iexact Hbufs
  isplitl [Hd Hr0 Hr1 Hr2 Hr3 Hr4 Hsems]
  · isplitl [Hd Hr0 Hr1 Hr2 Hr3 Hr4]
    · isplitl [Hd]; · iexact Hd
      isplitl [Hr0]; · iexact Hr0
      isplitl [Hr1]; · iexact Hr1
      isplitl [Hr2]; · iexact Hr2
      isplitl [Hr3]; · iexact Hr3
      iexact Hr4
    · iexact Hsems
  unfold Gather.Owe
  iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hI : ∀ d, Gather.Slots (t.I d)) : (K (F := F)).TileObl (D (F := F)) 𝒱 (P t) v₀ 0 := by
  intro d c i O W hO _ _
  simp only [show (P t).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body t hF hI d ⟨_, hc.1⟩ ⟨_, hc.2⟩ O W hO).trans (wp_mono frame _ _ fun _ => obl_post)

end Task

end Cert.Proof.Call

end
-- ==== Proof.Run.lean ====
/-
  The whole program's run: the host operations before the SparseCore call, the call, the host operations after it. Over
  any float values, it ends with the arguments unchanged, every counter at zero, and the two results at the gathered
  tables, brought back to the results' shapes.
-/
module

public import proofs.«01_k».proof.Proof.Call
public import Idealize.ShloMosaic.Lib.Pipeline.Frame
public import Idealize.ShloMosaic.Lib.Pipeline.FrameTail

@[expose] public section

noncomputable section

namespace Cert.Proof.Call

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after after_cons after_nil)
open Idealize.ShloMosaic.Pipeline (ucRefs sub_ucRefs devRef_mem_ucRefs)

variable {F : FTy → Type} [FloatOps F]

local notation "𝕄" => MT nD τ sig (HIx 1) (Elt F) ℕ UU ℕ

/-! ## The host operations -/

/-- Those before the call: the slot table and the two tables, each with the batch axis last. -/
def before : List (HloOp τ sig (Elt F)) :=
  [StableHlo.reshape main_arg2 main_v0 (rfl : (.i32 : EltTy) = .i32) shapeCasts_S5120x5_S1024x25,
   StableHlo.unary main_v0 main_v1 ((transpose S25x1024 [1, 0] · transposes_S1024x25_S25x1024_1_0) : (⟨S1024x25, .i32⟩ : BufTy).Contents (Elt F) → (⟨S25x1024, .i32⟩ : BufTy).Contents (Elt F)),
   StableHlo.unary main_arg0 main_v2 ((transpose S50x32x32x1024 [1, 2, 3, 0] · transposes_S1024x50x32x32_S50x32x32x1024_1_2_3_0) : (⟨S1024x50x32x32, .f32⟩ : BufTy).Contents (Elt F) → (⟨S50x32x32x1024, .f32⟩ : BufTy).Contents (Elt F)),
   StableHlo.reshape main_v2 main_v3 (rfl : (.f32 : EltTy) = .f32) shapeCasts_S50x32x32x1024_S50x1024x1024,
   StableHlo.unary main_arg1 main_v4 ((transpose S50x32x1024 [1, 2, 0] · transposes_S1024x50x32_S50x32x1024_1_2_0) : (⟨S1024x50x32, .f32⟩ : BufTy).Contents (Elt F) → (⟨S50x32x1024, .f32⟩ : BufTy).Contents (Elt F))]

/-- Those after it: the two results, each with the batch axis first again. -/
def behind : List (HloOp τ sig (Elt F)) :=
  [StableHlo.reshape main_v5_0 main_v6 (rfl : (.f32 : EltTy) = .f32) shapeCasts_S25x1024x1024_S5x5x32x32x1024,
   StableHlo.unary main_v6 main_v7 ((transpose S1024x5x5x32x32 [4, 0, 1, 2, 3] · transposes_S5x5x32x32x1024_S1024x5x5x32x32_4_0_1_2_3) : (⟨S5x5x32x32x1024, .f32⟩ : BufTy).Contents (Elt F) → (⟨S1024x5x5x32x32, .f32⟩ : BufTy).Contents (Elt F)),
   StableHlo.reshape main_v5_1 main_v8 (rfl : (.f32 : EltTy) = .f32) shapeCasts_S25x32x1024_S5x5x32x1024,
   StableHlo.unary main_v8 main_v9 ((transpose S1024x5x5x32 [3, 0, 1, 2] · transposes_S5x5x32x1024_S1024x5x5x32_3_0_1_2) : (⟨S5x5x32x1024, .f32⟩ : BufTy).Contents (Elt F) → (⟨S1024x5x5x32, .f32⟩ : BufTy).Contents (Elt F))]

theorem main_eq (d : Dev nD) : main (F := F) d = (StableHlo.seq before >>= fun _ => (K (F := F)).run d 0 >>= fun _ => StableHlo.seq behind) := by
  simp only [main, before, behind, StableHlo.seq, bind_assoc, pure_bind]

theorem before_bufs : ∀ op ∈ before (F := F), op.bufs ⊆ ucRefs τ sig := by
  intro op h
  simp only [before, List.mem_cons, List.not_mem_nil, or_false] at h
  rcases h with rfl | rfl | rfl | rfl | rfl <;> exact sub_ucRefs _ (by simp)
theorem behind_bufs : ∀ op ∈ behind (F := F), op.bufs ⊆ ucRefs τ sig := by
  intro op h
  simp only [behind, List.mem_cons, List.not_mem_nil, or_false] at h
  rcases h with rfl | rfl | rfl | rfl <;> exact sub_ucRefs _ (by simp)
theorem before_fresh : ∀ op ∈ before (F := F), op.fresh = ∅ := by
  intro op h
  simp only [before, List.mem_cons, List.not_mem_nil, or_false] at h
  rcases h with rfl | rfl | rfl | rfl | rfl <;> rfl
theorem behind_fresh : ∀ op ∈ behind (F := F), op.fresh = ∅ := by
  intro op h
  simp only [behind, List.mem_cons, List.not_mem_nil, or_false] at h
  rcases h with rfl | rfl | rfl | rfl <;> rfl

/-! ## The contents along the run -/

variable (m : (ℓ : Loc nD τ sig) → Buf (Elt F) ℓ) (ρ : Dev nD → PrngReg)

abbrev e' : DevRef τ sig := Proc.devRef .tc (main_v3 : Ref sig .tc)
abbrev k' : DevRef τ sig := Proc.devRef .tc (main_v4 : Ref sig .tc)
abbrev i' : DevRef τ sig := Proc.devRef .tc (main_v1 : Ref sig .tc)
abbrev o' : DevRef τ sig := Proc.devRef .tc (main_v5_0 : Ref sig .tc)
abbrev p' : DevRef τ sig := Proc.devRef .tc (main_v5_1 : Ref sig .tc)

/-- At the launch, at the call's start, at its end, and at the program's end. -/
def V0 (d : Dev nD) : Valuation τ sig (Elt F) := fun b => m (d, b)
def V1 (d : Dev nD) : Valuation τ sig (Elt F) := after before (V0 m d)
def tabs : Tabs F := ⟨fun d => V1 m d e', fun d => V1 m d k', fun d => V1 m d i', fun d => V1 m d o', fun d => V1 m d p'⟩
def V2 (d : Dev nD) : Valuation τ sig (Elt F) := Function.update (Function.update (V1 m d) o' (gE (tabs m) d)) p' (gM (tabs m) d)
def V3 (d : Dev nD) : Valuation τ sig (Elt F) := after behind (V2 m d)

/-- The call's arrays among the program's. -/
abbrev S5 : Finset (DevRef τ sig) := {e', k', i', o', p'}

theorem S5_sub : S5 ⊆ ucRefs τ sig := by
  intro b hb
  simp only [S5, Finset.mem_insert, Finset.mem_singleton] at hb
  rcases hb with rfl | rfl | rfl | rfl | rfl <;> exact devRef_mem_ucRefs rfl

theorem held_S5 (d : Dev nD) (W : Valuation τ sig (Elt F)) :
    (held (SparseCore.T d) S5 W : sProp 𝕄) = iprop((eLoc d ↦{fullShare} W e') ∗ (kLoc d ↦{fullShare} W k') ∗ (iLoc d ↦{fullShare} W i')
      ∗ (oLoc d ↦{fullShare} W o') ∗ (pLoc d ↦{fullShare} W p')) := by
  unfold held S5
  rw [SparseCore.bigSep_insert' (by decide), SparseCore.bigSep_insert' (by decide), SparseCore.bigSep_insert' (by decide), SparseCore.bigSep_insert' (by decide), bigSep_singleton]

theorem V2_o (d : Dev nD) : V2 m d o' = gE (tabs m) d := (Function.update_of_ne (show o' ≠ p' by decide) _ _).trans (Function.update_self _ _ _)
theorem V2_p (d : Dev nD) : V2 m d p' = gM (tabs m) d := Function.update_self _ _ _
theorem V2_ne (d : Dev nD) (b : DevRef τ sig) (ho : b ≠ o') (hp : b ≠ p') : V2 m d b = V1 m d b :=
  (Function.update_of_ne hp _ _).trans (Function.update_of_ne ho _ _)

theorem call_pre (d : Dev nD) : (held (SparseCore.T d) S5 (V1 m d) : sProp 𝕄) = whole (tabs m) d ((tabs m).Z d) ((tabs m).R d) := held_S5 d _
theorem call_post (d : Dev nD) : (held (SparseCore.T d) S5 (V2 m d) : sProp 𝕄) = whole (tabs m) d (gE (tabs m) d) (gM (tabs m) d) := by
  rw [held_S5, V2_o, V2_p, V2_ne m d e' (by decide) (by decide), V2_ne m d k' (by decide) (by decide), V2_ne m d i' (by decide) (by decide)]
  rfl
theorem call_rest (d : Dev nD) : (held (SparseCore.T d) (ucRefs τ sig \ S5) (V1 m d) : sProp 𝕄) = held (SparseCore.T d) (ucRefs τ sig \ S5) (V2 m d) := by
  refine held_congr _ fun b hb => ?_
  have h := (Finset.mem_sdiff.mp hb).2
  exact (V2_ne m d b (fun e => h (by rw [e]; decide)) (fun e => h (by rw [e]; decide))).symm

theorem unscoped_held (d : Dev nD) : (unscopedBufs d (fun b => m ((SparseCore.T d).loc b)) : sProp 𝕄) = held (SparseCore.T d) (ucRefs τ sig) (V0 m d) :=
  Pipeline.unscopedBufs_held d (V0 m d)

/-! ## @main -/

abbrev FIN (d : Dev nD) : sProp 𝕄 := held (SparseCore.T d) (ucRefs τ sig) (V3 m d)

theorem hmain (κ : GSem nD τ sig → ℕ) (d : Dev nD) :
    iprop((K (F := F)).ctx EH (P (tabs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (ucRefs τ sig) _ before before_bufs before_fresh (V0 m d)) $$ [Hb Hheld]
  · isplitl [Hb] <;> iassumption
  iintro ⟨Hb, Hheld⟩
  ihave Hh := (show (held (d.tc : Thread nD τ) (ucRefs τ sig) (after before (V0 m d)) : sProp 𝕄) ⊢ iprop(held (SparseCore.T d) S5 (V1 m d) ∗ held (SparseCore.T d) (ucRefs τ sig \ S5) (V1 m d))
    from Entails.of_eq (held_sub_split (SparseCore.T d) S5_sub (V1 m d))) $$ Hheld
  icases Hh with ⟨H5, Hrest⟩
  rw [wp_bind]
  iapply ((K (F := F)).wp_run (D (F := F)) 𝒱 (EH := EH) (P := P (tabs m)) κ d 0) $$ [Hst H5 Hb Hrest Hts]
  isplitr; · iexact Hctx
  isplitl [Hst]; · iexact Hst
  isplitl [H5]
  · rw [st_eq, ← call_pre]; iexact H5
  iintro ⟨Hst, Hdn⟩
  ihave Hdn' := (Entails.of_eq ((dn_eq (tabs m) d).trans (call_post m d).symm)) $$ Hdn
  ihave Hrest' := (Entails.of_eq (call_rest m d)) $$ Hrest
  ihave Hheld := (Entails.of_eq (held_sub_split (SparseCore.T d) S5_sub (V2 m d)).symm) $$ [Hdn' Hrest']
  · isplitl [Hdn'] <;> iassumption
  rw [show (StableHlo.seq behind : Prog (TpuEff nD τ sig (Elt F) _ .tc) PUnit) = (StableHlo.seq behind >>= fun _ => pure ⟨⟩) from (bind_pure _).symm]
  iapply (wp_seq 𝒱 none Set.univ d (ucRefs τ sig) _ behind behind_bufs behind_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The end of the run -/

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  refine (forall_intro fun b => ?_).trans pure_forall.2
  refine pure_imp_intro fun hb => ?_
  unfold FIN held
  rw [SparseCore.bigSep_erase' hb]
  iintro ⟨⟨Hx, -⟩, HSI⟩
  ihave H := (SI_pointsTo_agree (st := s') (ℓ := ((d, b) : Loc nD τ sig)) (I := Finset.univ) (q := fullShare) (f := V3 m d b)) $$ [HSI Hx]
  · isplitl [HSI] <;> iassumption
  icases H with %hx
  ipureintro; exact funext fun i => hx i (Finset.mem_univ i)

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (t : Tabs F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P t).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- Every buffer of the program's ends at what the operations and the call leave there, and every counter at zero. -/
theorem run_main [∀ e, Nonempty (Elt F e)] (hI : ∀ d, Gather.Slots ((tabs m).I d)) :
    θ_run (Cert.KernelIdeal.defs (F := F)) (Cert.KernelIdeal.threads (F := F)) ⟨m, fun _ => 0, ρ⟩
      (fun r => (∀ d : Dev nD, ∀ b ∈ ucRefs τ sig, r.2.mem (d, b) = V3 m d b) ∧ r.2.sem = fun _ => 0) :=
  SparseCore.Cfg.θ_run_sc_quiescent (K := K (F := F)) (D := D (F := F)) (𝒱 := 𝒱) (EH := EH) (P := P (tabs m)) (A := ∅) facts v₀
    (fun q hq => match q with | 0 => nomatch hq)
    (fun q _ => match q with | 0 => tileObl (tabs m) facts hI)
    (fun q _ => match q with | 0 => SparseCore.Cfg.VecSplit.of_plain (vecSplit (tabs m)))
    m ρ main (fun _ => iprop(emp)) (FIN m) (u₀ (F := F)) (sep_elim_left.trans (hu₀ (tabs m))) (hmain m ρ) (fq m) (hfin m) _ (fun _ h hz => ⟨h, hz⟩)

end Cert.Proof.Call

end
-- ==== Proof.Value.lean ====
/-
  What the program leaves in its arguments and results, in terms of the arguments: element (b, c, k, i, j) of the first
  result is element (b, s, i, j) of the embedding, s the slot that row 5 b + c of the slot table names at k; the second
  result reads the mask in the same way.
-/
module

public import proofs.«01_k».proof.Proof.Run
public import proofs.«01_k».proof.Proof.Gen.Pre_slots_in_range
public import Idealize.ShloMosaic.Lib.ReduceAll
public import Idealize.ShloMosaic.Lib.Affine
public import Idealize.ShloMosaic.Lib.Pointwise.Tactic
public import Idealize.ShloMosaic.Lib.Pointwise.Sums
public import Idealize.ShloMosaic.Lib.Pointwise.IndexBridge
public import Idealize.ShloMosaic.Lib.Pipeline.Value

@[expose] public section

noncomputable section

namespace Cert.Proof.Call

open Cert.KernelIdeal Cert.KernelIdeal.Gen

open Idealize.ShloMosaic

open Idealize.ShloMosaic.StableHlo

variable {F : FTy → Type} [FloatOps F]
variable (m : (ℓ : Loc nD τ sig) → Buf (Elt F) ℓ)

/-! ## The arrays along the run -/

abbrev arg0 (d : Dev nD) : S1024x50x32x32.Idx → F .f32 := m ((d.tc : Thread nD τ).loc main_arg0)
abbrev arg1 (d : Dev nD) : S1024x50x32.Idx → F .f32 := m ((d.tc : Thread nD τ).loc main_arg1)
abbrev arg2 (d : Dev nD) : IVec S5120x5 32 := m ((d.tc : Thread nD τ).loc main_arg2)

theorem tabs_I (d : Dev nD) : (tabs m).I d = transpose S25x1024 [1, 0] (shapeCast S1024x25 (arg2 m d) shapeCasts_S5120x5_S1024x25) transposes_S1024x25_S25x1024_1_0 := by
  show after before (V0 m d) i' = _
  unfold before i'
  after_results_simp <;> rfl
theorem tabs_X (d : Dev nD) : (tabs m).X d = shapeCast S50x1024x1024 (transpose S50x32x32x1024 [1, 2, 3, 0] (arg0 m d) transposes_S1024x50x32x32_S50x32x32x1024_1_2_3_0) shapeCasts_S50x32x32x1024_S50x1024x1024 := by
  show after before (V0 m d) e' = _
  unfold before e'
  after_results_simp <;> rfl
theorem tabs_Y (d : Dev nD) : (tabs m).Y d = transpose S50x32x1024 [1, 2, 0] (arg1 m d) transposes_S1024x50x32_S50x32x1024_1_2_0 := by
  show after before (V0 m d) k' = _
  unfold before k'
  after_results_simp <;> rfl

theorem V3_arg (d : Dev nD) (b : Ref sig .tc) (hb : b = main_arg0 ∨ b = main_arg1 ∨ b = main_arg2) :
    V3 m d (Proc.devRef .tc b) = m ((d.tc : Thread nD τ).loc b) := by
  have h : V3 m d (Proc.devRef .tc b) = V2 m d (Proc.devRef .tc b) := by
    unfold V3 behind
    rcases hb with rfl | rfl | rfl <;> after_results_simp
  rw [h, V2_ne m d _ (by rcases hb with rfl | rfl | rfl <;> decide) (by rcases hb with rfl | rfl | rfl <;> decide)]
  unfold V1 before
  rcases hb with rfl | rfl | rfl <;> after_results_simp <;> rfl

theorem V3_v7 (d : Dev nD) : V3 m d (Proc.devRef .tc main_v7) = transpose S1024x5x5x32x32 [4, 0, 1, 2, 3]
    (shapeCast S5x5x32x32x1024 (gE (tabs m) d) shapeCasts_S25x1024x1024_S5x5x32x32x1024) transposes_S5x5x32x32x1024_S1024x5x5x32x32_4_0_1_2_3 := by
  have h := V2_o m d
  unfold o' at h
  unfold V3 behind
  after_results_simp
  rw [h]; rfl
theorem V3_v9 (d : Dev nD) : V3 m d (Proc.devRef .tc main_v9) = transpose S1024x5x5x32 [3, 0, 1, 2]
    (shapeCast S5x5x32x1024 (gM (tabs m) d) shapeCasts_S25x32x1024_S5x5x32x1024) transposes_S5x5x32x1024_S1024x5x5x32_3_0_1_2 := by
  have h := V2_p m d
  unfold p' at h
  unfold V3 behind
  after_results_simp
  rw [h]; rfl

/-! ## Read at an index -/

/-- The embedding's rows by the slot table; the mask's. -/
def pickE {α : Type} (E : S1024x50x32x32.Idx → α) (L : IVec S5120x5 32) : S1024x5x5x32x32.Idx → α := fun y =>
  E (ix4 (y 0) ⟨(L (ix2 ⟨(y 0).val * 5 + (y 1).val, by have := (y 0).isLt; have := (y 1).isLt; change _ < 1024 at *; change _ < 5 at *; omega⟩ (y 2))).toNat % 50, Nat.mod_lt _ (by decide)⟩ (y 3) (y 4))
def pickM {α : Type} (M : S1024x50x32.Idx → α) (L : IVec S5120x5 32) : S1024x5x5x32.Idx → α := fun y =>
  M (ix3 (y 0) ⟨(L (ix2 ⟨(y 0).val * 5 + (y 1).val, by have := (y 0).isLt; have := (y 1).isLt; change _ < 1024 at *; change _ < 5 at *; omega⟩ (y 2))).toNat % 50, Nat.mod_lt _ (by decide)⟩ (y 3))

theorem slots_of (L : IVec S5120x5 32) (h : ∀ i, (L i).toNat < 50) :
    Gather.Slots (transpose S25x1024 [1, 0] (shapeCast S1024x25 L shapeCasts_S5120x5_S1024x25) transposes_S1024x25_S25x1024_1_0) := fun _ => h _

theorem gatAll_at {α : Type} {b : Nat} (T : Gather.TIdx.Idx → BitVec 32) (X : (⟨3, ![50, b, 1024]⟩ : Shape).Idx → α) (i : Fin 25) (j : Fin b) (l : Fin 1024) :
    Gather.gatAll T X (ix3 i j l) = X (ix3 ⟨(T (ix2 i l)).toNat % 50, Nat.mod_lt _ (by decide)⟩ j l) := by
  rw [ix3_eq_valueIdx, ix3_eq_valueIdx, ix2_eq_valueIdx]; rfl

/-- Row `5 a + k` of the slot table with the batch axis last is entry (b, a, k) of the table. -/
theorem slot_at (L : IVec S5120x5 32) (b : Fin 1024) (a k : Fin 5) :
    transpose S25x1024 [1, 0] (shapeCast S1024x25 L shapeCasts_S5120x5_S1024x25) transposes_S1024x25_S25x1024_1_0
      (ix2 ⟨a.val * 5 + k.val, by omega⟩ b) = L (ix2 ⟨b.val * 5 + a.val, by omega⟩ k) := by
  pointwise
  refine shapeCast_apply L _ _ (ix2 ⟨b.val * 5 + a.val, by omega⟩ k) ?_
  rw [Shape.rowMajor_val_two, Shape.rowMajor_val_two]
  show (b.val * 5 + a.val) * 5 + k.val = b.val * 25 + (a.val * 5 + k.val)
  omega

theorem emb_at {α : Type} (E : S1024x50x32x32.Idx → α) (n : Fin 50) (r c : Fin 32) (b : Fin 1024) :
    shapeCast S50x1024x1024 (transpose S50x32x32x1024 [1, 2, 3, 0] E transposes_S1024x50x32x32_S50x32x32x1024_1_2_3_0) shapeCasts_S50x32x32x1024_S50x1024x1024
      (ix3 n ⟨r.val * 32 + c.val, by omega⟩ b) = E (ix4 b n r c) := by
  refine (shapeCast_apply _ _ _ (ix4 n r c b) ?_).trans ?_
  · rw [Shape.rowMajor_val_four, Shape.rowMajor_val_three]
    show ((n.val * 32 + r.val) * 32 + c.val) * 1024 + b.val = (n.val * 1024 + (r.val * 32 + c.val)) * 1024 + b.val
    omega
  · pointwise

theorem msk_at {α : Type} (M : S1024x50x32.Idx → α) (n : Fin 50) (r : Fin 32) (b : Fin 1024) :
    transpose S50x32x1024 [1, 2, 0] M transposes_S1024x50x32_S50x32x1024_1_2_0 (ix3 n r b) = M (ix3 b n r) := by
  pointwise

theorem out7_at {α : Type} (G : S25x1024x1024.Idx → α) (b : Fin 1024) (a k : Fin 5) (r c : Fin 32) :
    transpose S1024x5x5x32x32 [4, 0, 1, 2, 3] (shapeCast S5x5x32x32x1024 G shapeCasts_S25x1024x1024_S5x5x32x32x1024) transposes_S5x5x32x32x1024_S1024x5x5x32x32_4_0_1_2_3
      (ix5 b a k r c) = G (ix3 ⟨a.val * 5 + k.val, by omega⟩ ⟨r.val * 32 + c.val, by omega⟩ b) := by
  pointwise
  refine shapeCast_apply _ _ _ _ ?_
  rw [Shape.rowMajor_val_five, Shape.rowMajor_val_three]
  show ((a.val * 5 + k.val) * 1024 + (r.val * 32 + c.val)) * 1024 + b.val = (((a.val * 5 + k.val) * 32 + r.val) * 32 + c.val) * 1024 + b.val
  omega

theorem out9_at {α : Type} (G : S25x32x1024.Idx → α) (b : Fin 1024) (a k : Fin 5) (r : Fin 32) :
    transpose S1024x5x5x32 [3, 0, 1, 2] (shapeCast S5x5x32x1024 G shapeCasts_S25x32x1024_S5x5x32x1024) transposes_S5x5x32x1024_S1024x5x5x32_3_0_1_2
      (ix4 b a k r) = G (ix3 ⟨a.val * 5 + k.val, by omega⟩ r b) := by
  pointwise
  refine shapeCast_apply _ _ _ _ ?_
  rw [Shape.rowMajor_val_four, Shape.rowMajor_val_three]
  show ((a.val * 5 + k.val) * 32 + r.val) * 1024 + b.val = ((a.val * 5 + k.val) * 32 + r.val) * 1024 + b.val
  rfl

theorem val_v7 (d : Dev nD) : V3 m d (Proc.devRef .tc main_v7) = pickE (arg0 m d) (arg2 m d) := by
  rw [V3_v7]; unfold gE; rw [tabs_I, tabs_X]
  funext y
  obtain ⟨b, a, k, r, c, rfl⟩ : ∃ (b : Fin 1024) (a k : Fin 5) (r c : Fin 32), y = ix5 b a k r c := ⟨y 0, y 1, y 2, y 3, y 4, eq_ix5 y⟩
  refine (out7_at _ b a k r c).trans ?_
  rw [gatAll_at, emb_at]
  exact congrArg (fun w : BitVec 32 => arg0 m d (ix4 b ⟨w.toNat % 50, Nat.mod_lt _ (by decide)⟩ r c)) (slot_at (arg2 m d) b a k)

theorem val_v9 (d : Dev nD) : V3 m d (Proc.devRef .tc main_v9) = pickM (arg1 m d) (arg2 m d) := by
  rw [V3_v9]; unfold gM; rw [tabs_I, tabs_Y]
  funext y
  obtain ⟨b, a, k, r, rfl⟩ : ∃ (b : Fin 1024) (a k : Fin 5) (r : Fin 32), y = ix4 b a k r := ⟨y 0, y 1, y 2, y 3, eq_ix4 y⟩
  refine (out9_at _ b a k r).trans ?_
  rw [gatAll_at, msk_at]
  exact congrArg (fun w : BitVec 32 => arg1 m d (ix3 b ⟨w.toNat % 50, Nat.mod_lt _ (by decide)⟩ r)) (slot_at (arg2 m d) b a k)

/-- What the precondition says of the slot table. -/
theorem slots_of_pre (a0 : FVec F S1024x50x32x32 .f32) (a1 : FVec F S1024x50x32 .f32) (a2 : IVec S5120x5 32)
    (h : Cert.Pre_slots_in_range.fn a0 a1 a2 = fun _ => 1#1) : ∀ i, (a2 i).toNat < 50 := by
  intro i
  haveI : Subsingleton (Cert.Pre_slots_in_range.S_).Idx := ⟨fun a b => funext fun x => x.elim0⟩
  have h1 := Host.reduce_andi_all _ _ _ _ _ (congrFun h (Shape.Idx.first (by decide))) i
  obtain ⟨hl, hu⟩ := IntOp.andi_eq_one.1 h1
  have hl' : (0#32 : BitVec 32).toInt ≤ (a2 i).toInt := IntOp.cmpi_sge.1 hl
  have hu' : (a2 i).toInt < (50#32 : BitVec 32).toInt := IntOp.cmpi_slt.1 hu
  have e := BitVec.toInt_eq_toNat_cond (x := a2 i)
  have := (a2 i).isLt
  simp only [BitVec.reduceToInt] at hl' hu'
  split at e <;> omega

end Cert.Proof.Call

end
-- ==== Proof.RefValue.lean ====
/-
  What the reference's results hold, in terms of its arguments: its index array pairs the batch number with the slot
  that the table names (the wrapped forms of both never chosen, none being negative), and its gathers read the
  embedding and the mask there.
-/
module

public import proofs.«01_k».proof.Proof.Value
public import proofs.«01_k».proof.Proof.Gen.ReferenceIdeal.Run
public import Idealize.ShloMosaic.Lib.StableHlo.Predicate
public import Idealize.ShloMosaic.Lib.Pointwise

@[expose] public section

noncomputable section

namespace Cert.Proof.Ref

open Cert.ReferenceIdeal Cert.ReferenceIdeal.Gen

open Idealize.ShloMosaic

/-- The index array: at (b, a, k) the pair of b and the slot. -/
def pairs (L : IVec S5120x5 32) : IVec S1024x5x5x2 32 :=
  concatenate S1024x5x5x2 3 [⟨S1024x5x5x1, (broadcastInDim S1024x5x5x1 ![0, 1, 2] bcast_S1024x5x5_S1024x5x5x1_0_1_2 (broadcastInDim S1024x5x5 ![0, 1, 2] bcast_S1024x1x1_S1024x5x5_0_1_2 (select (cmpi .slt (broadcastInDim S1024x1x1 ![0] bcast_S1024_S1024x1x1_0 (iotaInDim S1024 32 0)) (broadcastInDim S1024x1x1 ![] bcast_S_S1024x1x1 (constantI S_ 32 0#32))) (addi (broadcastInDim S1024x1x1 ![0] bcast_S1024_S1024x1x1_0 (iotaInDim S1024 32 0)) (broadcastInDim S1024x1x1 ![] bcast_S_S1024x1x1 (constantI S_ 32 1024#32))) (broadcastInDim S1024x1x1 ![0] bcast_S1024_S1024x1x1_0 (iotaInDim S1024 32 0)))))⟩, ⟨S1024x5x5x1, (broadcastInDim S1024x5x5x1 ![0, 1, 2] bcast_S1024x5x5_S1024x5x5x1_0_1_2 (select (cmpi .slt (shapeCast _ L shapeCasts_S5120x5_S1024x5x5) (broadcastInDim S1024x5x5 ![] bcast_S_S1024x5x5 (constantI S_ 32 0#32))) (addi (shapeCast _ L shapeCasts_S5120x5_S1024x5x5) (broadcastInDim S1024x5x5 ![] bcast_S_S1024x5x5 (constantI S_ 32 50#32))) (shapeCast _ L shapeCasts_S5120x5_S1024x5x5)))⟩] concatenates_S1024x5x5x1_S1024x5x5x1_S1024x5x5x2_d3

theorem not_neg (w : BitVec 32) (h : w.toNat < 2 ^ 31) : IntOp.cmpi .slt w 0#32 = 0#1 := by
  refine ValueIdx.eq_zero_of_ne_one fun e => ?_
  have e' := IntOp.cmpi_slt.1 e
  rw [StableHlo.Predicate.toInt_eq_toNat_of_lt h] at e'
  simp only [BitVec.reduceToInt] at e'
  omega

theorem pairs_0 (L : IVec S5120x5 32) (b : Fin 1024) (a k : Fin 5) : pairs L (ix4 b a k 0) = BitVec.ofNat 32 b.val := by
  unfold pairs
  rw [concatenate_pair_apply]
  refine (dif_pos (show ((ix4 b a k (0 : Fin 2)) 3).val < 1 from Nat.zero_lt_one)).trans ?_
  pointwise
  rw [not_neg _ (by rw [BitVec.toNat_ofNat]; have := b.isLt; omega), ValueIdx.select_zero]

theorem pairs_1 (L : IVec S5120x5 32) (b : Fin 1024) (a k : Fin 5) (h : (L (ix2 ⟨b.val * 5 + a.val, by omega⟩ k)).toNat < 50) :
    pairs L (ix4 b a k 1) = L (ix2 ⟨b.val * 5 + a.val, by omega⟩ k) := by
  unfold pairs
  rw [concatenate_pair_apply]
  refine (dif_neg (show ¬ ((ix4 b a k (1 : Fin 2)) 3).val < 1 from lt_irrefl 1)).trans ?_
  pointwise
  rw [not_neg _ (by omega), ValueIdx.select_zero]

abbrev dE := gather_S1024x50x32x32_S1024x5x5x2_S1024x5x5x32x32_34_01_n_n_01_3_113232
abbrev dM := gather_S1024x50x32_S1024x5x5x2_S1024x5x5x32_3_01_n_n_01_3_1132

theorem gather_emb {α : Type} (E : S1024x50x32x32.Idx → α) (N : IVec S1024x5x5x2 32) (b : Fin 1024) (a k : Fin 5) (r c : Fin 32) :
    Host.gather dE E N (ix5 b a k r c)
      = E (ix4 ⟨min (N (ix4 b a k 0)).toInt.toNat 1023, by omega⟩ ⟨min (N (ix4 b a k 1)).toInt.toNat 49, by omega⟩ r c) := by
  unfold Host.gather
  congr 1
  funext x
  refine Fin.ext ?_
  show (dE.start (ix5 b a k r c) N x + dE.batchCoord (ix5 b a k r c) x + dE.offCoord (ix5 b a k r c) x) = _
  have hs : ∀ j : Fin 2, dE.siIdx (ix5 b a k r c) j = ix4 b a k j := by
    intro j; funext x; refine Fin.ext ?_
    match x with
    | ⟨0, _⟩ => rfl
    | ⟨1, _⟩ => rfl
    | ⟨2, _⟩ => rfl
    | ⟨3, _⟩ => rfl
  match x with
  | ⟨0, _⟩ =>
    show min (N (dE.siIdx (ix5 b a k r c) (0 : Fin 2))).toInt.toNat 1023 + 0 + 0 = _
    rw [hs]; rfl
  | ⟨1, _⟩ =>
    show min (N (dE.siIdx (ix5 b a k r c) (1 : Fin 2))).toInt.toNat 49 + 0 + 0 = _
    rw [hs]; rfl
  | ⟨2, _⟩ => show 0 + 0 + r.val = r.val; omega
  | ⟨3, _⟩ => show 0 + 0 + c.val = c.val; omega

theorem gather_msk {α : Type} (M : S1024x50x32.Idx → α) (N : IVec S1024x5x5x2 32) (b : Fin 1024) (a k : Fin 5) (r : Fin 32) :
    Host.gather dM M N (ix4 b a k r)
      = M (ix3 ⟨min (N (ix4 b a k 0)).toInt.toNat 1023, by omega⟩ ⟨min (N (ix4 b a k 1)).toInt.toNat 49, by omega⟩ r) := by
  unfold Host.gather
  congr 1
  funext x
  refine Fin.ext ?_
  show (dM.start (ix4 b a k r) N x + dM.batchCoord (ix4 b a k r) x + dM.offCoord (ix4 b a k r) x) = _
  have hs : ∀ j : Fin 2, dM.siIdx (ix4 b a k r) j = ix4 b a k j := by
    intro j; funext x; refine Fin.ext ?_
    match x with
    | ⟨0, _⟩ => rfl
    | ⟨1, _⟩ => rfl
    | ⟨2, _⟩ => rfl
    | ⟨3, _⟩ => rfl
  match x with
  | ⟨0, _⟩ =>
    show min (N (dM.siIdx (ix4 b a k r) (0 : Fin 2))).toInt.toNat 1023 + 0 + 0 = _
    rw [hs]; rfl
  | ⟨1, _⟩ =>
    show min (N (dM.siIdx (ix4 b a k r) (1 : Fin 2))).toInt.toNat 49 + 0 + 0 = _
    rw [hs]; rfl
  | ⟨2, _⟩ => show 0 + 0 + r.val = r.val; omega

/-- A word below a bound, read signed and clamped, is itself. -/
theorem clamp_eq (w : BitVec 32) (n c : Nat) (h : w.toNat = n) (hn : n ≤ c) (hc : c < 2 ^ 31) : min w.toInt.toNat c = n := by
  rw [StableHlo.Predicate.toInt_eq_toNat_of_lt (by omega), Int.toNat_natCast]; omega

theorem clamp_batch (b : Fin 1024) : min (BitVec.ofNat 32 b.val).toInt.toNat 1023 = b.val :=
  clamp_eq _ _ _ (by rw [BitVec.toNat_ofNat]; have := b.isLt; omega) (by have := b.isLt; omega) (by decide)

theorem res_emb {α : Type} (E : S1024x50x32x32.Idx → α) (L : IVec S5120x5 32) (h : ∀ i, (L i).toNat < 50) :
    Host.gather dE E (pairs L) = Call.pickE E L := by
  funext y
  obtain ⟨b, a, k, r, c, rfl⟩ : ∃ (b : Fin 1024) (a k : Fin 5) (r c : Fin 32), y = ix5 b a k r c := ⟨y 0, y 1, y 2, y 3, y 4, eq_ix5 y⟩
  rw [gather_emb]
  simp only [pairs_0, pairs_1 L b a k (h _)]
  refine congrArg₂ (fun (p : Fin 1024) (q : Fin 50) => E (ix4 p q r c)) (Fin.ext (clamp_batch b)) (Fin.ext ?_)
  exact (clamp_eq _ _ 49 rfl (by have := h (ix2 ⟨b.val * 5 + a.val, by omega⟩ k); omega) (by decide)).trans (Nat.mod_eq_of_lt (h _)).symm

theorem res_msk {α : Type} (M : S1024x50x32.Idx → α) (L : IVec S5120x5 32) (h : ∀ i, (L i).toNat < 50) :
    Host.gather dM M (pairs L) = Call.pickM M L := by
  funext y
  obtain ⟨b, a, k, r, rfl⟩ : ∃ (b : Fin 1024) (a k : Fin 5) (r : Fin 32), y = ix4 b a k r := ⟨y 0, y 1, y 2, y 3, eq_ix4 y⟩
  rw [gather_msk]
  simp only [pairs_0, pairs_1 L b a k (h _)]
  refine congrArg₂ (fun (p : Fin 1024) (q : Fin 50) => M (ix3 p q r)) (Fin.ext (clamp_batch b)) (Fin.ext ?_)
  exact (clamp_eq _ _ 49 rfl (by have := h (ix2 ⟨b.val * 5 + a.val, by omega⟩ k); omega) (by decide)).trans (Nat.mod_eq_of_lt (h _)).symm

end Cert.Proof.Ref

end
-- ==== Proof.WholeBodyEq.lean ====
/-
  The printed body of the SparseCore kernel is the tile's task of TileProg.lean: both unfold to the same program.
-/
module

public import proofs.«01_k».proof.WholeIdeal
public import proofs.«01_k».proof.Proof.TileProg

@[expose] public section

noncomputable section

namespace Cert.WholeIdeal

open Idealize.ShloMosaic Idealize.SL.Sem
variable {F : FTy → Type} [FloatOps F] [Facts]
open Facts₀ Facts

/-- The rows of the embedding table that tile `i` takes, and its row of the mask table. -/
def embRow (i : grid2.Coords) (k : Fin Gather.loop32.trips) : Nat :=
  (Scalar.addi (Scalar.muli (Scalar.addi (Scalar.muli (BitVec.ofNat 32 (i 1).val) 2#32) (BitVec.ofNat 32 (i 0).val)) 32#32) (Scf.iv (w := 32) 0#32 1#32 k)).toNat
def mskRow (i : grid2.Coords) : Nat :=
  (Scalar.addi (Scalar.addi (Scalar.muli (BitVec.ofNat 32 (i 1).val) 2#32) (BitVec.ofNat 32 (i 0).val)) 0#32).toNat

theorem embRow_lt (i : grid2.Coords) (k : Fin Gather.loop32.trips) : embRow i k < 1024 := by
  have h := k2_off1_inb i k 1
  exact h
theorem mskRow_lt (i : grid2.Coords) : mskRow i < 32 := by
  have h := k2_off133_inb i 1
  exact h

variable (i : grid2.Coords) (arg2 : Memref sig .scVector .hbm S50x1024x1024 .f32) (harg2 : arg2.IsWhole) (arg3 : Memref sig .scVector .hbm S50x32x1024 .f32) (harg3 : arg3.IsWhole) (arg4 : Memref sig .scVector .hbm S25x1024 .i32) (harg4 : arg4.IsWhole) (arg5 : Memref sig .scVector .hbm S25x1024x1024 .f32) (harg5 : arg5.IsWhole) (arg6 : Memref sig .scVector .hbm S25x32x1024 .f32) (harg6 : arg6.IsWhole) (arg7 : Memref sig .scVector .vmem S25x1024 .i32) (harg7 : arg7.IsWhole) (arg8 : Memref sig .scVector .vmem S50x1x512 .f32) (harg8 : arg8.IsWhole) (arg9 : Memref sig .scVector .vmem S25x1x512 .f32) (harg9 : arg9.IsWhole) (arg10 : DmaSems sig S_) (v23_r0 : DmaSems sig S_) (v30_r1 : DmaSems sig S_) (v30_r2 : DmaSems sig S_) (v23_r3 : DmaSems sig S_) (v23_r4 : DmaSems sig S_)

set_option maxRecDepth 65536 in
theorem body_eq : cc2__sc_gather_body (F := F) i arg2 harg2 arg3 harg3 arg4 harg4 arg5 harg5 arg6 harg6 arg7 harg7 arg8 harg8 arg9 harg9 arg10 v23_r0 v30_r1 v30_r2 v23_r3 v23_r4
    = Gather.task (nD := nD) (Λ := Λ₀) ((i 0).castLE hcore2) ((i 1).castLE hsub2) arg2 arg3 arg4 arg5 arg6 arg7 arg8 arg9 harg4 harg7 harg8 harg9
        arg10.sem v23_r0.sem v30_r1.sem v30_r2.sem v23_r3.sem v23_r4.sem (embRow i) (embRow_lt i) (mskRow i) (mskRow_lt i) := by
  unfold cc2__sc_gather_body k2_part37 Gather.task Gather.halves Gather.half Gather.rows
  simp only [bind_assoc, pure_bind]
  rfl

end Cert.WholeIdeal

end
-- ==== Proof.WholeCall.lean ====
/-
  The SparseCore call as its launch sees it: what each tile is handed and hands back, that a tile's task takes the one
  to the other, and that what the call takes is what its thirty-two tiles take together.
-/
module

public import proofs.«01_k».proof.Proof.WholeBodyEq
public import proofs.«01_k».proof.Proof.Tile
public import Idealize.ShloMosaic.Lib.SparseCore.Quiescent
public import Idealize.ShloMosaic.Lib.StableHlo.Run
public import Idealize.ShloMosaic.Lib.Pipeline.Kit
public import proofs.«01_k».proof.Proof.Gen.WholeIdeal

@[expose] public section

noncomputable section

namespace Cert.Proof.Whole

open Cert.WholeIdeal Cert.WholeIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (UR sig nD τ × Counters)

local notation "𝕄" => MT nD τ sig (HIx 1) (Elt F) ℕ UU ℕ

/-- The launch handshakes' part of the ghost state. -/
abbrev EH : Emb UH (MT nD τ sig (HIx 1) (Elt F) ℕ UU ℕ) := embL

/-! ## The arrays of the call -/

/-- The two tables, the slot table, and the two results. -/
abbrev eLoc (d : Dev nD) : Loc nD τ sig := (SparseCore.T d).loc main_v13
abbrev kLoc (d : Dev nD) : Loc nD τ sig := (SparseCore.T d).loc main_v14
abbrev iLoc (d : Dev nD) : Loc nD τ sig := (SparseCore.T d).loc main_v11
abbrev oLoc (d : Dev nD) : Loc nD τ sig := (SparseCore.T d).loc main_v15_0
abbrev pLoc (d : Dev nD) : Loc nD τ sig := (SparseCore.T d).loc main_v15_1

/-- What the arrays hold when the call starts. -/
structure Tabs (F : FTy → Type) where
  X : (d : Dev nD) → Buf (Elt F) (eLoc d)
  Y : (d : Dev nD) → Buf (Elt F) (kLoc d)
  I : (d : Dev nD) → Buf (Elt F) (iLoc d)
  Z : (d : Dev nD) → Buf (Elt F) (oLoc d)
  R : (d : Dev nD) → Buf (Elt F) (pLoc d)

variable (t : Tabs F)

/-- The two gathered tables. -/
def gE (d : Dev nD) : Buf (Elt F) (oLoc d) := Gather.gatAll (b := 1024) (t.I d) (t.X d)
def gM (d : Dev nD) : Buf (Elt F) (pLoc d) := Gather.gatAll (b := 32) (t.I d) (t.Y d)

/-- The rows of the first result that tile `w` writes, and its row of the second. -/
def rowsE (w : ℕ) : Finset (S25x1024x1024.Idx) := Finset.univ.filter fun y => (y 1).val / 32 = w
def rowsM (w : ℕ) : Finset (S25x32x1024.Idx) := Finset.univ.filter fun y => (y 1).val = w

/-- The part of a read-only array's share that subcore `i` of SparseCore `c` holds. -/
def sh (c i : ℕ) : PosShare TreeShare := Transfers.dealOf (Transfers.dealOf fullShare (Finset.range 2) c) (Finset.range 16) i

/-- The read-only arrays' parts for subcore `i` of SparseCore `c`, and its rows of the results at given contents. -/
def tile (d : Dev nD) (c i : ℕ) (fo : Buf (Elt F) (oLoc d)) (fp : Buf (Elt F) (pLoc d)) : sProp 𝕄 :=
  iprop((eLoc d ↦{sh c i} t.X d) ∗ (kLoc d ↦{sh c i} t.Y d) ∗ (iLoc d ↦{sh c i} t.I d)
    ∗ (oLoc d ↦[rowsE (i * 2 + c)]{fullShare} fo) ∗ (pLoc d ↦[rowsM (i * 2 + c)]{fullShare} fp))

/-- The five arrays whole. -/
def whole (d : Dev nD) (fo : Buf (Elt F) (oLoc d)) (fp : Buf (Elt F) (pLoc d)) : sProp 𝕄 :=
  iprop((eLoc d ↦{fullShare} t.X d) ∗ (kLoc d ↦{fullShare} t.Y d) ∗ (iLoc d ↦{fullShare} t.I d)
    ∗ (oLoc d ↦{fullShare} fo) ∗ (pLoc d ↦{fullShare} fp))

instance tile_storable (d : Dev nD) (c i : ℕ) (fo : Buf (Elt F) (oLoc d)) (fp : Buf (Elt F) (pLoc d)) :
    BI.Storable (upEmb : UEmb _ 𝕄) (tile t d c i fo fp) := by
  unfold tile; infer_instance

/-- A SparseCore is handed what its sixteen tiles are, and hands back what they do. -/
def P : (K (F := F)).Pay (nD := nD) (Val := Elt F) (Name := ℕ) (U := UU) where
  st := fun _ d c => bigSep (Finset.range 16) fun i => tile t d c.val i (t.Z d) (t.R d)
  dn := fun _ d c => bigSep (Finset.range 16) fun i => tile t d c.val i (gE t d) (gM t d)
  go := fun _ d c i => tile t d c.val i.val (t.Z d) (t.R d)
  td := fun _ d c i => tile t d c.val i.val (gE t d) (gM t d)
  x := fun _ _ => iprop(emp)

instance P_storable : (P t).IsStorable where
  st _ d c := by unfold P; infer_instance
  dn _ d c := by unfold P; infer_instance
  go _ _ _ _ := by unfold P; infer_instance
  td _ _ _ _ := by unfold P; infer_instance

/-! ## The split -/

theorem bigSep_fin (n : ℕ) (Φ : ℕ → sProp 𝕄) : (bigSep Finset.univ fun i : Fin n => Φ i.val) = bigSep (Finset.range n) Φ := by
  have h : Finset.range n = (Finset.univ : Finset (Fin n)).map Fin.valEmbedding := by
    ext a; simp only [Finset.mem_range, Finset.mem_map, Finset.mem_univ, true_and]
    exact ⟨fun h => ⟨⟨a, h⟩, rfl⟩, fun ⟨x, hx⟩ => hx ▸ x.isLt⟩
  rw [h, bigSep_map]; rfl

theorem deal {ℓ : Loc nD τ sig} (f : Buf (Elt F) ℓ) :
    (ℓ ↦{fullShare} f : sProp 𝕄) = bigSep (Finset.range 2) fun c => bigSep (Finset.range 16) fun i => ℓ ↦{sh c i} f := by
  rw [Transfers.pointsTo_deal (Finset.range 2) ⟨0, by decide⟩]
  exact bigSep_congr fun c _ => Transfers.pointsTo_deal (Finset.range 16) ⟨0, by decide⟩ _

theorem wid_cover (w : ℕ) (h : w < 32) : ∃ c < 2, ∃ i < 16, w = i * 2 + c := ⟨w % 2, by omega, w / 2, by omega, by omega⟩

theorem rows_split {ℓ : Loc nD τ sig} (R : ℕ → Finset (Idx ℓ)) (wid : Idx ℓ → ℕ) (hR : ∀ w y, y ∈ R w ↔ wid y = w) (hw : ∀ y, wid y < 32) (f : Buf (Elt F) ℓ) :
    (ℓ ↦{fullShare} f : sProp 𝕄) = bigSep (Finset.range 2) fun c => bigSep (Finset.range 16) fun i => ℓ ↦[R (i * 2 + c)]{fullShare} f := by
  have hcov : (Finset.range 2).biUnion (fun c => (Finset.range 16).biUnion fun i => R (i * 2 + c)) = Finset.univ := by
    ext y
    simp only [Finset.mem_biUnion, Finset.mem_range, Finset.mem_univ, iff_true, hR]
    exact wid_cover _ (hw y)
  rw [← hcov, pointsTo_biUnion]
  · refine bigSep_congr fun c _ => ?_
    rw [pointsTo_biUnion]
    intro i _ j _ hij
    refine Finset.disjoint_left.mpr fun y h1 h2 => ?_
    rw [hR] at h1 h2
    omega
  · intro c hc c' hc' hne
    refine Finset.disjoint_left.mpr fun y h1 h2 => ?_
    simp only [Finset.mem_biUnion, Finset.mem_range, hR] at h1 h2 hc hc'
    obtain ⟨i, _, h1⟩ := h1
    obtain ⟨j, _, h2⟩ := h2
    omega

theorem mem_rowsE (w : ℕ) (y : S25x1024x1024.Idx) : y ∈ rowsE w ↔ (y 1).val / 32 = w := by simp [rowsE]
theorem mem_rowsM (w : ℕ) (y : S25x32x1024.Idx) : y ∈ rowsM w ↔ (y 1).val = w := by simp [rowsM]

theorem tiles_eq (d : Dev nD) (fo : Buf (Elt F) (oLoc d)) (fp : Buf (Elt F) (pLoc d)) :
    (bigSep (Finset.range 2) fun c => bigSep (Finset.range 16) fun i => tile t d c i fo fp) = whole t d fo fp := by
  unfold tile whole
  simp only [bigSep_sep']
  rw [← deal, ← deal, ← deal, ← rows_split (ℓ := oLoc d) rowsE (fun y => (y 1).val / 32) mem_rowsE (fun y => by
      have h : (y 1).val < 1024 := (y 1).isLt
      omega),
    ← rows_split (ℓ := pLoc d) rowsM (fun y => (y 1).val) mem_rowsM (fun y => (y 1).isLt)]

theorem st_eq (d : Dev nD) : (bigSep Finset.univ fun c : Fin ((K (F := F)).nCore 0) => (P t).st 0 d c) = whole t d (t.Z d) (t.R d) := by
  rw [← tiles_eq]
  exact bigSep_fin 2 fun c => bigSep (Finset.range 16) fun i => tile t d c i (t.Z d) (t.R d)
theorem dn_eq (d : Dev nD) : (bigSep Finset.univ fun c : Fin ((K (F := F)).nCore 0) => (P t).dn 0 d c) = whole t d (gE t d) (gM t d) := by
  rw [← tiles_eq]
  exact bigSep_fin 2 fun c => bigSep (Finset.range 16) fun i => tile t d c i (gE t d) (gM t d)

theorem vecSplit : (K (F := F)).VecSplit' (P t) 0 := by
  intro d c
  show (bigSep (Finset.range 16) fun i => tile t d c.val i (t.Z d) (t.R d))
    ⊢ |={Set.univ}=> iprop((bigSep Finset.univ fun i : Fin 16 => tile t d c.val i.val (t.Z d) (t.R d))
      ∗ ((bigSep Finset.univ fun i : Fin 16 => tile t d c.val i.val (gE t d) (gM t d)) -∗ bigSep (Finset.range 16) fun i => tile t d c.val i (gE t d) (gM t d)))
  rw [bigSep_fin 16 fun i => tile t d c.val i (t.Z d) (t.R d), bigSep_fin 16 fun i => tile t d c.val i (gE t d) (gM t d)]
  iintro H; imodintro
  isplitl [H]; · iexact H
  iintro H; iexact H

/-! ## A tile's own semaphores and scratch -/

section Own

variable (d : Dev nD) (c : Fin τ.nSC) (s : Fin τ.nSub)

abbrev sems : Finset (DmaSem sig) := {cc2_scratch3.sem, cc2_scoped0.sem, cc2_scoped1.sem, cc2_scoped2.sem, cc2_scoped3.sem, cc2_scoped4.sem}

theorem ownSems0_V :
    (ownSems0 (V d c s) : sProp 𝕄)
      = iprop((Gather.Zero d c s cc2_scratch3.sem ∗ Gather.Zero d c s cc2_scoped0.sem ∗ Gather.Zero d c s cc2_scoped1.sem
          ∗ Gather.Zero d c s cc2_scoped2.sem ∗ Gather.Zero d c s cc2_scoped3.sem ∗ Gather.Zero d c s cc2_scoped4.sem)
          ∗ bigSep (ownCells (V d c s) \ sems.image fun x => ((V d c s, .dma x) : GSem nD τ sig)) fun g => semVal g 0) := by
  unfold SparseCore.Cfg.ownSems0
  have hsub : (sems.image fun x => ((V d c s, .dma x) : GSem nD τ sig)) ⊆ ownCells (V d c s) := by
    intro g hg
    obtain ⟨x, hx, rfl⟩ := Finset.mem_image.mp hg
    refine mem_ownCells.mpr ⟨rfl, ?_⟩
    show (SemLoc.dma x : SemLoc sig).isScoped .scVector = true
    clear hg; revert x; decide
  conv_lhs => rw [← Finset.union_sdiff_of_subset hsub]
  rw [bigSep_union Finset.disjoint_sdiff, SparseCore.bigSep_image_of_injOn (fun a _ b _ e => by
      have := (Prod.mk.inj e).2; exact SemLoc.dma.inj this)]
  congr 1
  unfold sems
  rw [SparseCore.bigSep_insert' (by decide), SparseCore.bigSep_insert' (by decide), SparseCore.bigSep_insert' (by decide),
    SparseCore.bigSep_insert' (by decide), SparseCore.bigSep_insert' (by decide), bigSep_singleton]

abbrev scratch : Finset (Ref sig .scVector) := {cc2_scratch0, cc2_scratch1, cc2_scratch2}

theorem ownBufs_V :
    (ownBufs (V d c s) : sProp 𝕄)
      = iprop(((∃ f, (V d c s).loc cc2_scratch0 ↦{fullShare} f) ∗ (∃ f, (V d c s).loc cc2_scratch1 ↦{fullShare} f) ∗ (∃ f, (V d c s).loc cc2_scratch2 ↦{fullShare} f))
          ∗ bigSep (ownRefs (τ := τ) (.scVector c s) \ scratch.image fun x => (Proc.scVector c s).devRef x)
              fun b => iprop(∃ f, ((d, b) : Loc nD τ sig) ↦{fullShare} f)) := by
  unfold SparseCore.Cfg.ownBufs
  have hsub : (scratch.image fun x => (Proc.scVector c s).devRef x) ⊆ ownRefs (τ := τ) (sig := sig) (.scVector c s) := by
    intro g hg
    obtain ⟨x, hx, rfl⟩ := Finset.mem_image.mp hg
    refine SparseCore.Cfg.mem_ownRefs_of_owner (p := Proc.scVector c s) ?_
    simp only [scratch, Finset.mem_insert, Finset.mem_singleton] at hx
    rcases hx with rfl | rfl | rfl <;> rfl
  show bigSep (ownRefs (τ := τ) (.scVector c s)) _ = _
  conv_lhs => rw [← Finset.union_sdiff_of_subset hsub]
  rw [bigSep_union Finset.disjoint_sdiff, SparseCore.bigSep_image_of_injOn (fun a _ b _ e => Proc.devRef_injective _ e)]
  congr 1
  unfold scratch
  rw [SparseCore.bigSep_insert' (show (cc2_scratch0 : Ref sig .scVector) ∉ ({cc2_scratch1, cc2_scratch2} : Finset (Ref sig .scVector)) by decide),
    SparseCore.bigSep_insert' (show (cc2_scratch1 : Ref sig .scVector) ∉ ({cc2_scratch2} : Finset (Ref sig .scVector)) by decide), bigSep_singleton]

end Own

/-! ## The obligation of a tile -/

section Task

variable [FloatOps F]

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_gather_body (coordsV c s)
          (Memref.whole main_v13_scv) (Memref.isWhole_whole _) (Memref.whole main_v14_scv) (Memref.isWhole_whole _) (Memref.whole main_v11_scv) (Memref.isWhole_whole _)
          (Memref.whole main_v15_0_scv) (Memref.isWhole_whole _) (Memref.whole main_v15_1_scv) (Memref.isWhole_whole _)
          (Memref.whole cc2_scratch0) (Memref.isWhole_whole _) (Memref.whole cc2_scratch1) (Memref.isWhole_whole _) (Memref.whole cc2_scratch2) (Memref.isWhole_whole _)
          cc2_scratch3 cc2_scoped0 cc2_scoped1 cc2_scoped2 cc2_scoped3 cc2_scoped4) ⟨⟩ c s := rfl

theorem embRow_eq (c : Fin (grid2.bound 0)) (s : Fin (grid2.bound 1)) (k : Fin Gather.loop32.trips) : embRow (coordsV c s) k = (s.val * 2 + c.val) * 32 + k.val := by
  revert k s c; decide +kernel
theorem mskRow_eq (c : Fin (grid2.bound 0)) (s : Fin (grid2.bound 1)) : mskRow (coordsV c s) = s.val * 2 + c.val := by
  revert s c; decide +kernel

theorem out_rowsE (n o : ℕ) (hn : n < 1024) (ho : o + 512 ≤ 1024) (w : ℕ) (hw : n / 32 = w) :
    (Gather.outOf (b := 1024) (Memref.whole main_v15_0_scv) n o hn ho).view.set ⊆ rowsE w := by
  intro y hy
  have hy' : y ∈ ((View.whole (main_v15_0_scv : Ref sig .scVector)).slice (Rect.unit (s := S25x1024x1024) ![0, n, o] Gather.TOut.size (Gather.slab_inb (a := 25) hn ho))).set := hy
  rw [View.set_slice_whole] at hy'
  obtain ⟨h1, h2⟩ := Rect.mem_set_unit.mp hy' 1
  have h1' : n ≤ (y 1).val := h1
  have h2' : (y 1).val < n + 1 := h2
  rw [mem_rowsE]; omega

theorem out_rowsM (n o : ℕ) (hn : n < 32) (ho : o + 512 ≤ 1024) :
    (Gather.outOf (b := 32) (Memref.whole main_v15_1_scv) n o hn ho).view.set ⊆ rowsM n := by
  intro y hy
  have hy' : y ∈ ((View.whole (main_v15_1_scv : Ref sig .scVector)).slice (Rect.unit (s := S25x32x1024) ![0, n, o] Gather.TOut.size (Gather.slab_inb (a := 25) hn ho))).set := hy
  rw [View.set_slice_whole] at hy'
  obtain ⟨h1, h2⟩ := Rect.mem_set_unit.mp hy' 1
  have h1' : n ≤ (y 1).val := h1
  have h2' : (y 1).val < n + 1 := h2
  rw [mem_rowsM]; omega

/-- A tile's task takes what it is handed to the gathered rows. -/
theorem tile_body (hF : (K (F := F)).Facts) (hI : ∀ d, Gather.Slots (t.I d)) (d : Dev nD) (c : Fin (grid2.bound 0)) (s : Fin (grid2.bound 1))
    (O : CellTallies nD τ sig (HIx 1)) (W : Waits sig (HIx 1)) (hO : ∀ g, O g none = 0) :
    iprop(levAts (K (F := F)).L (K (F := F)).lev ∗ emp ∗ tile t d c.val s.val (t.Z d) (t.R d)
        ∗ scopedBufs (V d (c.castLE hcore2) (s.castLE hsub2)) ∗ scopedSems0 (V d (c.castLE hcore2) (s.castLE hsub2)) ∗ owes (V d (c.castLE hcore2) (s.castLE hsub2)) O W)
      ⊢ wp frame (wpE (defs₀ (F := F)) 𝒱₀ (V d (c.castLE hcore2) (s.castLE hsub2)) none) Set.univ
          (cc2__sc_gather_body (coordsV c s)
          (Memref.whole main_v13_scv) (Memref.isWhole_whole _) (Memref.whole main_v14_scv) (Memref.isWhole_whole _) (Memref.whole main_v11_scv) (Memref.isWhole_whole _)
          (Memref.whole main_v15_0_scv) (Memref.isWhole_whole _) (Memref.whole main_v15_1_scv) (Memref.isWhole_whole _)
          (Memref.whole cc2_scratch0) (Memref.isWhole_whole _) (Memref.whole cc2_scratch1) (Memref.isWhole_whole _) (Memref.whole cc2_scratch2) (Memref.isWhole_whole _)
          cc2_scratch3 cc2_scoped0 cc2_scoped1 cc2_scoped2 cc2_scoped3 cc2_scoped4)
          fun _ => iprop(tile t d c.val s.val (gE t d) (gM t d)
            ∗ scopedBufs (V d (c.castLE hcore2) (s.castLE hsub2)) ∗ scopedSems0 (V d (c.castLE hcore2) (s.castLE hsub2))
            ∗ ∃ W', ⌜∀ p ∈ W', p ∈ W ∨ p.2 = none⌝ ∗ owes (V d (c.castLE hcore2) (s.castLE hsub2)) O W') := by
  rw [body_eq, (K (F := F)).scopedBufs_V hF d (c.castLE hcore2) (s.castLE hsub2), SparseCore.Cfg.scopedSems0_V (Val := Elt F) d (c.castLE hcore2) (s.castLE hsub2), ownSems0_V, ownBufs_V]
  unfold tile
  iintro ⟨#Hlv, -, ⟨H2, H3, H4, H5, H6⟩, ⟨⟨H7, H8, H9⟩, Hbufs⟩, ⟨⟨Hd, Hr0, Hr1, Hr2, Hr3, Hr4⟩, Hsems⟩, HO⟩
  ihave Hmw := ((K (F := F)).mayWaits_none (thr := V d (c.castLE hcore2) (s.castLE hsub2)) hO) $$ Hlv
  ihave Hw := (Gather.wp_task (defs := defs₀ (F := F)) 𝒱₀ d (c.castLE hcore2) (s.castLE hsub2) none
      (Memref.whole main_v13_scv) (Memref.whole main_v14_scv) (Memref.whole main_v11_scv) (Memref.whole main_v15_0_scv) (Memref.whole main_v15_1_scv)
      (Memref.whole cc2_scratch0) (Memref.whole cc2_scratch1) (Memref.whole cc2_scratch2)
      (Memref.isWhole_whole _) (Memref.isWhole_whole _) (Memref.isWhole_whole _) (Memref.isWhole_whole _)
      cc2_scratch3.sem cc2_scoped0.sem cc2_scoped1.sem cc2_scoped2.sem cc2_scoped3.sem cc2_scoped4.sem
      (embRow (coordsV c s)) (embRow_lt (coordsV c s)) (mskRow (coordsV c s)) (mskRow_lt (coordsV c s))
      (q2 := sh c.val s.val) (q3 := sh c.val s.val) (q4 := sh c.val s.val) (f2 := t.X d) (f3 := t.Y d) (f4 := t.I d)
      (S5 := rowsE (s.val * 2 + c.val)) (S6 := rowsM (s.val * 2 + c.val)) (f5 := t.Z d) (f6 := t.R d) (O := O) (W := W)
      (hI d)
      (fun k o ho => out_rowsE _ o _ ho _ (by rw [embRow_eq]; have : k.val < 32 := k.isLt; omega))
      (fun o ho => mskRow_eq c s ▸ out_rowsM _ o (mskRow_lt _) ho)) $$ [H2 H3 H4 H5 H6 H7 H8 H9 Hd Hr0 Hr1 Hr2 Hr3 Hr4 Hmw HO]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hd]; · iexact Hd
    isplitl [Hr0]; · iexact Hr0
    isplitl [Hr1]; · iexact Hr1
    isplitl [Hr2]; · iexact Hr2
    isplitl [Hr3]; · iexact Hr3
    isplitl [Hr4]; · iexact Hr4
    isplitl [Hmw]; · iexact Hmw
    unfold Gather.Owe
    iexists W
    isplitr
    · ipureintro; exact fun p hp => .inl hp
    · iexact HO
  iapply (wp_wand frame _ _) $$ Hw
  iintro %_ ⟨H2, H3, H4, ⟨%fo, %ho, H5⟩, ⟨%fp, %hp, H6⟩, H7, H8, H9, Hd, Hr0, Hr1, Hr2, Hr3, Hr4, HO⟩
  isplitl [H2 H3 H4 H5 H6]
  · isplitl [H2]; · iexact H2
    isplitl [H3]; · iexact H3
    isplitl [H4]; · iexact H4
    isplitl [H5]
    · iapply (Entails.of_eq (pointsTo_congr (ℓ := oLoc d) (f := fo) (g := gE t d) (I := rowsE (s.val * 2 + c.val)) fun y hy => ho y (by
        have h1 := (mem_rowsE _ y).mp hy
        have h2 : (y 1).val < 1024 := (y 1).isLt
        refine ⟨⟨(y 1).val % 32, Nat.mod_lt _ (by decide)⟩, ?_⟩
        rw [embRow_eq]
        show (s.val * 2 + c.val) * 32 + (y 1).val % 32 = (y 1).val
        omega)))
      iexact H5
    · iapply (Entails.of_eq (pointsTo_congr (ℓ := pLoc d) (f := fp) (g := gM t d) (I := rowsM (s.val * 2 + c.val)) fun y hy => hp y (by
        rw [mskRow_eq]; exact (mem_rowsM _ y).mp hy)))
      iexact H6
  isplitl [H7 H8 H9 Hbufs]
  · isplitl [H7 H8 H9]
    · isplitl [H7]; · iexact H7
      isplitl [H8]; · iexact H8
      iexact H9
    · iexact Hbufs
  isplitl [Hd Hr0 Hr1 Hr2 Hr3 Hr4 Hsems]
  · isplitl [Hd Hr0 Hr1 Hr2 Hr3 Hr4]
    · isplitl [Hd]; · iexact Hd
      isplitl [Hr0]; · iexact Hr0
      isplitl [Hr1]; · iexact Hr1
      isplitl [Hr2]; · iexact Hr2
      isplitl [Hr3]; · iexact Hr3
      iexact Hr4
    · iexact Hsems
  unfold Gather.Owe
  iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hI : ∀ d, Gather.Slots (t.I d)) : (K (F := F)).TileObl (D (F := F)) 𝒱 (P t) v₀ 0 := by
  intro d c i O W hO _ _
  simp only [show (P t).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body t hF hI d ⟨_, hc.1⟩ ⟨_, hc.2⟩ O W hO).trans (wp_mono frame _ _ fun _ => obl_post)

end Task

end Cert.Proof.Whole

end
-- ==== Proof.TopkBody.lean ====
/-
  The printed body of the second TensorCore kernel, the slots of the five best scores: the same program, with each of
  its sixteen blocks' products and each of the five rounds named.
-/
module

public import proofs.«01_k».proof.WholeIdeal

@[expose] public section

noncomputable section

namespace Cert.WholeIdeal

open Idealize.ShloMosaic Idealize.SL.Sem
variable {F : FTy → Type} [FloatOps F] [Facts]
open Facts₀ Facts

/-- The number within its block of eight of the row a product's line belongs to: the line over five, rounded down. -/
def lineRow : IVec S40x1 32 :=
  let n : IVec S40x1 32 := iota .tc S40x1 32 [0] iota_S40x1_d0_w32
  let sgn : IVec S40x1 32 := subi (extui 32 (cmpi .sgt n (broadcast S40x1 0#32)) natLt_1_32) (extui 32 (cmpi .slt n (broadcast S40x1 0#32)) natLt_1_32)
  let five : BitVec 32 := Scalar.subi (Scalar.extui (Scalar.cmpi .sgt 5#32 0#32)) (Scalar.extui (Scalar.cmpi .slt 5#32 0#32))
  select (andi (cmpi .ne sgn (broadcast S40x1 five)) (cmpi .ne (remsi n (broadcast S40x1 5#32)) (broadcast S40x1 0#32)))
    (subi (divsi n (broadcast S40x1 5#32)) (broadcast S40x1 1#32)) (divsi n (broadcast S40x1 5#32))

/-- One where a line belongs to row `g`, zero elsewhere. -/
def lineIs (g : BitVec 32) : FVec F S40x50 .f32 :=
  broadcastTo S40x50 (sitofp .f32 (extui 32 (cmpi .eq lineRow (broadcast S40x1 g)) natLt_1_32)) broadcasts_S40x1_S40x50

/-- The scores of eight rows: all the products of their lines, of which each line keeps its own row's. -/
def accOf (x : Vec F S40x128 .f32) (y : Vec F S128x400 .f32) : FVec F S40x50 .f32 :=
  let p : FVec F S40x400 .f32 := matmul dot_S40x128_S128x400_S40x400_1_0_0_1_n_n none (shapeCast S40x128 x shapeCasts_S40x128_S40x128)
    (shapeCast S128x400 y shapeCasts_S128x400_S128x400) (constant S40x400 .f32 0x00000000#32)
  addf (addf (addf (addf (addf (addf (addf (addf (broadcast S40x50 (Scalar.ofBits .f32 0x00000000#32))
    (mulf (extractStridedSlice S40x50 ![0, 0] p slices_S40x400_o0_0_S40x50) (lineIs 0#32)))
    (mulf (extractStridedSlice S40x50 ![0, 50] p slices_S40x400_o0_50_S40x50) (lineIs 1#32)))
    (mulf (extractStridedSlice S40x50 ![0, 100] p slices_S40x400_o0_100_S40x50) (lineIs 2#32)))
    (mulf (extractStridedSlice S40x50 ![0, 150] p slices_S40x400_o0_150_S40x50) (lineIs 3#32)))
    (mulf (extractStridedSlice S40x50 ![0, 200] p slices_S40x400_o0_200_S40x50) (lineIs 4#32)))
    (mulf (extractStridedSlice S40x50 ![0, 250] p slices_S40x400_o0_250_S40x50) (lineIs 5#32)))
    (mulf (extractStridedSlice S40x50 ![0, 300] p slices_S40x400_o0_300_S40x50) (lineIs 6#32)))
    (mulf (extractStridedSlice S40x50 ![0, 350] p slices_S40x400_o0_350_S40x50) (lineIs 7#32))

/-- A column's own number. -/
def colNo : IVec S640x50 32 := iota .tc S640x50 32 [1] iota_S640x50_d1_w32

/-- The scores that compete: minus infinity where the mask, the first five columns' raised by one, is zero. -/
def competing (a : FVec F S640x50 .f32) (hm : Vec F S640x50 .f32) : FVec F S640x50 .f32 :=
  select (cmpf .oeq (addf (shapeCast S640x50 hm shapeCasts_S640x50_S640x50) (sitofp .f32 (extui 32 (cmpi .slt colNo (broadcast S640x50 5#32)) natLt_1_32)))
      (broadcast S640x50 (Scalar.ofBits .f32 0x00000000#32)))
    (broadcast S640x50 (Scalar.ofBits .f32 0xFF800000#32)) a

/-- The first column at which each row has its largest score. -/
def bestCol (s : FVec F S640x50 .f32) : IVec S640x1 32 :=
  shapeCast S640x1 (multiReductionI .minsi [1] S640
    (select (cmpf .oeq s (broadcastTo S640x50 (shapeCast S640x1 (multiReduction .maximumf [1] S640 s 0xFF800000#32 reduces_S640x50_S640 (.inl rfl) rfl) shapeCasts_S640_S640x1) broadcasts_S640x1_S640x50))
      colNo (broadcast S640x50 50#32)) 2147483647#32 reduces_S640x50_S640 rfl) shapeCasts_S640_S640x1

/-- The scores with the best column's taken out. -/
def without (s : FVec F S640x50 .f32) : FVec F S640x50 .f32 :=
  select (cmpi .eq colNo (broadcastTo S640x50 (bestCol s) broadcasts_S640x1_S640x50)) (broadcast S640x50 (Scalar.ofBits .f32 0xFF800000#32)) s

/-- Five rounds of it. -/
def bestCols (s : FVec F S640x50 .f32) : IVec S640x5 32 :=
  concatenate S640x5 1 [⟨S640x1, bestCol s⟩, ⟨S640x1, bestCol (without s)⟩, ⟨S640x1, bestCol (without (without s))⟩,
    ⟨S640x1, bestCol (without (without (without s)))⟩, ⟨S640x1, bestCol (without (without (without (without s))))⟩]
    concatenates_S640x1_S640x1_S640x1_S640x1_S640x1_S640x5_d1

/-- The sixteen blocks' scores, one under the other. -/
def accs (x0 : Vec F S40x128 .f32) (y0 : Vec F S128x400 .f32) (x1 : Vec F S40x128 .f32) (y1 : Vec F S128x400 .f32) (x2 : Vec F S40x128 .f32) (y2 : Vec F S128x400 .f32) (x3 : Vec F S40x128 .f32) (y3 : Vec F S128x400 .f32) (x4 : Vec F S40x128 .f32) (y4 : Vec F S128x400 .f32) (x5 : Vec F S40x128 .f32) (y5 : Vec F S128x400 .f32) (x6 : Vec F S40x128 .f32) (y6 : Vec F S128x400 .f32) (x7 : Vec F S40x128 .f32) (y7 : Vec F S128x400 .f32) (x8 : Vec F S40x128 .f32) (y8 : Vec F S128x400 .f32) (x9 : Vec F S40x128 .f32) (y9 : Vec F S128x400 .f32) (x10 : Vec F S40x128 .f32) (y10 : Vec F S128x400 .f32) (x11 : Vec F S40x128 .f32) (y11 : Vec F S128x400 .f32) (x12 : Vec F S40x128 .f32) (y12 : Vec F S128x400 .f32) (x13 : Vec F S40x128 .f32) (y13 : Vec F S128x400 .f32) (x14 : Vec F S40x128 .f32) (y14 : Vec F S128x400 .f32) (x15 : Vec F S40x128 .f32) (y15 : Vec F S128x400 .f32) : FVec F S640x50 .f32 :=
  concatenate S640x50 0 [⟨S40x50, accOf x0 y0⟩, ⟨S40x50, accOf x1 y1⟩, ⟨S40x50, accOf x2 y2⟩, ⟨S40x50, accOf x3 y3⟩, ⟨S40x50, accOf x4 y4⟩, ⟨S40x50, accOf x5 y5⟩, ⟨S40x50, accOf x6 y6⟩, ⟨S40x50, accOf x7 y7⟩, ⟨S40x50, accOf x8 y8⟩, ⟨S40x50, accOf x9 y9⟩, ⟨S40x50, accOf x10 y10⟩, ⟨S40x50, accOf x11 y11⟩, ⟨S40x50, accOf x12 y12⟩, ⟨S40x50, accOf x13 y13⟩, ⟨S40x50, accOf x14 y14⟩, ⟨S40x50, accOf x15 y15⟩] concatenates_S40x50_S40x50_S40x50_S40x50_S40x50_S40x50_S40x50_S40x50_S40x50_S40x50_S40x50_S40x50_S40x50_S40x50_S40x50_S40x50_S640x50_d0

def topk (i : grid1.Coords) (arg1 : Memref sig .tc .vmem S640x128 .f32) (harg1 : arg1.IsWhole) (arg2 : Memref sig .tc .vmem S128x6400 .f32) (harg2 : arg2.IsWhole) (arg3 : Memref sig .tc .vmem S640x50 .f32) (harg3 : arg3.IsWhole) (arg4 : Memref sig .tc .vmem S640x5 .i32) (harg4 : arg4.IsWhole) :
    Prog (TpuEff nD τ sig (Elt F) Λ₀ .tc) PUnit := do
  let x0 : Vec F S40x128 .f32 ← Prog.lift (.load arg1 (Rect.unit (s := S640x128) ![0, 0] S40x128.size inb_S640x128_S40x128_0_0).toLoadRect (View.loadsAt_vmem h_S40x128))
  let y0 : Vec F S128x400 .f32 ← Prog.lift (.load arg2 (Rect.unit (s := S128x6400) ![0, 0] S128x400.size inb_S128x6400_S128x400_0_0).toLoadRect (View.loadsAt_vmem h_S128x400))
  let x1 : Vec F S40x128 .f32 ← Prog.lift (.load arg1 (Rect.unit (s := S640x128) ![40, 0] S40x128.size inb_S640x128_S40x128_40_0).toLoadRect (View.loadsAt_vmem h_S40x128))
  let y1 : Vec F S128x400 .f32 ← Prog.lift (.load arg2 (Rect.unit (s := S128x6400) ![0, 400] S128x400.size inb_S128x6400_S128x400_0_400).toLoadRect (View.loadsAt_vmem h_S128x400))
  let x2 : Vec F S40x128 .f32 ← Prog.lift (.load arg1 (Rect.unit (s := S640x128) ![80, 0] S40x128.size inb_S640x128_S40x128_80_0).toLoadRect (View.loadsAt_vmem h_S40x128))
  let y2 : Vec F S128x400 .f32 ← Prog.lift (.load arg2 (Rect.unit (s := S128x6400) ![0, 800] S128x400.size inb_S128x6400_S128x400_0_800).toLoadRect (View.loadsAt_vmem h_S128x400))
  let x3 : Vec F S40x128 .f32 ← Prog.lift (.load arg1 (Rect.unit (s := S640x128) ![120, 0] S40x128.size inb_S640x128_S40x128_120_0).toLoadRect (View.loadsAt_vmem h_S40x128))
  let y3 : Vec F S128x400 .f32 ← Prog.lift (.load arg2 (Rect.unit (s := S128x6400) ![0, 1200] S128x400.size inb_S128x6400_S128x400_0_1200).toLoadRect (View.loadsAt_vmem h_S128x400))
  let x4 : Vec F S40x128 .f32 ← Prog.lift (.load arg1 (Rect.unit (s := S640x128) ![160, 0] S40x128.size inb_S640x128_S40x128_160_0).toLoadRect (View.loadsAt_vmem h_S40x128))
  let y4 : Vec F S128x400 .f32 ← Prog.lift (.load arg2 (Rect.unit (s := S128x6400) ![0, 1600] S128x400.size inb_S128x6400_S128x400_0_1600).toLoadRect (View.loadsAt_vmem h_S128x400))
  let x5 : Vec F S40x128 .f32 ← Prog.lift (.load arg1 (Rect.unit (s := S640x128) ![200, 0] S40x128.size inb_S640x128_S40x128_200_0).toLoadRect (View.loadsAt_vmem h_S40x128))
  let y5 : Vec F S128x400 .f32 ← Prog.lift (.load arg2 (Rect.unit (s := S128x6400) ![0, 2000] S128x400.size inb_S128x6400_S128x400_0_2000).toLoadRect (View.loadsAt_vmem h_S128x400))
  let x6 : Vec F S40x128 .f32 ← Prog.lift (.load arg1 (Rect.unit (s := S640x128) ![240, 0] S40x128.size inb_S640x128_S40x128_240_0).toLoadRect (View.loadsAt_vmem h_S40x128))
  let y6 : Vec F S128x400 .f32 ← Prog.lift (.load arg2 (Rect.unit (s := S128x6400) ![0, 2400] S128x400.size inb_S128x6400_S128x400_0_2400).toLoadRect (View.loadsAt_vmem h_S128x400))
  let x7 : Vec F S40x128 .f32 ← Prog.lift (.load arg1 (Rect.unit (s := S640x128) ![280, 0] S40x128.size inb_S640x128_S40x128_280_0).toLoadRect (View.loadsAt_vmem h_S40x128))
  let y7 : Vec F S128x400 .f32 ← Prog.lift (.load arg2 (Rect.unit (s := S128x6400) ![0, 2800] S128x400.size inb_S128x6400_S128x400_0_2800).toLoadRect (View.loadsAt_vmem h_S128x400))
  let x8 : Vec F S40x128 .f32 ← Prog.lift (.load arg1 (Rect.unit (s := S640x128) ![320, 0] S40x128.size inb_S640x128_S40x128_320_0).toLoadRect (View.loadsAt_vmem h_S40x128))
  let y8 : Vec F S128x400 .f32 ← Prog.lift (.load arg2 (Rect.unit (s := S128x6400) ![0, 3200] S128x400.size inb_S128x6400_S128x400_0_3200).toLoadRect (View.loadsAt_vmem h_S128x400))
  let x9 : Vec F S40x128 .f32 ← Prog.lift (.load arg1 (Rect.unit (s := S640x128) ![360, 0] S40x128.size inb_S640x128_S40x128_360_0).toLoadRect (View.loadsAt_vmem h_S40x128))
  let y9 : Vec F S128x400 .f32 ← Prog.lift (.load arg2 (Rect.unit (s := S128x6400) ![0, 3600] S128x400.size inb_S128x6400_S128x400_0_3600).toLoadRect (View.loadsAt_vmem h_S128x400))
  let x10 : Vec F S40x128 .f32 ← Prog.lift (.load arg1 (Rect.unit (s := S640x128) ![400, 0] S40x128.size inb_S640x128_S40x128_400_0).toLoadRect (View.loadsAt_vmem h_S40x128))
  let y10 : Vec F S128x400 .f32 ← Prog.lift (.load arg2 (Rect.unit (s := S128x6400) ![0, 4000] S128x400.size inb_S128x6400_S128x400_0_4000).toLoadRect (View.loadsAt_vmem h_S128x400))
  let x11 : Vec F S40x128 .f32 ← Prog.lift (.load arg1 (Rect.unit (s := S640x128) ![440, 0] S40x128.size inb_S640x128_S40x128_440_0).toLoadRect (View.loadsAt_vmem h_S40x128))
  let y11 : Vec F S128x400 .f32 ← Prog.lift (.load arg2 (Rect.unit (s := S128x6400) ![0, 4400] S128x400.size inb_S128x6400_S128x400_0_4400).toLoadRect (View.loadsAt_vmem h_S128x400))
  let x12 : Vec F S40x128 .f32 ← Prog.lift (.load arg1 (Rect.unit (s := S640x128) ![480, 0] S40x128.size inb_S640x128_S40x128_480_0).toLoadRect (View.loadsAt_vmem h_S40x128))
  let y12 : Vec F S128x400 .f32 ← Prog.lift (.load arg2 (Rect.unit (s := S128x6400) ![0, 4800] S128x400.size inb_S128x6400_S128x400_0_4800).toLoadRect (View.loadsAt_vmem h_S128x400))
  let x13 : Vec F S40x128 .f32 ← Prog.lift (.load arg1 (Rect.unit (s := S640x128) ![520, 0] S40x128.size inb_S640x128_S40x128_520_0).toLoadRect (View.loadsAt_vmem h_S40x128))
  let y13 : Vec F S128x400 .f32 ← Prog.lift (.load arg2 (Rect.unit (s := S128x6400) ![0, 5200] S128x400.size inb_S128x6400_S128x400_0_5200).toLoadRect (View.loadsAt_vmem h_S128x400))
  let x14 : Vec F S40x128 .f32 ← Prog.lift (.load arg1 (Rect.unit (s := S640x128) ![560, 0] S40x128.size inb_S640x128_S40x128_560_0).toLoadRect (View.loadsAt_vmem h_S40x128))
  let y14 : Vec F S128x400 .f32 ← Prog.lift (.load arg2 (Rect.unit (s := S128x6400) ![0, 5600] S128x400.size inb_S128x6400_S128x400_0_5600).toLoadRect (View.loadsAt_vmem h_S128x400))
  let x15 : Vec F S40x128 .f32 ← Prog.lift (.load arg1 (Rect.unit (s := S640x128) ![600, 0] S40x128.size inb_S640x128_S40x128_600_0).toLoadRect (View.loadsAt_vmem h_S40x128))
  let y15 : Vec F S128x400 .f32 ← Prog.lift (.load arg2 (Rect.unit (s := S128x6400) ![0, 6000] S128x400.size inb_S128x6400_S128x400_0_6000).toLoadRect (View.loadsAt_vmem h_S128x400))
  let hm : Vec F S640x50 .f32 ← Prog.lift (.load arg3 (Rect.unit (s := S640x50) ![0, 0] S640x50.size inb_S640x50_S640x50_0_0).toLoadRect (View.loadsAt_vmem h_S640x50))
  let _ : Vec F S640x5 .i32 ← Prog.lift (.load arg4 (Rect.unit (s := S640x5) ![0, 0] S640x5.size inb_S640x5_S640x5_0_0).toLoadRect (View.loadsAt_vmem h_S640x5))
  Prog.lift (.store arg4 (Rect.unit (s := S640x5) ![0, 0] S640x5.size inb_S640x5_S640x5_0_0) (bestCols (competing (accs x0 y0 x1 y1 x2 y2 x3 y3 x4 y4 x5 y5 x6 y6 x7 y7 x8 y8 x9 y9 x10 y10 x11 y11 x12 y12 x13 y13 x14 y14 x15 y15) hm)) Finset.univ (View.stores_vmem_bits_univ h_S640x5 rfl) (.inl rfl))
  pure ⟨⟩

set_option maxRecDepth 65536 in
theorem topk_eq (i : grid1.Coords) (arg1 : Memref sig .tc .vmem S640x128 .f32) (harg1 : arg1.IsWhole) (arg2 : Memref sig .tc .vmem S128x6400 .f32) (harg2 : arg2.IsWhole) (arg3 : Memref sig .tc .vmem S640x50 .f32) (harg3 : arg3.IsWhole) (arg4 : Memref sig .tc .vmem S640x5 .i32) (harg4 : arg4.IsWhole) :
    cc1__topk_body (F := F) i arg1 harg1 arg2 harg2 arg3 harg3 arg4 harg4 = topk i arg1 harg1 arg2 harg2 arg3 harg3 arg4 harg4 := by
  rfl

end Cert.WholeIdeal

end
-- ==== Proof.WholeProj.lean ====
/-
  The first TensorCore kernel's body: the vectors projected, shifted and divided by their norms, the effects' written
  out transposed. What it leaves in its two outputs, and that it runs from its six buffers to those.
-/
module

public import proofs.«01_k».proof.Proof.WholeCall
public import proofs.«01_k».proof.Proof.TopkBody
public import Idealize.ShloMosaic.Lib.Tactic
public import Idealize.ShloMosaic.Lib.Pipeline.FrameBody
public import Idealize.ShloMosaic.Lib.Pipeline.Value

@[expose] public section

noncomputable section

namespace Cert.Proof.Whole

open Cert.WholeIdeal Cert.WholeIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The effects' block: each line projected, shifted, and over its norm; lines become columns. -/
def projE (x : Vec F S6400x128 .f32) (w : Vec F S128x128 .f32) (b : Vec F S1x128 .f32) : FVec F S128x6400 .f32 :=
  let y : FVec F S128x6400 .f32 := transpose S128x6400 [1, 0]
    (addf (matmul dot_S6400x128_S128x128_S6400x128_1_0_0_1_n_n none (shapeCast S6400x128 x shapeCasts_S6400x128_S6400x128)
      (shapeCast S128x128 w shapeCasts_S128x128_S128x128) (constant S6400x128 .f32 0x00000000#32))
      (broadcastTo S6400x128 (shapeCast S1x128 b shapeCasts_S1x128_S1x128) broadcasts_S1x128_S6400x128)) transposes_S6400x128_p1_0_S128x6400
  divf y (broadcastTo S128x6400 (maximumf (sqrt (shapeCast S1x6400 (multiReduction .add [0] S6400 (mulf y y) 0x00000000#32 reduces_S128x6400_S6400 (.inl rfl) rfl) shapeCasts_S6400_S1x6400))
    (broadcast S1x6400 (Scalar.ofBits .f32 0x2B8CBCCC#32))) broadcasts_S1x6400_S128x6400)

/-- The candidates' block, the same, lines kept. -/
def projC (x : Vec F S640x128 .f32) (w : Vec F S128x128 .f32) (b : Vec F S1x128 .f32) : FVec F S640x128 .f32 :=
  let y : FVec F S128x640 .f32 := transpose S128x640 [1, 0]
    (addf (matmul dot_S640x128_S128x128_S640x128_1_0_0_1_n_n none (shapeCast S640x128 x shapeCasts_S640x128_S640x128)
      (shapeCast S128x128 w shapeCasts_S128x128_S128x128) (constant S640x128 .f32 0x00000000#32))
      (broadcastTo S640x128 (shapeCast S1x128 b shapeCasts_S1x128_S1x128) broadcasts_S1x128_S640x128)) transposes_S640x128_p1_0_S128x640
  transpose S640x128 [1, 0] (divf y (broadcastTo S128x640 (maximumf (sqrt (shapeCast S1x640 (multiReduction .add [0] S640 (mulf y y) 0x00000000#32 reduces_S128x640_S640 (.inl rfl) rfl) shapeCasts_S640_S1x640))
    (broadcast S1x640 (Scalar.ofBits .f32 0x2B8CBCCC#32))) broadcasts_S1x640_S128x640)) transposes_S128x640_p1_0_S640x128

/-- The first of the eight equal lines of the shift. -/
def line0 (b : Vec F S8x128 .f32) : Vec F S1x128 .f32 := View.ld b (Rect.unit (s := S8x128) ![0, 0] S1x128.size inb_S8x128_S1x128_0_0)

theorem z2 : (![0, 0] : Fin 2 → ℕ) = fun _ => 0 := by decide

/-- A load of all of a buffer reads what the buffer reads. -/
theorem readWhole {S : Shape} {e : EltTy} {off : Fin S.rank → ℕ} (h : off = fun _ => 0) (inb : ∀ a, off a + S.size a ≤ S.size a)
    (v : View sig .tc .vmem S e) (f : v.ty.Contents (Elt F)) :
    v.readAt (Elt F) (Rect.unit off S.size inb).toLoadRect f = v.read (Elt F) f :=
  View.ld_unit_zero h inb _

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem proj_wp (c : Dev nD) (i : grid0.Coords) (M1 : Memref sig .tc .vmem S6400x128 .f32) (h1 : M1.IsWhole) (M2 : Memref sig .tc .vmem S640x128 .f32) (h2 : M2.IsWhole)
    (M3 : Memref sig .tc .vmem S128x128 .f32) (h3 : M3.IsWhole) (M4 : Memref sig .tc .vmem S8x128 .f32) (h4 : M4.IsWhole)
    (M5 : Memref sig .tc .vmem S128x6400 .f32) (h5 : M5.IsWhole) (M6 : Memref sig .tc .vmem S640x128 .f32) (h6 : M6.IsWhole)
    (x1 : S6400x128.Idx → Elt F .f32) (x2 : S640x128.Idx → Elt F .f32) (x3 : S128x128.Idx → Elt F .f32) (x4 : S8x128.Idx → Elt F .f32)
    (x5 : S128x6400.Idx → Elt F .f32) (x6 : S640x128.Idx → Elt F .f32) (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4
        ∗ owns (c : Thread nD τ) M5 fullShare x5 ∗ owns (c : Thread nD τ) M6 fullShare x6
        ∗ (iprop(owns (c : Thread nD τ) M1 fullShare x1 ∗ owns (c : Thread nD τ) M2 fullShare x2 ∗ owns (c : Thread nD τ) M3 fullShare x3 ∗ owns (c : Thread nD τ) M4 fullShare x4
          ∗ owns (c : Thread nD τ) M5 fullShare (projE x1 x3 (line0 x4)) ∗ owns (c : Thread nD τ) M6 fullShare (projC x2 x3 (line0 x4))) -∗ Q ⟨⟩))
      ⊢ wp frame (wpE (defs₀ (F := F)) Variants.none c none) E (cc0__proj_norm_body i M1 h1 M2 h2 M3 h3 M4 h4 M5 h5 M6 h6) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec!
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]
  · iexists _; isplitr; swap; (· iexact H5); ipureintro
    rw [View.read_writes_junk_eq_canon]; sl_unfold_words; rw [View.canon_unit_zero z2]
    rw [readWhole z2 _ M1.view f1, readWhole z2 _ M3.view f3]
    subst e1 e3 e4
    rfl
  · iexists _; isplitr; swap; (· iexact H6); ipureintro
    rw [View.read_writes_junk_eq_canon]; sl_unfold_words; rw [View.canon_unit_zero z2]
    rw [readWhole z2 _ M2.view f2, readWhole z2 _ M3.view f3]
    subst e2 e3 e4
    rfl

end Cert.Proof.Whole

end
-- ==== Proof.WholeTopk.lean ====
/-
  The second TensorCore kernel's body: from the projected candidates and effects and the mask, the slots of the five
  best scores of each row.
-/
module

public import proofs.«01_k».proof.Proof.WholeProj
public import Idealize.ShloMosaic.Lib.Tactic
public import Idealize.ShloMosaic.Lib.Pipeline.FrameBody
public import Idealize.ShloMosaic.Lib.Pipeline.Value

@[expose] public section

noncomputable section

namespace Cert.Proof.Whole

open Cert.WholeIdeal Cert.WholeIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The scores of a block of 640 rows: its sixteen pieces, each from its own lines and columns. -/
def blockScores (x : Vec F S640x128 .f32) (y : Vec F S128x6400 .f32) : FVec F S640x50 .f32 :=
  accs (View.ld x (Rect.unit (s := S640x128) ![0, 0] S40x128.size inb_S640x128_S40x128_0_0)) (View.ld y (Rect.unit (s := S128x6400) ![0, 0] S128x400.size inb_S128x6400_S128x400_0_0)) (View.ld x (Rect.unit (s := S640x128) ![40, 0] S40x128.size inb_S640x128_S40x128_40_0)) (View.ld y (Rect.unit (s := S128x6400) ![0, 400] S128x400.size inb_S128x6400_S128x400_0_400)) (View.ld x (Rect.unit (s := S640x128) ![80, 0] S40x128.size inb_S640x128_S40x128_80_0)) (View.ld y (Rect.unit (s := S128x6400) ![0, 800] S128x400.size inb_S128x6400_S128x400_0_800)) (View.ld x (Rect.unit (s := S640x128) ![120, 0] S40x128.size inb_S640x128_S40x128_120_0)) (View.ld y (Rect.unit (s := S128x6400) ![0, 1200] S128x400.size inb_S128x6400_S128x400_0_1200)) (View.ld x (Rect.unit (s := S640x128) ![160, 0] S40x128.size inb_S640x128_S40x128_160_0)) (View.ld y (Rect.unit (s := S128x6400) ![0, 1600] S128x400.size inb_S128x6400_S128x400_0_1600)) (View.ld x (Rect.unit (s := S640x128) ![200, 0] S40x128.size inb_S640x128_S40x128_200_0)) (View.ld y (Rect.unit (s := S128x6400) ![0, 2000] S128x400.size inb_S128x6400_S128x400_0_2000)) (View.ld x (Rect.unit (s := S640x128) ![240, 0] S40x128.size inb_S640x128_S40x128_240_0)) (View.ld y (Rect.unit (s := S128x6400) ![0, 2400] S128x400.size inb_S128x6400_S128x400_0_2400)) (View.ld x (Rect.unit (s := S640x128) ![280, 0] S40x128.size inb_S640x128_S40x128_280_0)) (View.ld y (Rect.unit (s := S128x6400) ![0, 2800] S128x400.size inb_S128x6400_S128x400_0_2800)) (View.ld x (Rect.unit (s := S640x128) ![320, 0] S40x128.size inb_S640x128_S40x128_320_0)) (View.ld y (Rect.unit (s := S128x6400) ![0, 3200] S128x400.size inb_S128x6400_S128x400_0_3200)) (View.ld x (Rect.unit (s := S640x128) ![360, 0] S40x128.size inb_S640x128_S40x128_360_0)) (View.ld y (Rect.unit (s := S128x6400) ![0, 3600] S128x400.size inb_S128x6400_S128x400_0_3600)) (View.ld x (Rect.unit (s := S640x128) ![400, 0] S40x128.size inb_S640x128_S40x128_400_0)) (View.ld y (Rect.unit (s := S128x6400) ![0, 4000] S128x400.size inb_S128x6400_S128x400_0_4000)) (View.ld x (Rect.unit (s := S640x128) ![440, 0] S40x128.size inb_S640x128_S40x128_440_0)) (View.ld y (Rect.unit (s := S128x6400) ![0, 4400] S128x400.size inb_S128x6400_S128x400_0_4400)) (View.ld x (Rect.unit (s := S640x128) ![480, 0] S40x128.size inb_S640x128_S40x128_480_0)) (View.ld y (Rect.unit (s := S128x6400) ![0, 4800] S128x400.size inb_S128x6400_S128x400_0_4800)) (View.ld x (Rect.unit (s := S640x128) ![520, 0] S40x128.size inb_S640x128_S40x128_520_0)) (View.ld y (Rect.unit (s := S128x6400) ![0, 5200] S128x400.size inb_S128x6400_S128x400_0_5200)) (View.ld x (Rect.unit (s := S640x128) ![560, 0] S40x128.size inb_S640x128_S40x128_560_0)) (View.ld y (Rect.unit (s := S128x6400) ![0, 5600] S128x400.size inb_S128x6400_S128x400_0_5600)) (View.ld x (Rect.unit (s := S640x128) ![600, 0] S40x128.size inb_S640x128_S40x128_600_0)) (View.ld y (Rect.unit (s := S128x6400) ![0, 6000] S128x400.size inb_S128x6400_S128x400_0_6000))

/-- What the kernel leaves for the block. -/
def topkOut (x : Vec F S640x128 .f32) (y : Vec F S128x6400 .f32) (hm : Vec F S640x50 .f32) : IVec S640x5 32 :=
  bestCols (competing (blockScores x y) hm)

theorem topk_wp (c : Dev nD) (i : grid1.Coords) (M1 : Memref sig .tc .vmem S640x128 .f32) (h1 : M1.IsWhole) (M2 : Memref sig .tc .vmem S128x6400 .f32) (h2 : M2.IsWhole)
    (M3 : Memref sig .tc .vmem S640x50 .f32) (h3 : M3.IsWhole) (M4 : Memref sig .tc .vmem S640x5 .i32) (h4 : M4.IsWhole)
    (x1 : S640x128.Idx → Elt F .f32) (x2 : S128x6400.Idx → Elt F .f32) (x3 : S640x50.Idx → Elt F .f32) (x4 : S640x5.Idx → Elt F .i32) (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4
        ∗ (iprop(owns (c : Thread nD τ) M1 fullShare x1 ∗ owns (c : Thread nD τ) M2 fullShare x2 ∗ owns (c : Thread nD τ) M3 fullShare x3
          ∗ owns (c : Thread nD τ) M4 fullShare (topkOut x1 x2 x3)) -∗ Q ⟨⟩))
      ⊢ wp frame (wpE (defs₀ (F := F)) Variants.none c none) E (cc1__topk_body i M1 h1 M2 h2 M3 h3 M4 h4) Q := by
  rw [topk_eq]
  unfold owns topk
  iintro ⟨⟨%f1, %e1, H1⟩, ⟨%f2, %e2, H2⟩, ⟨%f3, %e3, H3⟩, ⟨%f4, %e4, H4⟩, Hk⟩
  sl_exec!
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  · iexists _; isplitr; swap; (· iexact H4); ipureintro
    rw [View.read_writes_junk_eq_canon]; sl_unfold_words; rw [View.canon_unit_zero z2]
    rw [readWhole z2 _ M3.view f3]
    subst e1 e2 e3
    rfl

end Cert.Proof.Whole

end
-- ==== Proof.WholeRegions.lean ====
/-
  The two TensorCore kernels as regions of the program: the proof data of each from the arrays at its entry, its body's
  obligation, and its record, entered owing what the launch of the SparseCore call leaves the core to owe.
-/
module

public import proofs.«01_k».proof.Proof.WholeTopk
public import proofs.«01_k».proof.Proof.Gen.WholeIdeal.Launch
public import proofs.«01_k».proof.Proof.Gen.WholeIdeal.Points
public import Idealize.ShloMosaic.Lib.Pipeline.Regions
public import Idealize.ShloMosaic.Lib.Pipeline.RegionArrays
public import Idealize.ShloMosaic.Lib.Pipeline.RegionArraysS
public import Idealize.ShloMosaic.Lib.Pipeline.FrameTail

@[expose] public section

noncomputable section

namespace Cert.Proof.Whole

open Cert.WholeIdeal Cert.WholeIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation ucRefs)
open Idealize.ShloMosaic.StableHlo (held held_sub_split held_congr)

variable {F : FTy → Type} [FloatOps F]

local notation "𝕄" => MT nD τ sig (HIx 1) (Elt F) ℕ UU ℕ

abbrev adm : (p : Fin 2) → (pcfgs (F := F) p).Adm := fun p => (cfgs p).toPCfg_adm

/-- What is on record of a core's waits before the call: none of the call's. -/
abbrev noCall : Set (SemLoc sig × HIx 1) := {p | p.2 = none}

/-! A window's block of its array at a point. -/

abbrev blk0_0 (V : Valuation τ sig (Elt F)) (t : Fin cfg0.N) : S6400x128.Idx → Elt F .f32 :=
  ((cfg0.win 0).blk t).view.read (Elt F) (V (Proc.devRef .tc (Pipeline.arrRef spec0 0)))
abbrev blk0_1 (V : Valuation τ sig (Elt F)) (t : Fin cfg0.N) : S640x128.Idx → Elt F .f32 :=
  ((cfg0.win 1).blk t).view.read (Elt F) (V (Proc.devRef .tc (Pipeline.arrRef spec0 1)))
abbrev blk0_2 (V : Valuation τ sig (Elt F)) (t : Fin cfg0.N) : S128x128.Idx → Elt F .f32 :=
  ((cfg0.win 2).blk t).view.read (Elt F) (V (Proc.devRef .tc (Pipeline.arrRef spec0 2)))
abbrev blk0_3 (V : Valuation τ sig (Elt F)) (t : Fin cfg0.N) : S8x128.Idx → Elt F .f32 :=
  ((cfg0.win 3).blk t).view.read (Elt F) (V (Proc.devRef .tc (Pipeline.arrRef spec0 3)))
abbrev blk1_0 (V : Valuation τ sig (Elt F)) (t : Fin cfg1.N) : S640x128.Idx → Elt F .f32 :=
  ((cfg1.win 0).blk t).view.read (Elt F) (V (Proc.devRef .tc (Pipeline.arrRef spec1 0)))
abbrev blk1_1 (V : Valuation τ sig (Elt F)) (t : Fin cfg1.N) : S128x6400.Idx → Elt F .f32 :=
  ((cfg1.win 1).blk t).view.read (Elt F) (V (Proc.devRef .tc (Pipeline.arrRef spec1 1)))
abbrev blk1_2 (V : Valuation τ sig (Elt F)) (t : Fin cfg1.N) : S640x50.Idx → Elt F .f32 :=
  ((cfg1.win 2).blk t).view.read (Elt F) (V (Proc.devRef .tc (Pipeline.arrRef spec1 2)))

def dat0 (V : Valuation τ sig (Elt F)) (d : Dev nD) : Dat τ (Elt F) (HIx 1) ℕ UU ℕ cfg0 d where
  A w := V (Proc.devRef .tc (Pipeline.arrRef spec0 w))
  after w t := match w with
    | ⟨0, _⟩ => blk0_0 V t
    | ⟨1, _⟩ => blk0_1 V t
    | ⟨2, _⟩ => blk0_2 V t
    | ⟨3, _⟩ => blk0_3 V t
    | ⟨4, _⟩ => projE (blk0_0 V t) (blk0_2 V t) (line0 (blk0_3 V t))
    | ⟨5, _⟩ => projC (blk0_1 V t) (blk0_2 V t) (line0 (blk0_3 V t))
  Φ _ := Pipeline.scopedRest (Ix := HIx 1) (Name := ℕ) (U := UU) (Lvl := ℕ) (Val := Elt F) spec0 d
  q _ := fullShare
  owed _ := (K (F := F)).Otc d 0
  recorded _ := noCall

def dat1 (V : Valuation τ sig (Elt F)) (d : Dev nD) : Dat τ (Elt F) (HIx 1) ℕ UU ℕ cfg1 d where
  A w := V (Proc.devRef .tc (Pipeline.arrRef spec1 w))
  after w t := match w with
    | ⟨0, _⟩ => blk1_0 V t
    | ⟨1, _⟩ => blk1_1 V t
    | ⟨2, _⟩ => blk1_2 V t
    | ⟨3, _⟩ => topkOut (blk1_0 V t) (blk1_1 V t) (blk1_2 V t)
  Φ _ := Pipeline.scopedRest (Ix := HIx 1) (Name := ℕ) (U := UU) (Lvl := ℕ) (Val := Elt F) spec1 d
  q _ := fullShare
  owed _ := (K (F := F)).Otc d 0
  recorded _ := noCall

/-- Each kernel's data, from the arrays at its own entry. -/
def pdats (V0 V1 : Dev nD → Valuation τ sig (Elt F)) : (p : Fin 2) → (d : Dev nD) → Dat τ (Elt F) (HIx 1) ℕ UU ℕ (Pipeline.pin (pcfgs (F := F)) adm p) d
  | ⟨0, _⟩ => fun d => dat0 (V0 d) d
  | ⟨1, _⟩ => fun d => dat1 (V1 d) d

/-! ## The bodies -/

theorem found0_0 (V : Valuation τ sig (Elt F)) (d : Dev nD) (t : Fin cfg0.N) (x) : (dat0 V d).before 0 t x = blk0_0 V t :=
  (Dat.before_in_eq_fetched (dat0 V d) 0 rfl (fun _ => rfl) (fun _ _ _ => rfl) (fun _ => rfl) t x).trans rfl
theorem found0_1 (V : Valuation τ sig (Elt F)) (d : Dev nD) (t : Fin cfg0.N) (x) : (dat0 V d).before 1 t x = blk0_1 V t :=
  (Dat.before_in_eq_fetched (dat0 V d) 1 rfl (fun _ => rfl) (fun _ _ _ => rfl) (fun _ => rfl) t x).trans rfl
theorem found0_2 (V : Valuation τ sig (Elt F)) (d : Dev nD) (t : Fin cfg0.N) (x) : (dat0 V d).before 2 t x = blk0_2 V t :=
  (Dat.before_in_eq_fetched (dat0 V d) 2 rfl (fun _ => rfl) (fun _ _ _ => rfl) (fun _ => rfl) t x).trans rfl
theorem found0_3 (V : Valuation τ sig (Elt F)) (d : Dev nD) (t : Fin cfg0.N) (x) : (dat0 V d).before 3 t x = blk0_3 V t :=
  (Dat.before_in_eq_fetched (dat0 V d) 3 rfl (fun _ => rfl) (fun _ _ _ => rfl) (fun _ => rfl) t x).trans rfl
theorem found1_0 (V : Valuation τ sig (Elt F)) (d : Dev nD) (t : Fin cfg1.N) (x) : (dat1 V d).before 0 t x = blk1_0 V t :=
  (Dat.before_in_eq_fetched (dat1 V d) 0 rfl (fun _ => rfl) (fun _ _ _ => rfl) (fun _ => rfl) t x).trans rfl
theorem found1_1 (V : Valuation τ sig (Elt F)) (d : Dev nD) (t : Fin cfg1.N) (x) : (dat1 V d).before 1 t x = blk1_1 V t :=
  (Dat.before_in_eq_fetched (dat1 V d) 1 rfl (fun _ => rfl) (fun _ _ _ => rfl) (fun _ => rfl) t x).trans rfl
theorem found1_2 (V : Valuation τ sig (Elt F)) (d : Dev nD) (t : Fin cfg1.N) (x) : (dat1 V d).before 2 t x = blk1_2 V t :=
  (Dat.before_in_eq_fetched (dat1 V d) 2 rfl (fun _ => rfl) (fun _ _ _ => rfl) (fun _ => rfl) t x).trans rfl

theorem body0 (V : Valuation τ sig (Elt F)) (d : Dev nD) : BodyObligation (dat0 V d) (defs₀ (F := F)) 𝒱₀ none Set.univ := fun t => by
  rw [bigSep_W0, bigSep_W0]
  rw [show (dat0 V d).Φ t.castSucc = Pipeline.scopedRest (Ix := HIx 1) (Name := ℕ) (U := UU) (Lvl := ℕ) (Val := Elt F) spec0 d from rfl,
    show (dat0 V d).Φ t.succ = Pipeline.scopedRest (Ix := HIx 1) (Name := ℕ) (U := UU) (Lvl := ℕ) (Val := Elt F) spec0 d from rfl,
    show (dat0 V d).owesAt none t.succ = (dat0 V d).owesAt none t.castSucc from rfl]
  simp only [found0_0, found0_1, found0_2, found0_3]
  iintro ⟨HΦ, HO, ⟨%d0, H0⟩, ⟨%d1, H1⟩, ⟨%d2, H2⟩, ⟨%d3, H3⟩, ⟨%d4, H4⟩, ⟨%d5, H5⟩⟩
  iapply (proj_wp d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (blk0_0 V t) (blk0_1 V t) (blk0_2 V t) (blk0_3 V t) _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

theorem body1 (V : Valuation τ sig (Elt F)) (d : Dev nD) : BodyObligation (dat1 V d) (defs₀ (F := F)) 𝒱₀ none Set.univ := fun t => by
  rw [bigSep_W1, bigSep_W1]
  rw [show (dat1 V d).Φ t.castSucc = Pipeline.scopedRest (Ix := HIx 1) (Name := ℕ) (U := UU) (Lvl := ℕ) (Val := Elt F) spec1 d from rfl,
    show (dat1 V d).Φ t.succ = Pipeline.scopedRest (Ix := HIx 1) (Name := ℕ) (U := UU) (Lvl := ℕ) (Val := Elt F) spec1 d from rfl,
    show (dat1 V d).owesAt none t.succ = (dat1 V d).owesAt none t.castSucc from rfl]
  simp only [found1_0, found1_1, found1_2]
  iintro ⟨HΦ, HO, ⟨%d0, H0⟩, ⟨%d1, H1⟩, ⟨%d2, H2⟩, ⟨%d3, H3⟩⟩
  iapply (topk_wp d (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (blk1_0 V t) (blk1_1 V t) (blk1_2 V t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## The records -/

/-- The core's dues and the record of its waits before the call. -/
def dues (d : Dev nD) : sProp 𝕄 :=
  iprop(∃ W, ⌜∀ q ∈ W, q.2 = (none : HIx 1)⌝ ∗ owes (d : Thread nD τ) ((K (F := F)).Otc d 0) W)

theorem due_above (d : Dev nD) (g : GSem nD τ sig) (i : HIx 1) (h : 0 < (K (F := F)).Otc d 0 g i) : 0 < (K (F := F)).lev g i :=
  lt_of_lt_of_le (Nat.succ_pos _) ((K (F := F)).lev_of_Otc_pos h)

section Record

variable (pd : (p : Fin 2) → (d : Dev nD) → Dat τ (Elt F) (HIx 1) ℕ UU ℕ (Pipeline.pin (pcfgs (F := F)) adm p) d)
  (p : Fin 2) (kit : Pipeline.PLaunchFacts (nD := nD) (τ := τ) (pcfgs (F := F)) p) (hK : (pcfgs (F := F) p).pre.K = 0)
  (hbody : ∀ d, BodyObligation (pd p d) (defs₀ (F := F)) 𝒱₀ none Set.univ)
  (howed : ∀ d t, (pd p d).owed t = (K (F := F)).Otc d 0) (hrec : ∀ d t, (pd p d).recorded t = noCall)
  (hΦ : ∀ d t, (pd p d).Φ t = Pipeline.scopedRest (Pipeline.pin (pcfgs (F := F)) adm p).spec d)
  (hshare : ∀ d w, (pd p d).share w = fullShare)
  (V V' : Dev nD → Valuation τ sig (Elt F))
  (hV : ∀ d w, (pd p d).arrAt w 0 = V d (Proc.devRef .tc (Pipeline.arrRef (Pipeline.pin (pcfgs (F := F)) adm p).spec w)))
  (hV' : ∀ d w, (pd p d).arrAt w (Pipeline.pin (pcfgs (F := F)) adm p).N = V' d (Proc.devRef .tc (Pipeline.arrRef (Pipeline.pin (pcfgs (F := F)) adm p).spec w)))

/-- A kernel's record: entered with its arrays as the valuation has them and the core's dues, left with the arrays as
    the kernel leaves them and the dues as they were. -/
def region : Pipeline.RegionSeg (pcfgs (F := F)) adm pd none defs₀ 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody d := (hbody d).loose
  hwaits d := Pipeline.cellsWaits_of_cut (Pipeline.pin (pcfgs (F := F)) adm) pd none p d 0 ((K (F := F)).Otc d 0) (howed d)
    (fun _ _ => Finset.mem_univ _) (fun _ _ => le_refl 0) (fun g i h => ⟨Finset.mem_univ _, due_above d g i h⟩)
  pre d := iprop(held (d : Thread nD τ) (Pipeline.arrRefs (pcfgs (F := F) p).spec) (V d) ∗ dues (F := F) d)
  post d := iprop(held (d : Thread nD τ) (Pipeline.arrRefs (pcfgs (F := F) p).spec) (V' d) ∗ dues (F := F) d)
  X _ := BI.emp
  Y _ := BI.emp
  Z _ := BI.emp
  hentry d := by
    rw [Pipeline.ownSems0_none, Pipeline.prefHeld_of_none _ hK,
      ← Pipeline.arrays_held (pcfgs (F := F)) adm pd p kit d (hshare d) ((pd p d).arrAt · 0) (V d) (hV d)]
    unfold dues
    iintro ⟨⟨Ha, %W, %hW, HO⟩, -, -⟩
    imodintro
    isplitl [Ha]; · iexact Ha
    isplitr; · iempintro
    isplitl [HO]
    · unfold Pipeline.Dat.owesAt Pipeline.owesWithin Pipeline.Dat.bound
      rw [howed d 0, hrec d 0]
      iexists W; isplitr; · ipureintro; exact fun q hq => Or.inl (hW q hq)
      iexact HO
    isplitr <;> iempintro
  hin d := by
    rw [hΦ]
    iintro ⟨-, -, Hr⟩; iexact Hr
  hout d := by
    rw [Pipeline.ownSems0_none, hΦ]
    iintro Hr
    isplitr; · iempintro
    isplitr; · iempintro
    iexact Hr
  hexit d := by
    rw [← Pipeline.arrays_held (pcfgs (F := F)) adm pd p kit d (hshare d) ((pd p d).arrAt · (Pipeline.pin (pcfgs (F := F)) adm p).N) (V' d) (hV' d)]
    unfold dues
    iintro ⟨Ha, HO, -, -⟩
    imodintro
    isplitl [Ha]; · iexact Ha
    unfold Pipeline.Dat.owesAt Pipeline.owesWithin Pipeline.Dat.bound
    rw [howed d (Fin.last _), hrec d (Fin.last _)]
    icases HO with ⟨%W, %hW, HO⟩
    iexists W; isplitr; swap; · iexact HO
    ipureintro
    intro q hq
    rcases hW hq with h | ⟨w, s, h⟩
    · exact h
    · rw [h]

end Record

end Cert.Proof.Whole

end
-- ==== Proof.WholeRun.lean ====
/-
  The whole program's run: the first kernel, the second, the SparseCore call, and the host operations between them. Over
  any float values for which the second kernel's slots are slots, it ends with every buffer at what these leave there
  and every counter at zero.
-/
module

public import proofs.«01_k».proof.Proof.WholeRegions
public import Idealize.ShloMosaic.Lib.Pipeline.Frame
public import Idealize.ShloMosaic.Lib.Pipeline.FrameTail
public import Idealize.ShloMosaic.Lib.Pipeline.RegionArrays
public import Idealize.ShloMosaic.Lib.Pipeline.RegionArraysS
public import Idealize.ShloMosaic.Lib.SparseCore.Quiescent

@[expose] public section

noncomputable section

namespace Cert.Proof.Whole

open Cert.WholeIdeal Cert.WholeIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after after_cons after_nil)
open Idealize.ShloMosaic.Pipeline (ucRefs sub_ucRefs devRef_mem_ucRefs afterRegion)

variable {F : FTy → Type} [FloatOps F]

local notation "𝕄" => MT nD τ sig (HIx 1) (Elt F) ℕ UU ℕ

/-! ## The host operations -/

/-- The host operations before the first kernel: the vectors flattened, the weights transposed, the shift repeated. -/
def ops0 : List (HloOp τ sig (Elt F)) :=
  [StableHlo.reshape main_arg1 main_v0 (rfl : (.f32 : EltTy) = .f32) shapeCasts_S1024x50x128_S51200x128,
   StableHlo.reshape main_arg0 main_v1 (rfl : (.f32 : EltTy) = .f32) shapeCasts_S1024x5x128_S5120x128,
   StableHlo.unary main_arg5 main_v2 ((transpose S128x128 [1, 0] · transposes_S128x128_S128x128_1_0) : (⟨S128x128, .f32⟩ : BufTy).Contents (Elt F) → (⟨S128x128, .f32⟩ : BufTy).Contents (Elt F)),
   StableHlo.reshape main_arg6 main_v3 (rfl : (.f32 : EltTy) = .f32) shapeCasts_S128_S1x128,
   StableHlo.unary main_v3 main_v4 (broadcastInDim S8x128 ![0, 1] bcast_S1x128_S8x128_0_1 : (⟨S1x128, .f32⟩ : BufTy).Contents (Elt F) → (⟨S8x128, .f32⟩ : BufTy).Contents (Elt F))]

/-- Those before the second: the mask repeated over a row's candidates. -/
def ops1 : List (HloOp τ sig (Elt F)) :=
  [StableHlo.reshape main_arg4 main_v6 (rfl : (.f32 : EltTy) = .f32) shapeCasts_S1024x50x1_S1024x50,
   StableHlo.unary main_v6 main_v7 (broadcastInDim S1024x5x50 ![0, 2] bcast_S1024x50_S1024x5x50_0_2 : (⟨S1024x50, .f32⟩ : BufTy).Contents (Elt F) → (⟨S1024x5x50, .f32⟩ : BufTy).Contents (Elt F)),
   StableHlo.reshape main_v7 main_v8 (rfl : (.f32 : EltTy) = .f32) shapeCasts_S1024x5x50_S5120x50]

/-- Those before the SparseCore call: the slot table and the two tables, each with the batch axis last. -/
def ops2 : List (HloOp τ sig (Elt F)) :=
  [StableHlo.reshape main_v9 main_v10 (rfl : (.i32 : EltTy) = .i32) shapeCasts_S5120x5_S1024x25,
   StableHlo.unary main_v10 main_v11 ((transpose S25x1024 [1, 0] · transposes_S1024x25_S25x1024_1_0) : (⟨S1024x25, .i32⟩ : BufTy).Contents (Elt F) → (⟨S25x1024, .i32⟩ : BufTy).Contents (Elt F)),
   StableHlo.unary main_arg2 main_v12 ((transpose S50x32x32x1024 [1, 2, 3, 0] · transposes_S1024x50x32x32_S50x32x32x1024_1_2_3_0) : (⟨S1024x50x32x32, .f32⟩ : BufTy).Contents (Elt F) → (⟨S50x32x32x1024, .f32⟩ : BufTy).Contents (Elt F)),
   StableHlo.reshape main_v12 main_v13 (rfl : (.f32 : EltTy) = .f32) shapeCasts_S50x32x32x1024_S50x1024x1024,
   StableHlo.unary main_arg3 main_v14 ((transpose S50x32x1024 [1, 2, 0] · transposes_S1024x50x32_S50x32x1024_1_2_0) : (⟨S1024x50x32, .f32⟩ : BufTy).Contents (Elt F) → (⟨S50x32x1024, .f32⟩ : BufTy).Contents (Elt F))]

/-- Those after it: the two results, each with the batch axis first again. -/
def ops3 : List (HloOp τ sig (Elt F)) :=
  [StableHlo.reshape main_v15_0 main_v16 (rfl : (.f32 : EltTy) = .f32) shapeCasts_S25x1024x1024_S5x5x32x32x1024,
   StableHlo.unary main_v16 main_v17 ((transpose S1024x5x5x32x32 [4, 0, 1, 2, 3] · transposes_S5x5x32x32x1024_S1024x5x5x32x32_4_0_1_2_3) : (⟨S5x5x32x32x1024, .f32⟩ : BufTy).Contents (Elt F) → (⟨S1024x5x5x32x32, .f32⟩ : BufTy).Contents (Elt F)),
   StableHlo.reshape main_v15_1 main_v18 (rfl : (.f32 : EltTy) = .f32) shapeCasts_S25x32x1024_S5x5x32x1024,
   StableHlo.unary main_v18 main_v19 ((transpose S1024x5x5x32 [3, 0, 1, 2] · transposes_S5x5x32x1024_S1024x5x5x32_3_0_1_2) : (⟨S5x5x32x1024, .f32⟩ : BufTy).Contents (Elt F) → (⟨S1024x5x5x32, .f32⟩ : BufTy).Contents (Elt F))]

theorem ops0_bufs : ∀ op ∈ ops0 (F := F), op.bufs ⊆ ucRefs τ sig := by
  intro op h
  simp only [ops0, List.mem_cons, List.not_mem_nil, or_false] at h
  rcases h with rfl | rfl | rfl | rfl | rfl <;> exact sub_ucRefs _ (by simp)
theorem ops0_fresh : ∀ op ∈ ops0 (F := F), op.fresh = ∅ := by
  intro op h
  simp only [ops0, List.mem_cons, List.not_mem_nil, or_false] at h
  rcases h with rfl | rfl | rfl | rfl | rfl <;> rfl
theorem ops1_bufs : ∀ op ∈ ops1 (F := F), op.bufs ⊆ ucRefs τ sig := by
  intro op h
  simp only [ops1, List.mem_cons, List.not_mem_nil, or_false] at h
  rcases h with rfl | rfl | rfl <;> exact sub_ucRefs _ (by simp)
theorem ops1_fresh : ∀ op ∈ ops1 (F := F), op.fresh = ∅ := by
  intro op h
  simp only [ops1, List.mem_cons, List.not_mem_nil, or_false] at h
  rcases h with rfl | rfl | rfl <;> rfl
theorem ops2_bufs : ∀ op ∈ ops2 (F := F), op.bufs ⊆ ucRefs τ sig := by
  intro op h
  simp only [ops2, List.mem_cons, List.not_mem_nil, or_false] at h
  rcases h with rfl | rfl | rfl | rfl | rfl <;> exact sub_ucRefs _ (by simp)
theorem ops2_fresh : ∀ op ∈ ops2 (F := F), op.fresh = ∅ := by
  intro op h
  simp only [ops2, List.mem_cons, List.not_mem_nil, or_false] at h
  rcases h with rfl | rfl | rfl | rfl | rfl <;> rfl
theorem ops3_bufs : ∀ op ∈ ops3 (F := F), op.bufs ⊆ ucRefs τ sig := by
  intro op h
  simp only [ops3, List.mem_cons, List.not_mem_nil, or_false] at h
  rcases h with rfl | rfl | rfl | rfl <;> exact sub_ucRefs _ (by simp)
theorem ops3_fresh : ∀ op ∈ ops3 (F := F), op.fresh = ∅ := by
  intro op h
  simp only [ops3, List.mem_cons, List.not_mem_nil, or_false] at h
  rcases h with rfl | rfl | rfl | rfl <;> rfl

/-- A kernel's call. -/
abbrev call (p : Fin 2) : Prog (TpuEff nD τ sig (Elt F) (SparseCore.Sig (ΛP (F := F)) 1) .tc) PUnit :=
  Prog.lift (.customCall (SparseCore.inner (Pipeline.entry p)) ())

theorem main_eq (d : Dev nD) : main (F := F) d = (StableHlo.seq ops0 >>= fun _ => call 0 >>= fun _ => StableHlo.seq ops1 >>= fun _ => call 1 >>= fun _ =>
    StableHlo.seq ops2 >>= fun _ => (K (F := F)).run d 0 >>= fun _ => StableHlo.seq ops3) := by
  simp only [main, call, ops0, ops1, ops2, ops3, StableHlo.seq, bind_assoc, pure_bind]

/-! ## The contents along the run -/

variable (m : (ℓ : Loc nD τ sig) → Buf (Elt F) ℓ) (ρ : Dev nD → PrngReg)

abbrev e' : DevRef τ sig := Proc.devRef .tc (main_v13 : Ref sig .tc)
abbrev k' : DevRef τ sig := Proc.devRef .tc (main_v14 : Ref sig .tc)
abbrev i' : DevRef τ sig := Proc.devRef .tc (main_v11 : Ref sig .tc)
abbrev o' : DevRef τ sig := Proc.devRef .tc (main_v15_0 : Ref sig .tc)
abbrev p' : DevRef τ sig := Proc.devRef .tc (main_v15_1 : Ref sig .tc)

/-- At the launch, around each kernel, around the call, and at the program's end. -/
def V0 (d : Dev nD) : Valuation τ sig (Elt F) := fun b => m (d, b)
def V1 (d : Dev nD) : Valuation τ sig (Elt F) := after ops0 (V0 m d)
def V2 (d : Dev nD) : Valuation τ sig (Elt F) := afterRegion (dat0 (V1 m d) d) (V1 m d)
def V3 (d : Dev nD) : Valuation τ sig (Elt F) := after ops1 (V2 m d)
def V4 (d : Dev nD) : Valuation τ sig (Elt F) := afterRegion (dat1 (V3 m d) d) (V3 m d)
def V5 (d : Dev nD) : Valuation τ sig (Elt F) := after ops2 (V4 m d)
def tabs : Tabs F := ⟨fun d => V5 m d e', fun d => V5 m d k', fun d => V5 m d i', fun d => V5 m d o', fun d => V5 m d p'⟩
def V6 (d : Dev nD) : Valuation τ sig (Elt F) := Function.update (Function.update (V5 m d) o' (gE (tabs m) d)) p' (gM (tabs m) d)
def V7 (d : Dev nD) : Valuation τ sig (Elt F) := after ops3 (V6 m d)

/-- The call's arrays among the program's. -/
abbrev S5 : Finset (DevRef τ sig) := {e', k', i', o', p'}

theorem S5_sub : S5 ⊆ ucRefs τ sig := by
  intro b hb
  simp only [S5, Finset.mem_insert, Finset.mem_singleton] at hb
  rcases hb with rfl | rfl | rfl | rfl | rfl <;> exact devRef_mem_ucRefs rfl

theorem held_S5 (d : Dev nD) (W : Valuation τ sig (Elt F)) :
    (held (SparseCore.T d) S5 W : sProp 𝕄) = iprop((eLoc d ↦{fullShare} W e') ∗ (kLoc d ↦{fullShare} W k') ∗ (iLoc d ↦{fullShare} W i')
      ∗ (oLoc d ↦{fullShare} W o') ∗ (pLoc d ↦{fullShare} W p')) := by
  unfold held S5
  rw [SparseCore.bigSep_insert' (by decide), SparseCore.bigSep_insert' (by decide), SparseCore.bigSep_insert' (by decide), SparseCore.bigSep_insert' (by decide), bigSep_singleton]

theorem V6_o (d : Dev nD) : V6 m d o' = gE (tabs m) d := (Function.update_of_ne (show o' ≠ p' by decide) _ _).trans (Function.update_self _ _ _)
theorem V6_p (d : Dev nD) : V6 m d p' = gM (tabs m) d := Function.update_self _ _ _
theorem V6_ne (d : Dev nD) (b : DevRef τ sig) (ho : b ≠ o') (hp : b ≠ p') : V6 m d b = V5 m d b :=
  (Function.update_of_ne hp _ _).trans (Function.update_of_ne ho _ _)

theorem call_pre (d : Dev nD) : (held (SparseCore.T d) S5 (V5 m d) : sProp 𝕄) = whole (tabs m) d ((tabs m).Z d) ((tabs m).R d) := held_S5 d _
theorem call_post (d : Dev nD) : (held (SparseCore.T d) S5 (V6 m d) : sProp 𝕄) = whole (tabs m) d (gE (tabs m) d) (gM (tabs m) d) := by
  rw [held_S5, V6_o, V6_p, V6_ne m d e' (by decide) (by decide), V6_ne m d k' (by decide) (by decide), V6_ne m d i' (by decide) (by decide)]
  rfl
theorem call_rest (d : Dev nD) : (held (SparseCore.T d) (ucRefs τ sig \ S5) (V5 m d) : sProp 𝕄) = held (SparseCore.T d) (ucRefs τ sig \ S5) (V6 m d) := by
  refine held_congr _ fun b hb => ?_
  have h := (Finset.mem_sdiff.mp hb).2
  exact (V6_ne m d b (fun e => h (by rw [e]; decide)) (fun e => h (by rw [e]; decide))).symm

theorem unscoped_held (d : Dev nD) : (unscopedBufs d (fun b => m ((SparseCore.T d).loc b)) : sProp 𝕄) = held (SparseCore.T d) (ucRefs τ sig) (V0 m d) :=
  Pipeline.unscopedBufs_held d (V0 m d)

/-! ## The two kernels -/

/-- The kernels' transfers' part of the ghost state. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb
instance EP_landsIn : (EP : Emb (UR sig nD τ) 𝕄).LandsIn (upEmb : UEmb _ 𝕄) := by unfold EP; infer_instance

theorem phi0_spec (d : Dev nD) : Pipeline.scopedRest (Ix := HIx 1) (Name := ℕ) (U := UU) (Lvl := ℕ) (Val := Elt F) spec0 d
    = Pipeline.scopedRest (τ := τ) (Pipeline.pin (pcfgs (F := F)) adm 0).spec d := rfl
theorem phi0_dat (V V' : Dev nD → Valuation τ sig (Elt F)) (d : Dev nD) (t : Fin ((Pipeline.pin (pcfgs (F := F)) adm 0).N + 1)) : (pdats V V' 0 d).Φ t
    = Pipeline.scopedRest (Ix := HIx 1) (Name := ℕ) (U := UU) (Lvl := ℕ) (Val := Elt F) spec0 d := rfl
theorem phi1_spec (d : Dev nD) : Pipeline.scopedRest (Ix := HIx 1) (Name := ℕ) (U := UU) (Lvl := ℕ) (Val := Elt F) spec1 d
    = Pipeline.scopedRest (τ := τ) (Pipeline.pin (pcfgs (F := F)) adm 1).spec d := rfl
theorem phi1_dat (V V' : Dev nD → Valuation τ sig (Elt F)) (d : Dev nD) (t : Fin ((Pipeline.pin (pcfgs (F := F)) adm 1).N + 1)) : (pdats V V' 1 d).Φ t
    = Pipeline.scopedRest (Ix := HIx 1) (Name := ℕ) (U := UU) (Lvl := ℕ) (Val := Elt F) spec1 d := rfl

abbrev pds := pdats (V1 m) (V3 m)

def reg0 : Pipeline.RegionSeg (pcfgs (F := F)) adm (pds m) none defs₀ 𝒱₀ (K (F := F)).L (K (F := F)).lev 0 :=
  region (pds m) 0 launch0.toP rfl (fun d => body0 (V1 m d) d) (fun _ _ => rfl) (fun _ _ => rfl) (fun d t => (phi0_dat (V1 m) (V3 m) d t).trans (phi0_spec d))
    (fun d => (pds m 0 d).share_full fun _ => rfl) (V1 m) (V2 m) (fun _ _ => rfl)
    (fun d w => (Pipeline.afterRegion_arr (dat0 (V1 m d) d) (V1 m d) launch0.win.arr_inj w).symm)
def reg1 : Pipeline.RegionSeg (pcfgs (F := F)) adm (pds m) none defs₀ 𝒱₀ (K (F := F)).L (K (F := F)).lev 1 :=
  region (pds m) 1 launch1.toP rfl (fun d => body1 (V3 m d) d) (fun _ _ => rfl) (fun _ _ => rfl) (fun d t => (phi1_dat (V1 m) (V3 m) d t).trans (phi1_spec d))
    (fun d => (pds m 1 d).share_full fun _ => rfl) (V3 m) (V4 m) (fun _ _ => rfl)
    (fun d w => (Pipeline.afterRegion_arr (dat1 (V3 m d) d) (V3 m d) launch1.win.arr_inj w).symm)

/-- What a kernel's transfers start from. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

theorem call_wp [∀ e, Nonempty (Elt F e)] {p : Fin 2} (R : Pipeline.RegionSeg (pcfgs (F := F)) adm (pds m) none defs₀ 𝒱₀ (K (F := F)).L (K (F := F)).lev p) (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev ∗ ghost p d)
      ⊢ wp frame (wpE ((K (F := F)).defs (D (F := F))) 𝒱 (SparseCore.T d) none) Set.univ (call p) Q := by
  refine BIBase.Entails.trans ?_ ((K (F := F)).wp_liftProg (D (F := F)) 𝒱 (SparseCore.T d) Set.univ none (Prog.lift (.customCall (Pipeline.entry p) ())) Q)
  refine BIBase.Entails.trans ?_ (R.wp (pcfgs (F := F)) adm (pds m) none cellOf_inj EP defs₀ 𝒱₀ (K (F := F)).L (K (F := F)).lev d none (fun _ h => nomatch h) Prog.ret Q)
  unfold ghost
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

/-- The kernel entered from, and left to, every buffer the program names. -/
theorem kernel_wp [∀ e, Nonempty (Elt F e)] {p : Fin 2} (R : Pipeline.RegionSeg (pcfgs (F := F)) adm (pds m) none defs₀ 𝒱₀ (K (F := F)).L (K (F := F)).lev p) (d : Dev nD)
    (W W' : Valuation τ sig (Elt F)) (S : Finset (DevRef τ sig)) (hS : S ⊆ ucRefs τ sig) (hoff : ∀ b ∈ ucRefs τ sig \ S, W' b = W b)
    (hpre : R.pre d = iprop(held (d : Thread nD τ) S W ∗ dues (F := F) d)) (hpost : R.post d = iprop(held (d : Thread nD τ) S W' ∗ dues (F := F) d)) (Q : PUnit → sProp 𝕄) :
    iprop((iprop(boundary (d.tc : Thread nD τ) ∗ held (d.tc : Thread nD τ) (ucRefs τ sig) W' ∗ dues (F := F) d) -∗ Q ⟨⟩)
        ∗ boundary (d.tc : Thread nD τ) ∗ held (d.tc : Thread nD τ) (ucRefs τ sig) W ∗ dues (F := F) d ∗ levAts (K (F := F)).L (K (F := F)).lev ∗ ghost p d)
      ⊢ wp frame (wpE ((K (F := F)).defs (D (F := F))) 𝒱 (SparseCore.T d) none) Set.univ (call p) Q := by
  refine BIBase.Entails.trans ?_ (call_wp m R d Q)
  rw [hpre, hpost, held_sub_split (d.tc : Thread nD τ) hS W, held_sub_split (d.tc : Thread nD τ) hS W',
    held_congr (d.tc : Thread nD τ) hoff]
  iintro ⟨Hk, Hb, ⟨Ha, Hr⟩, HO, Hl, Hg⟩
  isplitl [Hk Hr]
  · iintro ⟨Hb, Ha, HO⟩
    iapply Hk
    isplitl [Hb]; · iexact Hb
    isplitl [Ha Hr]; · isplitl [Ha] <;> iassumption
    iexact HO
  isplitl [Hb]; · iexact Hb
  isplitl [Ha HO]; · isplitl [Ha] <;> iassumption
  isplitl [Hl] <;> iassumption

theorem none_of_below (d : Dev nD) (q : SemLoc sig × HIx 1) (h : (K (F := F)).lev (SparseCore.T d, q.1) q.2 ≤ 0) : q.2 = none := by
  rcases hi : q.2 with _ | i
  · rfl
  · rw [hi] at h
    exact absurd h (Nat.not_le.mpr ((K (F := F)).lev_some_pos _ i))
theorem below_of_none (d : Dev nD) (q : SemLoc sig × HIx 1) (h : q.2 = none) : (K (F := F)).lev (SparseCore.T d, q.1) q.2 ≤ 0 := by
  rw [h]; exact ((K (F := F)).lev_none _).le

/-- Before the call a core's state is its dues and, given them back, itself. -/
theorem st_open (d : Dev nD) : ((K (F := F)).tcSt EH d 0 : sProp 𝕄) ⊢ iprop(dues (F := F) d ∗ (dues (F := F) d -∗ (K (F := F)).tcSt EH d 0)) := by
  unfold SparseCore.Cfg.tcSt dues
  iintro ⟨⟨%W, %hW, HO⟩, Hr⟩
  isplitl [HO]
  · iexists W; isplitr; swap; · iexact HO
    ipureintro
    exact fun q hq => none_of_below d q (hW q hq)
  · iintro ⟨%W', %hW', HO⟩
    isplitl [HO]
    · iexists W'; isplitr; swap; · iexact HO
      ipureintro
      exact fun q hq => below_of_none d q (hW' q hq)
    · iexact Hr

abbrev S0 : Finset (DevRef τ sig) := Pipeline.arrRefs (pcfgs (F := F) 0).spec
abbrev S1 : Finset (DevRef τ sig) := Pipeline.arrRefs (pcfgs (F := F) 1).spec
theorem S0_sub : S0 (F := F) ⊆ ucRefs τ sig := Pipeline.arrRefs_sub_ucRefs _ launch0.win.arr_unscoped
theorem S1_sub : S1 (F := F) ⊆ ucRefs τ sig := Pipeline.arrRefs_sub_ucRefs _ launch1.win.arr_unscoped

/-! ## @main -/

abbrev FIN (d : Dev nD) : sProp 𝕄 := held (SparseCore.T d) (ucRefs τ sig) (V7 m d)

theorem hmain [∀ e, Nonempty (Elt F e)] (κ : GSem nD τ sig → ℕ) (d : Dev nD) :
    iprop((K (F := F)).ctx EH (P (tabs m)) κ ∗ (K (F := F)).tcSt EH d 0 ∗ (K (F := F)).tcRes m ρ d ∗ (ghost (F := F) 0 d ∗ ghost (F := F) 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, Hg0, Hg1⟩
  ihave #Hlev := ((K (F := F)).ctx_levAts (EH := EH) (P := P (tabs m)) κ) $$ Hctx
  ihave Hs := (st_open (F := F) d) $$ Hst
  icases Hs with ⟨HO, Hst⟩
  iapply (wp_seq 𝒱 none Set.univ d (ucRefs τ sig) _ ops0 ops0_bufs ops0_fresh (V0 m d)) $$ [Hb Hheld]
  · isplitl [Hb] <;> iassumption
  iintro ⟨Hb, Hheld⟩
  rw [wp_bind]
  iapply (kernel_wp m (reg0 m) d (V1 m d) (V2 m d) S0 S0_sub (Pipeline.afterRegion_off (dat0 (V1 m d) d) (V1 m d) _) rfl rfl)
  isplitl [Hst Hts Hg1]; swap
  · isplitl [Hb]; · iexact Hb
    isplitl [Hheld]; · iexact Hheld
    isplitl [HO]; · iexact HO
    isplitr; · iexact Hlev
    iexact Hg0
  iintro ⟨Hb, Hheld, HO⟩
  iapply (wp_seq 𝒱 none Set.univ d (ucRefs τ sig) _ ops1 ops1_bufs ops1_fresh (V2 m d)) $$ [Hb Hheld]
  · isplitl [Hb] <;> iassumption
  iintro ⟨Hb, Hheld⟩
  rw [wp_bind]
  iapply (kernel_wp m (reg1 m) d (V3 m d) (V4 m d) S1 S1_sub (Pipeline.afterRegion_off (dat1 (V3 m d) d) (V3 m d) _) rfl rfl)
  isplitl [Hst Hts]; swap
  · isplitl [Hb]; · iexact Hb
    isplitl [Hheld]; · iexact Hheld
    isplitl [HO]; · iexact HO
    isplitr; · iexact Hlev
    iexact Hg1
  iintro ⟨Hb, Hheld, HO⟩
  ihave Hst := Hst $$ HO
  iapply (wp_seq 𝒱 none Set.univ d (ucRefs τ sig) _ ops2 ops2_bufs ops2_fresh (V4 m d)) $$ [Hb Hheld]
  · isplitl [Hb] <;> iassumption
  iintro ⟨Hb, Hheld⟩
  ihave Hh := (show (held (d.tc : Thread nD τ) (ucRefs τ sig) (after ops2 (V4 m d)) : sProp 𝕄) ⊢ iprop(held (SparseCore.T d) S5 (V5 m d) ∗ held (SparseCore.T d) (ucRefs τ sig \ S5) (V5 m d))
    from Entails.of_eq (held_sub_split (SparseCore.T d) S5_sub (V5 m d))) $$ Hheld
  icases Hh with ⟨H5, Hrest⟩
  rw [wp_bind]
  iapply ((K (F := F)).wp_run (D (F := F)) 𝒱 (EH := EH) (P := P (tabs m)) κ d 0) $$ [Hst H5 Hb Hrest Hts]
  isplitr; · iexact Hctx
  isplitl [Hst]; · iexact Hst
  isplitl [H5]
  · rw [st_eq, ← call_pre]; iexact H5
  iintro ⟨Hst, Hdn⟩
  ihave Hdn' := (Entails.of_eq ((dn_eq (tabs m) d).trans (call_post m d).symm)) $$ Hdn
  ihave Hrest' := (Entails.of_eq (call_rest m d)) $$ Hrest
  ihave Hheld := (Entails.of_eq (held_sub_split (SparseCore.T d) S5_sub (V6 m d)).symm) $$ [Hdn' Hrest']
  · isplitl [Hdn'] <;> iassumption
  rw [show (StableHlo.seq ops3 : Prog (TpuEff nD τ sig (Elt F) _ .tc) PUnit) = (StableHlo.seq ops3 >>= fun _ => pure ⟨⟩) from (bind_pure _).symm]
  iapply (wp_seq 𝒱 none Set.univ d (ucRefs τ sig) _ ops3 ops3_bufs ops3_fresh (V6 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The end of the run -/

def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) := by
  refine (forall_intro fun b => ?_).trans pure_forall.2
  refine pure_imp_intro fun hb => ?_
  unfold FIN held
  rw [SparseCore.bigSep_erase' hb]
  iintro ⟨⟨Hx, -⟩, HSI⟩
  ihave H := (SI_pointsTo_agree (st := s') (ℓ := ((d, b) : Loc nD τ sig)) (I := Finset.univ) (q := fullShare) (f := V7 m d b)) $$ [HSI Hx]
  · isplitl [HSI] <;> iassumption
  icases H with %hx
  ipureintro; exact funext fun i => hx i (Finset.mem_univ i)

/-- The launch's ghost state: the handshakes' part and the transfers' part. -/
def u₀ : UU := (initOf (K (F := F)).hsCells (K (F := F)).hsToks, (initOf (Pipeline.cells (nD := nD) cfgs cellOf_inj) (Pipeline.launchToks (nD := nD) cfgs cellOf_inj), 1))

theorem bigSep_emp' {I : Type} (s : Finset I) : (bigSep s fun _ => iprop(emp)) = (iprop(emp) : sProp 𝕄) := bigSep_emp_const s

theorem ghost_split (d : Dev nD) : iprop((bigSep Finset.univ fun p => Pipeline.cellsGhost (Pipeline.pin (pcfgs (F := F)) adm) EP p d)
      ∗ (bigSep Finset.univ fun p => (Pipeline.toksInit (Pipeline.pin (pcfgs (F := F)) adm) EP p d : sProp 𝕄)))
    ⊢ iprop(ghost (F := F) 0 d ∗ ghost (F := F) 1 d) := by
  rw [← bigSep_sep', show (Finset.univ : Finset (Fin 2)) = insert 0 {1} from rfl, SparseCore.bigSep_insert' (by decide), bigSep_singleton]
  exact BI.Entails.refl _

theorem hu₀ (t : Tabs F) : (ownU (u₀ (F := F)) : sProp 𝕄)
    ⊢ |={Set.univ}=> iprop(BI.own (EH (initOf (K (F := F)).hsCells (K (F := F)).hsToks)) ∗ (bigSep Finset.univ fun d : Dev nD => iprop(ghost (F := F) 0 d ∗ ghost (F := F) 1 d))
        ∗ bigSep Finset.univ fun thr : Thread nD τ => bigSep Finset.univ fun q : Fin 1 => (P t).x q thr) := by
  unfold u₀
  iintro Hu
  ihave H := (ownU_pair _ _) $$ Hu
  icases H with ⟨HH, HR⟩
  ihave H := (own_pair_emb (embR : Emb (UR sig nD τ × Counters) 𝕄) _ _) $$ HR
  icases H with ⟨HP, -⟩
  ihave HP' := (show BI.own (((Emb.inl : Emb (UR sig nD τ) (UR sig nD τ × Counters)).trans (embR : Emb (UR sig nD τ × Counters) 𝕄)) (initOf (Pipeline.cells (nD := nD) cfgs cellOf_inj) (Pipeline.launchToks (nD := nD) cfgs cellOf_inj)))
      ⊢ BI.own ((EP : Emb (UR sig nD τ) 𝕄) (initOf (Pipeline.cells (nD := nD) (Pipeline.pin (pcfgs (F := F)) adm) cellOf_inj) (Pipeline.launchToks (nD := nD) (Pipeline.pin (pcfgs (F := F)) adm) cellOf_inj))) from BI.Entails.refl _) $$ HP
  imod (Pipeline.fund_ghost (Pipeline.pin (pcfgs (F := F)) adm) (EP : Emb (UR sig nD τ) 𝕄) cellOf_inj) $$ HP' with ⟨Hc, Ht⟩
  imodintro
  isplitl [HH]; · iexact HH
  isplitl [Hc Ht]
  · iapply (show iprop((bigSep Finset.univ fun d : Dev nD => bigSep Finset.univ fun p => Pipeline.cellsGhost (Pipeline.pin (pcfgs (F := F)) adm) EP p d)
        ∗ (bigSep Finset.univ fun d : Dev nD => bigSep Finset.univ fun p => (Pipeline.toksInit (Pipeline.pin (pcfgs (F := F)) adm) EP p d : sProp 𝕄)))
        ⊢ (bigSep Finset.univ fun d : Dev nD => iprop(ghost (F := F) 0 d ∗ ghost (F := F) 1 d)) from by
      rw [← bigSep_sep']; exact bigSep_mono fun d _ => ghost_split d)
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- Every buffer of the program's ends at what the operations, the kernels and the call leave there, and every counter
    at zero. -/
theorem run_main [∀ e, Nonempty (Elt F e)] (hI : ∀ d, Gather.Slots ((tabs m).I d)) :
    θ_run (Cert.WholeIdeal.defs (F := F)) (Cert.WholeIdeal.threads (F := F)) ⟨m, fun _ => 0, ρ⟩
      (fun r => (∀ d : Dev nD, ∀ b ∈ ucRefs τ sig, r.2.mem (d, b) = V7 m d b) ∧ r.2.sem = fun _ => 0) :=
  SparseCore.Cfg.θ_run_sc_quiescent (K := K (F := F)) (D := D (F := F)) (𝒱 := 𝒱) (EH := EH) (P := P (tabs m)) (A := ∅) facts v₀
    (fun q hq => match q with | 0 => nomatch hq)
    (fun q _ => match q with | 0 => tileObl (tabs m) facts hI)
    (fun q _ => match q with | 0 => SparseCore.Cfg.VecSplit.of_plain (vecSplit (tabs m)))
    m ρ main (fun d => iprop(ghost (F := F) 0 d ∗ ghost (F := F) 1 d)) (FIN m) (u₀ (F := F)) (sep_elim_left.trans (hu₀ (tabs m))) (hmain m ρ) (fq m) (hfin m) _ (fun _ h hz => ⟨h, hz⟩)

end Cert.Proof.Whole

end
-- ==== Proof.TopRow.lean ====
/-
  The five largest of a row of fifty extended reals, found one at a time: the first place of the largest is taken and
  its entry made minus infinity. Where five entries are above minus infinity these are the first five places of the
  row's stable sort by descending entry.
-/
module

public import Idealize.ShloMosaic.Lib.SortPrefix
public import Mathlib.Data.EReal.Basic

@[expose] public section

noncomputable section

namespace Cert.Proof.TopRow

open Idealize.ShloMosaic

abbrev Row := Fin 50 → EReal

/-- The largest entry. -/
def top (s : Row) : EReal := Finset.univ.sup s

theorem le_top (s : Row) (j : Fin 50) : s j ≤ top s := Finset.le_sup (f := s) (Finset.mem_univ j)

theorem exists_top (s : Row) : ∃ j, s j = top s := by
  obtain ⟨j, -, h⟩ := Finset.exists_mem_eq_sup Finset.univ ⟨0, Finset.mem_univ _⟩ s
  exact ⟨j, h.symm⟩

/-- The places of the largest entry, and the first of them. -/
def tops (s : Row) : Finset (Fin 50) := Finset.univ.filter fun j => s j = top s
theorem tops_nonempty (s : Row) : (tops s).Nonempty := (exists_top s).imp fun j h => Finset.mem_filter.mpr ⟨Finset.mem_univ j, h⟩
def best (s : Row) : Fin 50 := (tops s).min' (tops_nonempty s)

theorem at_best (s : Row) : s (best s) = top s := (Finset.mem_filter.mp ((tops s).min'_mem (tops_nonempty s))).2
theorem best_le (s : Row) (j : Fin 50) (h : s j = top s) : best s ≤ j :=
  (tops s).min'_le j (Finset.mem_filter.mpr ⟨Finset.mem_univ j, h⟩)

/-- The row with its best place taken out. -/
def drop (s : Row) : Row := fun j => if j = best s then ⊥ else s j
/-- The row after some rounds, and the place the next one takes. -/
def rounds (s : Row) : ℕ → Row
  | 0 => s
  | n + 1 => drop (rounds s n)
def pick (s : Row) (n : ℕ) : Fin 50 := best (rounds s n)

theorem rounds_free (s : Row) (n : ℕ) (p : Fin 50) (h : ∀ i < n, pick s i ≠ p) : rounds s n p = s p := by
  induction n with
  | zero => rfl
  | succ n ih =>
    show (if p = pick s n then ⊥ else rounds s n p) = s p
    rw [if_neg fun e => h n (Nat.lt_succ_self n) e.symm]
    exact ih fun i hi => h i (Nat.lt_succ_of_lt hi)

theorem rounds_taken (s : Row) (n i : ℕ) (h : i < n) : rounds s n (pick s i) = ⊥ := by
  induction n with
  | zero => exact absurd h (Nat.not_lt_zero i)
  | succ n ih =>
    show (if pick s i = pick s n then ⊥ else rounds s n (pick s i)) = ⊥
    split
    · rfl
    · next hne =>
      rcases Nat.lt_succ_iff_lt_or_eq.mp h with h' | rfl
      · exact ih h'
      · exact absurd rfl hne

section Five

variable (s : Row) (h5 : ∀ j : Fin 50, j.val < 5 → s j ≠ ⊥)
include h5

theorem pick_ne_bot (n : ℕ) (hn : n < 5) : rounds s n (pick s n) ≠ ⊥ := by
  have hc : ((Finset.range n).image (pick s)).card < (Finset.univ.filter fun j : Fin 50 => j.val < 5).card :=
    lt_of_le_of_lt (Finset.card_image_le.trans (Finset.card_range n).le) (lt_of_lt_of_eq hn (by decide))
  obtain ⟨j, hj, hj'⟩ := Finset.exists_mem_notMem_of_card_lt_card hc
  have hf : rounds s n j = s j := rounds_free s n j fun i hi e => hj' (Finset.mem_image.mpr ⟨i, Finset.mem_range.mpr hi, e⟩)
  intro hb
  have hle := le_top (rounds s n) j
  rw [← at_best, show best (rounds s n) = pick s n from rfl, hb, hf] at hle
  exact h5 j (Finset.mem_filter.mp hj).2 (le_bot_iff.mp hle)

theorem pick_ne (i n : ℕ) (hi : i < n) (hn : n < 5) : pick s i ≠ pick s n := fun e =>
  pick_ne_bot s h5 n hn (e ▸ rounds_taken s n i hi)

theorem at_pick (n : ℕ) (hn : n < 5) : s (pick s n) = top (rounds s n) :=
  (rounds_free s n _ fun i hi => pick_ne s h5 i n hi hn).symm.trans (at_best _)

theorem free_le (n : ℕ) (hn : n < 5) (p : Fin 50) (hp : ∀ i < n, pick s i ≠ p) :
    s p < s (pick s n) ∨ (s p = s (pick s n) ∧ pick s n ≤ p) := by
  have hle := le_top (rounds s n) p
  rw [← at_pick s h5 n hn, rounds_free s n p hp] at hle
  rcases lt_or_eq_of_le hle with h | h
  · exact .inl h
  · exact .inr ⟨h, best_le _ p (by rw [rounds_free s n p hp, h, at_pick s h5 n hn])⟩

end Five

/-- Larger entries first, and of equal ones the earlier place. -/
def before (s : Row) (k k' : Fin 50) : Bool := decide (s k' < s k) || (decide (s k = s k') && decide (k < k'))

theorem before_total (s : Row) : StrictTotalBefore (before s) :=
  StrictTotalBefore.of_key_then_position (fun a b : EReal => decide (b < a)) s (fun a => by simp)
    (fun a b c hab hbc => by simp only [decide_eq_true_eq] at *; exact lt_trans hbc hab)
    (fun a b => by
      simp only [decide_eq_true_eq]
      rcases lt_trichotomy a b with h | h | h
      · exact .inr (.inr h)
      · exact .inr (.inl h)
      · exact .inl h)

theorem not_before (s : Row) (p q : Fin 50) (h : s p < s q ∨ (s p = s q ∧ q ≤ p)) : before s p q = false := by
  unfold before
  rcases h with h | ⟨e, h⟩
  · simp [not_lt.mpr h.le, h.ne]
  · simp [e, not_lt.mpr h]

/-- Stable sorts under two orders that agree on a later element put before an earlier one. -/
theorem sort_congr {n : ℕ} (R B : Fin n → Fin n → Bool) (h : ∀ a b : Fin n, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

theorem sorted_congr {n : ℕ} (R B : Fin n → Fin n → Bool) (h : ∀ a b : Fin n, a < b → R b a = B b a) : sortedFrom R = sortedFrom B := by
  have hp : sortPositions n R = sortPositions n B := sort_congr R B h _ (List.pairwise_lt_finRange n)
  funext k
  unfold sortedFrom
  rw [List.get_of_eq hp]
  rfl

/-- The stable sort by descending entry has the picks as its first five places. -/
theorem sorted_pick (s : Row) (h5 : ∀ j : Fin 50, j.val < 5 → s j ≠ ⊥) (n : Fin 5) :
    sortedFrom (fun k k' => decide (s k' < s k)) (n.castLE (by decide : 5 ≤ 50)) = pick s n.val := by
  have hc : sortedFrom (fun k k' => decide (s k' < s k)) = sortedFrom (before s) :=
    sorted_congr _ _ fun a b hab => by unfold before; simp [not_lt.mpr hab.le]
  rw [hc]
  have hne : ∀ i j : Fin 5, i < j → pick s i.val ≠ pick s j.val := fun i j hij => pick_ne s h5 i.val j.val hij j.isLt
  refine (before_total s).sortedFrom_eq_of_prefix (by decide) (fun i : Fin 5 => pick s i.val) (fun i j e => ?_) (fun i j hij => ?_) (fun i p hp => ?_) n
  · rcases lt_trichotomy i j with h | h | h
    · exact absurd e (hne i j h)
    · exact h
    · exact absurd e.symm (hne j i h)
  · exact not_before s _ _ (free_le s h5 i.val i.isLt _ fun a ha => hne ⟨a, ha.trans i.isLt⟩ j (lt_trans ha hij))
  · exact not_before s _ _ (free_le s h5 i.val i.isLt p fun a ha => hp ⟨a, ha.trans i.isLt⟩)

end Cert.Proof.TopRow

end
-- ==== Proof.WholeRows.lean ====
/-
  The top-k kernel's rounds read at the exact values: each takes a row's first best place, so its five results are the
  row's five picks.
-/
module

public import proofs.«01_k».proof.Proof.TopRow
public import proofs.«01_k».proof.Proof.WholeTopk
public import Idealize.ShloMosaic.PureOps.Ideal.Laws
public import Idealize.ShloMosaic.Lib.Affine
public import Idealize.ShloMosaic.Lib.Pointwise.Tactic
public import Idealize.ShloMosaic.Lib.Pointwise.Sums
public import Idealize.ShloMosaic.Lib.Pointwise.IndexBridge

@[expose] public section

noncomputable section

namespace Cert.Proof.Whole

open Cert.WholeIdeal Cert.WholeIdeal.Gen

open Idealize.ShloMosaic
open Cert.Proof

theorem minf_bits : FloatOps.ofBits (F := Ideal) .f32 0xFF800000#32 = (⊥ : EReal) := by
  show Ideal.ofBits .f32 0xFF800000#32 = ⊥
  simp [Ideal.ofBits, Ideal.ieee]

theorem minsi_le (x y : BitVec 32) (hx : x.toNat < 2 ^ 31) (hy : y.toNat < 2 ^ 31) :
    (IntOp.minsi x y = x ∧ x.toNat ≤ y.toNat) ∨ (IntOp.minsi x y = y ∧ y.toNat ≤ x.toNat) := by
  have ex : x.toInt = x.toNat := BitVec.toInt_eq_toNat_of_lt (by omega)
  have ey : y.toInt = y.toNat := BitVec.toInt_eq_toNat_of_lt (by omega)
  unfold IntOp.minsi
  rw [BitVec.slt_eq_decide, ex, ey]
  by_cases h : (x.toNat : ℤ) < y.toNat
  · exact .inl ⟨by simp [h], by omega⟩
  · exact .inr ⟨by simp [h], by omega⟩

/-- The signed least of fifty words below fifty-one, where the least is a given column's number. -/
theorem fold_minsi (f : Fin 50 → BitVec 32) (b : Fin 50) (hb : f b = BitVec.ofNat 32 b.val) (h : ∀ j, (f j).toNat ≤ 50 ∧ b.val ≤ (f j).toNat) :
    (Finset.univ : Finset (Fin 50)).fold IntOp.minsi 2147483647#32 f = BitVec.ofNat 32 b.val := by
  have key : ∀ S : Finset (Fin 50), (S.fold IntOp.minsi 2147483647#32 f).toNat < 2 ^ 31
      ∧ (∀ j ∈ S, (S.fold IntOp.minsi 2147483647#32 f).toNat ≤ (f j).toNat)
      ∧ (S.fold IntOp.minsi 2147483647#32 f = 2147483647#32 ∨ ∃ j ∈ S, S.fold IntOp.minsi 2147483647#32 f = f j) := by
    intro S
    induction S using Finset.induction_on with
    | empty => exact ⟨(by decide : (2147483647#32).toNat < 2 ^ 31), fun j hj => absurd hj (Finset.notMem_empty j), .inl rfl⟩
    | insert a S ha ih =>
      obtain ⟨h1, h2, h3⟩ := ih
      rw [Finset.fold_insert ha]
      have hfa : (f a).toNat < 2 ^ 31 := lt_of_le_of_lt (h a).1 (by decide)
      rcases minsi_le (f a) _ hfa h1 with ⟨e, hle⟩ | ⟨e, hle⟩ <;> rw [e]
      · refine ⟨hfa, fun j hj => ?_, .inr ⟨a, Finset.mem_insert_self a S, rfl⟩⟩
        rcases Finset.mem_insert.mp hj with rfl | hj
        · exact le_rfl
        · exact hle.trans (h2 j hj)
      · refine ⟨h1, fun j hj => ?_, h3.imp id fun ⟨j, hj, e⟩ => ⟨j, Finset.mem_insert_of_mem hj, e⟩⟩
        rcases Finset.mem_insert.mp hj with rfl | hj
        · exact hle
        · exact h2 j hj
  obtain ⟨-, h2, h3⟩ := key Finset.univ
  have hbn : (f b).toNat = b.val := by rw [hb, BitVec.toNat_ofNat]; exact Nat.mod_eq_of_lt (by omega)
  have hle := h2 b (Finset.mem_univ b)
  rw [hbn] at hle
  have hge : b.val ≤ ((Finset.univ : Finset (Fin 50)).fold IntOp.minsi 2147483647#32 f).toNat := by
    rcases h3 with e | ⟨j, -, e⟩
    · rw [e]; exact le_trans (Nat.le_of_lt b.isLt) (by decide)
    · rw [e]; exact (h j).2
  refine BitVec.eq_of_toNat_eq ?_
  rw [BitVec.toNat_ofNat, Nat.mod_eq_of_lt (by omega)]
  omega

/-- A row of scores. -/
def rowOf (s : FVec Ideal S640x50 .f32) (r : Fin 640) : TopRow.Row := fun j => s (ix2 r j)

theorem colNo_at (r : Fin 640) (j : Fin 50) : colNo (ix2 r j) = BitVec.ofNat 32 j.val := by
  unfold colNo
  pointwise

theorem rowTop_at (s : FVec Ideal S640x50 .f32) (r : Fin 640) (j : Fin 50) :
    broadcastTo S640x50 (shapeCast S640x1 (multiReduction .maximumf [1] S640 s 0xFF800000#32 reduces_S640x50_S640 (.inl rfl) rfl) shapeCasts_S640_S640x1) broadcasts_S640x1_S640x50
      (ix2 r j) = TopRow.top (rowOf s r) := by
  refine (show _ = shapeCast S640x1 (multiReduction .maximumf [1] S640 s 0xFF800000#32 reduces_S640x50_S640 (.inl rfl) rfl) shapeCasts_S640_S640x1 (ix2 r 0) by pointwise).trans ?_
  refine (shapeCast_apply _ _ _ (ix1 r) ?_).trans ?_
  · rw [Shape.rowMajor_val_one, Shape.rowMajor_val_two]
    show r.val = r.val * 1 + 0
    omega
  · refine (Ideal.multiReduction_maximumf_single (a := 1) s _ _ _ _ (ix1 r)).trans ?_
    rw [minf_bits]
    unfold TopRow.top Finset.sup
    refine congrArg (fun f : Fin 50 → EReal => (Finset.univ : Finset (Fin 50)).fold max ⊥ f) (funext fun k => ?_)
    refine congrArg s ?_
    funext a; fin_cases a <;> rfl

theorem bestCol_at (s : FVec Ideal S640x50 .f32) (r : Fin 640) (z : Fin 1) : bestCol s (ix2 r z) = BitVec.ofNat 32 (TopRow.best (rowOf s r)).val := by
  unfold bestCol
  refine (shapeCast_apply _ _ _ (ix1 r) ?_).trans ?_
  · rw [Shape.rowMajor_val_one, Shape.rowMajor_val_two]
    show r.val = r.val * 1 + z.val
    omega
  refine (multiReductionI_eq_fold _ _ _ _ _ (ix1 r)).trans ?_
  refine (Shape.Reduces.fold_filter_drop_single (a := 1) _ _ _ _ (ix1 r)).trans ?_
  have hf : ∀ j : Fin 50, (select (cmpf .oeq s (broadcastTo S640x50 (shapeCast S640x1 (multiReduction .maximumf [1] S640 s 0xFF800000#32 reduces_S640x50_S640 (.inl rfl) rfl) shapeCasts_S640_S640x1) broadcasts_S640x1_S640x50))
      colNo (broadcast S640x50 50#32) : IVec S640x50 32) (ix2 r j) = if rowOf s r j = TopRow.top (rowOf s r) then BitVec.ofNat 32 j.val else 50#32 := by
    intro j
    show (if Ideal.cmp .oeq (s (ix2 r j)) _ = 1#1 then colNo (ix2 r j) else 50#32) = _
    rw [rowTop_at, colNo_at]
    unfold Ideal.cmp rowOf
    by_cases h : s (ix2 r j) = TopRow.top fun j => s (ix2 r j) <;> simp [h]
  refine (congrArg (fun f : Fin 50 → BitVec 32 => (Finset.univ : Finset (Fin 50)).fold IntOp.minsi 2147483647#32 f) (funext fun j => ?_ :
    _ = fun j : Fin 50 => if rowOf s r j = TopRow.top (rowOf s r) then BitVec.ofNat 32 j.val else 50#32)).trans ?_
  · refine Eq.trans ?_ (hf j)
    show select _ colNo (broadcast S640x50 50#32) _ = _
    refine congrArg (select (cmpf .oeq s (broadcastTo S640x50 (shapeCast S640x1 (multiReduction .maximumf [1] S640 s 0xFF800000#32 reduces_S640x50_S640 (.inl rfl) rfl) shapeCasts_S640_S640x1) broadcasts_S640x1_S640x50))
      colNo (broadcast S640x50 50#32) : IVec S640x50 32) ?_
    funext a; fin_cases a <;> rfl
  · refine fold_minsi _ _ (if_pos (TopRow.at_best _)) fun j => ?_
    split
    · next h =>
      rw [BitVec.toNat_ofNat, Nat.mod_eq_of_lt (by omega)]
      exact ⟨j.isLt.le, TopRow.best_le _ j h⟩
    · exact ⟨le_rfl, (TopRow.best (rowOf s r)).isLt.le⟩

theorem without_row (s : FVec Ideal S640x50 .f32) (r : Fin 640) : rowOf (without s) r = TopRow.drop (rowOf s r) := by
  funext j
  show (if IntOp.cmpi .eq (colNo (ix2 r j)) (broadcastTo S640x50 (bestCol s) broadcasts_S640x1_S640x50 (ix2 r j)) = 1#1 then FloatOps.ofBits (F := Ideal) .f32 0xFF800000#32 else s (ix2 r j)) = _
  rw [show broadcastTo S640x50 (bestCol s) broadcasts_S640x1_S640x50 (ix2 r j) = bestCol s (ix2 r 0) by pointwise, bestCol_at, colNo_at, minf_bits]
  unfold TopRow.drop
  by_cases h : j = TopRow.best (rowOf s r)
  · rw [if_pos h, if_pos (by rw [← h]; simp [IntOp.cmpi])]
  · rw [if_neg h, if_neg]
    · rfl
    · intro e
      refine h (Fin.ext ?_)
      have e' : BitVec.ofNat 32 j.val = BitVec.ofNat 32 (TopRow.best (rowOf s r)).val := by
        by_contra hn
        refine absurd e ?_
        show ¬BitVec.ofBool (BitVec.ofNat 32 j.val == BitVec.ofNat 32 (TopRow.best (rowOf s r)).val) = 1#1
        rw [beq_eq_false_iff_ne.mpr hn]
        decide
      have e'' := congrArg BitVec.toNat e'
      rwa [BitVec.toNat_ofNat, BitVec.toNat_ofNat, Nat.mod_eq_of_lt (by omega), Nat.mod_eq_of_lt (by omega)] at e''

theorem cols_at {α : Type} (v : Fin 5 → S640x1.Idx → α) (r : Fin 640) (k : Fin 5) :
    concatenate S640x5 1 [⟨S640x1, v 0⟩, ⟨S640x1, v 1⟩, ⟨S640x1, v 2⟩, ⟨S640x1, v 3⟩, ⟨S640x1, v 4⟩]
      concatenates_S640x1_S640x1_S640x1_S640x1_S640x1_S640x5_d1 (ix2 r k) = v k (ix2 r 0) :=
  concatenate_ofFn_unit_apply (1 : Fin S640x5.rank) v concatenates_S640x1_S640x1_S640x1_S640x1_S640x1_S640x5_d1 rfl rfl (ix2 r k) k rfl (ix2 r 0) (by
    intro b hb
    fin_cases b
    · rfl
    · exact absurd rfl hb)

/-- The scores roundsOf some rounds. -/
def roundsOf (s : FVec Ideal S640x50 .f32) : ℕ → FVec Ideal S640x50 .f32
  | 0 => s
  | n + 1 => without (roundsOf s n)

theorem after_row (s : FVec Ideal S640x50 .f32) (r : Fin 640) (n : ℕ) : rowOf (roundsOf s n) r = TopRow.rounds (rowOf s r) n := by
  induction n with
  | zero => rfl
  | succ n ih => exact (without_row _ r).trans (congrArg TopRow.drop ih)

theorem bestCols_at (s : FVec Ideal S640x50 .f32) (r : Fin 640) (k : Fin 5) : bestCols s (ix2 r k) = BitVec.ofNat 32 (TopRow.pick (rowOf s r) k.val).val := by
  refine (cols_at (fun k => bestCol (roundsOf s k.val)) r k).trans ((bestCol_at _ r 0).trans ?_)
  rw [after_row]
  rfl

end Cert.Proof.Whole

end
-- ==== Proof.WholeScores.lean ====
/-
  A block's competing scores read at the exact values: line 40 m + 5 g + c of the block's 640 against its own row's
  fifty columns, each score the sum of the products along the 128 coordinates.
-/
module

public import proofs.«01_k».proof.Proof.WholeRows
public import Idealize.ShloMosaic.Lib.Pipeline.Value
public import Idealize.ShloMosaic.Lib.Pointwise

@[expose] public section

noncomputable section

namespace Cert.Proof.Whole

open Cert.WholeIdeal Cert.WholeIdeal.Gen

open Idealize.ShloMosaic
open Cert.Proof

theorem zero_bits : FloatOps.ofBits (F := Ideal) .f32 0x00000000#32 = (0 : EReal) := Ideal.ofBits_zero_f32

set_option maxRecDepth 65536 in
theorem lineRow_at : ∀ r : Fin 40, lineRow (ix2 r (0 : Fin 1)) = BitVec.ofNat 32 (r.val / 5) := by
  decide +kernel

theorem lineIs_at (g : Fin 8) (r : Fin 40) (h : Fin 50) :
    lineIs (F := Ideal) (BitVec.ofNat 32 g.val) (ix2 r h) = if r.val / 5 = g.val then (1 : EReal) else 0 := by
  unfold lineIs
  refine (show _ = sitofp (F := Ideal) .f32 (extui 32 (cmpi .eq lineRow (broadcast S40x1 (BitVec.ofNat 32 g.val))) natLt_1_32) (ix2 r (0 : Fin 1)) by pointwise).trans ?_
  show ((((IntOp.cmpi .eq (lineRow (ix2 r (0 : Fin 1))) (BitVec.ofNat 32 g.val)).setWidth 32).toInt : ℝ) : EReal) = _
  rw [lineRow_at]
  have hr := r.isLt
  have hg := g.isLt
  by_cases h : r.val / 5 = g.val
  · rw [if_pos h, h]
    have : IntOp.cmpi .eq (BitVec.ofNat 32 g.val) (BitVec.ofNat 32 g.val) = 1#1 := by simp [IntOp.cmpi]
    rw [this]
    norm_num
  · rw [if_neg h]
    have hn : ¬BitVec.ofNat 32 (r.val / 5) = BitVec.ofNat 32 g.val := fun e => by
      have e' := congrArg BitVec.toNat e
      rw [BitVec.toNat_ofNat, BitVec.toNat_ofNat, Nat.mod_eq_of_lt (by omega), Nat.mod_eq_of_lt (by omega)] at e'
      exact h e'
    have : IntOp.cmpi .eq (BitVec.ofNat 32 (r.val / 5)) (BitVec.ofNat 32 g.val) = 0#1 := by
      show BitVec.ofBool (BitVec.ofNat 32 (r.val / 5) == BitVec.ofNat 32 g.val) = 0#1
      rw [beq_eq_false_iff_ne.mpr hn]
      decide
    rw [this]
    norm_num

theorem accOf_at (x : FVec Ideal S40x128 .f32) (y : FVec Ideal S128x400 .f32) (r : Fin 40) (h : Fin 50) :
    accOf (F := Ideal) x y (ix2 r h) = ∑ d : Fin 128, (x (ix2 r d) : EReal) * y (ix2 d (⟨r.val / 5 * 50 + h.val, by omega⟩ : Fin 400)) := by
  let p : FVec Ideal S40x400 .f32 := matmul dot_S40x128_S128x400_S40x400_1_0_0_1_n_n none (shapeCast S40x128 x shapeCasts_S40x128_S40x128)
    (shapeCast S128x400 y shapeCasts_S128x400_S128x400) (constant S40x400 .f32 0x00000000#32)
  have hp : ∀ q : Fin 400, p (ix2 r q) = ∑ d : Fin 128, (x (ix2 r d) : EReal) * y (ix2 d q) := by
    intro q
    show matmul dot_S40x128_S128x400_S40x400_1_0_0_1_n_n none (shapeCast S40x128 x shapeCasts_S40x128_S40x128)
      (shapeCast S128x400 y shapeCasts_S128x400_S128x400) (constant S40x400 .f32 0x00000000#32) (ix2 r q) = _
    rw [shapeCast_self, shapeCast_self]
    pointwise
  have hs : ∀ (g : Fin 8) (o : ℕ) (ho : o = 50 * g.val) (hsl : Shape.Slices S40x400 ![0, o] S40x50),
      (extractStridedSlice S40x50 ![0, o] p hsl (ix2 r h) : EReal) = p (ix2 r (⟨g.val * 50 + h.val, by omega⟩ : Fin 400)) := by
    rintro g o rfl hsl
    refine congrArg p ?_
    funext a
    fin_cases a
    · exact Fin.ext (by show 0 + r.val = r.val; omega)
    · exact Fin.ext (by show 50 * g.val + h.val = g.val * 50 + h.val; omega)
  have hd : r.val / 5 < 8 := by omega
  rw [← hp]
  show (((((((((FloatOps.ofBits (F := Ideal) .f32 0x00000000#32 : EReal)
    + extractStridedSlice S40x50 ![0, 0] p slices_S40x400_o0_0_S40x50 (ix2 r h) * lineIs (F := Ideal) (BitVec.ofNat 32 (0 : Fin 8).val) (ix2 r h))
    + extractStridedSlice S40x50 ![0, 50] p slices_S40x400_o0_50_S40x50 (ix2 r h) * lineIs (F := Ideal) (BitVec.ofNat 32 (1 : Fin 8).val) (ix2 r h))
    + extractStridedSlice S40x50 ![0, 100] p slices_S40x400_o0_100_S40x50 (ix2 r h) * lineIs (F := Ideal) (BitVec.ofNat 32 (2 : Fin 8).val) (ix2 r h))
    + extractStridedSlice S40x50 ![0, 150] p slices_S40x400_o0_150_S40x50 (ix2 r h) * lineIs (F := Ideal) (BitVec.ofNat 32 (3 : Fin 8).val) (ix2 r h))
    + extractStridedSlice S40x50 ![0, 200] p slices_S40x400_o0_200_S40x50 (ix2 r h) * lineIs (F := Ideal) (BitVec.ofNat 32 (4 : Fin 8).val) (ix2 r h))
    + extractStridedSlice S40x50 ![0, 250] p slices_S40x400_o0_250_S40x50 (ix2 r h) * lineIs (F := Ideal) (BitVec.ofNat 32 (5 : Fin 8).val) (ix2 r h))
    + extractStridedSlice S40x50 ![0, 300] p slices_S40x400_o0_300_S40x50 (ix2 r h) * lineIs (F := Ideal) (BitVec.ofNat 32 (6 : Fin 8).val) (ix2 r h))
    + extractStridedSlice S40x50 ![0, 350] p slices_S40x400_o0_350_S40x50 (ix2 r h) * lineIs (F := Ideal) (BitVec.ofNat 32 (7 : Fin 8).val) (ix2 r h)) = _
  rw [hs 0 0 rfl, hs 1 50 rfl, hs 2 100 rfl, hs 3 150 rfl, hs 4 200 rfl, hs 5 250 rfl, hs 6 300 rfl, hs 7 350 rfl, zero_bits]
  simp only [lineIs_at]
  obtain ⟨g, hg⟩ : ∃ g : Fin 8, g.val = r.val / 5 := ⟨⟨r.val / 5, hd⟩, rfl⟩
  have e : (⟨r.val / 5 * 50 + h.val, by omega⟩ : Fin 400) = ⟨g.val * 50 + h.val, by omega⟩ := Fin.ext (by show r.val / 5 * 50 + h.val = g.val * 50 + h.val; omega)
  rw [e, ← hg]
  fin_cases g <;> simp

theorem ld_at {A B a b : ℕ} (x : FVec Ideal (⟨2, ![A, B]⟩ : Shape) .f32) (o o' : ℕ) (inb : ∀ i, (![o, o'] : Fin 2 → ℕ) i + (![a, b] : Fin 2 → ℕ) i ≤ (![A, B] : Fin 2 → ℕ) i)
    (i : Fin a) (j : Fin b) (hi : o + i.val < A) (hj : o' + j.val < B) :
    View.ld (Val := Elt Ideal) (e' := .f32) x (Rect.unit (s := (⟨2, ![A, B]⟩ : Shape)) ![o, o'] ![a, b] inb) (ix2 i j) = x (ix2 ⟨o + i.val, hi⟩ ⟨o' + j.val, hj⟩) := by
  refine congrArg x ?_
  funext c
  fin_cases c
  · exact Fin.ext (by show o + 1 * i.val = o + i.val; omega)
  · exact Fin.ext (by show o' + 1 * j.val = o' + j.val; omega)

theorem blockScores_at (x : FVec Ideal S640x128 .f32) (y : FVec Ideal S128x6400 .f32) (r : Fin 640) (h : Fin 50) :
    blockScores (F := Ideal) x y (ix2 r h) = ∑ d : Fin 128, (x (ix2 r d) : EReal) * y (ix2 d (⟨r.val / 5 * 50 + h.val, by omega⟩ : Fin 6400)) := by
  have hx : ∀ m : Fin 16, ∀ i, (![40 * m.val, 0] : Fin 2 → ℕ) i + S40x128.size i ≤ S640x128.size i := by decide
  have hy : ∀ m : Fin 16, ∀ i, (![0, 400 * m.val] : Fin 2 → ℕ) i + S128x400.size i ≤ S128x6400.size i := by decide
  have hm : r.val / 40 < 16 := by omega
  refine (concatenate_ofFn_apply (0 : Fin S640x50.rank)
    (fun m : Fin 16 => accOf (F := Ideal) (View.ld x (Rect.unit (s := S640x128) ![40 * m.val, 0] S40x128.size (hx m)))
      (View.ld y (Rect.unit (s := S128x6400) ![0, 400 * m.val] S128x400.size (hy m))))
    concatenates_S40x50_S40x50_S40x50_S40x50_S40x50_S40x50_S40x50_S40x50_S40x50_S40x50_S40x50_S40x50_S40x50_S40x50_S40x50_S40x50_S640x50_d0
    rfl 40 rfl (ix2 r h) ⟨r.val / 40, hm⟩ rfl (ix2 (⟨r.val % 40, Nat.mod_lt _ (by decide)⟩ : Fin 40) h) rfl ?_).trans ?_
  · intro b hb
    fin_cases b
    · exact absurd rfl hb
    · rfl
  · rw [accOf_at]
    refine Finset.sum_congr rfl fun d _ => ?_
    have e1 := ld_at x (40 * (r.val / 40)) 0 (hx ⟨r.val / 40, hm⟩) (⟨r.val % 40, Nat.mod_lt _ (by decide)⟩ : Fin 40) d (by show _ + r.val % 40 < 640; omega) (by omega)
    have e2 := ld_at y 0 (400 * (r.val / 40)) (hy ⟨r.val / 40, hm⟩) d (⟨r.val % 40 / 5 * 50 + h.val, by omega⟩ : Fin 400) (by omega) (by show _ + (r.val % 40 / 5 * 50 + h.val) < 6400; omega)
    refine congrArg₂ (fun a b : EReal => a * b) (e1.trans (congrArg x ?_)) (e2.trans (congrArg y ?_))
    · funext a; fin_cases a
      · exact Fin.ext (by show 40 * (r.val / 40) + r.val % 40 = r.val; omega)
      · exact Fin.ext (by show 0 + d.val = d.val; omega)
    · funext a; fin_cases a
      · exact Fin.ext (by show 0 + d.val = d.val; omega)
      · exact Fin.ext (by show 400 * (r.val / 40) + (r.val % 40 / 5 * 50 + h.val) = r.val / 5 * 50 + h.val; omega)

/-- One for the first five columns. -/
def early (h : Fin 50) : EReal := if h.val < 5 then 1 else 0

/-- A row's competing scores: minus infinity where the mask, the first five columns' raised by one, is zero. -/
def masked (hm : Fin 50 → EReal) (a : Fin 50 → EReal) : TopRow.Row := fun h => if hm h + early h = 0 then ⊥ else a h

theorem competing_row (a : FVec Ideal S640x50 .f32) (hm : FVec Ideal S640x50 .f32) (r : Fin 640) :
    rowOf (competing (F := Ideal) a hm) r = masked (fun h => hm (ix2 r h)) (fun h => a (ix2 r h)) := by
  funext h
  show (if Ideal.cmp .oeq ((shapeCast S640x50 hm shapeCasts_S640x50_S640x50 (ix2 r h) : EReal)
      + ((((IntOp.cmpi .slt (colNo (ix2 r h)) 5#32).setWidth 32).toInt : ℝ) : EReal)) (FloatOps.ofBits (F := Ideal) .f32 0x00000000#32) = 1#1
    then FloatOps.ofBits (F := Ideal) .f32 0xFF800000#32 else a (ix2 r h)) = _
  rw [colNo_at, minf_bits, zero_bits, shapeCast_self]
  have he : ((((IntOp.cmpi .slt (BitVec.ofNat 32 h.val) 5#32).setWidth 32).toInt : ℝ) : EReal) = early h := by
    have : ∀ h : Fin 50, ((IntOp.cmpi .slt (BitVec.ofNat 32 h.val) 5#32).setWidth 32).toInt = if h.val < 5 then 1 else 0 := by decide
    rw [this h]
    unfold early
    split <;> norm_num
  rw [he]
  unfold masked Ideal.cmp
  by_cases hz : (hm (ix2 r h) : EReal) + early h = 0
  · simp [hz]
  · simp [hz]

/-- What the top-k kernel leaves for a block, at line r and place k: the row's pick. -/
theorem topkOut_at (x : FVec Ideal S640x128 .f32) (y : FVec Ideal S128x6400 .f32) (hm : FVec Ideal S640x50 .f32) (r : Fin 640) (k : Fin 5) :
    topkOut (F := Ideal) x y hm (ix2 r k) = BitVec.ofNat 32 (TopRow.pick (masked (fun h => hm (ix2 r h))
      fun h => ∑ d : Fin 128, (x (ix2 r d) : EReal) * y (ix2 d (⟨r.val / 5 * 50 + h.val, by omega⟩ : Fin 6400))) k.val).val := by
  unfold topkOut
  rw [bestCols_at, competing_row]
  simp only [blockScores_at]

end Cert.Proof.Whole

end
-- ==== Proof.WholeNorm.lean ====
/-
  The projections read at the exact values: a line times the matrix, plus the shift, over the larger of its norm and a
  small constant; and that every such quotient is a real number.
-/
module

public import proofs.«01_k».proof.Proof.WholeScores

@[expose] public section

noncomputable section

namespace Cert.Proof.Whole

open Cert.WholeIdeal Cert.WholeIdeal.Gen

open Idealize.ShloMosaic
open Cert.Proof

/-- The least a norm counts as. -/
def eps : EReal := Ideal.ofBits .f32 0x2B8CBCCC#32
/-- A line over its norm. -/
def nrm (y : Fin 128 → EReal) : Fin 128 → EReal := fun d => Ideal.div (y d) (max (Ideal.sqrt (∑ d' : Fin 128, y d' * y d')) eps)
/-- A line projected and shifted. -/
def lin (x : Fin 128 → EReal) (w : Fin 128 → Fin 128 → EReal) (b : Fin 128 → EReal) : Fin 128 → EReal := fun d => (∑ e : Fin 128, x e * w e d) + b d

theorem projE_at (x : FVec Ideal S6400x128 .f32) (w : FVec Ideal S128x128 .f32) (b : FVec Ideal S1x128 .f32) (d : Fin 128) (q : Fin 6400) :
    projE (F := Ideal) x w b (ix2 d q) = nrm (lin (fun e => x (ix2 q e)) (fun e d => w (ix2 e d)) (fun d => b (ix2 (0 : Fin 1) d))) d := by
  unfold projE nrm lin eps
  simp only [shapeCast_self]
  pointwise

theorem projC_at (x : FVec Ideal S640x128 .f32) (w : FVec Ideal S128x128 .f32) (b : FVec Ideal S1x128 .f32) (d : Fin 128) (q : Fin 640) :
    projC (F := Ideal) x w b (ix2 q d) = nrm (lin (fun e => x (ix2 q e)) (fun e d => w (ix2 e d)) (fun d => b (ix2 (0 : Fin 1) d))) d := by
  unfold projC nrm lin eps
  simp only [shapeCast_self]
  pointwise

theorem line0_at (b : FVec Ideal S8x128 .f32) (d : Fin 128) : line0 (F := Ideal) b (ix2 (0 : Fin 1) d) = b (ix2 (0 : Fin 8) d) := by
  refine (ld_at b 0 0 inb_S8x128_S1x128_0_0 (0 : Fin 1) d (by decide) (by omega)).trans (congrArg b ?_)
  funext a
  fin_cases a
  · rfl
  · exact Fin.ext (by show 0 + d.val = d.val; omega)

/-! ## The quotients are real -/

theorem eps_pos : ∃ r : ℝ, 0 < r ∧ eps = (r : EReal) := by
  refine ⟨_, ?_, (by unfold eps; simp [Ideal.ofBits, Ideal.ieee]; rfl)⟩
  norm_num

def IsReal (x : EReal) : Prop := ∃ r : ℝ, x = (r : EReal)

theorem IsReal.ne_bot {x : EReal} (h : IsReal x) : x ≠ ⊥ := by
  obtain ⟨r, rfl⟩ := h
  exact EReal.coe_ne_bot r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    obtain ⟨x, hx⟩ := h a (Finset.mem_insert_self a S)
    obtain ⟨y, hy⟩ := ih fun i hi => h i (Finset.mem_insert_of_mem hi)
    exact ⟨x + y, by rw [hx, hy, EReal.coe_add]⟩

theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

theorem nrm_real (y : Fin 128 → EReal) (d : Fin 128) : IsReal (nrm y d) := by
  obtain ⟨e, he, hE⟩ := eps_pos
  unfold nrm
  by_cases hS : ∑ d' : Fin 128, y d' * y d' = ⊤
  · rw [hS]
    refine ⟨0, ?_⟩
    show Ideal.div (y d) (max ⊤ eps) = _
    rw [max_eq_left le_top]
    unfold Ideal.div
    rw [if_neg (by simp)]
    simp
  · have hreal : ∀ i, IsReal (y i) := by
      intro i
      by_contra hn
      refine hS (top_le_iff.mp ?_)
      refine le_trans ?_ (Finset.single_le_sum (f := fun d' => y d' * y d') (fun j _ => sq_nonneg' (y j)) (Finset.mem_univ i))
      generalize y i = z at hn
      induction z with
      | bot => exact (EReal.bot_mul_bot).ge
      | top => exact (EReal.top_mul_top).ge
      | coe r => exact absurd ⟨r, rfl⟩ hn
    obtain ⟨s, hs⟩ := IsReal.sum Finset.univ (fun d' => y d' * y d') fun i _ => (hreal i).mul (hreal i)
    have hs0 : 0 ≤ s := by
      have := Finset.sum_nonneg (s := Finset.univ) (f := fun d' => y d' * y d') fun j _ => sq_nonneg' (y j)
      rw [hs] at this
      exact_mod_cast this
    rw [hs, hE]
    obtain ⟨v, hv⟩ := hreal d
    rw [hv]
    have hq : Ideal.sqrt (s : EReal) = (Real.sqrt s : EReal) := by
      show (if s < 0 then ⊥ else (Real.sqrt s : EReal)) = _
      rw [if_neg (not_lt.mpr hs0)]
    rw [hq, show max (Real.sqrt s : EReal) (e : EReal) = ((max (Real.sqrt s) e : ℝ) : EReal) from (EReal.coe_strictMono.monotone.map_max).symm]
    have hm : 0 < max (Real.sqrt s) e := lt_max_of_lt_right he
    unfold Ideal.div
    rw [if_neg (by exact_mod_cast hm.ne')]
    exact ⟨v * (max (Real.sqrt s) e)⁻¹, by rw [EReal.coe_mul, EReal.coe_inv]⟩

/-- A score of two such lines is above minus infinity. -/
theorem score_ne_bot (y z : Fin 128 → EReal) : (∑ d : Fin 128, nrm y d * nrm z d) ≠ ⊥ :=
  (IsReal.sum Finset.univ _ fun d _ => (nrm_real y d).mul (nrm_real z d)).ne_bot

end Cert.Proof.Whole

end
-- ==== Proof.WholeArrays.lean ====
/-
  The arrays the two TensorCore kernels leave, at the exact values, from the arrays at each one's entry.
-/
module

public import proofs.«01_k».proof.Proof.WholeNorm
public import proofs.«01_k».proof.Proof.WholeRegions
public import Idealize.ShloMosaic.Lib.Pipeline.ValueKit.Geometry

@[expose] public section

noncomputable section

namespace Cert.Proof.Whole

open Cert.WholeIdeal Cert.WholeIdeal.Gen

open Idealize.ShloMosaic
open Idealize.ShloMosaic.TcCoe
open Idealize.ShloMosaic.SparseCore.Cfg (HIx)
open Idealize.ShloMosaic.Pipeline (Dat Cfg)
open Cert.Proof

variable (V : Valuation τ sig (Elt Ideal)) (d : Dev nD)

/-- The effects' lines over their norms, lines as columns. -/
def effects (X : FVec Ideal S51200x128 .f32) (w : FVec Ideal S128x128 .f32) (b : FVec Ideal S8x128 .f32) : FVec Ideal S128x51200 .f32 := fun i =>
  nrm (lin (fun e => X (ix2 (i 1 : Fin 51200) e)) (fun e d => w (ix2 e d)) (fun d => b (ix2 (0 : Fin 8) d))) (i 0 : Fin 128)

/-- The candidates' lines over their norms. -/
def cands (X : FVec Ideal S5120x128 .f32) (w : FVec Ideal S128x128 .f32) (b : FVec Ideal S8x128 .f32) : FVec Ideal S5120x128 .f32 := fun i =>
  nrm (lin (fun e => X (ix2 (i 0 : Fin 5120) e)) (fun e d => w (ix2 e d)) (fun d => b (ix2 (0 : Fin 8) d))) (i 1 : Fin 128)

/-- A line's competing scores: of candidates' line r the products with its row's columns. -/
def scores (C : FVec Ideal S5120x128 .f32) (H : FVec Ideal S128x51200 .f32) (M : FVec Ideal S5120x50 .f32) (r : Fin 5120) : TopRow.Row :=
  masked (fun h => M (ix2 r h)) fun h => ∑ d : Fin 128, (C (ix2 r d) : EReal) * H (ix2 d (⟨r.val / 5 * 50 + h.val, by omega⟩ : Fin 51200))

/-- The slot table. -/
def slots (C : FVec Ideal S5120x128 .f32) (H : FVec Ideal S128x51200 .f32) (M : FVec Ideal S5120x50 .f32) : IVec S5120x5 32 := fun i =>
  BitVec.ofNat 32 (TopRow.pick (scores C H M (i 0 : Fin 5120)) (i 1 : Fin 5).val).val

theorem e0_0 : ∀ t : Fin cfg0.N, win0_0.index t = ![t.val, 0] := (by decide +kernel : ∀ t : Fin grid0.N, win0_0.index t = ![t.val, 0])
theorem e0_1 : ∀ t : Fin cfg0.N, win0_1.index t = ![t.val, 0] := (by decide +kernel : ∀ t : Fin grid0.N, win0_1.index t = ![t.val, 0])
theorem e0_2 : ∀ t : Fin cfg0.N, win0_2.index t = ![0, 0] := (by decide +kernel : ∀ t : Fin grid0.N, win0_2.index t = ![0, 0])
theorem e0_3 : ∀ t : Fin cfg0.N, win0_3.index t = ![0, 0] := (by decide +kernel : ∀ t : Fin grid0.N, win0_3.index t = ![0, 0])
theorem e0_4 : ∀ t : Fin cfg0.N, win0_4.index t = ![0, t.val] := (by decide +kernel : ∀ t : Fin grid0.N, win0_4.index t = ![0, t.val])
theorem e0_5 : ∀ t : Fin cfg0.N, win0_5.index t = ![t.val, 0] := (by decide +kernel : ∀ t : Fin grid0.N, win0_5.index t = ![t.val, 0])
theorem e1_0 : ∀ t : Fin cfg1.N, win1_0.index t = ![t.val, 0] := (by decide +kernel : ∀ t : Fin grid1.N, win1_0.index t = ![t.val, 0])
theorem e1_1 : ∀ t : Fin cfg1.N, win1_1.index t = ![0, t.val] := (by decide +kernel : ∀ t : Fin grid1.N, win1_1.index t = ![0, t.val])
theorem e1_2 : ∀ t : Fin cfg1.N, win1_2.index t = ![t.val, 0] := (by decide +kernel : ∀ t : Fin grid1.N, win1_2.index t = ![t.val, 0])
theorem e1_3 : ∀ t : Fin cfg1.N, win1_3.index t = ![t.val, 0] := (by decide +kernel : ∀ t : Fin grid1.N, win1_3.index t = ![t.val, 0])

theorem blk0_0_at (t : Fin cfg0.N) (q : Fin 6400) (e : Fin 128) (h : t.val * 6400 + q.val < 51200) :
    blk0_0 V t (ix2 q e) = V (Proc.devRef .tc main_v0) (ix2 (⟨t.val * 6400 + q.val, h⟩ : Fin 51200) e) := by
  blk_simp [blk0_0]
  exact congrArg (V (Proc.devRef .tc main_v0)) (by blk_ext [e0_0])
theorem blk0_1_at (t : Fin cfg0.N) (q : Fin 640) (e : Fin 128) (h : t.val * 640 + q.val < 5120) :
    blk0_1 V t (ix2 q e) = V (Proc.devRef .tc main_v1) (ix2 (⟨t.val * 640 + q.val, h⟩ : Fin 5120) e) := by
  blk_simp [blk0_1]
  exact congrArg (V (Proc.devRef .tc main_v1)) (by blk_ext [e0_1])
theorem blk0_2_at (t : Fin cfg0.N) (q : Fin 128) (e : Fin 128) : blk0_2 V t (ix2 q e) = V (Proc.devRef .tc main_v2) (ix2 q e) := by
  blk_simp [blk0_2]
  exact congrArg (V (Proc.devRef .tc main_v2)) (by blk_ext [e0_2])
theorem blk0_3_at (t : Fin cfg0.N) (q : Fin 8) (e : Fin 128) : blk0_3 V t (ix2 q e) = V (Proc.devRef .tc main_v4) (ix2 q e) := by
  blk_simp [blk0_3]
  exact congrArg (V (Proc.devRef .tc main_v4)) (by blk_ext [e0_3])
theorem blk1_0_at (t : Fin cfg1.N) (q : Fin 640) (e : Fin 128) (h : t.val * 640 + q.val < 5120) :
    blk1_0 V t (ix2 q e) = V (Proc.devRef .tc main_v5_1) (ix2 (⟨t.val * 640 + q.val, h⟩ : Fin 5120) e) := by
  blk_simp [blk1_0]
  exact congrArg (V (Proc.devRef .tc main_v5_1)) (by blk_ext [e1_0])
theorem blk1_1_at (t : Fin cfg1.N) (e : Fin 128) (q : Fin 6400) (h : t.val * 6400 + q.val < 51200) :
    blk1_1 V t (ix2 e q) = V (Proc.devRef .tc main_v5_0) (ix2 e (⟨t.val * 6400 + q.val, h⟩ : Fin 51200)) := by
  blk_simp [blk1_1]
  exact congrArg (V (Proc.devRef .tc main_v5_0)) (by blk_ext [e1_1])
theorem blk1_2_at (t : Fin cfg1.N) (q : Fin 640) (e : Fin 50) (h : t.val * 640 + q.val < 5120) :
    blk1_2 V t (ix2 q e) = V (Proc.devRef .tc main_v8) (ix2 (⟨t.val * 640 + q.val, h⟩ : Fin 5120) e) := by
  blk_simp [blk1_2]
  exact congrArg (V (Proc.devRef .tc main_v8)) (by blk_ext [e1_2])

theorem N0 (t : Fin cfg0.N) : t.val < 8 := lt_of_lt_of_eq t.isLt (by decide +kernel : grid0.N = 8)
theorem N1 (t : Fin cfg1.N) : t.val < 8 := lt_of_lt_of_eq t.isLt (by decide +kernel : grid1.N = 8)

theorem arr0_4 : (dat0 V d).arrAt 4 cfg0.N = effects (V (Proc.devRef .tc main_v0)) (V (Proc.devRef .tc main_v2)) (V (Proc.devRef .tc main_v4)) := by
  refine (dat0 V d).arrAt_eq_of_covers 4 _ (by decide +kernel) fun t hf y => ?_
  blk_simp
  obtain ⟨a, q, rfl⟩ : ∃ (a : Fin 128) (q : Fin 6400), y = ix2 a q := ⟨y 0, y 1, eq_ix2 y⟩
  have ht := N0 t
  have hq : t.val * 6400 + q.val < 51200 := by omega
  have he : (win0_4.blk t).view.emb (ix2 a q) = ix2 a (⟨t.val * 6400 + q.val, hq⟩ : Fin 51200) := by blk_ext [e0_4]
  refine Eq.trans ?_ (congrArg (effects (V (Proc.devRef .tc main_v0)) (V (Proc.devRef .tc main_v2)) (V (Proc.devRef .tc main_v4))) he).symm
  refine (projE_at (blk0_0 V t) (blk0_2 V t) (line0 (blk0_3 V t)) a q).trans ?_
  simp only [line0_at, blk0_0_at V t q _ hq, blk0_2_at, blk0_3_at]
  rfl

theorem arr0_5 : (dat0 V d).arrAt 5 cfg0.N = cands (V (Proc.devRef .tc main_v1)) (V (Proc.devRef .tc main_v2)) (V (Proc.devRef .tc main_v4)) := by
  refine (dat0 V d).arrAt_eq_of_covers 5 _ (by decide +kernel) fun t hf y => ?_
  blk_simp
  obtain ⟨q, a, rfl⟩ : ∃ (q : Fin 640) (a : Fin 128), y = ix2 q a := ⟨y 0, y 1, eq_ix2 y⟩
  have ht := N0 t
  have hq : t.val * 640 + q.val < 5120 := by omega
  have he : (win0_5.blk t).view.emb (ix2 q a) = ix2 (⟨t.val * 640 + q.val, hq⟩ : Fin 5120) a := by blk_ext [e0_5]
  refine Eq.trans ?_ (congrArg (cands (V (Proc.devRef .tc main_v1)) (V (Proc.devRef .tc main_v2)) (V (Proc.devRef .tc main_v4))) he).symm
  refine (projC_at (blk0_1 V t) (blk0_2 V t) (line0 (blk0_3 V t)) a q).trans ?_
  simp only [line0_at, blk0_1_at V t q _ hq, blk0_2_at, blk0_3_at]
  rfl

theorem arr1_3 : (dat1 V d).arrAt 3 cfg1.N = slots (V (Proc.devRef .tc main_v5_1)) (V (Proc.devRef .tc main_v5_0)) (V (Proc.devRef .tc main_v8)) := by
  refine (dat1 V d).arrAt_eq_of_covers 3 _ (by decide +kernel) fun t hf y => ?_
  blk_simp
  obtain ⟨q, k, rfl⟩ : ∃ (q : Fin 640) (k : Fin 5), y = ix2 q k := ⟨y 0, y 1, eq_ix2 y⟩
  have ht := N1 t
  have hq : t.val * 640 + q.val < 5120 := by omega
  have he : (win1_3.blk t).view.emb (ix2 q k) = ix2 (⟨t.val * 640 + q.val, hq⟩ : Fin 5120) k := by blk_ext [e1_3]
  refine Eq.trans ?_ (congrArg (slots (V (Proc.devRef .tc main_v5_1)) (V (Proc.devRef .tc main_v5_0)) (V (Proc.devRef .tc main_v8))) he).symm
  refine (topkOut_at (blk1_0 V t) (blk1_1 V t) (blk1_2 V t) q k).trans ?_
  show _ = BitVec.ofNat 32 (TopRow.pick (scores (V (Proc.devRef .tc main_v5_1)) (V (Proc.devRef .tc main_v5_0)) (V (Proc.devRef .tc main_v8)) ⟨t.val * 640 + q.val, hq⟩) k.val).val
  refine congrArg (fun s : TopRow.Row => BitVec.ofNat 32 (TopRow.pick s k.val).val) ?_
  unfold scores
  refine congrArg₂ masked (funext fun h => blk1_2_at V t q h hq) (funext fun h => Finset.sum_congr rfl fun e _ => ?_)
  have hc : t.val * 6400 + (q.val / 5 * 50 + h.val) < 51200 := by omega
  refine congrArg₂ (fun a b : EReal => a * b) (blk1_0_at V t q e hq) ((blk1_1_at V t e ⟨q.val / 5 * 50 + h.val, by omega⟩ hc).trans ?_)
  refine congrArg (fun c : Fin 51200 => V (Proc.devRef .tc main_v5_0) (ix2 e c)) (Fin.ext ?_)
  show t.val * 6400 + (q.val / 5 * 50 + h.val) = (t.val * 640 + q.val) / 5 * 50 + h.val
  omega

end Cert.Proof.Whole

end
-- ==== Proof.WholeValue.lean ====
/-
  What the whole program leaves in its arguments and results, at the exact values, in terms of the arguments: the slot
  table holds each candidate's five picks among its row's competing scores, and the results are the embedding's and the
  mask's rows it names.
-/
module

public import proofs.«01_k».proof.Proof.WholeArrays
public import proofs.«01_k».proof.Proof.WholeRun
public import proofs.«01_k».proof.Proof.Value

@[expose] public section

noncomputable section

namespace Cert.Proof.Whole

open Cert.WholeIdeal Cert.WholeIdeal.Gen

open Idealize.ShloMosaic
open Idealize.ShloMosaic.StableHlo
open Idealize.ShloMosaic.Pipeline (afterRegion)
open Cert.Proof

/-! ## The slot table, in the arguments' terms -/

/-- Candidate c of row b against the row's effects: its competing scores. -/
def scoreRow (X0 : FVec Ideal S1024x5x128 .f32) (X1 : FVec Ideal S1024x50x128 .f32) (hm : FVec Ideal S1024x50x1 .f32) (W : FVec Ideal S128x128 .f32)
    (bias : FVec Ideal S128 .f32) (b : Fin 1024) (c : Fin 5) : TopRow.Row :=
  masked (fun h => hm (ix3 b h (0 : Fin 1))) fun h => ∑ d : Fin 128,
    nrm (lin (fun e => X0 (ix3 b c e)) (fun e d => W (ix2 d e)) (fun d => bias (ix1 d))) d * nrm (lin (fun e => X1 (ix3 b h e)) (fun e d => W (ix2 d e)) (fun d => bias (ix1 d))) d

/-- The table of the picks, a line per candidate. -/
def table (X0 : FVec Ideal S1024x5x128 .f32) (X1 : FVec Ideal S1024x50x128 .f32) (hm : FVec Ideal S1024x50x1 .f32) (W : FVec Ideal S128x128 .f32)
    (bias : FVec Ideal S128 .f32) : IVec S5120x5 32 := fun i =>
  BitVec.ofNat 32 (TopRow.pick (scoreRow X0 X1 hm W bias (⟨(i 0).val / 5, by have := (i 0).isLt; change _ < 5120 at this; omega⟩ : Fin 1024)
    (⟨(i 0).val % 5, Nat.mod_lt _ (by decide)⟩ : Fin 5)) (i 1 : Fin 5).val).val

theorem table_lt (X0 : FVec Ideal S1024x5x128 .f32) (X1 : FVec Ideal S1024x50x128 .f32) (hm : FVec Ideal S1024x50x1 .f32) (W : FVec Ideal S128x128 .f32)
    (bias : FVec Ideal S128 .f32) (i : S5120x5.Idx) : (table X0 X1 hm W bias i).toNat < 50 := by
  unfold table
  rw [BitVec.toNat_ofNat]
  exact lt_of_le_of_lt (Nat.mod_le _ _) (Fin.isLt _)

theorem lin_congr {x x' : Fin 128 → EReal} {w w' : Fin 128 → Fin 128 → EReal} {b b' : Fin 128 → EReal} (hx : ∀ e, x e = x' e) (hw : ∀ e d, w e d = w' e d) (hb : ∀ d, b d = b' d) :
    lin x w b = lin x' w' b' := by
  rw [funext hx, funext fun e => funext (hw e), funext hb]

section Reads

variable (X0 : FVec Ideal S1024x5x128 .f32) (X1 : FVec Ideal S1024x50x128 .f32) (hm : FVec Ideal S1024x50x1 .f32) (W : FVec Ideal S128x128 .f32)
    (bias : FVec Ideal S128 .f32)

theorem cand_read (r : Fin 5120) (e : Fin 128) : shapeCast S5120x128 X0 shapeCasts_S1024x5x128_S5120x128 (ix2 r e)
    = X0 (ix3 (⟨r.val / 5, by omega⟩ : Fin 1024) (⟨r.val % 5, Nat.mod_lt _ (by decide)⟩ : Fin 5) e) := by
  refine shapeCast_apply _ _ _ _ ?_
  rw [Shape.rowMajor_val_two, Shape.rowMajor_val_three]
  show (r.val / 5 * 5 + r.val % 5) * 128 + e.val = r.val * 128 + e.val
  omega

theorem eff_read (b : Fin 1024) (h : Fin 50) (e : Fin 128) (hb : b.val * 50 + h.val < 51200) : shapeCast S51200x128 X1 shapeCasts_S1024x50x128_S51200x128 (ix2 (⟨b.val * 50 + h.val, hb⟩ : Fin 51200) e)
    = X1 (ix3 b h e) := by
  refine shapeCast_apply _ _ _ _ ?_
  rw [Shape.rowMajor_val_two, Shape.rowMajor_val_three]
  rfl

theorem w_read (e d : Fin 128) : transpose S128x128 [1, 0] W transposes_S128x128_S128x128_1_0 (ix2 e d) = W (ix2 d e) := by
  pointwise

theorem bias_read (z : Fin 8) (d : Fin 128) : broadcastInDim S8x128 ![0, 1] bcast_S1x128_S8x128_0_1 (shapeCast S1x128 bias shapeCasts_S128_S1x128) (ix2 z d) = bias (ix1 d) := by
  refine (show _ = shapeCast S1x128 bias shapeCasts_S128_S1x128 (ix2 (0 : Fin 1) d) by pointwise).trans ?_
  refine shapeCast_apply _ _ _ _ ?_
  rw [Shape.rowMajor_val_one, Shape.rowMajor_val_two]
  show d.val = 0 * 128 + d.val
  omega

theorem mask_read (r : Fin 5120) (h : Fin 50) :
    shapeCast S5120x50 (broadcastInDim S1024x5x50 ![0, 2] bcast_S1024x50_S1024x5x50_0_2 (shapeCast S1024x50 hm shapeCasts_S1024x50x1_S1024x50)) shapeCasts_S1024x5x50_S5120x50 (ix2 r h)
      = hm (ix3 (⟨r.val / 5, by omega⟩ : Fin 1024) h (0 : Fin 1)) := by
  refine (shapeCast_apply _ _ _ (ix3 (⟨r.val / 5, by omega⟩ : Fin 1024) (⟨r.val % 5, Nat.mod_lt _ (by decide)⟩ : Fin 5) h) ?_).trans ?_
  · rw [Shape.rowMajor_val_two, Shape.rowMajor_val_three]
    show (r.val / 5 * 5 + r.val % 5) * 50 + h.val = r.val * 50 + h.val
    omega
  refine (show _ = shapeCast S1024x50 hm shapeCasts_S1024x50x1_S1024x50 (ix2 (⟨r.val / 5, by omega⟩ : Fin 1024) h) by pointwise).trans ?_
  refine shapeCast_apply _ _ _ _ ?_
  rw [Shape.rowMajor_val_two, Shape.rowMajor_val_three]
  show (r.val / 5 * 50 + h.val) * 1 + 0 = r.val / 5 * 50 + h.val
  omega

/-- The two kernels' slot table is the table of the picks. -/
theorem slots_eq : slots (cands (shapeCast S5120x128 X0 shapeCasts_S1024x5x128_S5120x128) (transpose S128x128 [1, 0] W transposes_S128x128_S128x128_1_0)
      (broadcastInDim S8x128 ![0, 1] bcast_S1x128_S8x128_0_1 (shapeCast S1x128 bias shapeCasts_S128_S1x128)))
    (effects (shapeCast S51200x128 X1 shapeCasts_S1024x50x128_S51200x128) (transpose S128x128 [1, 0] W transposes_S128x128_S128x128_1_0)
      (broadcastInDim S8x128 ![0, 1] bcast_S1x128_S8x128_0_1 (shapeCast S1x128 bias shapeCasts_S128_S1x128)))
    (shapeCast S5120x50 (broadcastInDim S1024x5x50 ![0, 2] bcast_S1024x50_S1024x5x50_0_2 (shapeCast S1024x50 hm shapeCasts_S1024x50x1_S1024x50)) shapeCasts_S1024x5x50_S5120x50)
    = table X0 X1 hm W bias := by
  funext i
  obtain ⟨r, k, rfl⟩ : ∃ (r : Fin 5120) (k : Fin 5), i = ix2 r k := ⟨i 0, i 1, eq_ix2 i⟩
  refine congrArg (fun s : TopRow.Row => BitVec.ofNat 32 (TopRow.pick s k.val).val) ?_
  show scores _ _ _ r = scoreRow X0 X1 hm W bias ⟨r.val / 5, _⟩ ⟨r.val % 5, _⟩
  unfold scores scoreRow
  refine congrArg₂ masked (funext fun h => mask_read hm r h) (funext fun h => Finset.sum_congr rfl fun d _ => ?_)
  refine congrArg₂ (fun a b : EReal => a * b) ?_ ?_
  · exact congrFun (congrArg nrm (lin_congr (fun e => cand_read X0 r e) (fun e d => w_read W e d) (fun d => bias_read bias 0 d))) d
  · exact congrFun (congrArg nrm (lin_congr (fun e => eff_read X1 ⟨r.val / 5, by omega⟩ h e (by show r.val / 5 * 50 + h.val < 51200; omega)) (fun e d => w_read W e d) (fun d => bias_read bias 0 d))) d

end Reads

/-! ## The arrays along the run -/

variable (m : (ℓ : Loc nD τ sig) → Buf (Elt Ideal) ℓ)

abbrev arg0 (d : Dev nD) : FVec Ideal S1024x5x128 .f32 := m ((d.tc : Thread nD τ).loc main_arg0)
abbrev arg1 (d : Dev nD) : FVec Ideal S1024x50x128 .f32 := m ((d.tc : Thread nD τ).loc main_arg1)
abbrev arg2 (d : Dev nD) : FVec Ideal S1024x50x32x32 .f32 := m ((d.tc : Thread nD τ).loc main_arg2)
abbrev arg3 (d : Dev nD) : FVec Ideal S1024x50x32 .f32 := m ((d.tc : Thread nD τ).loc main_arg3)
abbrev arg4 (d : Dev nD) : FVec Ideal S1024x50x1 .f32 := m ((d.tc : Thread nD τ).loc main_arg4)
abbrev arg5 (d : Dev nD) : FVec Ideal S128x128 .f32 := m ((d.tc : Thread nD τ).loc main_arg5)
abbrev arg6 (d : Dev nD) : FVec Ideal S128 .f32 := m ((d.tc : Thread nD τ).loc main_arg6)

def IsArg (b : Ref sig .tc) : Prop := b = main_arg0 ∨ b = main_arg1 ∨ b = main_arg2 ∨ b = main_arg3 ∨ b = main_arg4 ∨ b = main_arg5 ∨ b = main_arg6

theorem V1_arg (d : Dev nD) (b : Ref sig .tc) (hb : IsArg b) : V1 m d (Proc.devRef .tc b) = m ((d.tc : Thread nD τ).loc b) := by
  unfold V1 ops0
  rcases hb with rfl | rfl | rfl | rfl | rfl | rfl | rfl <;> after_results_simp <;> rfl
theorem V2_arg (d : Dev nD) (b : Ref sig .tc) (hb : IsArg b) : V2 m d (Proc.devRef .tc b) = m ((d.tc : Thread nD τ).loc b) := by
  refine (Pipeline.afterRegion_of_not_arr _ _ ?_).trans (V1_arg m d b hb)
  rcases hb with rfl | rfl | rfl | rfl | rfl | rfl | rfl <;> (show ∀ w : Fin 6, _ ≠ Pipeline.arrRef spec0 w; decide)
theorem V3_arg (d : Dev nD) (b : Ref sig .tc) (hb : IsArg b) : V3 m d (Proc.devRef .tc b) = m ((d.tc : Thread nD τ).loc b) := by
  rw [← V2_arg m d b hb]
  unfold V3 ops1
  rcases hb with rfl | rfl | rfl | rfl | rfl | rfl | rfl <;> after_results_simp
theorem V4_arg (d : Dev nD) (b : Ref sig .tc) (hb : IsArg b) : V4 m d (Proc.devRef .tc b) = m ((d.tc : Thread nD τ).loc b) := by
  refine (Pipeline.afterRegion_of_not_arr _ _ ?_).trans (V3_arg m d b hb)
  rcases hb with rfl | rfl | rfl | rfl | rfl | rfl | rfl <;> (show ∀ w : Fin 4, _ ≠ Pipeline.arrRef spec1 w; decide)
theorem V5_arg (d : Dev nD) (b : Ref sig .tc) (hb : IsArg b) : V5 m d (Proc.devRef .tc b) = m ((d.tc : Thread nD τ).loc b) := by
  rw [← V4_arg m d b hb]
  unfold V5 ops2
  rcases hb with rfl | rfl | rfl | rfl | rfl | rfl | rfl <;> after_results_simp
theorem V7_arg (d : Dev nD) (b : Ref sig .tc) (hb : IsArg b) : V7 m d (Proc.devRef .tc b) = m ((d.tc : Thread nD τ).loc b) := by
  have h : V7 m d (Proc.devRef .tc b) = V6 m d (Proc.devRef .tc b) := by
    unfold V7 ops3
    rcases hb with rfl | rfl | rfl | rfl | rfl | rfl | rfl <;> after_results_simp
  rw [h, V6_ne m d _ (by rcases hb with rfl | rfl | rfl | rfl | rfl | rfl | rfl <;> decide) (by rcases hb with rfl | rfl | rfl | rfl | rfl | rfl | rfl <;> decide)]
  exact V5_arg m d b hb

theorem V1_v0 (d : Dev nD) : V1 m d (Proc.devRef .tc main_v0) = shapeCast S51200x128 (arg1 m d) shapeCasts_S1024x50x128_S51200x128 := by
  unfold V1 ops0
  after_results_simp <;> rfl
theorem V1_v1 (d : Dev nD) : V1 m d (Proc.devRef .tc main_v1) = shapeCast S5120x128 (arg0 m d) shapeCasts_S1024x5x128_S5120x128 := by
  unfold V1 ops0
  after_results_simp <;> rfl
theorem V1_v2 (d : Dev nD) : V1 m d (Proc.devRef .tc main_v2) = transpose S128x128 [1, 0] (arg5 m d) transposes_S128x128_S128x128_1_0 := by
  unfold V1 ops0
  after_results_simp <;> rfl
theorem V1_v4 (d : Dev nD) : V1 m d (Proc.devRef .tc main_v4) = broadcastInDim S8x128 ![0, 1] bcast_S1x128_S8x128_0_1 (shapeCast S1x128 (arg6 m d) shapeCasts_S128_S1x128) := by
  unfold V1 ops0
  after_results_simp <;> rfl

theorem V2_v5_0 (d : Dev nD) : V2 m d (Proc.devRef .tc main_v5_0) = effects (V1 m d (Proc.devRef .tc main_v0)) (V1 m d (Proc.devRef .tc main_v2)) (V1 m d (Proc.devRef .tc main_v4)) :=
  (Pipeline.afterRegion_arr (dat0 (V1 m d) d) (V1 m d) launch0.win.arr_inj 4).trans (arr0_4 (V1 m d) d)
theorem V2_v5_1 (d : Dev nD) : V2 m d (Proc.devRef .tc main_v5_1) = cands (V1 m d (Proc.devRef .tc main_v1)) (V1 m d (Proc.devRef .tc main_v2)) (V1 m d (Proc.devRef .tc main_v4)) :=
  (Pipeline.afterRegion_arr (dat0 (V1 m d) d) (V1 m d) launch0.win.arr_inj 5).trans (arr0_5 (V1 m d) d)
theorem V3_v5_0 (d : Dev nD) : V3 m d (Proc.devRef .tc main_v5_0) = V2 m d (Proc.devRef .tc main_v5_0) := by
  unfold V3 ops1
  after_results_simp
theorem V3_v5_1 (d : Dev nD) : V3 m d (Proc.devRef .tc main_v5_1) = V2 m d (Proc.devRef .tc main_v5_1) := by
  unfold V3 ops1
  after_results_simp
theorem V3_v8 (d : Dev nD) : V3 m d (Proc.devRef .tc main_v8)
    = shapeCast S5120x50 (broadcastInDim S1024x5x50 ![0, 2] bcast_S1024x50_S1024x5x50_0_2 (shapeCast S1024x50 (arg4 m d) shapeCasts_S1024x50x1_S1024x50)) shapeCasts_S1024x5x50_S5120x50 := by
  have h := V2_arg m d main_arg4 (.inr (.inr (.inr (.inr (.inl rfl)))))
  unfold V3 ops1
  after_results_simp
  rw [h] <;> rfl
theorem V4_v9 (d : Dev nD) : V4 m d (Proc.devRef .tc main_v9) = table (arg0 m d) (arg1 m d) (arg4 m d) (arg5 m d) (arg6 m d) := by
  refine (Pipeline.afterRegion_arr (dat1 (V3 m d) d) (V3 m d) launch1.win.arr_inj 3).trans ((arr1_3 (V3 m d) d).trans ?_)
  rw [V3_v5_0, V3_v5_1, V3_v8, V2_v5_0, V2_v5_1, V1_v0, V1_v1, V1_v2, V1_v4]
  exact slots_eq (arg0 m d) (arg1 m d) (arg4 m d) (arg5 m d) (arg6 m d)

abbrev tableOf (d : Dev nD) : IVec S5120x5 32 := table (arg0 m d) (arg1 m d) (arg4 m d) (arg5 m d) (arg6 m d)

theorem tabs_I (d : Dev nD) : (tabs m).I d = transpose S25x1024 [1, 0] (shapeCast S1024x25 (tableOf m d) shapeCasts_S5120x5_S1024x25) transposes_S1024x25_S25x1024_1_0 := by
  have h := V4_v9 m d
  show after ops2 (V4 m d) i' = _
  unfold ops2 i'
  after_results_simp
  rw [h] <;> rfl
theorem tabs_X (d : Dev nD) : (tabs m).X d = shapeCast S50x1024x1024 (transpose S50x32x32x1024 [1, 2, 3, 0] (arg2 m d) transposes_S1024x50x32x32_S50x32x32x1024_1_2_3_0) shapeCasts_S50x32x32x1024_S50x1024x1024 := by
  have h := V4_arg m d main_arg2 (.inr (.inr (.inl rfl)))
  show after ops2 (V4 m d) e' = _
  unfold ops2 e'
  after_results_simp
  rw [h] <;> rfl
theorem tabs_Y (d : Dev nD) : (tabs m).Y d = transpose S50x32x1024 [1, 2, 0] (arg3 m d) transposes_S1024x50x32_S50x32x1024_1_2_0 := by
  have h := V4_arg m d main_arg3 (.inr (.inr (.inr (.inl rfl))))
  show after ops2 (V4 m d) k' = _
  unfold ops2 k'
  after_results_simp
  rw [h] <;> rfl

theorem slots_in_range (d : Dev nD) : Gather.Slots ((tabs m).I d) := by
  rw [tabs_I]
  exact Call.slots_of (tableOf m d) (table_lt _ _ _ _ _)

theorem V7_v17 (d : Dev nD) : V7 m d (Proc.devRef .tc main_v17) = transpose S1024x5x5x32x32 [4, 0, 1, 2, 3]
    (shapeCast S5x5x32x32x1024 (gE (tabs m) d) shapeCasts_S25x1024x1024_S5x5x32x32x1024) transposes_S5x5x32x32x1024_S1024x5x5x32x32_4_0_1_2_3 := by
  have h := V6_o m d
  unfold o' at h
  unfold V7 ops3
  after_results_simp
  rw [h] <;> rfl
theorem V7_v19 (d : Dev nD) : V7 m d (Proc.devRef .tc main_v19) = transpose S1024x5x5x32 [3, 0, 1, 2]
    (shapeCast S5x5x32x1024 (gM (tabs m) d) shapeCasts_S25x32x1024_S5x5x32x1024) transposes_S5x5x32x1024_S1024x5x5x32_3_0_1_2 := by
  have h := V6_p m d
  unfold p' at h
  unfold V7 ops3
  after_results_simp
  rw [h] <;> rfl

theorem val_v17 (d : Dev nD) : V7 m d (Proc.devRef .tc main_v17) = Call.pickE (arg2 m d) (tableOf m d) := by
  rw [V7_v17]; unfold gE; rw [tabs_I, tabs_X]
  funext y
  obtain ⟨b, a, k, r, c, rfl⟩ : ∃ (b : Fin 1024) (a k : Fin 5) (r c : Fin 32), y = ix5 b a k r c := ⟨y 0, y 1, y 2, y 3, y 4, eq_ix5 y⟩
  refine (Call.out7_at _ b a k r c).trans ((Call.gatAll_at _ _ _ _ _).trans ((Call.emb_at _ _ r c b).trans ?_))
  exact congrArg (fun w : BitVec 32 => arg2 m d (ix4 b ⟨w.toNat % 50, Nat.mod_lt _ (by decide)⟩ r c)) (Call.slot_at (tableOf m d) b a k)

theorem val_v19 (d : Dev nD) : V7 m d (Proc.devRef .tc main_v19) = Call.pickM (arg3 m d) (tableOf m d) := by
  rw [V7_v19]; unfold gM; rw [tabs_I, tabs_Y]
  funext y
  obtain ⟨b, a, k, r, rfl⟩ : ∃ (b : Fin 1024) (a k : Fin 5) (r : Fin 32), y = ix4 b a k r := ⟨y 0, y 1, y 2, y 3, eq_ix4 y⟩
  refine (Call.out9_at _ b a k r).trans ((Call.gatAll_at _ _ _ _ _).trans ((Call.msk_at _ _ r b).trans ?_))
  exact congrArg (fun w : BitVec 32 => arg3 m d (ix3 b ⟨w.toNat % 50, Nat.mod_lt _ (by decide)⟩ r)) (Call.slot_at (tableOf m d) b a k)

end Cert.Proof.Whole

end
-- ==== Proof.WholeRefValue.lean ====
/-
  What the whole program's reference computes, at the exact values: its sorted places are each candidate's five picks
  among its row's competing scores, so its results read the embedding and the mask by the same table.
-/
module

public import proofs.«01_k».proof.Proof.WholeValue
public import proofs.«01_k».proof.Proof.RefValue
public import proofs.«01_k».proof.Proof.Gen.WholeRefIdeal.Run
public import proofs.«01_k».proof.Proof.Gen.Pre_first_slots_kept
public import Idealize.ShloMosaic.Lib.Routing.OpsSet

@[expose] public section

noncomputable section

namespace Cert.Proof.WholeRef

open Cert.WholeRefIdeal Cert.WholeRefIdeal.Gen

open Idealize.ShloMosaic
open Cert.Proof
open Cert.Proof.Whole (nrm lin eps masked early scoreRow)

variable (X0 : FVec Ideal S1024x5x128 .f32) (X1 : FVec Ideal S1024x50x128 .f32) (hm : FVec Ideal S1024x50x1 .f32) (W : FVec Ideal S128x128 .f32)
    (bias : FVec Ideal S128 .f32)

/-- The candidates projected, and over their norms. -/
def linC : FVec Ideal S1024x5x128 .f32 :=
  addf (Host.dotGeneral dot_S1024x5x128_S128x128_S1024x5x128_2_0_01_1_n_n none X0 (transpose S128x128 [1, 0] W transposes_S128x128_S128x128_1_0))
    (broadcastInDim S1024x5x128 ![0, 1, 2] bcast_S1x1x128_S1024x5x128_0_1_2 (broadcastInDim S1x1x128 ![2] bcast_S128_S1x1x128_2 bias))
def refC : FVec Ideal S1024x5x128 .f32 :=
  Host.divf (linC X0 W bias) (broadcastInDim S1024x5x128 ![0, 1, 2] bcast_S1024x5x1_S1024x5x128_0_1_2
    (maximumf (Host.sqrt (broadcastInDim S1024x5x1 ![0, 1] bcast_S1024x5_S1024x5x1_0_1
      (Host.reduceAdd (mulf (linC X0 W bias) (linC X0 W bias)) (constant S_ .f32 0x00000000#32) reducesTo_S1024x5x128_S1024x5_d2 h_S_)))
      (broadcastInDim S1024x5x1 ![] bcast_S_S1024x5x1 (constant S_ .f32 0x2B8CBCCC#32))))

/-- The effects, the same. -/
def linH : FVec Ideal S1024x50x128 .f32 :=
  addf (Host.dotGeneral dot_S1024x50x128_S128x128_S1024x50x128_2_0_01_1_n_n none X1 (transpose S128x128 [1, 0] W transposes_S128x128_S128x128_1_0))
    (broadcastInDim S1024x50x128 ![0, 1, 2] bcast_S1x1x128_S1024x50x128_0_1_2 (broadcastInDim S1x1x128 ![2] bcast_S128_S1x1x128_2 bias))
def refH : FVec Ideal S1024x50x128 .f32 :=
  Host.divf (linH X1 W bias) (broadcastInDim S1024x50x128 ![0, 1, 2] bcast_S1024x50x1_S1024x50x128_0_1_2
    (maximumf (Host.sqrt (broadcastInDim S1024x50x1 ![0, 1] bcast_S1024x50_S1024x50x1_0_1
      (Host.reduceAdd (mulf (linH X1 W bias) (linH X1 W bias)) (constant S_ .f32 0x00000000#32) reducesTo_S1024x50x128_S1024x50_d2 h_S_)))
      (broadcastInDim S1024x50x1 ![] bcast_S_S1024x50x1 (constant S_ .f32 0x2B8CBCCC#32))))

/-- Ones in the first five of fifty zeros. -/
def keepRow : FVec Ideal S1x1x50 .f32 :=
  Host.scatter scatter_S1x1x50_S1_S1x1x5_012_n_2_0 (fun _ b => b) (broadcastInDim S1x1x50 ![] bcast_S_S1x1x50 (constant S_ .f32 0x00000000#32))
    (broadcastInDim S1 ![] bcast_S_S1 (constantI S_ 32 0#32)) (broadcastInDim S1x1x5 ![] bcast_S_S1x1x5 (constant S_ .f32 0x3F800000#32))

/-- Each of the five updates lands at its own place. -/
theorem lands (k : Fin 5) : scatter_S1x1x50_S1_S1x1x5_012_n_2_0.resultIdx? (ix3 (0 : Fin 1) (0 : Fin 1) k) (broadcastInDim S1 ![] bcast_S_S1 (constantI S_ 32 0#32))
    = some (ix3 (0 : Fin 1) (0 : Fin 1) (k.castLE (by decide : 5 ≤ 50))) := by
  revert k
  decide +kernel

theorem keepRow_at (h : Fin 50) : keepRow (ix3 (0 : Fin 1) (0 : Fin 1) h) = early h := by
  unfold keepRow early
  split
  case isTrue h5 =>
    exact Routing.scatter_set_hit _ _ _ _ _ (1 : EReal) (fun _ _ => IdealRules.sign_bit.ideal_onePat .f32) (ix3 (0 : Fin 1) (0 : Fin 1) (⟨h.val, h5⟩ : Fin 5)) (lands _)
  case isFalse h5 =>
    refine (Routing.scatter_set_miss _ _ _ _ _ fun q e => ?_).trans Whole.zero_bits
    obtain ⟨a, b, k, rfl⟩ : ∃ (a b : Fin 1) (k : Fin 5), q = ix3 a b k := ⟨q 0, q 1, q 2, eq_ix3 q⟩
    obtain rfl : a = 0 := Subsingleton.elim _ _
    obtain rfl : b = 0 := Subsingleton.elim _ _
    have e' := congrFun (Option.some.inj ((lands k).symm.trans e)) 2
    have e2 : k.val = h.val := congrArg Fin.val e'
    omega

/-- The competing scores. -/
def refMasked : FVec Ideal S1024x5x50 .f32 :=
  select (broadcastInDim S1024x5x50 ![0, 1, 2] bcast_S1024x1x50_S1024x5x50_0_1_2 (noti (cmpf .une (addf (transpose S1024x1x50 [0, 2, 1] hm transposes_S1024x50x1_S1024x1x50_0_2_1)
      (broadcastInDim S1024x1x50 ![0, 1, 2] bcast_S1x1x50_S1024x1x50_0_1_2 keepRow))
      (broadcastInDim S1024x1x50 ![] bcast_S_S1024x1x50 (constant S_ .f32 0x00000000#32)))))
    (broadcastInDim S1024x5x50 ![] bcast_S_S1024x5x50 (id (constant S_ .f32 0xFF800000#32)))
    (Host.dotGeneral (F := Ideal) (φ₁ := .f32) (φ₂ := .f32) dot_S1024x5x128_S1024x50x128_S1024x5x50_2_2_1_1_0_0 none (refC X0 W bias) (refH X1 W bias))

/-- Their first five places. -/
def refIdx : IVec S1024x5x5 32 := (Host.topK S1024x5x5 2 (FloatOps.cmpfTotal .gt) (refMasked X0 X1 hm W bias) sliceFits_S1024x5x50_S1024x5x5).2

theorem linC_at (b : Fin 1024) (c : Fin 5) (d : Fin 128) : linC X0 W bias (ix3 b c d) = lin (fun e => X0 (ix3 b c e)) (fun e d => W (ix2 d e)) (fun d => bias (ix1 d)) d := by
  unfold linC lin
  pointwise
theorem linH_at (b : Fin 1024) (h : Fin 50) (d : Fin 128) : linH X1 W bias (ix3 b h d) = lin (fun e => X1 (ix3 b h e)) (fun e d => W (ix2 d e)) (fun d => bias (ix1 d)) d := by
  unfold linH lin
  pointwise

theorem refC_at (b : Fin 1024) (c : Fin 5) (d : Fin 128) : refC X0 W bias (ix3 b c d) = nrm (lin (fun e => X0 (ix3 b c e)) (fun e d => W (ix2 d e)) (fun d => bias (ix1 d))) d := by
  unfold refC nrm eps
  pointwise
  simp only [linC_at]
theorem refH_at (b : Fin 1024) (h : Fin 50) (d : Fin 128) : refH X1 W bias (ix3 b h d) = nrm (lin (fun e => X1 (ix3 b h e)) (fun e d => W (ix2 d e)) (fun d => bias (ix1 d))) d := by
  unfold refH nrm eps
  pointwise
  simp only [linH_at]

theorem score_at (b : Fin 1024) (c : Fin 5) (h : Fin 50) :
    Host.dotGeneral (F := Ideal) (φ₁ := .f32) (φ₂ := .f32) dot_S1024x5x128_S1024x50x128_S1024x5x50_2_2_1_1_0_0 none (refC X0 W bias) (refH X1 W bias) (ix3 b c h)
      = ∑ d : Fin 128, refC X0 W bias (ix3 b c d) * refH X1 W bias (ix3 b h d) := by
  pointwise

theorem refMasked_at (b : Fin 1024) (c : Fin 5) (h : Fin 50) : refMasked X0 X1 hm W bias (ix3 b c h) = scoreRow X0 X1 hm W bias b c h := by
  have hin : broadcastInDim (α := BitVec 1) S1024x5x50 ![0, 1, 2] bcast_S1024x1x50_S1024x5x50_0_1_2 (noti (cmpf .une (addf (transpose S1024x1x50 [0, 2, 1] hm transposes_S1024x50x1_S1024x1x50_0_2_1)
      (broadcastInDim S1024x1x50 ![0, 1, 2] bcast_S1x1x50_S1024x1x50_0_1_2 keepRow))
      (broadcastInDim S1024x1x50 ![] bcast_S_S1024x1x50 (constant S_ .f32 0x00000000#32)))) (ix3 b c h)
      = BitVec.ofBool (decide (hm (ix3 b h 0) + early h = 0)) := by
    pointwise
    rw [keepRow_at]
    by_cases hz : (hm (ix3 b h 0) : EReal) + early h = 0 <;> simp [hz]
  have hs := score_at X0 X1 W bias b c h
  simp only [refC_at, refH_at] at hs
  unfold refMasked scoreRow masked
  refine (show _ = (if _ = 1#1 then _ else _) from rfl).trans ?_
  rw [hin, hs]
  have hb : broadcastInDim S1024x5x50 ![] bcast_S_S1024x5x50 (id (constant (F := Ideal) S_ .f32 0xFF800000#32)) (ix3 b c h) = ⊥ := Whole.minf_bits
  by_cases hz : (hm (ix3 b h 0) : EReal) + early h = 0
  · simp only [hz, decide_true, if_true]
    exact hb
  · simp only [hz, decide_false, if_false]
    rfl

/-- With the first five mask entries of each line not -1, the five early scores all compete. -/
theorem early_ne_bot (hk : ∀ (b : Fin 1024) (h : Fin 50), h.val < 5 → hm (ix3 b h 0) ≠ ((-1 : ℝ) : EReal)) (b : Fin 1024) (c : Fin 5) (h : Fin 50)
    (h5 : h.val < 5) : scoreRow X0 X1 hm W bias b c h ≠ ⊥ := by
  unfold scoreRow masked
  have hz : ¬ ((hm (ix3 b h 0) : EReal) + early h = 0) := by
    unfold early
    rw [if_pos h5]
    have := hk b h h5
    generalize (hm (ix3 b h 0) : EReal) = x at this
    induction x using EReal.rec with
    | bot => simp
    | top => rw [EReal.top_add_of_ne_bot (by decide)]; exact EReal.top_ne_zero
    | coe r =>
      rw [← EReal.coe_one, ← EReal.coe_add]
      intro e
      have e' : r + 1 = 0 := by exact_mod_cast e
      exact this (by rw [show r = -1 by linarith])
  simp only [if_neg hz]
  exact Whole.score_ne_bot _ _

/-- The last axis. -/
abbrev axis2 : Fin S1024x5x50.rank := ⟨2, Nat.lt_add_one 2⟩

theorem first5_at {α : Type} (v : S1024x5x50.Idx → α) (b : Fin 1024) (c k : Fin 5) :
    extractStridedSlice S1024x5x5 (fun _ => 0) v sliceFits_S1024x5x50_S1024x5x5 (ix3 b c k) = v (ix3 b c (k.castLE (by decide : 5 ≤ 50))) := by
  unfold extractStridedSlice
  congr 1
  funext a
  fin_cases a <;> exact Fin.ext (Nat.zero_add _)

theorem iota_along (j : S1024x5x50.Idx) (q : Fin 50) : iotaInDim S1024x5x50 32 axis2 (Shape.Idx.along (s := S1024x5x50) j axis2 q) = BitVec.ofNat 32 q.val := by
  unfold iotaInDim Shape.Idx.along
  exact congrArg (fun p : Fin 50 => BitVec.ofNat 32 p.val) (Function.update_self (β := fun a : Fin S1024x5x50.rank => Fin (S1024x5x50.size a)) axis2 q j)

theorem topK_at (x : FVec Ideal S1024x5x50 .f32) (b : Fin 1024) (c : Fin 5) (k : Fin 5)
    (h5 : ∀ h : Fin 50, h.val < 5 → x (ix3 b c h) ≠ (⊥ : EReal)) :
    (Host.topK S1024x5x5 2 (FloatOps.cmpfTotal (F := Ideal) (φ := .f32) .gt) x sliceFits_S1024x5x50_S1024x5x5).2 (ix3 b c k)
      = BitVec.ofNat 32 (TopRow.pick (fun h => x (ix3 b c h)) k.val).val := by
  rw [← TopRow.sorted_pick _ h5 k]
  have hal (h : Fin 50) : Shape.Idx.along (s := S1024x5x50) (ix3 b c (k.castLE (by decide : 5 ≤ 50))) axis2 h = ix3 b c h := by
    funext a
    fin_cases a <;> rfl
  unfold Host.topK Host.sort2
  have h2 : 2 < S1024x5x50.rank := Nat.lt_add_one 2
  refine (show _ = BitVec.ofNat 32 (sortedFrom (n := 50) (fun q q' => Ideal.cmp .ogt (x (Shape.Idx.along (s := S1024x5x50) (ix3 b c (k.castLE (by decide : 5 ≤ 50))) axis2 q))
    (x (Shape.Idx.along (s := S1024x5x50) (ix3 b c (k.castLE (by decide : 5 ≤ 50))) axis2 q')) == 1#1) (k.castLE (by decide : 5 ≤ 50))).val from ?_).trans ?_
  · simp only [dif_pos h2]
    rw [first5_at]
    exact iota_along _ _
  simp only [hal]
  congr 3
  funext q q'
  unfold Ideal.cmp
  by_cases hz : x (ix3 b c q') < x (ix3 b c q) <;> simp [hz]

theorem refIdx_eq (hk : ∀ (b : Fin 1024) (h : Fin 50), h.val < 5 → hm (ix3 b h 0) ≠ ((-1 : ℝ) : EReal)) (b : Fin 1024) (c k : Fin 5) :
    refIdx X0 X1 hm W bias (ix3 b c k) = BitVec.ofNat 32 (TopRow.pick (scoreRow X0 X1 hm W bias b c) k.val).val := by
  unfold refIdx
  rw [topK_at _ b c k fun h hh => by rw [refMasked_at]; exact early_ne_bot X0 X1 hm W bias hk b c h hh]
  simp only [refMasked_at]

/-- The table the places make, one line per candidate. -/
theorem refIdx_table (hk : ∀ (b : Fin 1024) (h : Fin 50), h.val < 5 → hm (ix3 b h 0) ≠ ((-1 : ℝ) : EReal)) :
    refIdx X0 X1 hm W bias = shapeCast S1024x5x5 (Whole.table X0 X1 hm W bias) Cert.ReferenceIdeal.Gen.shapeCasts_S5120x5_S1024x5x5 := by
  funext y
  obtain ⟨b, c, k, rfl⟩ : ∃ (b : Fin 1024) (c k : Fin 5), y = ix3 b c k := ⟨y 0, y 1, y 2, eq_ix3 y⟩
  rw [refIdx_eq X0 X1 hm W bias hk]
  refine Eq.symm ((shapeCast_apply _ _ _ (ix2 (⟨b.val * 5 + c.val, by omega⟩ : Fin 5120) k) ?_).trans ?_)
  · rw [Shape.rowMajor_val_two, Shape.rowMajor_val_three]
    show (b.val * 5 + c.val) * 5 + k.val = (b.val * 5 + c.val) * 5 + k.val
    rfl
  · unfold Whole.table
    have h1 : (⟨(b.val * 5 + c.val) / 5, by omega⟩ : Fin 1024) = b := Fin.ext (by show (b.val * 5 + c.val) / 5 = b.val; omega)
    have h2 : (⟨(b.val * 5 + c.val) % 5, by omega⟩ : Fin 5) = c := Fin.ext (by show (b.val * 5 + c.val) % 5 = c.val; omega)
    refine congrArg₂ (fun (p : Fin 1024) (q : Fin 5) => BitVec.ofNat 32 (TopRow.pick (scoreRow X0 X1 hm W bias p q) k.val).val) h1 h2

/-- The mask's early entries, by the precondition. -/
theorem mask_of_pre (a0 : FVec Ideal S1024x5x128 .f32) (a1 : FVec Ideal S1024x50x128 .f32) (a2 : FVec Ideal S1024x50x32x32 .f32)
    (a3 : FVec Ideal S1024x50x32 .f32) (a4 : FVec Ideal S1024x50x1 .f32) (a5 : FVec Ideal S128x128 .f32) (a6 : FVec Ideal S128 .f32)
    (h : Cert.Pre_first_slots_kept.fn a0 a1 a2 a3 a4 a5 a6 = fun _ => 1#1) (b : Fin 1024) (j : Fin 50) (h5 : j.val < 5) :
    a4 (ix3 b j 0) ≠ ((-1 : ℝ) : EReal) := by
  haveI : Subsingleton (Cert.Pre_first_slots_kept.S_).Idx := ⟨fun a b => funext fun x => x.elim0⟩
  have h1 := Host.reduce_andi_all _ _ _ _ _ (congrFun h (Shape.Idx.first (by decide))) (ix3 b (⟨j.val, h5⟩ : Fin 5) 0)
  have e : extractStridedSlice Cert.Pre_first_slots_kept.S1024x5x1 ![0, 0, 0] a4 Cert.Pre_first_slots_kept.Gen.slices_S1024x50x1_S1024x5x1_0_0_0 (ix3 b (⟨j.val, h5⟩ : Fin 5) 0)
      = a4 (ix3 b j 0) := by
    unfold extractStridedSlice
    congr 1
    funext a
    fin_cases a <;> exact Fin.ext (Nat.zero_add _)
  have h2 : Ideal.cmp .une (a4 (ix3 b j 0) : EReal) (Ideal.ofBits .f32 0xBF800000#32) = 1#1 := by rw [← e]; exact h1
  have hb : Ideal.ofBits .f32 0xBF800000#32 = ((-1 : ℝ) : EReal) := by
    rw [EReal.coe_neg, EReal.coe_one]
    exact IdealRules.sign_bit.ideal_negOnePat .f32
  rw [hb] at h2
  unfold Ideal.cmp at h2
  intro hc
  simp [hc] at h2

/-- The reference's results at a memory: what the table reads of the embedding and of the mask. -/
theorem res_out0_eq (m : (ℓ : Loc nD τ sig) → Buf (Elt Ideal) ℓ) (d : Dev nD)
    (hk : ∀ (b : Fin 1024) (h : Fin 50), h.val < 5 → (m ((d.tc : Thread nD τ).loc main_arg4) : FVec Ideal S1024x50x1 .f32) (ix3 b h 0) ≠ ((-1 : ℝ) : EReal)) :
    Value.res_out0 (F := Ideal) m d = Call.pickE (m ((d.tc : Thread nD τ).loc main_arg2)) (Whole.table (m ((d.tc : Thread nD τ).loc main_arg0))
      (m ((d.tc : Thread nD τ).loc main_arg1)) (m ((d.tc : Thread nD τ).loc main_arg4)) (m ((d.tc : Thread nD τ).loc main_arg5)) (m ((d.tc : Thread nD τ).loc main_arg6))) := by
  unfold Value.res_out0 Value.res_main_v48
  rw [← Ref.res_emb _ _ (Whole.table_lt _ _ _ _ _)]
  unfold Ref.pairs
  rw [← refIdx_table _ _ _ _ _ hk]
  rfl

theorem res_out1_eq (m : (ℓ : Loc nD τ sig) → Buf (Elt Ideal) ℓ) (d : Dev nD)
    (hk : ∀ (b : Fin 1024) (h : Fin 50), h.val < 5 → (m ((d.tc : Thread nD τ).loc main_arg4) : FVec Ideal S1024x50x1 .f32) (ix3 b h 0) ≠ ((-1 : ℝ) : EReal)) :
    Value.res_out1 (F := Ideal) m d = Call.pickM (m ((d.tc : Thread nD τ).loc main_arg3)) (Whole.table (m ((d.tc : Thread nD τ).loc main_arg0))
      (m ((d.tc : Thread nD τ).loc main_arg1)) (m ((d.tc : Thread nD τ).loc main_arg4)) (m ((d.tc : Thread nD τ).loc main_arg5)) (m ((d.tc : Thread nD τ).loc main_arg6))) := by
  unfold Value.res_out1 Value.res_main_v63
  rw [← Ref.res_msk _ _ (Whole.table_lt _ _ _ _ _)]
  unfold Ref.pairs
  rw [← refIdx_table _ _ _ _ _ hk]
  rfl

end Cert.Proof.WholeRef

end
-- ==== Proof.lean ====
/-
  The certificate. The SparseCore call's run is proved once, for any float values (Proof/Run.lean); its results are the
  rows the slot table names, moved and never computed with (Proof/Value.lean), and so are the reference's
  (Proof/RefValue.lean). The whole program's run is proved the same way (Proof/WholeRun.lean); at the exact values its
  slot table, and the table of the whole program's reference, are each candidate's five best effects
  (Proof/WholeValue.lean, Proof/WholeRefValue.lean). Each claim reads one of these runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_slots_in_range
public import proofs.«01_k».proof.Proof.Gen.WholeIdeal
public import proofs.«01_k».proof.Proof.Gen.WholeIdeal.Launch
public import proofs.«01_k».proof.Proof.Gen.WholeIdeal.Points
public import proofs.«01_k».proof.Proof.Gen.WholeRefIdeal
public import proofs.«01_k».proof.Proof.Gen.WholeRefIdeal.Run
public import proofs.«01_k».proof.Proof.Gen.Pre_first_slots_kept
public import proofs.«01_k».proof.Proof.Run
public import proofs.«01_k».proof.Proof.Value
public import proofs.«01_k».proof.Proof.RefValue
public import proofs.«01_k».proof.Proof.WholeRun
public import proofs.«01_k».proof.Proof.WholeValue
public import proofs.«01_k».proof.Proof.WholeRefValue
public import Idealize.ShloMosaic.Lib.Quiescent
public import Idealize.ShloMosaic.Adequacy
public import Idealize.ShloMosaic.Init

@[expose] public section

noncomputable section

namespace Cert.Proof

open Idealize.ShloMosaic Idealize.SL.Sem

/-! ## The call's run -/

section Call

open Cert.KernelIdeal Cert.Proof.Call

variable {F : FTy → Type} [FloatOps F] [∀ e, Nonempty (Elt F e)]
variable (m : (ℓ : Loc nD τ sig) → Buf (Elt F) ℓ) (ρ : Dev nD → PrngReg)

/-- From slots in range, the call ends with the two results at the named rows, its arguments unchanged, every counter zero. -/
theorem run_call (h : ∀ d i, (arg2 m d i).toNat < 50) :
    θ_run (Cert.KernelIdeal.defs (F := F)) (Cert.KernelIdeal.threads (F := F)) ⟨m, fun _ => 0, ρ⟩ (fun r =>
      (∀ d : Dev nD, (r.2.mem ((d.tc : Thread nD τ).loc main_v7) = pickE (arg0 m d) (arg2 m d) ∧ r.2.mem ((d.tc : Thread nD τ).loc main_v9) = pickM (arg1 m d) (arg2 m d))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2))
      ∧ r.2.sem = fun _ => 0) :=
  (θ_run (Cert.KernelIdeal.defs (F := F)) _ _).mono
    (fun _ hr => ⟨fun d => ⟨⟨(hr.1 d _ (Pipeline.devRef_mem_ucRefs rfl)).trans (val_v7 m d), (hr.1 d _ (Pipeline.devRef_mem_ucRefs rfl)).trans (val_v9 m d)⟩,
      (hr.1 d _ (Pipeline.devRef_mem_ucRefs rfl)).trans (V3_arg m d _ (.inl rfl)), (hr.1 d _ (Pipeline.devRef_mem_ucRefs rfl)).trans (V3_arg m d _ (.inr (.inl rfl))),
      (hr.1 d _ (Pipeline.devRef_mem_ucRefs rfl)).trans (V3_arg m d _ (.inr (.inr rfl)))⟩, hr.2⟩)
    (run_main m ρ fun d => by rw [tabs_I]; exact slots_of _ (h d))

end Call

/-! ## The whole program's run -/

section Whole

open Cert.WholeIdeal Cert.Proof.Whole

variable (m : (ℓ : Loc nD τ sig) → Buf (Elt Ideal) ℓ) (ρ : Dev nD → PrngReg)

/-- The whole program, at the exact values, ends with the two results at the best effects' rows, its arguments unchanged, every counter zero. -/
theorem run_whole :
    θ_run (Cert.WholeIdeal.defs (F := Ideal)) (Cert.WholeIdeal.threads (F := Ideal)) ⟨m, fun _ => 0, ρ⟩ (fun r =>
      (∀ d : Dev nD, (r.2.mem ((d.tc : Thread nD τ).loc main_v17) = Call.pickE (arg2 m d) (tableOf m d) ∧ r.2.mem ((d.tc : Thread nD τ).loc main_v19) = Call.pickM (arg3 m d) (tableOf m d))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6))
      ∧ r.2.sem = fun _ => 0) :=
  (θ_run (Cert.WholeIdeal.defs (F := Ideal)) _ _).mono
    (fun _ hr => ⟨fun d => ⟨⟨(hr.1 d _ (Pipeline.devRef_mem_ucRefs rfl)).trans (val_v17 m d), (hr.1 d _ (Pipeline.devRef_mem_ucRefs rfl)).trans (val_v19 m d)⟩,
      (hr.1 d _ (Pipeline.devRef_mem_ucRefs rfl)).trans (V7_arg m d _ (.inl rfl)),
      (hr.1 d _ (Pipeline.devRef_mem_ucRefs rfl)).trans (V7_arg m d _ (.inr (.inl rfl))),
      (hr.1 d _ (Pipeline.devRef_mem_ucRefs rfl)).trans (V7_arg m d _ (.inr (.inr (.inl rfl)))),
      (hr.1 d _ (Pipeline.devRef_mem_ucRefs rfl)).trans (V7_arg m d _ (.inr (.inr (.inr (.inl rfl))))),
      (hr.1 d _ (Pipeline.devRef_mem_ucRefs rfl)).trans (V7_arg m d _ (.inr (.inr (.inr (.inr (.inl rfl)))))),
      (hr.1 d _ (Pipeline.devRef_mem_ucRefs rfl)).trans (V7_arg m d _ (.inr (.inr (.inr (.inr (.inr (.inl rfl))))))),
      (hr.1 d _ (Pipeline.devRef_mem_ucRefs rfl)).trans (V7_arg m d _ (.inr (.inr (.inr (.inr (.inr (.inr rfl)))))))⟩, hr.2⟩)
    (run_main m ρ (slots_in_range m))

end Whole

/-! ## The claims -/

theorem frame_kernel : Cert.quiescent_Kernel := fun m ρ hp =>
  (θ_run (Cert.KernelIdeal.defs (F := Bits)) _ _).mono (fun _ h => ⟨fun c => (h.1 c).2, h.2⟩)
    (run_call (F := Bits) m ρ fun d => Call.slots_of_pre _ _ _ (hp d))

theorem frame_ideal : Cert.quiescent_KernelIdeal := fun m ρ hp =>
  (θ_run (Cert.KernelIdeal.defs (F := Ideal)) _ _).mono (fun _ h => ⟨fun c => (h.1 c).2, h.2⟩)
    (run_call (F := Ideal) m ρ fun d => Call.slots_of_pre _ _ _ (hp d))

theorem frame_ref : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem frame_ref_pre : Cert.quiescent_ReferenceIdeal_pre_slots_in_range := fun m ρ _ => frame_ref m ρ trivial

theorem value : Cert.algebraic_KernelIdeal_ReferenceIdeal := fun m ρ m' ρ' hp ha => by
  refine ⟨fun c => Call.pickE (Call.arg0 m c) (Call.arg2 m c), fun c => Call.pickM (Call.arg1 m c) (Call.arg2 m c), ?_, ?_⟩
  · exact (θ_run (Cert.KernelIdeal.defs (F := Ideal)) _ _).mono (fun _ h c => ⟨(h.1 c).1.1, (h.1 c).1.2, (h.1 c).2⟩)
      (run_call (F := Ideal) m ρ fun d => Call.slots_of_pre _ _ _ (hp d))
  · refine (θ_run (Cert.ReferenceIdeal.defs (F := Ideal)) _ _).mono (fun _ h c => ⟨(h c).1.trans ?_, (h c).2.1.trans ?_, (h c).2.2⟩)
      (Cert.ReferenceIdeal.Value.run (F := Ideal) m' ρ')
    · rw [(ha c).1, (ha c).2.2]
      exact Ref.res_emb (Call.arg0 m c) (Call.arg2 m c) (Call.slots_of_pre _ _ _ (hp c))
    · rw [(ha c).2.1, (ha c).2.2]
      exact Ref.res_msk (Call.arg1 m c) (Call.arg2 m c) (Call.slots_of_pre _ _ _ (hp c))

theorem frame_whole : Cert.quiescent_WholeIdeal := fun m ρ _ =>
  (θ_run (Cert.WholeIdeal.defs (F := Ideal)) _ _).mono (fun _ h => ⟨fun c => (h.1 c).2, h.2⟩) (run_whole m ρ)

theorem frame_whole_ref : Cert.quiescent_WholeRefIdeal := fun m ρ _ =>
  (θ_run (Cert.WholeRefIdeal.defs (F := Ideal)) _ _).mono (fun r h => ⟨fun c => (h c).2.2, sem_eq_zero_of_no_sems (by decide) r.2⟩)
    (Cert.WholeRefIdeal.Value.run (F := Ideal) m ρ)

theorem frame_whole_ref_pre : Cert.quiescent_WholeRefIdeal_pre_first_slots_kept := fun m ρ _ => frame_whole_ref m ρ trivial

theorem value_whole : Cert.algebraic_WholeIdeal_WholeRefIdeal := fun m ρ m' ρ' hp ha => by
  refine ⟨fun c => Call.pickE (Whole.arg2 m c) (Whole.tableOf m c), fun c => Call.pickM (Whole.arg3 m c) (Whole.tableOf m c), ?_, ?_⟩
  · exact (θ_run (Cert.WholeIdeal.defs (F := Ideal)) _ _).mono (fun _ h c => ⟨(h.1 c).1.1, (h.1 c).1.2, (h.1 c).2⟩) (run_whole m ρ)
  · have hk := fun c => WholeRef.mask_of_pre _ _ _ _ _ _ _ (hp c)
    have hv (c : Dev Cert.WholeIdeal.nD) : Cert.WholeRefIdeal.Value.res_out0 (F := Ideal) m' c = Call.pickE (Whole.arg2 m c) (Whole.tableOf m c)
        ∧ Cert.WholeRefIdeal.Value.res_out1 (F := Ideal) m' c = Call.pickM (Whole.arg3 m c) (Whole.tableOf m c) := by
      obtain ⟨h0, h1, h2, h3, h4, h5, h6⟩ := ha c
      have hk' : ∀ (b : Fin 1024) (h : Fin 50), h.val < 5 →
          (m' ((c.tc : Thread Cert.WholeRefIdeal.nD Cert.WholeRefIdeal.τ).loc Cert.WholeRefIdeal.main_arg4) : FVec Ideal Cert.WholeRefIdeal.S1024x50x1 .f32) (ix3 b h 0) ≠ ((-1 : ℝ) : EReal) := by
        rw [h4]; exact hk c
      refine ⟨(WholeRef.res_out0_eq m' c hk').trans ?_, (WholeRef.res_out1_eq m' c hk').trans ?_⟩
      · rw [h0, h1, h2, h4, h5, h6]
      · rw [h0, h1, h3, h4, h5, h6]
    exact (θ_run (Cert.WholeRefIdeal.defs (F := Ideal)) _ _).mono (fun _ h c => ⟨(h c).1.trans (hv c).1, (h c).2.1.trans (hv c).2, (h c).2.2⟩)
      (Cert.WholeRefIdeal.Value.run (F := Ideal) m' ρ')

theorem claim : Cert.Claim :=
  ⟨Cert.Kernel.Gen.facts, Cert.KernelIdeal.Gen.facts, Cert.ReferenceIdeal.Gen.facts, Cert.WholeIdeal.Gen.facts, Cert.WholeRefIdeal.Gen.facts,
    Cert.Pre_slots_in_range.Gen.facts, Cert.Pre_first_slots_kept.Gen.facts,
    frame_kernel, frame_ideal, frame_ref, frame_ref_pre, frame_whole, frame_whole_ref, frame_whole_ref_pre, trivial, value, value_whole⟩

end Cert.Proof

end
